-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 [hPre_experts_in_range : Cert.Pre_experts_in_range.Facts] (m : (ℓ : Loc Cert.Kernel12.nD Cert.Kernel12.τ Cert.Kernel12.sig) → Buf (Elt Bits) ℓ) : Prop :=
  ∀ c : Dev Cert.Kernel12.nD,
    (Cert.Pre_experts_in_range.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_experts_in_range : Cert.Pre_experts_in_range.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_experts_in_range.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_experts_in_range [hPre_experts_in_range : Cert.Pre_experts_in_range.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_experts_in_range.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] [hPre_experts_in_range : Cert.Pre_experts_in_range.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_experts_in_range : Cert.Pre_experts_in_range.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_experts_in_range [hReference12Ideal : Cert.Reference12Ideal.Facts] [hPre_experts_in_range : Cert.Pre_experts_in_range.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_experts_in_range m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v22)) (v1 : (c : Dev Cert.Kernel3Ideal.nD) → Buf (Elt Ideal) ((c.tc : Thread Cert.Kernel3Ideal.nD Cert.Kernel3Ideal.τ).loc Cert.Kernel3Ideal.main_v25)) (v2 : (c : Dev Cert.Kernel3Ideal.nD) → Buf (Elt Ideal) ((c.tc : Thread Cert.Kernel3Ideal.nD Cert.Kernel3Ideal.τ).loc Cert.Kernel3Ideal.main_v28)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_v25) = v1 c
          ∧ r.2.mem ((c.tc : Thread Cert.Kernel3Ideal.nD Cert.Kernel3Ideal.τ).loc Cert.Kernel3Ideal.main_v28) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v22)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v22)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)) (v1 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_v5) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] [hPre_experts_in_range : Cert.Pre_experts_in_range.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v159) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v53) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v33) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v33) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12) (hPre_experts_in_range := hPre_experts_in_range)
    ∧ quiescent_Kernel12Ideal (hKernel12Ideal := hKernel12Ideal) (hPre_experts_in_range := hPre_experts_in_range)
    ∧ quiescent_Reference12Ideal (hReference12Ideal := hReference12Ideal)
    ∧ quiescent_Reference12Ideal_pre_experts_in_range (hReference12Ideal := hReference12Ideal) (hPre_experts_in_range := hPre_experts_in_range)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal) (hPre_experts_in_range := hPre_experts_in_range)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_experts_in_range.lean ====
abbrev S180224x16x128 : Shape := ⟨3, ![180224, 16, 128]⟩
abbrev S352 : Shape := ⟨1, ![352]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S352 : S_.BroadcastsInDim S352 (![] : Fin 0 → Fin S352.rank)

variable [Facts]

def fn {F : FTy → Type} [FloatOps F] (main_arg0 : FVec F S180224x16x128 .f32) (main_arg1 : IVec S352 32) (main_arg2 : IVec S352 32) (main_arg3 : FVec F S2x64x2048x512 .f32) (main_arg4 : FVec F S2x64x2048x512 .f32) (main_arg5 : FVec F S2x64x512x2048 .f32) : IVec S352 1 :=
  let main_c : IVec S_ 32 := constantI S_ 32 0#32
  let main_v0 : IVec S352 32 := broadcastInDim S352 ![] bcast_S_S352 main_c
  let main_v1 : IVec S352 1 := cmpi .sge main_arg1 main_v0
  let main_c_0 : IVec S_ 32 := constantI S_ 32 64#32
  let main_v2 : IVec S352 32 := broadcastInDim S352 ![] bcast_S_S352 main_c_0
  let main_v3 : IVec S352 1 := cmpi .slt main_arg1 main_v2
  let main_v4 : IVec S352 1 := andi main_v1 main_v3
  let main_c_1 : IVec S_ 32 := constantI S_ 32 0#32
  let main_v5 : IVec S352 32 := broadcastInDim S352 ![] bcast_S_S352 main_c_1
  let main_v6 : IVec S352 1 := cmpi .eq main_arg2 main_v5
  let main_c_2 : IVec S_ 32 := constantI S_ 32 1#32
  let main_v7 : IVec S352 32 := broadcastInDim S352 ![] bcast_S_S352 main_c_2
  let main_v8 : IVec S352 1 := cmpi .eq main_arg2 main_v7
  let main_v9 : IVec S352 1 := ori main_v6 main_v8
  let main_v10 : IVec S352 1 := andi main_v4 main_v9
  main_v10
-- ==== Pre_finite_scores.lean ====
abbrev S24576x1536 : Shape := ⟨2, ![24576, 1536]⟩
abbrev S4x2x256x8x64 : Shape := ⟨5, ![4, 2, 256, 8, 64]⟩
abbrev S8x15x31 : Shape := ⟨3, ![8, 15, 31]⟩
abbrev S16384x1024 : Shape := ⟨2, ![16384, 1024]⟩
abbrev S_ : Shape := ⟨0, ![]⟩
abbrev S4x1x256x8x64 : Shape := ⟨5, ![4, 1, 256, 8, 64]⟩
abbrev S4x256x8x64 : Shape := ⟨4, ![4, 256, 8, 64]⟩

class Facts : Prop where
  slices_S24576x1536_S16384x1024_8192_0 : S24576x1536.Slices ![8192, 0] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S4x2x256x8x64_S4x1x256x8x64_0_0_0_0_0 : S4x2x256x8x64.Slices ![0, 0, 0, 0, 0] S4x1x256x8x64
  shapeCasts_S4x1x256x8x64_S4x256x8x64 : S4x1x256x8x64.ShapeCasts S4x256x8x64
  bcast_S_S4x256x8x64 : S_.BroadcastsInDim S4x256x8x64 (![] : Fin 0 → Fin S4x256x8x64.rank)
  reducesTo_S4x256x8x64_S_d0_1_2_3 : S4x256x8x64.ReducesTo [0, 1, 2, 3] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_arg3 : FVec F S8x15x31 .f32) (main_v16 : IVec S_ 1) (main_cst_4 : FVec F S_ .f32) : IVec S_ 1 :=
  let main_v17 : FVec F S8x15x31 .f32 := broadcastInDim S8x15x31 ![] bcast_S_S8x15x31 main_cst_4
  let main_v18 : IVec S8x15x31 1 := cmpf .ogt main_arg3 main_v17
  let main_c_5 : IVec S_ 1 := constantI S_ 1 1#1
  let main_v19 : IVec S_ 1 := (fun x v => Host.reduce IntOp.andi x v reducesTo_S8x15x31_S_d0_1_2 h_S_) main_v18 main_c_5
  let main_v20 : IVec S_ 1 := andi main_v16 main_v19
  main_v20

def fn {F : FTy → Type} [FloatOps F] (main_arg0 : FVec F S24576x1536 .bf16) (main_arg1 : FVec F S4x2x256x8x64 .f32) (main_arg2 : FVec F S4x2x256x8x64 .f32) (main_arg3 : FVec F S8x15x31 .f32) : IVec S_ 1 :=
  let main_v0 : FVec F S16384x1024 .bf16 := (extractStridedSlice S16384x1024 ![8192, 0] · slices_S24576x1536_S16384x1024_8192_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S4x1x256x8x64 .f32 := (extractStridedSlice S4x1x256x8x64 ![0, 0, 0, 0, 0] · slices_S4x2x256x8x64_S4x1x256x8x64_0_0_0_0_0) main_arg1
  let main_v7 : FVec F S4x256x8x64 .f32 := shapeCast S4x256x8x64 main_v6 shapeCasts_S4x1x256x8x64_S4x256x8x64
  let main_v8 : FVec F S4x256x8x64 .f32 := Host.absf main_v7
  let main_cst_0 : FVec F S_ .f32 := constant S_ .f32 0x7F800000#32
  let main_v9 : FVec F S4x256x8x64 .f32 := broadcastInDim S4x256x8x64 ![] bcast_S_S4x256x8x64 main_cst_0
  let main_v10 : IVec S4x256x8x64 1 := cmpf .olt main_v8 main_v9
  let main_c_1 : IVec S_ 1 := constantI S_ 1 1#1
  let main_v11 : IVec S_ 1 := (fun x v => Host.reduce IntOp.andi x v reducesTo_S4x256x8x64_S_d0_1_2_3 h_S_) main_v10 main_c_1
  let main_v12 : IVec S_ 1 := andi main_v5 main_v11
  let main_cst_2 : FVec F S_ .f32 := constant S_ .f32 0x7F800000#32
  let main_v13 : FVec F S8x15x31 .f32 := broadcastInDim S8x15x31 ![] bcast_S_S8x15x31 main_cst_2
  let main_v14 : IVec S8x15x31 1 := cmpf .olt main_arg3 main_v13
  let main_c_3 : IVec S_ 1 := constantI S_ 1 1#1
  let main_v15 : IVec S_ 1 := (fun x v => Host.reduce IntOp.andi x v reducesTo_S8x15x31_S_d0_1_2 h_S_) main_v14 main_c_3
  let main_v16 : IVec S_ 1 := andi main_v12 main_v15
  let main_cst_4 : FVec F S_ .f32 := constant S_ .f32 0xF0C9F2CA#32
  fn_part1 (F := F) main_arg3 main_v16 main_cst_4
-- ==== Kernel.lean ====
abbrev S24576x1536 : Shape := ⟨2, ![24576, 1536]⟩
abbrev S4x2x256x8x64 : Shape := ⟨5, ![4, 2, 256, 8, 64]⟩
abbrev S8x15x31 : Shape := ⟨3, ![8, 15, 31]⟩
abbrev S4x2x256x512 : Shape := ⟨4, ![4, 2, 256, 512]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S8x64x8x64x1 : Shape := ⟨5, ![8, 64, 8, 64, 1]⟩
abbrev S8x64x8x64x2 : Shape := ⟨5, ![8, 64, 8, 64, 2]⟩
abbrev S8x8x64x8x64 : Shape := ⟨5, ![8, 8, 64, 8, 64]⟩
abbrev S1x1x64x1x64 : Shape := ⟨5, ![1, 1, 64, 1, 64]⟩
abbrev S8x8x64x512 : Shape := ⟨4, ![8, 8, 64, 512]⟩
abbrev S16384x512 : Shape := ⟨2, ![16384, 512]⟩
abbrev S64x512 : Shape := ⟨2, ![64, 512]⟩
abbrev S4096x512 : Shape := ⟨2, ![4096, 512]⟩
abbrev S1x1x256x512 : Shape := ⟨4, ![1, 1, 256, 512]⟩
abbrev S1x8x64x512 : Shape := ⟨4, ![1, 8, 64, 512]⟩
abbrev S1x1x64x512 : Shape := ⟨4, ![1, 1, 64, 512]⟩
abbrev S512x64 : Shape := ⟨2, ![512, 64]⟩
abbrev S1x1x256x64 : Shape := ⟨4, ![1, 1, 256, 64]⟩
abbrev S256x64 : Shape := ⟨2, ![256, 64]⟩
abbrev S64x256 : Shape := ⟨2, ![64, 256]⟩

abbrev nBuf : Space → Nat
  | .hbm => 89
  | .vmem => 14
  | .smem => 0
  | _ => 0

abbrev bufTy : (tb : Table) → Fin (tcTables nBuf tb) → BufTy
  | .hbm, ⟨0, _⟩ => ⟨S24576x1536, .bf16⟩
  | .hbm, ⟨1, _⟩ => ⟨S4x2x256x8x64, .f32⟩
  | .hbm, ⟨2, _⟩ => ⟨S4x2x256x8x64, .f32⟩
  | .hbm, ⟨3, _⟩ => ⟨S8x15x31, .f32⟩
  | .hbm, ⟨4, _⟩ => ⟨S4x2x256x512, .f32⟩
  | .hbm, ⟨5, _⟩ => ⟨S4x2x256x512, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S1x64, .i32⟩
  | .hbm, ⟨19, _⟩ => ⟨S64x1, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S1x64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .i1⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S8, .i32⟩
  | .hbm, ⟨49, _⟩ => ⟨S8, .i32⟩
  | .hbm, ⟨50, _⟩ => ⟨S1x8, .i32⟩
  | .hbm, ⟨51, _⟩ => ⟨S8x1, .i32⟩
  | .hbm, ⟨52, _⟩ => ⟨S8x8, .i32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x1x8x1, .i32⟩
  | .hbm, ⟨59, _⟩ => ⟨S1x64x1x64, .i32⟩
  | .hbm, ⟨60, _⟩ => ⟨S_, .i32⟩
  | .hbm, ⟨61, _⟩ => ⟨S8x1x8x1, .i32⟩
  | .hbm, ⟨62, _⟩ => ⟨S8x1x8x1, .i1⟩
  | .hbm, ⟨63, _⟩ => ⟨S_, .i32⟩
  | .hbm, ⟨64, _⟩ => ⟨S8x1x8x1, .i32⟩
  | .hbm, ⟨65, _⟩ => ⟨S8x1x8x1, .i32⟩
  | .hbm, ⟨66, _⟩ => ⟨S8x1x8x1, .i32⟩
  | .hbm, ⟨67, _⟩ => ⟨S_, .i32⟩
  | .hbm, ⟨68, _⟩ => ⟨S1x64x1x64, .i32⟩
  | .hbm, ⟨69, _⟩ => ⟨S1x64x1x64, .i1⟩
  | .hbm, ⟨70, _⟩ => ⟨S_, .i32⟩
  | .hbm, ⟨71, _⟩ => ⟨S1x64x1x64, .i32⟩
  | .hbm, ⟨72, _⟩ => ⟨S1x64x1x64, .i32⟩
  | .hbm, ⟨73, _⟩ => ⟨S1x64x1x64, .i32⟩
  | .hbm, ⟨74, _⟩ => ⟨S8x64x8x64, .i32⟩
  | .hbm, ⟨75, _⟩ => ⟨S8x64x8x64, .i32⟩
  | .hbm, ⟨76, _⟩ => ⟨S8x64x8x64x1, .i32⟩
  | .hbm, ⟨77, _⟩ => ⟨S8x64x8x64x1, .i32⟩
  | .hbm, ⟨78, _⟩ => ⟨S8x64x8x64x2, .i32⟩
  | .hbm, ⟨79, _⟩ => ⟨S8x8x64x8x64, .f32⟩
  | .hbm, ⟨80, _⟩ => ⟨S1x1x64x1x64, .i1⟩
  | .hbm, ⟨81, _⟩ => ⟨S_, .f32⟩
  | .hbm, ⟨82, _⟩ => ⟨S_, .f32⟩
  | .hbm, ⟨83, _⟩ => ⟨S8x8x64x8x64, .i1⟩
  | .hbm, ⟨84, _⟩ => ⟨S8x8x64x8x64, .f32⟩
  | .hbm, ⟨85, _⟩ => ⟨S8x8x64x8x64, .f32⟩
  | .hbm, ⟨86, _⟩ => ⟨S8x8x64x8x64, .f32⟩
  | .hbm, ⟨87, _⟩ => ⟨S8x8x64x512, .f32⟩
  | .hbm, ⟨88, _⟩ => ⟨S16384x512, .bf16⟩
  | .local _ .vmem, ⟨0, _⟩ => ⟨S64x512, .bf16⟩
  | .local _ .vmem, ⟨1, _⟩ => ⟨S64x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x1x256x512, .f32⟩
  | .local _ .vmem, ⟨7, _⟩ => ⟨S1x1x256x512, .f32⟩
  | .local _ .vmem, ⟨8, _⟩ => ⟨S1x1x256x512, .f32⟩
  | .local _ .vmem, ⟨9, _⟩ => ⟨S1x1x256x512, .f32⟩
  | .local _ .vmem, ⟨10, _⟩ => ⟨S1x8x64x512, .f32⟩
  | .local _ .vmem, ⟨11, _⟩ => ⟨S1x8x64x512, .f32⟩
  | .local _ .vmem, ⟨12, _⟩ => ⟨S64x512, .bf16⟩
  | .local _ .vmem, ⟨13, _⟩ => ⟨S64x512, .bf16⟩
  | _, _ => ⟨S24576x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k0_off1 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v8 : Index := Scalar.indexCast v4
  let c0_5 : Index := 0#32
  ![v8.toNat, 0]
def k0_off2 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v55 : Index := Scalar.indexCast v4
  let c64_30 : Index := 64#32
  ![v55.toNat, 64]
def k0_off3 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v102 : Index := Scalar.indexCast v4
  let c128_56 : Index := 128#32
  ![v102.toNat, 128]
def k0_off4 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v149 : Index := Scalar.indexCast v4
  let c192_82 : Index := 192#32
  ![v149.toNat, 192]
def k0_off5 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v196 : Index := Scalar.indexCast v4
  let c256_108 : Index := 256#32
  ![v196.toNat, 256]
def k0_off6 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v243 : Index := Scalar.indexCast v4
  let c320_134 : Index := 320#32
  ![v243.toNat, 320]
def k0_off7 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v290 : Index := Scalar.indexCast v4
  let c384_160 : Index := 384#32
  ![v290.toNat, 384]
def k0_off8 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v337 : Index := Scalar.indexCast v4
  let c448_186 : Index := 448#32
  ![v337.toNat, 448]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let c0_i32 : BitVec 32 := 0#32
  ![v0.toNat, c2_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c56_i32 : BitVec 32 := 56#32
  let v1 : BitVec 32 := Scalar.maxsi c0_i32 v0
  let v2 : BitVec 32 := Scalar.minsi c56_i32 v1
  let v3 : BitVec 32 := Scalar.subi arg1 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S24576x1536 : Shape := ⟨2, ![24576, 1536]⟩
abbrev S4x2x256x8x64 : Shape := ⟨5, ![4, 2, 256, 8, 64]⟩
abbrev S8x15x31 : Shape := ⟨3, ![8, 15, 31]⟩
abbrev S16384x1536 : Shape := ⟨2, ![16384, 1536]⟩
abbrev S4x4096x1536 : Shape := ⟨3, ![4, 4096, 1536]⟩
abbrev S4x4096x512 : Shape := ⟨3, ![4, 4096, 512]⟩
abbrev S4x4096x8x64 : Shape := ⟨4, ![4, 4096, 8, 64]⟩
abbrev S4x1x256x8x64 : Shape := ⟨5, ![4, 1, 256, 8, 64]⟩
abbrev S4x256x8x64 : Shape := ⟨4, ![4, 256, 8, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S4x64x64x8x64 : Shape := ⟨5, ![4, 64, 64, 8, 64]⟩
abbrev S64x8x1 : Shape := ⟨3, ![64, 8, 1]⟩
abbrev S4x64x8x64x8x64 : Shape := ⟨6, ![4, 64, 8, 64, 8, 64]⟩
abbrev S4x8x64x64x8x64 : Shape := ⟨6, ![4, 8, 64, 64, 8, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S1x1x1x64x1x64 : Shape := ⟨6, ![1, 1, 1, 64, 1, 64]⟩
abbrev S1x8x64x64x8x64 : Shape := ⟨6, ![1, 8, 64, 64, 8, 64]⟩
abbrev S4x8x64x64x512 : Shape := ⟨5, ![4, 8, 64, 64, 512]⟩
abbrev S4x8x64x64x256 : Shape := ⟨5, ![4, 8, 64, 64, 256]⟩
abbrev S4x8x64x64x768 : Shape := ⟨5, ![4, 8, 64, 64, 768]⟩
abbrev S4x8x64x64 : Shape := ⟨4, ![4, 8, 64, 64]⟩
abbrev S4x8x64x64x1 : Shape := ⟨5, ![4, 8, 64, 64, 1]⟩
abbrev S4x64x8x64x64 : Shape := ⟨5, ![4, 64, 8, 64, 64]⟩
abbrev S4x8x64x64x64 : Shape := ⟨5, ![4, 8, 64, 64, 64]⟩
abbrev S16384x512 : Shape := ⟨2, ![16384, 512]⟩

abbrev nBuf : Space → Nat
  | .hbm => 169
  | .vmem => 0
  | .smem => 0
  | _ => 0

abbrev hbmTy0_0 (i : Nat) : BufTy := match i % 128 with
  | 0 => ⟨S24576x1536, .bf16⟩
  | 1 => ⟨S4x2x256x8x64, .f32⟩
  | 2 => ⟨S4x2x256x8x64, .f32⟩
  | 3 => ⟨S8x15x31, .f32⟩
  | 4 => ⟨S16384x1536, .bf16⟩
  | 5 => ⟨S16384x1536, .f32⟩
  | 6 => ⟨S4x4096x1536, .f32⟩
  | 7 => ⟨S4x4096x512, .f32⟩
  | 8 => ⟨S4x4096x512, .f32⟩
  | 9 => ⟨S4x4096x512, .f32⟩
  | 10 => ⟨S4x4096x8x64, .f32⟩
  | 11 => ⟨S4x4096x8x64, .f32⟩
  | 12 => ⟨S4x4096x8x64, .f32⟩
  | 13 => ⟨S4x1x256x8x64, .f32⟩
  | 14 => ⟨S4x256x8x64, .f32⟩
  | 15 => ⟨S4x1x256x8x64, .f32⟩
  | 16 => ⟨S4x256x8x64, .f32⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S64x1, .i32⟩
  | 30 => ⟨S8, .i32⟩
  | 31 => ⟨S1x8, .i32⟩
  | 32 => ⟨S64x8, .i32⟩
  | 33 => ⟨S64x8, .i32⟩
  | 34 => ⟨S64x8, .i32⟩
  | 35 => ⟨S64, .i32⟩
  | 36 => ⟨S_, .i32⟩
  | 37 => ⟨S64, .i32⟩
  | 38 => ⟨S64, .i32⟩
  | 39 => ⟨S_, .i32⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S1x64, .i32⟩
  | 48 => ⟨S64x1, .i32⟩
  | 49 => ⟨S64x64, .i32⟩
  | 50 => ⟨S64x64, .i32⟩
  | 51 => ⟨S64x64, .i1⟩
  | 52 => ⟨S1x64, .i32⟩
  | 53 => ⟨S64x1, .i32⟩
  | 54 => ⟨S_, .i32⟩
  | 55 => ⟨S64x1, .i32⟩
  | 56 => ⟨S64x1, .i32⟩
  | 57 => ⟨S64x64, .i32⟩
  | 58 => ⟨S64x64, .i32⟩
  | 59 => ⟨S64x64, .i1⟩
  | 60 => ⟨S64x64, .i1⟩
  | 61 => ⟨S4x64x64x8x64, .f32⟩
  | 62 => ⟨S4x64x64x8x64, .f32⟩
  | 63 => ⟨S_, .i32⟩
  | 64 => ⟨S64x8, .i32⟩
  | 65 => ⟨S64x8, .i1⟩
  | 66 => ⟨S_, .i32⟩
  | 67 => ⟨S64x8, .i32⟩
  | 68 => ⟨S64x8, .i32⟩
  | 69 => ⟨S64x8, .i32⟩
  | 70 => ⟨S64x8x1, .i32⟩
  | 71 => ⟨S4x64x8x64x8x64, .f32⟩
  | 72 => ⟨S4x64x64x8x64, .f32⟩
  | 73 => ⟨S_, .i32⟩
  | 74 => ⟨S64x8, .i32⟩
  | 75 => ⟨S64x8, .i1⟩
  | 76 => ⟨S_, .i32⟩
  | 77 => ⟨S64x8, .i32⟩
  | 78 => ⟨S64x8, .i32⟩
  | 79 => ⟨S64x8, .i32⟩
  | 80 => ⟨S64x8x1, .i32⟩
  | 81 => ⟨S4x64x8x64x8x64, .f32⟩
  | 82 => ⟨S4x8x64x64x8x64, .f32⟩
  | 83 => ⟨S_, .f32⟩
  | 84 => ⟨S4x8x64x64x8x64, .f32⟩
  | 85 => ⟨S4x8x64x64x8x64, .f32⟩
  | 86 => ⟨S64x1, .i32⟩
  | 87 => ⟨S64x8, .i32⟩
  | 88 => ⟨S64x8, .i32⟩
  | 89 => ⟨S_, .i32⟩
  | 90 => ⟨S64x8, .i32⟩
  | 91 => ⟨S64x8, .i32⟩
  | 92 => ⟨S1x64, .i32⟩
  | 93 => ⟨S64x1, .i32⟩
  | 94 => ⟨S64x64, .i32⟩
  | 95 => ⟨S64x64, .i32⟩
  | 96 => ⟨S64x64, .i32⟩
  | 97 => ⟨S_, .i32⟩
  | 98 => ⟨S_, .i32⟩
  | 99 => ⟨S_, .i32⟩
  | 100 => ⟨S64x64, .i32⟩
  | 101 => ⟨S64x64, .i32⟩
  | 102 => ⟨S_, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S64x1x8x1, .i32⟩
  | 109 => ⟨S1x64x1x64, .i32⟩
  | 110 => ⟨S_, .i32⟩
  | 111 => ⟨S64x1x8x1, .i32⟩
  | 112 => ⟨S64x1x8x1, .i1⟩
  | 113 => ⟨S_, .i32⟩
  | 114 => ⟨S64x1x8x1, .i32⟩
  | 115 => ⟨S64x1x8x1, .i32⟩
  | 116 => ⟨S64x1x8x1, .i32⟩
  | 117 => ⟨S_, .i32⟩
  | 118 => ⟨S1x64x1x64, .i32⟩
  | 119 => ⟨S1x64x1x64, .i1⟩
  | 120 => ⟨S_, .i32⟩
  | 121 => ⟨S1x64x1x64, .i32⟩
  | 122 => ⟨S1x64x1x64, .i32⟩
  | 123 => ⟨S1x64x1x64, .i32⟩
  | 124 => ⟨S64x64x8x64, .i32⟩
  | 125 => ⟨S64x64x8x64, .i32⟩
  | 126 => ⟨S64x64x8x64x1, .i32⟩
  | 127 => ⟨S64x64x8x64x1, .i32⟩
  | _ => ⟨S24576x1536, .bf16⟩

abbrev hbmTy0_1 (i : Nat) : BufTy := match i % 128 with
  | 0 => ⟨S64x64x8x64x2, .i32⟩
  | 1 => ⟨S8x64x64x8x64, .f32⟩
  | 2 => ⟨S1x1x1x64x1x64, .i1⟩
  | 3 => ⟨S1x8x64x64x8x64, .f32⟩
  | 4 => ⟨S4x8x64x64x8x64, .f32⟩
  | 5 => ⟨S4x8x64x64x8x64, .f32⟩
  | 6 => ⟨S_, .f32⟩
  | 7 => ⟨S_, .f32⟩
  | 8 => ⟨S4x8x64x64x8x64, .i1⟩
  | 9 => ⟨S4x8x64x64x8x64, .f32⟩
  | 10 => ⟨S4x8x64x64x8x64, .f32⟩
  | 11 => ⟨S4x8x64x64x512, .f32⟩
  | 12 => ⟨S4x8x64x64x256, .f32⟩
  | 13 => ⟨S_, .f32⟩
  | 14 => ⟨S4x8x64x64x256, .f32⟩
  | 15 => ⟨S4x8x64x64x256, .f32⟩
  | 16 => ⟨S4x8x64x64x768, .f32⟩
  | 17 => ⟨S_, .f32⟩
  | 18 => ⟨S4x8x64x64, .f32⟩
  | 19 => ⟨S_, .f32⟩
  | 20 => ⟨S4x8x64x64, .f32⟩
  | 21 => ⟨S4x8x64x64, .f32⟩
  | 22 => ⟨S4x8x64x64x1, .f32⟩
  | 23 => ⟨S4x8x64x64x768, .f32⟩
  | 24 => ⟨S4x8x64x64x768, .f32⟩
  | 25 => ⟨S4x8x64x64x768, .f32⟩
  | 26 => ⟨S_, .f32⟩
  | 27 => ⟨S4x8x64x64, .f32⟩
  | 28 => ⟨S4x8x64x64x1, .f32⟩
  | 29 => ⟨S4x8x64x64x768, .f32⟩
  | 30 => ⟨S4x8x64x64x768, .f32⟩
  | 31 => ⟨S4x8x64x64x512, .f32⟩
  | 32 => ⟨S4x8x64x64x8x64, .f32⟩
  | 33 => ⟨S4x8x64x64x256, .f32⟩
  | 34 => ⟨S4x64x8x64x64, .f32⟩
  | 35 => ⟨S4x64x64x8x64, .f32⟩
  | 36 => ⟨S4x8x64x64x64, .f32⟩
  | 37 => ⟨S4x64x64x8x64, .f32⟩
  | 38 => ⟨S4x64x64x8x64, .f32⟩
  | 39 => ⟨S16384x512, .f32⟩
  | 40 => ⟨S16384x512, .bf16⟩
  | _ => ⟨S24576x1536, .bf16⟩

abbrev hbmTy (i : Nat) : BufTy := match i / 128 with
  | 0 => hbmTy0_0 i
  | 1 => hbmTy0_1 i
  | _ => ⟨S24576x1536, .bf16⟩

abbrev bufTy : (tb : Table) → Fin (tcTables nBuf tb) → BufTy
  | .hbm, ⟨i, _⟩ => hbmTy i
  | _, _ => ⟨S24576x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_11 : Ref sig .tc := ⟨.hbm, 97, rfl⟩
abbrev main_c_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_16 : Ref sig .tc := ⟨.hbm, 117, rfl⟩
abbrev main_v80 : Ref sig .tc := ⟨.hbm, 118, rfl⟩
abbrev main_v81 : Ref sig .tc := ⟨.hbm, 119, rfl⟩
abbrev main_c_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_18 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_19 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_20 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_22 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]
-- ==== Kernel2.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S2048x1536 : Shape := ⟨2, ![2048, 1536]⟩
abbrev S2048x512 : Shape := ⟨2, ![2048, 512]⟩
abbrev S2048x8 : Shape := ⟨2, ![2048, 8]⟩
abbrev S2048x1024 : Shape := ⟨2, ![2048, 1024]⟩
abbrev S2048x16 : Shape := ⟨2, ![2048, 16]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S2048x2048 : Shape := ⟨2, ![2048, 2048]⟩
abbrev S24576x8192 : Shape := ⟨2, ![24576, 8192]⟩
abbrev S1024x2048 : Shape := ⟨2, ![1024, 2048]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S1x2048x14880, .f32⟩
  | .hbm, ⟨3, _⟩ => ⟨S2048x14880, .f32⟩
  | .hbm, ⟨4, _⟩ => ⟨S2048x1536, .f32⟩
  | .hbm, ⟨5, _⟩ => ⟨S2048x512, .f32⟩
  | .hbm, ⟨6, _⟩ => ⟨S2048x8, .f32⟩
  | .hbm, ⟨7, _⟩ => ⟨S2048x8, .f32⟩
  | .hbm, ⟨8, _⟩ => ⟨S2048x512, .f32⟩
  | .hbm, ⟨9, _⟩ => ⟨S2048x1024, .f32⟩
  | .hbm, ⟨10, _⟩ => ⟨S2048x16, .f32⟩
  | .hbm, ⟨11, _⟩ => ⟨S2048x1536, .f32⟩
  | .hbm, ⟨12, _⟩ => ⟨S2048x1536, .f32⟩
  | .hbm, ⟨13, _⟩ => ⟨S2048x8192, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .hbm, ⟨19, _⟩ => ⟨S2048x2048, .bf16⟩
  | .hbm, ⟨20, _⟩ => ⟨S2048x1536, .f32⟩
  | .hbm, ⟨21, _⟩ => ⟨S2048x1536, .bf16⟩
  | .hbm, ⟨22, _⟩ => ⟨S2048x1536, .bf16⟩
  | .hbm, ⟨23, _⟩ => ⟨S2048x1536, .bf16⟩
  | .hbm, ⟨24, _⟩ => ⟨S2048x8192, .bf16⟩
  | .hbm, ⟨25, _⟩ => ⟨S2048x128, .bf16⟩
  | .hbm, ⟨26, _⟩ => ⟨S24576x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S24576x14880 : Shape := ⟨2, ![24576, 14880]⟩
abbrev S24576x1536 : Shape := ⟨2, ![24576, 1536]⟩
abbrev S24576x512 : Shape := ⟨2, ![24576, 512]⟩
abbrev S24576x8 : Shape := ⟨2, ![24576, 8]⟩
abbrev S24576x1024 : Shape := ⟨2, ![24576, 1024]⟩
abbrev S24576x16 : Shape := ⟨2, ![24576, 16]⟩
abbrev S24576x8192 : Shape := ⟨2, ![24576, 8192]⟩

abbrev nBuf : Space → Nat
  | .hbm => 17
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S24576x2048, .f32⟩
  | .hbm, ⟨3, _⟩ => ⟨S1x2048x14880, .f32⟩
  | .hbm, ⟨4, _⟩ => ⟨S2048x14880, .f32⟩
  | .hbm, ⟨5, _⟩ => ⟨S24576x14880, .f32⟩
  | .hbm, ⟨6, _⟩ => ⟨S24576x1536, .f32⟩
  | .hbm, ⟨7, _⟩ => ⟨S24576x512, .f32⟩
  | .hbm, ⟨8, _⟩ => ⟨S24576x8, .f32⟩
  | .hbm, ⟨9, _⟩ => ⟨S24576x8, .f32⟩
  | .hbm, ⟨10, _⟩ => ⟨S24576x512, .f32⟩
  | .hbm, ⟨11, _⟩ => ⟨S24576x1024, .f32⟩
  | .hbm, ⟨12, _⟩ => ⟨S24576x16, .f32⟩
  | .hbm, ⟨13, _⟩ => ⟨S24576x1536, .f32⟩
  | .hbm, ⟨14, _⟩ => ⟨S24576x1536, .f32⟩
  | .hbm, ⟨15, _⟩ => ⟨S24576x8192, .f32⟩
  | .hbm, ⟨16, _⟩ => ⟨S24576x8192, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Kernel3.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S2048x1536 : Shape := ⟨2, ![2048, 1536]⟩
abbrev S2048x512 : Shape := ⟨2, ![2048, 512]⟩
abbrev S2048x8 : Shape := ⟨2, ![2048, 8]⟩
abbrev S2048x1024 : Shape := ⟨2, ![2048, 1024]⟩
abbrev S2048x16 : Shape := ⟨2, ![2048, 16]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S2048x2048 : Shape := ⟨2, ![2048, 2048]⟩
abbrev S24576x1536 : Shape := ⟨2, ![24576, 1536]⟩
abbrev S1024x2048 : Shape := ⟨2, ![1024, 2048]⟩
abbrev S1024x512 : Shape := ⟨2, ![1024, 512]⟩
abbrev S8192x512 : Shape := ⟨2, ![8192, 512]⟩
abbrev S32x256x8x64 : Shape := ⟨4, ![32, 256, 8, 64]⟩

abbrev nBuf : Space → Nat
  | .hbm => 33
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S1x2048x14880, .f32⟩
  | .hbm, ⟨3, _⟩ => ⟨S2048x14880, .f32⟩
  | .hbm, ⟨4, _⟩ => ⟨S2048x1536, .f32⟩
  | .hbm, ⟨5, _⟩ => ⟨S2048x512, .f32⟩
  | .hbm, ⟨6, _⟩ => ⟨S2048x8, .f32⟩
  | .hbm, ⟨7, _⟩ => ⟨S2048x8, .f32⟩
  | .hbm, ⟨8, _⟩ => ⟨S2048x512, .f32⟩
  | .hbm, ⟨9, _⟩ => ⟨S2048x1024, .f32⟩
  | .hbm, ⟨10, _⟩ => ⟨S2048x16, .f32⟩
  | .hbm, ⟨11, _⟩ => ⟨S2048x1536, .f32⟩
  | .hbm, ⟨12, _⟩ => ⟨S2048x1536, .f32⟩
  | .hbm, ⟨13, _⟩ => ⟨S2048x8192, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .hbm, ⟨19, _⟩ => ⟨S2048x2048, .bf16⟩
  | .hbm, ⟨20, _⟩ => ⟨S2048x1536, .f32⟩
  | .hbm, ⟨21, _⟩ => ⟨S2048x1536, .bf16⟩
  | .hbm, ⟨22, _⟩ => ⟨S2048x1536, .bf16⟩
  | .hbm, ⟨23, _⟩ => ⟨S2048x1536, .bf16⟩
  | .hbm, ⟨24, _⟩ => ⟨S2048x8192, .bf16⟩
  | .hbm, ⟨25, _⟩ => ⟨S2048x128, .bf16⟩
  | .hbm, ⟨26, _⟩ => ⟨S24576x1536, .bf16⟩
  | .hbm, ⟨27, _⟩ => ⟨S8192x512, .bf16⟩
  | .hbm, ⟨28, _⟩ => ⟨S8192x512, .f32⟩
  | .hbm, ⟨29, _⟩ => ⟨S32x256x8x64, .f32⟩
  | .hbm, ⟨30, _⟩ => ⟨S8192x512, .bf16⟩
  | .hbm, ⟨31, _⟩ => ⟨S8192x512, .f32⟩
  | .hbm, ⟨32, _⟩ => ⟨S32x256x8x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S24576x14880 : Shape := ⟨2, ![24576, 14880]⟩
abbrev S24576x1536 : Shape := ⟨2, ![24576, 1536]⟩
abbrev S24576x512 : Shape := ⟨2, ![24576, 512]⟩
abbrev S24576x8 : Shape := ⟨2, ![24576, 8]⟩
abbrev S24576x1024 : Shape := ⟨2, ![24576, 1024]⟩
abbrev S24576x16 : Shape := ⟨2, ![24576, 16]⟩
abbrev S24576x8192 : Shape := ⟨2, ![24576, 8192]⟩
abbrev S8192x1536 : Shape := ⟨2, ![8192, 1536]⟩
abbrev S8192x512 : Shape := ⟨2, ![8192, 512]⟩
abbrev S32x256x8x64 : Shape := ⟨4, ![32, 256, 8, 64]⟩

abbrev nBuf : Space → Nat
  | .hbm => 24
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S24576x2048, .f32⟩
  | .hbm, ⟨3, _⟩ => ⟨S1x2048x14880, .f32⟩
  | .hbm, ⟨4, _⟩ => ⟨S2048x14880, .f32⟩
  | .hbm, ⟨5, _⟩ => ⟨S24576x14880, .f32⟩
  | .hbm, ⟨6, _⟩ => ⟨S24576x1536, .f32⟩
  | .hbm, ⟨7, _⟩ => ⟨S24576x512, .f32⟩
  | .hbm, ⟨8, _⟩ => ⟨S24576x8, .f32⟩
  | .hbm, ⟨9, _⟩ => ⟨S24576x8, .f32⟩
  | .hbm, ⟨10, _⟩ => ⟨S24576x512, .f32⟩
  | .hbm, ⟨11, _⟩ => ⟨S24576x1024, .f32⟩
  | .hbm, ⟨12, _⟩ => ⟨S24576x16, .f32⟩
  | .hbm, ⟨13, _⟩ => ⟨S24576x1536, .f32⟩
  | .hbm, ⟨14, _⟩ => ⟨S24576x1536, .f32⟩
  | .hbm, ⟨15, _⟩ => ⟨S24576x8192, .f32⟩
  | .hbm, ⟨16, _⟩ => ⟨S8192x1536, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S32x256x8x64, .f32⟩
  | .hbm, ⟨21, _⟩ => ⟨S32x256x8x64, .f32⟩
  | .hbm, ⟨22, _⟩ => ⟨S32x256x8x64, .f32⟩
  | .hbm, ⟨23, _⟩ => ⟨S24576x1536, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩

abbrev nD : Nat := 1
abbrev τ : Topo := Topo.v7x

variable {F : FTy → Type} [FloatOps F]
-- ==== Kernel4.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S2048x1536 : Shape := ⟨2, ![2048, 1536]⟩
abbrev S2048x512 : Shape := ⟨2, ![2048, 512]⟩
abbrev S2048x8 : Shape := ⟨2, ![2048, 8]⟩
abbrev S2048x1024 : Shape := ⟨2, ![2048, 1024]⟩
abbrev S2048x16 : Shape := ⟨2, ![2048, 16]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S2048x2048 : Shape := ⟨2, ![2048, 2048]⟩
abbrev S1024x2048 : Shape := ⟨2, ![1024, 2048]⟩
abbrev S1024x512 : Shape := ⟨2, ![1024, 512]⟩

abbrev nBuf : Space → Nat
  | .hbm => 27
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S1x2048x14880, .f32⟩
  | .hbm, ⟨3, _⟩ => ⟨S2048x14880, .f32⟩
  | .hbm, ⟨4, _⟩ => ⟨S2048x1536, .f32⟩
  | .hbm, ⟨5, _⟩ => ⟨S2048x512, .f32⟩
  | .hbm, ⟨6, _⟩ => ⟨S2048x8, .f32⟩
  | .hbm, ⟨7, _⟩ => ⟨S2048x8, .f32⟩
  | .hbm, ⟨8, _⟩ => ⟨S2048x512, .f32⟩
  | .hbm, ⟨9, _⟩ => ⟨S2048x1024, .f32⟩
  | .hbm, ⟨10, _⟩ => ⟨S2048x16, .f32⟩
  | .hbm, ⟨11, _⟩ => ⟨S2048x1536, .f32⟩
  | .hbm, ⟨12, _⟩ => ⟨S2048x1536, .f32⟩
  | .hbm, ⟨13, _⟩ => ⟨S2048x8192, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .hbm, ⟨19, _⟩ => ⟨S2048x2048, .bf16⟩
  | .hbm, ⟨20, _⟩ => ⟨S2048x1536, .f32⟩
  | .hbm, ⟨21, _⟩ => ⟨S2048x1536, .bf16⟩
  | .hbm, ⟨22, _⟩ => ⟨S2048x1536, .bf16⟩
  | .hbm, ⟨23, _⟩ => ⟨S2048x1536, .bf16⟩
  | .hbm, ⟨24, _⟩ => ⟨S2048x8192, .bf16⟩
  | .hbm, ⟨25, _⟩ => ⟨S2048x128, .bf16⟩
  | .hbm, ⟨26, _⟩ => ⟨S24576x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S24576x14880 : Shape := ⟨2, ![24576, 14880]⟩
abbrev S24576x1536 : Shape := ⟨2, ![24576, 1536]⟩
abbrev S24576x512 : Shape := ⟨2, ![24576, 512]⟩
abbrev S24576x8 : Shape := ⟨2, ![24576, 8]⟩
abbrev S24576x1024 : Shape := ⟨2, ![24576, 1024]⟩
abbrev S24576x16 : Shape := ⟨2, ![24576, 16]⟩
abbrev S24576x8192 : Shape := ⟨2, ![24576, 8192]⟩

abbrev nBuf : Space → Nat
  | .hbm => 18
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S24576x2048, .f32⟩
  | .hbm, ⟨3, _⟩ => ⟨S1x2048x14880, .f32⟩
  | .hbm, ⟨4, _⟩ => ⟨S2048x14880, .f32⟩
  | .hbm, ⟨5, _⟩ => ⟨S24576x14880, .f32⟩
  | .hbm, ⟨6, _⟩ => ⟨S24576x1536, .f32⟩
  | .hbm, ⟨7, _⟩ => ⟨S24576x512, .f32⟩
  | .hbm, ⟨8, _⟩ => ⟨S24576x8, .f32⟩
  | .hbm, ⟨9, _⟩ => ⟨S24576x8, .f32⟩
  | .hbm, ⟨10, _⟩ => ⟨S24576x512, .f32⟩
  | .hbm, ⟨11, _⟩ => ⟨S24576x1024, .f32⟩
  | .hbm, ⟨12, _⟩ => ⟨S24576x16, .f32⟩
  | .hbm, ⟨13, _⟩ => ⟨S24576x1536, .f32⟩
  | .hbm, ⟨14, _⟩ => ⟨S24576x1536, .f32⟩
  | .hbm, ⟨15, _⟩ => ⟨S24576x8192, .f32⟩
  | .hbm, ⟨16, _⟩ => ⟨S24576x2048, .f32⟩
  | .hbm, ⟨17, _⟩ => ⟨S24576x2048, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel5.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S2048x1536 : Shape := ⟨2, ![2048, 1536]⟩
abbrev S2048x512 : Shape := ⟨2, ![2048, 512]⟩
abbrev S2048x8 : Shape := ⟨2, ![2048, 8]⟩
abbrev S2048x1024 : Shape := ⟨2, ![2048, 1024]⟩
abbrev S2048x16 : Shape := ⟨2, ![2048, 16]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S2048x2048 : Shape := ⟨2, ![2048, 2048]⟩
abbrev S24576x1536 : Shape := ⟨2, ![24576, 1536]⟩
abbrev S1024x2048 : Shape := ⟨2, ![1024, 2048]⟩
abbrev S1024x512 : Shape := ⟨2, ![1024, 512]⟩

abbrev nBuf : Space → Nat
  | .hbm => 27
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S1x2048x14880, .f32⟩
  | .hbm, ⟨3, _⟩ => ⟨S2048x14880, .f32⟩
  | .hbm, ⟨4, _⟩ => ⟨S2048x1536, .f32⟩
  | .hbm, ⟨5, _⟩ => ⟨S2048x512, .f32⟩
  | .hbm, ⟨6, _⟩ => ⟨S2048x8, .f32⟩
  | .hbm, ⟨7, _⟩ => ⟨S2048x8, .f32⟩
  | .hbm, ⟨8, _⟩ => ⟨S2048x512, .f32⟩
  | .hbm, ⟨9, _⟩ => ⟨S2048x1024, .f32⟩
  | .hbm, ⟨10, _⟩ => ⟨S2048x16, .f32⟩
  | .hbm, ⟨11, _⟩ => ⟨S2048x1536, .f32⟩
  | .hbm, ⟨12, _⟩ => ⟨S2048x1536, .f32⟩
  | .hbm, ⟨13, _⟩ => ⟨S2048x8192, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .hbm, ⟨19, _⟩ => ⟨S2048x2048, .bf16⟩
  | .hbm, ⟨20, _⟩ => ⟨S2048x1536, .f32⟩
  | .hbm, ⟨21, _⟩ => ⟨S2048x1536, .bf16⟩
  | .hbm, ⟨22, _⟩ => ⟨S2048x1536, .bf16⟩
  | .hbm, ⟨23, _⟩ => ⟨S2048x1536, .bf16⟩
  | .hbm, ⟨24, _⟩ => ⟨S2048x8192, .bf16⟩
  | .hbm, ⟨25, _⟩ => ⟨S2048x128, .bf16⟩
  | .hbm, ⟨26, _⟩ => ⟨S24576x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S24576x14880 : Shape := ⟨2, ![24576, 14880]⟩
abbrev S24576x1536 : Shape := ⟨2, ![24576, 1536]⟩
abbrev S24576x512 : Shape := ⟨2, ![24576, 512]⟩
abbrev S24576x8 : Shape := ⟨2, ![24576, 8]⟩
abbrev S24576x1024 : Shape := ⟨2, ![24576, 1024]⟩
abbrev S24576x16 : Shape := ⟨2, ![24576, 16]⟩
abbrev S24576x8192 : Shape := ⟨2, ![24576, 8192]⟩

abbrev nBuf : Space → Nat
  | .hbm => 18
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S24576x2048, .f32⟩
  | .hbm, ⟨3, _⟩ => ⟨S1x2048x14880, .f32⟩
  | .hbm, ⟨4, _⟩ => ⟨S2048x14880, .f32⟩
  | .hbm, ⟨5, _⟩ => ⟨S24576x14880, .f32⟩
  | .hbm, ⟨6, _⟩ => ⟨S24576x1536, .f32⟩
  | .hbm, ⟨7, _⟩ => ⟨S24576x512, .f32⟩
  | .hbm, ⟨8, _⟩ => ⟨S24576x8, .f32⟩
  | .hbm, ⟨9, _⟩ => ⟨S24576x8, .f32⟩
  | .hbm, ⟨10, _⟩ => ⟨S24576x512, .f32⟩
  | .hbm, ⟨11, _⟩ => ⟨S24576x1024, .f32⟩
  | .hbm, ⟨12, _⟩ => ⟨S24576x16, .f32⟩
  | .hbm, ⟨13, _⟩ => ⟨S24576x1536, .f32⟩
  | .hbm, ⟨14, _⟩ => ⟨S24576x1536, .f32⟩
  | .hbm, ⟨15, _⟩ => ⟨S24576x8192, .f32⟩
  | .hbm, ⟨16, _⟩ => ⟨S24576x1536, .f32⟩
  | .hbm, ⟨17, _⟩ => ⟨S24576x1536, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel6.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S2048x1536 : Shape := ⟨2, ![2048, 1536]⟩
abbrev S2048x512 : Shape := ⟨2, ![2048, 512]⟩
abbrev S2048x8 : Shape := ⟨2, ![2048, 8]⟩
abbrev S2048x1024 : Shape := ⟨2, ![2048, 1024]⟩
abbrev S2048x16 : Shape := ⟨2, ![2048, 16]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S2048x2048 : Shape := ⟨2, ![2048, 2048]⟩
abbrev S24576x1536 : Shape := ⟨2, ![24576, 1536]⟩
abbrev S1024x2048 : Shape := ⟨2, ![1024, 2048]⟩
abbrev S1024x512 : Shape := ⟨2, ![1024, 512]⟩

abbrev nBuf : Space → Nat
  | .hbm => 27
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S1x2048x14880, .f32⟩
  | .hbm, ⟨3, _⟩ => ⟨S2048x14880, .f32⟩
  | .hbm, ⟨4, _⟩ => ⟨S2048x1536, .f32⟩
  | .hbm, ⟨5, _⟩ => ⟨S2048x512, .f32⟩
  | .hbm, ⟨6, _⟩ => ⟨S2048x8, .f32⟩
  | .hbm, ⟨7, _⟩ => ⟨S2048x8, .f32⟩
  | .hbm, ⟨8, _⟩ => ⟨S2048x512, .f32⟩
  | .hbm, ⟨9, _⟩ => ⟨S2048x1024, .f32⟩
  | .hbm, ⟨10, _⟩ => ⟨S2048x16, .f32⟩
  | .hbm, ⟨11, _⟩ => ⟨S2048x1536, .f32⟩
  | .hbm, ⟨12, _⟩ => ⟨S2048x1536, .f32⟩
  | .hbm, ⟨13, _⟩ => ⟨S2048x8192, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .hbm, ⟨19, _⟩ => ⟨S2048x2048, .bf16⟩
  | .hbm, ⟨20, _⟩ => ⟨S2048x1536, .f32⟩
  | .hbm, ⟨21, _⟩ => ⟨S2048x1536, .bf16⟩
  | .hbm, ⟨22, _⟩ => ⟨S2048x1536, .bf16⟩
  | .hbm, ⟨23, _⟩ => ⟨S2048x1536, .bf16⟩
  | .hbm, ⟨24, _⟩ => ⟨S2048x8192, .bf16⟩
  | .hbm, ⟨25, _⟩ => ⟨S2048x128, .bf16⟩
  | .hbm, ⟨26, _⟩ => ⟨S24576x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S24576x14880 : Shape := ⟨2, ![24576, 14880]⟩
abbrev S24576x1536 : Shape := ⟨2, ![24576, 1536]⟩
abbrev S24576x512 : Shape := ⟨2, ![24576, 512]⟩
abbrev S24576x8 : Shape := ⟨2, ![24576, 8]⟩
abbrev S24576x1024 : Shape := ⟨2, ![24576, 1024]⟩
abbrev S24576x16 : Shape := ⟨2, ![24576, 16]⟩
abbrev S24576x8192 : Shape := ⟨2, ![24576, 8192]⟩

abbrev nBuf : Space → Nat
  | .hbm => 17
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S24576x2048, .f32⟩
  | .hbm, ⟨3, _⟩ => ⟨S1x2048x14880, .f32⟩
  | .hbm, ⟨4, _⟩ => ⟨S2048x14880, .f32⟩
  | .hbm, ⟨5, _⟩ => ⟨S24576x14880, .f32⟩
  | .hbm, ⟨6, _⟩ => ⟨S24576x1536, .f32⟩
  | .hbm, ⟨7, _⟩ => ⟨S24576x512, .f32⟩
  | .hbm, ⟨8, _⟩ => ⟨S24576x8, .f32⟩
  | .hbm, ⟨9, _⟩ => ⟨S24576x8, .f32⟩
  | .hbm, ⟨10, _⟩ => ⟨S24576x512, .f32⟩
  | .hbm, ⟨11, _⟩ => ⟨S24576x1024, .f32⟩
  | .hbm, ⟨12, _⟩ => ⟨S24576x16, .f32⟩
  | .hbm, ⟨13, _⟩ => ⟨S24576x1536, .f32⟩
  | .hbm, ⟨14, _⟩ => ⟨S24576x1536, .f32⟩
  | .hbm, ⟨15, _⟩ => ⟨S24576x8192, .f32⟩
  | .hbm, ⟨16, _⟩ => ⟨S24576x1536, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Kernel7.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S2048x1536 : Shape := ⟨2, ![2048, 1536]⟩
abbrev S2048x512 : Shape := ⟨2, ![2048, 512]⟩
abbrev S2048x8 : Shape := ⟨2, ![2048, 8]⟩
abbrev S2048x1024 : Shape := ⟨2, ![2048, 1024]⟩
abbrev S2048x16 : Shape := ⟨2, ![2048, 16]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S2048x2048 : Shape := ⟨2, ![2048, 2048]⟩
abbrev S24576x128 : Shape := ⟨2, ![24576, 128]⟩
abbrev S1024x2048 : Shape := ⟨2, ![1024, 2048]⟩
abbrev S1024x128 : Shape := ⟨2, ![1024, 128]⟩

abbrev nBuf : Space → Nat
  | .hbm => 27
  | .vmem => 5
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S1x2048x14880, .f32⟩
  | .hbm, ⟨3, _⟩ => ⟨S2048x14880, .f32⟩
  | .hbm, ⟨4, _⟩ => ⟨S2048x1536, .f32⟩
  | .hbm, ⟨5, _⟩ => ⟨S2048x512, .f32⟩
  | .hbm, ⟨6, _⟩ => ⟨S2048x8, .f32⟩
  | .hbm, ⟨7, _⟩ => ⟨S2048x8, .f32⟩
  | .hbm, ⟨8, _⟩ => ⟨S2048x512, .f32⟩
  | .hbm, ⟨9, _⟩ => ⟨S2048x1024, .f32⟩
  | .hbm, ⟨10, _⟩ => ⟨S2048x16, .f32⟩
  | .hbm, ⟨11, _⟩ => ⟨S2048x1536, .f32⟩
  | .hbm, ⟨12, _⟩ => ⟨S2048x1536, .f32⟩
  | .hbm, ⟨13, _⟩ => ⟨S2048x8192, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .hbm, ⟨19, _⟩ => ⟨S2048x2048, .bf16⟩
  | .hbm, ⟨20, _⟩ => ⟨S2048x1536, .f32⟩
  | .hbm, ⟨21, _⟩ => ⟨S2048x1536, .bf16⟩
  | .hbm, ⟨22, _⟩ => ⟨S2048x1536, .bf16⟩
  | .hbm, ⟨23, _⟩ => ⟨S2048x1536, .bf16⟩
  | .hbm, ⟨24, _⟩ => ⟨S2048x8192, .bf16⟩
  | .hbm, ⟨25, _⟩ => ⟨S2048x128, .bf16⟩
  | .hbm, ⟨26, _⟩ => ⟨S24576x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S24576x2048 : Shape := ⟨2, ![24576, 2048]⟩
abbrev S2x2048x14880 : Shape := ⟨3, ![2, 2048, 14880]⟩
abbrev S1x2048x14880 : Shape := ⟨3, ![1, 2048, 14880]⟩
abbrev S2048x14880 : Shape := ⟨2, ![2048, 14880]⟩
abbrev S24576x14880 : Shape := ⟨2, ![24576, 14880]⟩
abbrev S24576x1536 : Shape := ⟨2, ![24576, 1536]⟩
abbrev S24576x512 : Shape := ⟨2, ![24576, 512]⟩
abbrev S24576x8 : Shape := ⟨2, ![24576, 8]⟩
abbrev S24576x1024 : Shape := ⟨2, ![24576, 1024]⟩
abbrev S24576x16 : Shape := ⟨2, ![24576, 16]⟩
abbrev S24576x8192 : Shape := ⟨2, ![24576, 8192]⟩
abbrev S24576x32 : Shape := ⟨2, ![24576, 32]⟩
abbrev S_ : Shape := ⟨0, ![]⟩
abbrev S24576x128 : Shape := ⟨2, ![24576, 128]⟩

abbrev nBuf : Space → Nat
  | .hbm => 20
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x14880, .f32⟩
  | .hbm, ⟨2, _⟩ => ⟨S24576x2048, .f32⟩
  | .hbm, ⟨3, _⟩ => ⟨S1x2048x14880, .f32⟩
  | .hbm, ⟨4, _⟩ => ⟨S2048x14880, .f32⟩
  | .hbm, ⟨5, _⟩ => ⟨S24576x14880, .f32⟩
  | .hbm, ⟨6, _⟩ => ⟨S24576x1536, .f32⟩
  | .hbm, ⟨7, _⟩ => ⟨S24576x512, .f32⟩
  | .hbm, ⟨8, _⟩ => ⟨S24576x8, .f32⟩
  | .hbm, ⟨9, _⟩ => ⟨S24576x8, .f32⟩
  | .hbm, ⟨10, _⟩ => ⟨S24576x512, .f32⟩
  | .hbm, ⟨11, _⟩ => ⟨S24576x1024, .f32⟩
  | .hbm, ⟨12, _⟩ => ⟨S24576x16, .f32⟩
  | .hbm, ⟨13, _⟩ => ⟨S24576x1536, .f32⟩
  | .hbm, ⟨14, _⟩ => ⟨S24576x1536, .f32⟩
  | .hbm, ⟨15, _⟩ => ⟨S24576x8192, .f32⟩
  | .hbm, ⟨16, _⟩ => ⟨S24576x32, .f32⟩
  | .hbm, ⟨17, _⟩ => ⟨S_, .i32⟩
  | .hbm, ⟨18, _⟩ => ⟨S_, .f32⟩
  | .hbm, ⟨19, _⟩ => ⟨S24576x128, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel8.lean ====
abbrev S24576x512 : Shape := ⟨2, ![24576, 512]⟩
abbrev S24576x8192 : Shape := ⟨2, ![24576, 8192]⟩
abbrev S2x4x512x2048 : Shape := ⟨4, ![2, 4, 512, 2048]⟩
abbrev S1x4x512x2048 : Shape := ⟨4, ![1, 4, 512, 2048]⟩
abbrev S4x512x2048 : Shape := ⟨3, ![4, 512, 2048]⟩
abbrev S24576x2048 : Shape := ⟨2, ![24576, 2048]⟩
abbrev S512x512 : Shape := ⟨2, ![512, 512]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S24576x512, .bf16⟩
  | .hbm, ⟨3, _⟩ => ⟨S24576x512, .bf16⟩
  | .hbm, ⟨4, _⟩ => ⟨S24576x8192, .bf16⟩
  | .hbm, ⟨5, _⟩ => ⟨S2x4x512x2048, .f32⟩
  | .hbm, ⟨6, _⟩ => ⟨S1x4x512x2048, .f32⟩
  | .hbm, ⟨7, _⟩ => ⟨S4x512x2048, .f32⟩
  | .hbm, ⟨8, _⟩ => ⟨S4x512x2048, .bf16⟩
  | .hbm, ⟨9, _⟩ => ⟨S24576x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4x512x1024, .bf16⟩
  | .local _ .vmem, ⟨17, _⟩ => ⟨S4x512x1024, .bf16⟩
  | .local _ .vmem, ⟨18, _⟩ => ⟨S512x1024, .bf16⟩
  | .local _ .vmem, ⟨19, _⟩ => ⟨S512x1024, .bf16⟩
  | _, _ => ⟨S24576x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![48, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S24576x512 : Shape := ⟨2, ![24576, 512]⟩
abbrev S24576x8192 : Shape := ⟨2, ![24576, 8192]⟩
abbrev S2x4x512x2048 : Shape := ⟨4, ![2, 4, 512, 2048]⟩
abbrev S_ : Shape := ⟨0, ![]⟩
abbrev S24576x2048 : Shape := ⟨2, ![24576, 2048]⟩
abbrev S1x1x512x2048 : Shape := ⟨4, ![1, 1, 512, 2048]⟩
abbrev S512x2048 : Shape := ⟨2, ![512, 2048]⟩

abbrev nBuf : Space → Nat
  | .hbm => 43
  | .vmem => 0
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S24576x512, .bf16⟩
  | .hbm, ⟨3, _⟩ => ⟨S24576x512, .bf16⟩
  | .hbm, ⟨4, _⟩ => ⟨S24576x8192, .bf16⟩
  | .hbm, ⟨5, _⟩ => ⟨S2x4x512x2048, .f32⟩
  | .hbm, ⟨6, _⟩ => ⟨S24576x512, .f32⟩
  | .hbm, ⟨7, _⟩ => ⟨S24576x512, .f32⟩
  | .hbm, ⟨8, _⟩ => ⟨S24576x512, .f32⟩
  | .hbm, ⟨9, _⟩ => ⟨S24576x512, .f32⟩
  | .hbm, ⟨10, _⟩ => ⟨S24576x8192, .f32⟩
  | .hbm, ⟨11, _⟩ => ⟨S24576x8192, .f32⟩
  | .hbm, ⟨12, _⟩ => ⟨S24576x8192, .f32⟩
  | .hbm, ⟨13, _⟩ => ⟨S_, .f32⟩
  | .hbm, ⟨14, _⟩ => ⟨S24576x8192, .f32⟩
  | .hbm, ⟨15, _⟩ => ⟨S24576x8192, .f32⟩
  | .hbm, ⟨16, _⟩ => ⟨S_, .f32⟩
  | .hbm, ⟨17, _⟩ => ⟨S24576x8192, .f32⟩
  | .hbm, ⟨18, _⟩ => ⟨S24576x8192, .f32⟩
  | .hbm, ⟨19, _⟩ => ⟨S24576x2048, .f32⟩
  | .hbm, ⟨20, _⟩ => ⟨S24576x2048, .f32⟩
  | .hbm, ⟨21, _⟩ => ⟨S24576x2048, .f32⟩
  | .hbm, ⟨22, _⟩ => ⟨S24576x2048, .f32⟩
  | .hbm, ⟨23, _⟩ => ⟨S1x1x512x2048, .f32⟩
  | .hbm, ⟨24, _⟩ => ⟨S512x2048, .f32⟩
  | .hbm, ⟨25, _⟩ => ⟨S24576x2048, .f32⟩
  | .hbm, ⟨26, _⟩ => ⟨S24576x2048, .f32⟩
  | .hbm, ⟨27, _⟩ => ⟨S1x1x512x2048, .f32⟩
  | .hbm, ⟨28, _⟩ => ⟨S512x2048, .f32⟩
  | .hbm, ⟨29, _⟩ => ⟨S24576x2048, .f32⟩
  | .hbm, ⟨30, _⟩ => ⟨S24576x2048, .f32⟩
  | .hbm, ⟨31, _⟩ => ⟨S24576x2048, .f32⟩
  | .hbm, ⟨32, _⟩ => ⟨S1x1x512x2048, .f32⟩
  | .hbm, ⟨33, _⟩ => ⟨S512x2048, .f32⟩
  | .hbm, ⟨34, _⟩ => ⟨S24576x2048, .f32⟩
  | .hbm, ⟨35, _⟩ => ⟨S24576x2048, .f32⟩
  | .hbm, ⟨36, _⟩ => ⟨S24576x2048, .f32⟩
  | .hbm, ⟨37, _⟩ => ⟨S1x1x512x2048, .f32⟩
  | .hbm, ⟨38, _⟩ => ⟨S512x2048, .f32⟩
  | .hbm, ⟨39, _⟩ => ⟨S24576x2048, .f32⟩
  | .hbm, ⟨40, _⟩ => ⟨S24576x2048, .f32⟩
  | .hbm, ⟨41, _⟩ => ⟨S24576x2048, .f32⟩
  | .hbm, ⟨42, _⟩ => ⟨S24576x2048, .bf16⟩
  | _, _ => ⟨S24576x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel9.lean ====
abbrev S24576x2048 : Shape := ⟨2, ![24576, 2048]⟩
abbrev S2x2048x2048 : Shape := ⟨3, ![2, 2048, 2048]⟩
abbrev S8x1x2048 : Shape := ⟨3, ![8, 1, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S24576x2048, .bf16⟩
  | .hbm, ⟨1, _⟩ => ⟨S2x2048x2048, .f32⟩
  | .hbm, ⟨2, _⟩ => ⟨S24576x2048, .f32⟩
  | .hbm, ⟨3, _⟩ => ⟨S8x1x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S24576x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S24576x2048 : Shape := ⟨2, ![24576, 2048]⟩
abbrev S2x2048x2048 : Shape := ⟨3, ![2, 2048, 2048]⟩
abbrev S8x1x2048 : Shape := ⟨3, ![8, 1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S1x1x2048 : Shape := ⟨3, ![1, 1, 2048]⟩
abbrev S1x2048 : Shape := ⟨2, ![1, 2048]⟩
abbrev S16384x2048 : Shape := ⟨2, ![16384, 2048]⟩
abbrev S4x4096x2048 : Shape := ⟨3, ![4, 4096, 2048]⟩
abbrev S4x1x2048 : Shape := ⟨3, ![4, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x2048, .f32⟩
  | .hbm, ⟨2, _⟩ => ⟨S24576x2048, .f32⟩
  | .hbm, ⟨3, _⟩ => ⟨S8x1x2048, .f32⟩
  | .hbm, ⟨4, _⟩ => ⟨S24576x2048, .f32⟩
  | .hbm, ⟨5, _⟩ => ⟨S1x2048x2048, .f32⟩
  | .hbm, ⟨6, _⟩ => ⟨S2048x2048, .f32⟩
  | .hbm, ⟨7, _⟩ => ⟨S24576x2048, .f32⟩
  | .hbm, ⟨8, _⟩ => ⟨S8192x2048, .f32⟩
  | .hbm, ⟨9, _⟩ => ⟨S1x1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S16384x2048, .f32⟩
  | .hbm, ⟨16, _⟩ => ⟨S4x4096x2048, .f32⟩
  | .hbm, ⟨17, _⟩ => ⟨S4x1x2048, .f32⟩
  | .hbm, ⟨18, _⟩ => ⟨S16384x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S16384x2048, .f32⟩
  | .hbm, ⟨24, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel10.lean ====
abbrev S24576x2048 : Shape := ⟨2, ![24576, 2048]⟩
abbrev S147456x16x128 : Shape := ⟨3, ![147456, 16, 128]⟩
abbrev S8x24576 : Shape := ⟨2, ![8, 24576]⟩
abbrev S2x2048x512 : Shape := ⟨3, ![2, 2048, 512]⟩
abbrev S2x512x2048 : Shape := ⟨3, ![2, 512, 2048]⟩
abbrev S8x1x2048 : Shape := ⟨3, ![8, 1, 2048]⟩
abbrev S24576x8 : Shape := ⟨2, ![24576, 8]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S256x2048 : Shape := ⟨2, ![256, 2048]⟩
abbrev S256x16x128 : Shape := ⟨3, ![256, 16, 128]⟩
abbrev S256x8 : Shape := ⟨2, ![256, 8]⟩
abbrev S1x1x2048 : Shape := ⟨3, ![1, 1, 2048]⟩
abbrev S256x512 : Shape := ⟨2, ![256, 512]⟩
abbrev S256x1x128 : Shape := ⟨3, ![256, 1, 128]⟩
abbrev S256x128 : Shape := ⟨2, ![256, 128]⟩
abbrev S256x1 : Shape := ⟨2, ![256, 1]⟩
abbrev S1x2048 : Shape := ⟨2, ![1, 2048]⟩

abbrev nBuf : Space → Nat
  | .hbm => 19
  | .vmem => 25
  | .smem => 0
  | _ => 0

abbrev bufTy : (tb : Table) → Fin (tcTables nBuf tb) → BufTy
  | .hbm, ⟨0, _⟩ => ⟨S24576x2048, .f32⟩
  | .hbm, ⟨1, _⟩ => ⟨S24576x2048, .f32⟩
  | .hbm, ⟨2, _⟩ => ⟨S147456x16x128, .f32⟩
  | .hbm, ⟨3, _⟩ => ⟨S8x24576, .f32⟩
  | .hbm, ⟨4, _⟩ => ⟨S2x2048x512, .f32⟩
  | .hbm, ⟨5, _⟩ => ⟨S2x2048x512, .f32⟩
  | .hbm, ⟨6, _⟩ => ⟨S2x512x2048, .f32⟩
  | .hbm, ⟨7, _⟩ => ⟨S8x1x2048, .f32⟩
  | .hbm, ⟨8, _⟩ => ⟨S24576x8, .f32⟩
  | .hbm, ⟨9, _⟩ => ⟨S1x2048x512, .f32⟩
  | .hbm, ⟨10, _⟩ => ⟨S2048x512, .f32⟩
  | .hbm, ⟨11, _⟩ => ⟨S2048x512, .bf16⟩
  | .hbm, ⟨12, _⟩ => ⟨S1x2048x512, .f32⟩
  | .hbm, ⟨13, _⟩ => ⟨S2048x512, .f32⟩
  | .hbm, ⟨14, _⟩ => ⟨S2048x512, .bf16⟩
  | .hbm, ⟨15, _⟩ => ⟨S1x512x2048, .f32⟩
  | .hbm, ⟨16, _⟩ => ⟨S512x2048, .f32⟩
  | .hbm, ⟨17, _⟩ => ⟨S512x2048, .bf16⟩
  | .hbm, ⟨18, _⟩ => ⟨S24576x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x16x128, .f32⟩
  | .local _ .vmem, ⟨5, _⟩ => ⟨S256x16x128, .f32⟩
  | .local _ .vmem, ⟨6, _⟩ => ⟨S256x16x128, .f32⟩
  | .local _ .vmem, ⟨7, _⟩ => ⟨S256x16x128, .f32⟩
  | .local _ .vmem, ⟨8, _⟩ => ⟨S256x16x128, .f32⟩
  | .local _ .vmem, ⟨9, _⟩ => ⟨S256x16x128, .f32⟩
  | .local _ .vmem, ⟨10, _⟩ => ⟨S256x16x128, .f32⟩
  | .local _ .vmem, ⟨11, _⟩ => ⟨S256x16x128, .f32⟩
  | .local _ .vmem, ⟨12, _⟩ => ⟨S256x16x128, .f32⟩
  | .local _ .vmem, ⟨13, _⟩ => ⟨S256x16x128, .f32⟩
  | .local _ .vmem, ⟨14, _⟩ => ⟨S256x16x128, .f32⟩
  | .local _ .vmem, ⟨15, _⟩ => ⟨S256x16x128, .f32⟩
  | .local _ .vmem, ⟨16, _⟩ => ⟨S256x8, .f32⟩
  | .local _ .vmem, ⟨17, _⟩ => ⟨S256x8, .f32⟩
  | .local _ .vmem, ⟨18, _⟩ => ⟨S2048x512, .bf16⟩
  | .local _ .vmem, ⟨19, _⟩ => ⟨S2048x512, .bf16⟩
  | .local _ .vmem, ⟨20, _⟩ => ⟨S512x2048, .bf16⟩
  | .local _ .vmem, ⟨21, _⟩ => ⟨S1x1x2048, .f32⟩
  | .local _ .vmem, ⟨22, _⟩ => ⟨S1x1x2048, .f32⟩
  | .local _ .vmem, ⟨23, _⟩ => ⟨S256x2048, .f32⟩
  | .local _ .vmem, ⟨24, _⟩ => ⟨S256x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c480_i32 : BitVec 32 := 480#32
  let v0 : BitVec 32 := Scalar.addi c480_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S24576x2048 : Shape := ⟨2, ![24576, 2048]⟩
abbrev S147456x16x128 : Shape := ⟨3, ![147456, 16, 128]⟩
abbrev S8x24576 : Shape := ⟨2, ![8, 24576]⟩
abbrev S2x2048x512 : Shape := ⟨3, ![2, 2048, 512]⟩
abbrev S2x512x2048 : Shape := ⟨3, ![2, 512, 2048]⟩
abbrev S8x1x2048 : Shape := ⟨3, ![8, 1, 2048]⟩
abbrev S6x24576x2048 : Shape := ⟨3, ![6, 24576, 2048]⟩
abbrev S6x24576 : Shape := ⟨2, ![6, 24576]⟩
abbrev S6x24576x1 : Shape := ⟨3, ![6, 24576, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S24576x512 : Shape := ⟨2, ![24576, 512]⟩
abbrev S8192x2048 : Shape := ⟨2, ![8192, 2048]⟩
abbrev S1x1x2048 : Shape := ⟨3, ![1, 1, 2048]⟩
abbrev S1x2048 : Shape := ⟨2, ![1, 2048]⟩
abbrev S16384x2048 : Shape := ⟨2, ![16384, 2048]⟩
abbrev S4x4096x2048 : Shape := ⟨3, ![4, 4096, 2048]⟩
abbrev S4x1x2048 : Shape := ⟨3, ![4, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576x2048, .f32⟩
  | .hbm, ⟨2, _⟩ => ⟨S147456x16x128, .f32⟩
  | .hbm, ⟨3, _⟩ => ⟨S8x24576, .f32⟩
  | .hbm, ⟨4, _⟩ => ⟨S2x2048x512, .f32⟩
  | .hbm, ⟨5, _⟩ => ⟨S2x2048x512, .f32⟩
  | .hbm, ⟨6, _⟩ => ⟨S2x512x2048, .f32⟩
  | .hbm, ⟨7, _⟩ => ⟨S8x1x2048, .f32⟩
  | .hbm, ⟨8, _⟩ => ⟨S6x24576x2048, .f32⟩
  | .hbm, ⟨9, _⟩ => ⟨S6x24576, .f32⟩
  | .hbm, ⟨10, _⟩ => ⟨S6x24576x1, .f32⟩
  | .hbm, ⟨11, _⟩ => ⟨S6x24576x2048, .f32⟩
  | .hbm, ⟨12, _⟩ => ⟨S6x24576x2048, .f32⟩
  | .hbm, ⟨13, _⟩ => ⟨S_, .f32⟩
  | .hbm, ⟨14, _⟩ => ⟨S24576x2048, .f32⟩
  | .hbm, ⟨15, _⟩ => ⟨S1x2048x512, .f32⟩
  | .hbm, ⟨16, _⟩ => ⟨S2048x512, .f32⟩
  | .hbm, ⟨17, _⟩ => ⟨S1x2048x512, .f32⟩
  | .hbm, ⟨18, _⟩ => ⟨S2048x512, .f32⟩
  | .hbm, ⟨19, _⟩ => ⟨S1x512x2048, .f32⟩
  | .hbm, ⟨20, _⟩ => ⟨S512x2048, .f32⟩
  | .hbm, ⟨21, _⟩ => ⟨S24576x512, .f32⟩
  | .hbm, ⟨22, _⟩ => ⟨S24576x512, .f32⟩
  | .hbm, ⟨23, _⟩ => ⟨S24576x512, .f32⟩
  | .hbm, ⟨24, _⟩ => ⟨S_, .f32⟩
  | .hbm, ⟨25, _⟩ => ⟨S24576x512, .f32⟩
  | .hbm, ⟨26, _⟩ => ⟨S24576x512, .f32⟩
  | .hbm, ⟨27, _⟩ => ⟨S_, .f32⟩
  | .hbm, ⟨28, _⟩ => ⟨S24576x512, .f32⟩
  | .hbm, ⟨29, _⟩ => ⟨S24576x512, .f32⟩
  | .hbm, ⟨30, _⟩ => ⟨S24576x512, .f32⟩
  | .hbm, ⟨31, _⟩ => ⟨S24576x512, .f32⟩
  | .hbm, ⟨32, _⟩ => ⟨S24576x512, .f32⟩
  | .hbm, ⟨33, _⟩ => ⟨S24576x2048, .f32⟩
  | .hbm, ⟨34, _⟩ => ⟨S24576x2048, .f32⟩
  | .hbm, ⟨35, _⟩ => ⟨S8192x2048, .f32⟩
  | .hbm, ⟨36, _⟩ => ⟨S1x1x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S16384x2048, .f32⟩
  | .hbm, ⟨43, _⟩ => ⟨S4x4096x2048, .f32⟩
  | .hbm, ⟨44, _⟩ => ⟨S4x1x2048, .f32⟩
  | .hbm, ⟨45, _⟩ => ⟨S16384x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S16384x2048, .f32⟩
  | .hbm, ⟨51, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel11.lean ====
abbrev S24576x2048 : Shape := ⟨2, ![24576, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S8192x2048 : Shape := ⟨2, ![8192, 2048]⟩
abbrev S32x256x2048 : Shape := ⟨3, ![32, 256, 2048]⟩
abbrev S16384x2048 : Shape := ⟨2, ![16384, 2048]⟩
abbrev S4x4096x2048 : Shape := ⟨3, ![4, 4096, 2048]⟩

abbrev nBuf : Space → Nat
  | .hbm => 8
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S1x2048, .f32⟩
  | .hbm, ⟨3, _⟩ => ⟨S24576x2048, .f32⟩
  | .hbm, ⟨4, _⟩ => ⟨S8192x2048, .f32⟩
  | .hbm, ⟨5, _⟩ => ⟨S32x256x2048, .f32⟩
  | .hbm, ⟨6, _⟩ => ⟨S16384x2048, .f32⟩
  | .hbm, ⟨7, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S24576x2048 : Shape := ⟨2, ![24576, 2048]⟩
abbrev S2048 : Shape := ⟨1, ![2048]⟩
abbrev S8192x2048 : Shape := ⟨2, ![8192, 2048]⟩
abbrev S32x256x2048 : Shape := ⟨3, ![32, 256, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S16384x2048 : Shape := ⟨2, ![16384, 2048]⟩
abbrev S4x4096x2048 : Shape := ⟨3, ![4, 4096, 2048]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8192x2048, .f32⟩
  | .hbm, ⟨3, _⟩ => ⟨S32x256x2048, .f32⟩
  | .hbm, ⟨4, _⟩ => ⟨S32x256x2048, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x2048, .f32⟩
  | .hbm, ⟨16, _⟩ => ⟨S32x256x2048, .f32⟩
  | .hbm, ⟨17, _⟩ => ⟨S1x1x2048, .f32⟩
  | .hbm, ⟨18, _⟩ => ⟨S32x256x2048, .f32⟩
  | .hbm, ⟨19, _⟩ => ⟨S32x256x2048, .f32⟩
  | .hbm, ⟨20, _⟩ => ⟨S16384x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel12.lean ====
abbrev S180224x16x128 : Shape := ⟨3, ![180224, 16, 128]⟩
abbrev S352 : Shape := ⟨1, ![352]⟩
abbrev S2x64x2048x512 : Shape := ⟨4, ![2, 64, 2048, 512]⟩
abbrev S2x64x512x2048 : Shape := ⟨4, ![2, 64, 512, 2048]⟩
abbrev S1x64x2048x512 : Shape := ⟨4, ![1, 64, 2048, 512]⟩
abbrev S64x2048x512 : Shape := ⟨3, ![64, 2048, 512]⟩
abbrev S1x64x512x2048 : Shape := ⟨4, ![1, 64, 512, 2048]⟩
abbrev S64x512x2048 : Shape := ⟨3, ![64, 512, 2048]⟩
abbrev S512x16x128 : Shape := ⟨3, ![512, 16, 128]⟩
abbrev S1 : Shape := ⟨1, ![1]⟩
abbrev S1x2048x512 : Shape := ⟨3, ![1, 2048, 512]⟩
abbrev S1x512x2048 : Shape := ⟨3, ![1, 512, 2048]⟩
abbrev S512x1x128 : Shape := ⟨3, ![512, 1, 128]⟩
abbrev S512x128 : Shape := ⟨2, ![512, 128]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 14
  | .vmem => 10
  | .smem => 2
  | _ => 0

abbrev bufTy : (tb : Table) → Fin (tcTables nBuf tb) → BufTy
  | .hbm, ⟨0, _⟩ => ⟨S180224x16x128, .f32⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S1x64x2048x512, .f32⟩
  | .hbm, ⟨5, _⟩ => ⟨S64x2048x512, .f32⟩
  | .hbm, ⟨6, _⟩ => ⟨S64x2048x512, .bf16⟩
  | .hbm, ⟨7, _⟩ => ⟨S1x64x2048x512, .f32⟩
  | .hbm, ⟨8, _⟩ => ⟨S64x2048x512, .f32⟩
  | .hbm, ⟨9, _⟩ => ⟨S64x2048x512, .bf16⟩
  | .hbm, ⟨10, _⟩ => ⟨S1x64x512x2048, .f32⟩
  | .hbm, ⟨11, _⟩ => ⟨S64x512x2048, .f32⟩
  | .hbm, ⟨12, _⟩ => ⟨S64x512x2048, .bf16⟩
  | .hbm, ⟨13, _⟩ => ⟨S180224x16x128, .f32⟩
  | .local _ .vmem, ⟨0, _⟩ => ⟨S512x16x128, .f32⟩
  | .local _ .vmem, ⟨1, _⟩ => ⟨S512x16x128, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x16x128, .f32⟩
  | .local _ .vmem, ⟨9, _⟩ => ⟨S512x16x128, .f32⟩
  | .local _ .smem, ⟨0, _⟩ => ⟨S352, .i32⟩
  | .local _ .smem, ⟨1, _⟩ => ⟨S352, .i32⟩
  | _, _ => ⟨S180224x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![352], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S352) ![v0.toNat] S1.size (k0_off1_inb i)) numel1_S1
  let v2 : BitVec 32 := Scalar.muli arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S180224x16x128 : Shape := ⟨3, ![180224, 16, 128]⟩
abbrev S352 : Shape := ⟨1, ![352]⟩
abbrev S2x64x2048x512 : Shape := ⟨4, ![2, 64, 2048, 512]⟩
abbrev S2x64x512x2048 : Shape := ⟨4, ![2, 64, 512, 2048]⟩
abbrev S352x512x2048 : Shape := ⟨3, ![352, 512, 2048]⟩
abbrev S1x64x2048x512 : Shape := ⟨4, ![1, 64, 2048, 512]⟩
abbrev S64x2048x512 : Shape := ⟨3, ![64, 2048, 512]⟩
abbrev S_ : Shape := ⟨0, ![]⟩
abbrev S352x1 : Shape := ⟨2, ![352, 1]⟩
abbrev S352x2048x512 : Shape := ⟨3, ![352, 2048, 512]⟩
abbrev S1x64x512x2048 : Shape := ⟨4, ![1, 64, 512, 2048]⟩
abbrev S64x512x2048 : Shape := ⟨3, ![64, 512, 2048]⟩
abbrev S352x512x512 : Shape := ⟨3, ![352, 512, 512]⟩
abbrev S352x1x1 : Shape := ⟨3, ![352, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S180224x16x128, .f32⟩
  | .hbm, ⟨1, _⟩ => ⟨S352, .i32⟩
  | .hbm, ⟨2, _⟩ => ⟨S352, .i32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S352x512x2048, .f32⟩
  | .hbm, ⟨7, _⟩ => ⟨S1x64x2048x512, .f32⟩
  | .hbm, ⟨8, _⟩ => ⟨S64x2048x512, .f32⟩
  | .hbm, ⟨9, _⟩ => ⟨S_, .i32⟩
  | .hbm, ⟨10, _⟩ => ⟨S352, .i32⟩
  | .hbm, ⟨11, _⟩ => ⟨S352, .i1⟩
  | .hbm, ⟨12, _⟩ => ⟨S_, .i32⟩
  | .hbm, ⟨13, _⟩ => ⟨S352, .i32⟩
  | .hbm, ⟨14, _⟩ => ⟨S352, .i32⟩
  | .hbm, ⟨15, _⟩ => ⟨S352, .i32⟩
  | .hbm, ⟨16, _⟩ => ⟨S352x1, .i32⟩
  | .hbm, ⟨17, _⟩ => ⟨S352x2048x512, .f32⟩
  | .hbm, ⟨18, _⟩ => ⟨S1x64x2048x512, .f32⟩
  | .hbm, ⟨19, _⟩ => ⟨S64x2048x512, .f32⟩
  | .hbm, ⟨20, _⟩ => ⟨S_, .i32⟩
  | .hbm, ⟨21, _⟩ => ⟨S352, .i32⟩
  | .hbm, ⟨22, _⟩ => ⟨S352, .i1⟩
  | .hbm, ⟨23, _⟩ => ⟨S_, .i32⟩
  | .hbm, ⟨24, _⟩ => ⟨S352, .i32⟩
  | .hbm, ⟨25, _⟩ => ⟨S352, .i32⟩
  | .hbm, ⟨26, _⟩ => ⟨S352, .i32⟩
  | .hbm, ⟨27, _⟩ => ⟨S352x1, .i32⟩
  | .hbm, ⟨28, _⟩ => ⟨S352x2048x512, .f32⟩
  | .hbm, ⟨29, _⟩ => ⟨S1x64x512x2048, .f32⟩
  | .hbm, ⟨30, _⟩ => ⟨S64x512x2048, .f32⟩
  | .hbm, ⟨31, _⟩ => ⟨S_, .i32⟩
  | .hbm, ⟨32, _⟩ => ⟨S352, .i32⟩
  | .hbm, ⟨33, _⟩ => ⟨S352, .i1⟩
  | .hbm, ⟨34, _⟩ => ⟨S_, .i32⟩
  | .hbm, ⟨35, _⟩ => ⟨S352, .i32⟩
  | .hbm, ⟨36, _⟩ => ⟨S352, .i32⟩
  | .hbm, ⟨37, _⟩ => ⟨S352, .i32⟩
  | .hbm, ⟨38, _⟩ => ⟨S352x1, .i32⟩
  | .hbm, ⟨39, _⟩ => ⟨S352x512x2048, .f32⟩
  | .hbm, ⟨40, _⟩ => ⟨S352x512x512, .f32⟩
  | .hbm, ⟨41, _⟩ => ⟨S352x512x512, .f32⟩
  | .hbm, ⟨42, _⟩ => ⟨S352x512x512, .f32⟩
  | .hbm, ⟨43, _⟩ => ⟨S_, .f32⟩
  | .hbm, ⟨44, _⟩ => ⟨S352x512x512, .f32⟩
  | .hbm, ⟨45, _⟩ => ⟨S352x512x512, .f32⟩
  | .hbm, ⟨46, _⟩ => ⟨S_, .f32⟩
  | .hbm, ⟨47, _⟩ => ⟨S352x512x512, .f32⟩
  | .hbm, ⟨48, _⟩ => ⟨S352x512x512, .f32⟩
  | .hbm, ⟨49, _⟩ => ⟨S352x512x512, .f32⟩
  | .hbm, ⟨50, _⟩ => ⟨S352x512x512, .f32⟩
  | .hbm, ⟨51, _⟩ => ⟨S352x512x512, .f32⟩
  | .hbm, ⟨52, _⟩ => ⟨S352x512x2048, .f32⟩
  | .hbm, ⟨53, _⟩ => ⟨S352x1x1, .i32⟩
  | .hbm, ⟨54, _⟩ => ⟨S_, .i32⟩
  | .hbm, ⟨55, _⟩ => ⟨S352x1x1, .i32⟩
  | .hbm, ⟨56, _⟩ => ⟨S352x1x1, .i1⟩
  | .hbm, ⟨57, _⟩ => ⟨S_, .f32⟩
  | .hbm, ⟨58, _⟩ => ⟨S_, .f32⟩
  | .hbm, ⟨59, _⟩ => ⟨S352x512x2048, .i1⟩
  | .hbm, ⟨60, _⟩ => ⟨S352x512x2048, .f32⟩
  | .hbm, ⟨61, _⟩ => ⟨S352x512x2048, .f32⟩
  | .hbm, ⟨62, _⟩ => ⟨S180224x16x128, .f32⟩
  | _, _ => ⟨S180224x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel13.lean ====
abbrev S8192x1024 : Shape := ⟨2, ![8192, 1024]⟩
abbrev S24576x128 : Shape := ⟨2, ![24576, 128]⟩
abbrev S8x128 : Shape := ⟨2, ![8, 128]⟩
abbrev S384x64x128 : Shape := ⟨3, ![384, 64, 128]⟩
abbrev S384x128x64 : Shape := ⟨3, ![384, 128, 64]⟩
abbrev S128x8 : Shape := ⟨2, ![128, 8]⟩
abbrev S8192x512 : Shape := ⟨2, ![8192, 512]⟩
abbrev S32x2x512x128 : Shape := ⟨4, ![32, 2, 512, 128]⟩
abbrev S256x1024 : Shape := ⟨2, ![256, 1024]⟩
abbrev S256x128 : Shape := ⟨2, ![256, 128]⟩
abbrev S4x128x64 : Shape := ⟨3, ![4, 128, 64]⟩
abbrev S256x512 : Shape := ⟨2, ![256, 512]⟩
abbrev S1x2x512x128 : Shape := ⟨4, ![1, 2, 512, 128]⟩
abbrev S2x512x128 : Shape := ⟨3, ![2, 512, 128]⟩
abbrev S64x64 : Shape := ⟨2, ![64, 64]⟩
abbrev S1x128 : Shape := ⟨2, ![1, 128]⟩
abbrev S128x1 : Shape := ⟨2, ![128, 1]⟩
abbrev S64x128 : Shape := ⟨2, ![64, 128]⟩
abbrev S1x128x64 : Shape := ⟨3, ![1, 128, 64]⟩
abbrev S128x64 : Shape := ⟨2, ![128, 64]⟩
abbrev S1x1x256x128 : Shape := ⟨4, ![1, 1, 256, 128]⟩
abbrev S64x256 : Shape := ⟨2, ![64, 256]⟩
abbrev S64x1 : Shape := ⟨2, ![64, 1]⟩
abbrev S1x64 : Shape := ⟨2, ![1, 64]⟩
abbrev S1x1 : Shape := ⟨2, ![1, 1]⟩
abbrev S256x1 : Shape := ⟨2, ![256, 1]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S24576x128, .f32⟩
  | .hbm, ⟨2, _⟩ => ⟨S8x128, .f32⟩
  | .hbm, ⟨3, _⟩ => ⟨S384x64x128, .f32⟩
  | .hbm, ⟨4, _⟩ => ⟨S384x128x64, .f32⟩
  | .hbm, ⟨5, _⟩ => ⟨S128x8, .f32⟩
  | .hbm, ⟨6, _⟩ => ⟨S8192x512, .f32⟩
  | .hbm, ⟨7, _⟩ => ⟨S8192x512, .f32⟩
  | .hbm, ⟨8, _⟩ => ⟨S32x2x512x128, .f32⟩
  | .local _ .vmem, ⟨0, _⟩ => ⟨S256x1024, .bf16⟩
  | .local _ .vmem, ⟨1, _⟩ => ⟨S256x1024, .bf16⟩
  | .local _ .vmem, ⟨2, _⟩ => ⟨S256x128, .f32⟩
  | .local _ .vmem, ⟨3, _⟩ => ⟨S256x128, .f32⟩
  | .local _ .vmem, ⟨4, _⟩ => ⟨S4x128x64, .f32⟩
  | .local _ .vmem, ⟨5, _⟩ => ⟨S4x128x64, .f32⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S4x128x64, .f32⟩
  | .local _ .vmem, ⟨11, _⟩ => ⟨S4x128x64, .f32⟩
  | .local _ .vmem, ⟨12, _⟩ => ⟨S8x128, .f32⟩
  | .local _ .vmem, ⟨13, _⟩ => ⟨S128x8, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1x2x512x128, .f32⟩
  | .local _ .vmem, ⟨19, _⟩ => ⟨S1x2x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_7 : BitVec 32 := 0#32
  let c4_i32 : BitVec 32 := 4#32
  let v17 : BitVec 32 := Scalar.addi c0_i32_7 c4_i32
  let c1_i32 : BitVec 32 := 1#32
  ⟨c0_i32_7, v17, c1_i32⟩
def k0_mult1 (k0_t1 : Fin k0_t1_loop.trips) : BitVec 32 :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  v18
def k0_off1 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v20 : Index := Scalar.indexCast v19
  let c0_9 : Index := 0#32
  ![v20.toNat, 0]
def k0_off2 (k0_t1 : Fin k0_t1_loop.trips) : Fin 3 → Nat :=
  let c0_i32_7 : BitVec 32 := 0#32
  let c1_i32 : BitVec 32 := 1#32
  let arg13 : BitVec 32 := Scf.iv c0_i32_7 c1_i32 k0_t1
  let v22 : Index := Scalar.indexCast arg13
  let c0_10 : Index := 0#32
  let c0_11 : Index := 0#32
  ![v22.toNat, 0, 0]
def k0_off3 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v86 : Index := Scalar.indexCast v19
  let c512 : Index := 512#32
  ![v86.toNat, 512]
def k0_off4 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v88 : Index := Scalar.indexCast v19
  let c768 : Index := 768#32
  ![v88.toNat, 768]
def k0_off5 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v104 : Index := Scalar.indexCast v19
  let c0_28 : Index := 0#32
  ![v104.toNat, 0]
def k0_off6 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v136 : Index := Scalar.indexCast v19
  let c64 : Index := 64#32
  ![v136.toNat, 64]
def k0_off7 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v168 : Index := Scalar.indexCast v19
  let c128 : Index := 128#32
  ![v168.toNat, 128]
def k0_off8 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v200 : Index := Scalar.indexCast v19
  let c192 : Index := 192#32
  ![v200.toNat, 192]
def k0_off9 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v224 : Index := Scalar.indexCast v19
  let c0_36 : Index := 0#32
  ![v224.toNat, 0]
def k0_off10 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v236 : Index := Scalar.indexCast v19
  let c640 : Index := 640#32
  ![v236.toNat, 640]
def k0_off11 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v238 : Index := Scalar.indexCast v19
  let c896 : Index := 896#32
  ![v238.toNat, 896]
def k0_off12 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v254 : Index := Scalar.indexCast v19
  let c256_48 : Index := 256#32
  ![v254.toNat, 256]
def k0_off13 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v286 : Index := Scalar.indexCast v19
  let c320 : Index := 320#32
  ![v286.toNat, 320]
def k0_off14 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v318 : Index := Scalar.indexCast v19
  let c384 : Index := 384#32
  ![v318.toNat, 384]
def k0_off15 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v350 : Index := Scalar.indexCast v19
  let c448 : Index := 448#32
  ![v350.toNat, 448]
def k0_off16 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c64_i32 : BitVec 32 := 64#32
  let v18 : BitVec 32 := Scalar.muli arg13 c64_i32
  let v19 : BitVec 32 := v18
  let v374 : Index := Scalar.indexCast v19
  let c256_56 : Index := 256#32
  ![v374.toNat, 256]
def k0_mult2 (k0_t1 : Fin k0_t1_loop.trips) : BitVec 32 :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  v387
def k0_off17 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v389 : Index := Scalar.indexCast v388
  let c0_63 : Index := 0#32
  ![v389.toNat, 0]
def k0_off18 (k0_t1 : Fin k0_t1_loop.trips) : Fin 3 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let v391 : Index := Scalar.indexCast v386
  let c0_64 : Index := 0#32
  let c0_65 : Index := 0#32
  ![v391.toNat, 0, 0]
def k0_off19 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v455 : Index := Scalar.indexCast v388
  let c512_76 : Index := 512#32
  ![v455.toNat, 512]
def k0_off20 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v457 : Index := Scalar.indexCast v388
  let c768_77 : Index := 768#32
  ![v457.toNat, 768]
def k0_off21 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v473 : Index := Scalar.indexCast v388
  let c0_85 : Index := 0#32
  ![v473.toNat, 0]
def k0_off22 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v505 : Index := Scalar.indexCast v388
  let c64_88 : Index := 64#32
  ![v505.toNat, 64]
def k0_off23 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v537 : Index := Scalar.indexCast v388
  let c128_91 : Index := 128#32
  ![v537.toNat, 128]
def k0_off24 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v569 : Index := Scalar.indexCast v388
  let c192_94 : Index := 192#32
  ![v569.toNat, 192]
def k0_off25 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v593 : Index := Scalar.indexCast v388
  let c0_96 : Index := 0#32
  ![v593.toNat, 0]
def k0_off26 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v605 : Index := Scalar.indexCast v388
  let c640_102 : Index := 640#32
  ![v605.toNat, 640]
def k0_off27 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v607 : Index := Scalar.indexCast v388
  let c896_103 : Index := 896#32
  ![v607.toNat, 896]
def k0_off28 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v623 : Index := Scalar.indexCast v388
  let c256_111 : Index := 256#32
  ![v623.toNat, 256]
def k0_off29 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v655 : Index := Scalar.indexCast v388
  let c320_114 : Index := 320#32
  ![v655.toNat, 320]
def k0_off30 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v687 : Index := Scalar.indexCast v388
  let c384_117 : Index := 384#32
  ![v687.toNat, 384]
def k0_off31 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v719 : Index := Scalar.indexCast v388
  let c448_120 : Index := 448#32
  ![v719.toNat, 448]
def k0_off32 (k0_t1 : Fin k0_t1_loop.trips) : Fin 2 → Nat :=
  let c3_i32 : BitVec 32 := 3#32
  let c0_i32_7 : BitVec 32 := 0#32
  let c1_i32 : BitVec 32 := 1#32
  let arg13 : BitVec 32 := Scf.iv c0_i32_7 c1_i32 k0_t1
  let v386 : BitVec 32 := Scalar.subi c3_i32 arg13
  let c64_i32_62 : BitVec 32 := 64#32
  let v387 : BitVec 32 := Scalar.muli v386 c64_i32_62
  let v388 : BitVec 32 := v387
  let v743 : Index := Scalar.indexCast v388
  let c256_122 : Index := 256#32
  ![v743.toNat, 256]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  ![v4.toNat, c0_i32_2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let v4 : BitVec 32 := Scalar.addi c0_i32 v3
  let c0_i32_2 : BitVec 32 := 0#32
  let c0_i32_3 : BitVec 32 := 0#32
  let c0_i32_4 : BitVec 32 := 0#32
  ![v4.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference13Ideal.lean ====
abbrev S8192x1024 : Shape := ⟨2, ![8192, 1024]⟩
abbrev S24576x128 : Shape := ⟨2, ![24576, 128]⟩
abbrev S8x128 : Shape := ⟨2, ![8, 128]⟩
abbrev S8192x512 : Shape := ⟨2, ![8192, 512]⟩
abbrev S32x4x64x8x64 : Shape := ⟨5, ![32, 4, 64, 8, 64]⟩
abbrev S8192x256 : Shape := ⟨2, ![8192, 256]⟩
abbrev S32x4x64x2x128 : Shape := ⟨5, ![32, 4, 64, 2, 128]⟩
abbrev S8192x128 : Shape := ⟨2, ![8192, 128]⟩
abbrev S32x4x64x128 : Shape := ⟨4, ![32, 4, 64, 128]⟩
abbrev S32x4x64x8 : Shape := ⟨4, ![32, 4, 64, 8]⟩
abbrev S1x8 : Shape := ⟨2, ![1, 8]⟩
abbrev S8 : Shape := ⟨1, ![8]⟩
abbrev S1x1x1x8 : Shape := ⟨4, ![1, 1, 1, 8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x1x64x64x1 : Shape := ⟨5, ![1, 1, 64, 64, 1]⟩
abbrev S32x4x1x64x8 : Shape := ⟨5, ![32, 4, 1, 64, 8]⟩
abbrev S32x4x64x64x8 : Shape := ⟨5, ![32, 4, 64, 64, 8]⟩
abbrev S32x4x8 : Shape := ⟨3, ![32, 4, 8]⟩
abbrev S32x4x64x8x1 : Shape := ⟨5, ![32, 4, 64, 8, 1]⟩
abbrev S32x4x1x8 : Shape := ⟨4, ![32, 4, 1, 8]⟩
abbrev S8x1 : Shape := ⟨2, ![8, 1]⟩
abbrev S32x4x64x1x128 : Shape := ⟨5, ![32, 4, 64, 1, 128]⟩
abbrev S32x4x64x8x128 : Shape := ⟨5, ![32, 4, 64, 8, 128]⟩
abbrev S32x4x8x64x128 : Shape := ⟨5, ![32, 4, 8, 64, 128]⟩
abbrev S32x4x8x1x1 : Shape := ⟨5, ![32, 4, 8, 1, 1]⟩
abbrev S32x8x64x128 : Shape := ⟨4, ![32, 8, 64, 128]⟩
abbrev S32x1x8x1x1 : Shape := ⟨5, ![32, 1, 8, 1, 1]⟩
abbrev S32x8x1x1 : Shape := ⟨4, ![32, 8, 1, 1]⟩
abbrev S32x1x8x64x128 : Shape := ⟨5, ![32, 1, 8, 64, 128]⟩
abbrev S32x512x128 : Shape := ⟨3, ![32, 512, 128]⟩
abbrev S32x1x512x128 : Shape := ⟨4, ![32, 1, 512, 128]⟩
abbrev S32x2x512x128 : Shape := ⟨4, ![32, 2, 512, 128]⟩

abbrev nBuf : Space → Nat
  | .hbm => 213
  | .vmem => 0
  | .smem => 0
  | _ => 0

abbrev hbmTy0_0 (i : Nat) : BufTy := match i % 128 with
  | 0 => ⟨S8192x1024, .bf16⟩
  | 1 => ⟨S24576x128, .f32⟩
  | 2 => ⟨S8x128, .f32⟩
  | 3 => ⟨S8192x1024, .f32⟩
  | 4 => ⟨S8192x512, .f32⟩
  | 5 => ⟨S32x4x64x8x64, .f32⟩
  | 6 => ⟨S8192x1024, .f32⟩
  | 7 => ⟨S8192x256, .f32⟩
  | 8 => ⟨S32x4x64x2x128, .f32⟩
  | 9 => ⟨S8192x128, .f32⟩
  | 10 => ⟨S32x4x64x128, .f32⟩
  | 11 => ⟨S32x4x64x8, .f32⟩
  | 12 => ⟨S1x8, .f32⟩
  | 13 => ⟨S8, .f32⟩
  | 14 => ⟨S1x1x1x8, .f32⟩
  | 15 => ⟨S32x4x64x8, .f32⟩
  | 16 => ⟨S32x4x64x8, .f32⟩
  | 17 => ⟨S_, .f32⟩
  | 18 => ⟨S32x4x64x8, .f32⟩
  | 19 => ⟨S32x4x64x8, .f32⟩
  | 20 => ⟨S32x4x64x8, .f32⟩
  | 21 => ⟨S32x4x64x8, .f32⟩
  | 22 => ⟨S32x4x64x8, .i1⟩
  | 23 => ⟨S32x4x64x8, .f32⟩
  | 24 => ⟨S32x4x64x8, .f32⟩
  | 25 => ⟨S32x4x64x8, .f32⟩
  | 26 => ⟨S32x4x64x8, .f32⟩
  | 27 => ⟨S32x4x64x8, .f32⟩
  | 28 => ⟨S32x4x64x8, .f32⟩
  | 29 => ⟨S32x4x64x8, .f32⟩
  | 30 => ⟨S32x4x64x8, .f32⟩
  | 31 => ⟨S32x4x64x8, .f32⟩
  | 32 => ⟨S1x8, .f32⟩
  | 33 => ⟨S8, .f32⟩
  | 34 => ⟨S1x1x1x8, .f32⟩
  | 35 => ⟨S32x4x64x8, .f32⟩
  | 36 => ⟨S32x4x64x8, .f32⟩
  | 37 => ⟨S_, .f32⟩
  | 38 => ⟨S32x4x64x8, .f32⟩
  | 39 => ⟨S32x4x64x8, .f32⟩
  | 40 => ⟨S32x4x64x8, .f32⟩
  | 41 => ⟨S32x4x64x8, .f32⟩
  | 42 => ⟨S32x4x64x8, .i1⟩
  | 43 => ⟨S32x4x64x8, .f32⟩
  | 44 => ⟨S32x4x64x8, .f32⟩
  | 45 => ⟨S32x4x64x8, .f32⟩
  | 46 => ⟨S32x4x64x8, .f32⟩
  | 47 => ⟨S32x4x64x8, .f32⟩
  | 48 => ⟨S32x4x64x8, .f32⟩
  | 49 => ⟨S32x4x64x8, .f32⟩
  | 50 => ⟨S32x4x64x8, .f32⟩
  | 51 => ⟨S64, .i32⟩
  | 52 => ⟨S1x8, .f32⟩
  | 53 => ⟨S8, .f32⟩
  | 54 => ⟨S8, .f32⟩
  | 55 => ⟨S8, .f32⟩
  | 56 => ⟨S1x1x1x8, .f32⟩
  | 57 => ⟨S32x4x64x8, .f32⟩
  | 58 => ⟨S32x4x64x8, .f32⟩
  | 59 => ⟨S64x1, .i32⟩
  | 60 => ⟨S1x64, .i32⟩
  | 61 => ⟨S64x64, .i32⟩
  | 62 => ⟨S64x64, .i32⟩
  | 63 => ⟨S64x64, .i1⟩
  | 64 => ⟨S1x1x64x64x1, .i1⟩
  | 65 => ⟨S32x4x1x64x8, .f32⟩
  | 66 => ⟨S_, .f32⟩
  | 67 => ⟨S_, .f32⟩
  | 68 => ⟨S32x4x64x64x8, .i1⟩
  | 69 => ⟨S32x4x64x64x8, .f32⟩
  | 70 => ⟨S32x4x64x64x8, .f32⟩
  | 71 => ⟨S32x4x64x64x8, .f32⟩
  | 72 => ⟨S_, .f32⟩
  | 73 => ⟨S32x4x64x8, .f32⟩
  | 74 => ⟨S_, .f32⟩
  | 75 => ⟨S32x4x8, .f32⟩
  | 76 => ⟨S32x4x64x8x1, .f32⟩
  | 77 => ⟨S32x4x64x8x64, .f32⟩
  | 78 => ⟨S32x4x64x8x64, .f32⟩
  | 79 => ⟨S32x4x1x8, .f32⟩
  | 80 => ⟨S32x4x64x8, .f32⟩
  | 81 => ⟨S32x4x64x8, .f32⟩
  | 82 => ⟨S32x4x64x8, .f32⟩
  | 83 => ⟨S32x4x64x8x1, .f32⟩
  | 84 => ⟨S32x4x64x8x64, .f32⟩
  | 85 => ⟨S32x4x64x8x64, .f32⟩
  | 86 => ⟨S8, .i32⟩
  | 87 => ⟨S_, .i32⟩
  | 88 => ⟨S8, .i32⟩
  | 89 => ⟨S8, .i1⟩
  | 90 => ⟨S8x1, .i1⟩
  | 91 => ⟨S32x4x64x1x128, .f32⟩
  | 92 => ⟨S32x4x64x1x128, .f32⟩
  | 93 => ⟨S32x4x64x8x128, .i1⟩
  | 94 => ⟨S32x4x64x8x128, .f32⟩
  | 95 => ⟨S32x4x64x8x128, .f32⟩
  | 96 => ⟨S32x4x64x8x128, .f32⟩
  | 97 => ⟨S32x4x8x64x128, .f32⟩
  | 98 => ⟨S32x4x8, .f32⟩
  | 99 => ⟨S32x4x8x1x1, .f32⟩
  | 100 => ⟨S_, .f32⟩
  | 101 => ⟨S32x8x64x128, .f32⟩
  | 102 => ⟨S32x1x8x1x1, .f32⟩
  | 103 => ⟨S32x8x1x1, .f32⟩
  | 104 => ⟨S32x8x64x128, .f32⟩
  | 105 => ⟨S32x8x64x128, .f32⟩
  | 106 => ⟨S32x1x8x64x128, .f32⟩
  | 107 => ⟨S32x8x64x128, .f32⟩
  | 108 => ⟨S32x8x64x128, .f32⟩
  | 109 => ⟨S32x1x8x1x1, .f32⟩
  | 110 => ⟨S32x8x1x1, .f32⟩
  | 111 => ⟨S32x8x64x128, .f32⟩
  | 112 => ⟨S32x8x64x128, .f32⟩
  | 113 => ⟨S32x1x8x64x128, .f32⟩
  | 114 => ⟨S32x8x64x128, .f32⟩
  | 115 => ⟨S32x8x64x128, .f32⟩
  | 116 => ⟨S32x1x8x1x1, .f32⟩
  | 117 => ⟨S32x8x1x1, .f32⟩
  | 118 => ⟨S32x8x64x128, .f32⟩
  | 119 => ⟨S32x8x64x128, .f32⟩
  | 120 => ⟨S32x1x8x64x128, .f32⟩
  | 121 => ⟨S32x8x64x128, .f32⟩
  | 122 => ⟨S32x8x64x128, .f32⟩
  | 123 => ⟨S32x1x8x1x1, .f32⟩
  | 124 => ⟨S32x8x1x1, .f32⟩
  | 125 => ⟨S32x8x64x128, .f32⟩
  | 126 => ⟨S32x8x64x128, .f32⟩
  | 127 => ⟨S32x1x8x64x128, .f32⟩
  | _ => ⟨S8192x1024, .bf16⟩

abbrev hbmTy0_1 (i : Nat) : BufTy := match i % 128 with
  | 0 => ⟨S32x8x64x128, .f32⟩
  | 1 => ⟨S32x8x64x128, .f32⟩
  | 2 => ⟨S32x512x128, .f32⟩
  | 3 => ⟨S1x8, .f32⟩
  | 4 => ⟨S8, .f32⟩
  | 5 => ⟨S8, .f32⟩
  | 6 => ⟨S8, .f32⟩
  | 7 => ⟨S1x1x1x8, .f32⟩
  | 8 => ⟨S32x4x64x8, .f32⟩
  | 9 => ⟨S32x4x64x8, .f32⟩
  | 10 => ⟨S64x1, .i32⟩
  | 11 => ⟨S1x64, .i32⟩
  | 12 => ⟨S64x64, .i32⟩
  | 13 => ⟨S64x64, .i32⟩
  | 14 => ⟨S64x64, .i1⟩
  | 15 => ⟨S1x1x64x64x1, .i1⟩
  | 16 => ⟨S32x4x1x64x8, .f32⟩
  | 17 => ⟨S_, .f32⟩
  | 18 => ⟨S_, .f32⟩
  | 19 => ⟨S32x4x64x64x8, .i1⟩
  | 20 => ⟨S32x4x64x64x8, .f32⟩
  | 21 => ⟨S32x4x64x64x8, .f32⟩
  | 22 => ⟨S32x4x64x64x8, .f32⟩
  | 23 => ⟨S_, .f32⟩
  | 24 => ⟨S32x4x64x8, .f32⟩
  | 25 => ⟨S_, .f32⟩
  | 26 => ⟨S32x4x8, .f32⟩
  | 27 => ⟨S32x4x64x8x1, .f32⟩
  | 28 => ⟨S32x4x64x8x64, .f32⟩
  | 29 => ⟨S32x4x64x8x64, .f32⟩
  | 30 => ⟨S32x4x1x8, .f32⟩
  | 31 => ⟨S32x4x64x8, .f32⟩
  | 32 => ⟨S32x4x64x8, .f32⟩
  | 33 => ⟨S32x4x64x8, .f32⟩
  | 34 => ⟨S32x4x64x8x1, .f32⟩
  | 35 => ⟨S32x4x64x8x64, .f32⟩
  | 36 => ⟨S32x4x64x8x64, .f32⟩
  | 37 => ⟨S8, .i32⟩
  | 38 => ⟨S_, .i32⟩
  | 39 => ⟨S8, .i32⟩
  | 40 => ⟨S8, .i1⟩
  | 41 => ⟨S8x1, .i1⟩
  | 42 => ⟨S32x4x64x1x128, .f32⟩
  | 43 => ⟨S32x4x64x1x128, .f32⟩
  | 44 => ⟨S32x4x64x8x128, .i1⟩
  | 45 => ⟨S32x4x64x8x128, .f32⟩
  | 46 => ⟨S32x4x64x8x128, .f32⟩
  | 47 => ⟨S32x4x64x8x128, .f32⟩
  | 48 => ⟨S32x4x8x64x128, .f32⟩
  | 49 => ⟨S32x4x8, .f32⟩
  | 50 => ⟨S32x4x8x1x1, .f32⟩
  | 51 => ⟨S_, .f32⟩
  | 52 => ⟨S32x8x64x128, .f32⟩
  | 53 => ⟨S32x1x8x1x1, .f32⟩
  | 54 => ⟨S32x8x1x1, .f32⟩
  | 55 => ⟨S32x8x64x128, .f32⟩
  | 56 => ⟨S32x8x64x128, .f32⟩
  | 57 => ⟨S32x1x8x64x128, .f32⟩
  | 58 => ⟨S32x8x64x128, .f32⟩
  | 59 => ⟨S32x8x64x128, .f32⟩
  | 60 => ⟨S32x1x8x1x1, .f32⟩
  | 61 => ⟨S32x8x1x1, .f32⟩
  | 62 => ⟨S32x8x64x128, .f32⟩
  | 63 => ⟨S32x8x64x128, .f32⟩
  | 64 => ⟨S32x1x8x64x128, .f32⟩
  | 65 => ⟨S32x8x64x128, .f32⟩
  | 66 => ⟨S32x8x64x128, .f32⟩
  | 67 => ⟨S32x1x8x1x1, .f32⟩
  | 68 => ⟨S32x8x1x1, .f32⟩
  | 69 => ⟨S32x8x64x128, .f32⟩
  | 70 => ⟨S32x8x64x128, .f32⟩
  | 71 => ⟨S32x1x8x64x128, .f32⟩
  | 72 => ⟨S32x8x64x128, .f32⟩
  | 73 => ⟨S32x8x64x128, .f32⟩
  | 74 => ⟨S32x1x8x1x1, .f32⟩
  | 75 => ⟨S32x8x1x1, .f32⟩
  | 76 => ⟨S32x8x64x128, .f32⟩
  | 77 => ⟨S32x8x64x128, .f32⟩
  | 78 => ⟨S32x1x8x64x128, .f32⟩
  | 79 => ⟨S32x8x64x128, .f32⟩
  | 80 => ⟨S32x8x64x128, .f32⟩
  | 81 => ⟨S32x512x128, .f32⟩
  | 82 => ⟨S32x1x512x128, .f32⟩
  | 83 => ⟨S32x1x512x128, .f32⟩
  | 84 => ⟨S32x2x512x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_v37 : Ref sig .tc := ⟨.hbm, 71, rfl⟩
abbrev main_cst_0 : Ref sig .tc := ⟨.hbm, 72, rfl⟩
abbrev main_v38 : Ref sig .tc := ⟨.hbm, 73, rfl⟩
abbrev main_cst_1 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_2 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_3 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_v104 : Ref sig .tc := ⟨.hbm, 150, rfl⟩
abbrev main_cst_4 : Ref sig .tc := ⟨.hbm, 151, rfl⟩
abbrev main_v105 : Ref sig .tc := ⟨.hbm, 152, rfl⟩
abbrev main_cst_5 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_6 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_7 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩

abbrev nD : Nat := 1
abbrev τ : Topo := Topo.v7x

variable {F : FTy → Type} [FloatOps F]
-- ==== Kernel14.lean ====
abbrev S24576x2048 : Shape := ⟨2, ![24576, 2048]⟩
abbrev S2x2x2048 : Shape := ⟨3, ![2, 2, 2048]⟩
abbrev S8x1x2048 : Shape := ⟨3, ![8, 1, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S24576x2048, .f32⟩
  | .hbm, ⟨1, _⟩ => ⟨S2x2x2048, .f32⟩
  | .hbm, ⟨2, _⟩ => ⟨S8x1x2048, .f32⟩
  | .hbm, ⟨3, _⟩ => ⟨S8x1x2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S24576x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S24576x2048 : Shape := ⟨2, ![24576, 2048]⟩
abbrev S2x2x2048 : Shape := ⟨3, ![2, 2, 2048]⟩
abbrev S8x1x2048 : Shape := ⟨3, ![8, 1, 2048]⟩
abbrev S8192x2048 : Shape := ⟨2, ![8192, 2048]⟩
abbrev S1x1x2048 : Shape := ⟨3, ![1, 1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S16384x2048 : Shape := ⟨2, ![16384, 2048]⟩
abbrev S4x4096x2048 : Shape := ⟨3, ![4, 4096, 2048]⟩
abbrev S4x4096 : Shape := ⟨2, ![4, 4096]⟩
abbrev S4x4096x1 : Shape := ⟨3, ![4, 4096, 1]⟩
abbrev S4x1x2048 : Shape := ⟨3, ![4, 1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2x2x2048, .f32⟩
  | .hbm, ⟨2, _⟩ => ⟨S8x1x2048, .f32⟩
  | .hbm, ⟨3, _⟩ => ⟨S8x1x2048, .f32⟩
  | .hbm, ⟨4, _⟩ => ⟨S8192x2048, .f32⟩
  | .hbm, ⟨5, _⟩ => ⟨S1x1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S1x1x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S16384x2048, .f32⟩
  | .hbm, ⟨35, _⟩ => ⟨S4x4096x2048, .f32⟩
  | .hbm, ⟨36, _⟩ => ⟨S1x1x2048, .f32⟩
  | .hbm, ⟨37, _⟩ => ⟨S2048, .f32⟩
  | .hbm, ⟨38, _⟩ => ⟨S4x4096x2048, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S4x1x2048, .f32⟩
  | .hbm, ⟨55, _⟩ => ⟨S_, .f32⟩
  | .hbm, ⟨56, _⟩ => ⟨S4x1x2048, .f32⟩
  | .hbm, ⟨57, _⟩ => ⟨S4x1x2048, .f32⟩
  | .hbm, ⟨58, _⟩ => ⟨S4x4096x2048, .f32⟩
  | .hbm, ⟨59, _⟩ => ⟨S4x4096x2048, .f32⟩
  | .hbm, ⟨60, _⟩ => ⟨S4x1x2048, .f32⟩
  | .hbm, ⟨61, _⟩ => ⟨S4x4096x2048, .f32⟩
  | .hbm, ⟨62, _⟩ => ⟨S4x4096x2048, .f32⟩
  | .hbm, ⟨63, _⟩ => ⟨S16384x2048, .f32⟩
  | .hbm, ⟨64, _⟩ => ⟨S24576x2048, .f32⟩
  | .hbm, ⟨65, _⟩ => ⟨S24576x2048, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel15.lean ====
abbrev S16384x512 : Shape := ⟨2, ![16384, 512]⟩
abbrev S16384x1024 : Shape := ⟨2, ![16384, 1024]⟩
abbrev S24576x1536 : Shape := ⟨2, ![24576, 1536]⟩
abbrev S2x8 : Shape := ⟨2, ![2, 8]⟩
abbrev S2x512 : Shape := ⟨2, ![2, 512]⟩
abbrev S1x8 : Shape := ⟨2, ![1, 8]⟩
abbrev S8 : Shape := ⟨1, ![8]⟩
abbrev S1x512 : Shape := ⟨2, ![1, 512]⟩
abbrev S512 : Shape := ⟨1, ![512]⟩
abbrev S8x64 : Shape := ⟨2, ![8, 64]⟩
abbrev S512x512 : Shape := ⟨2, ![512, 512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S24576x1536, .bf16⟩
  | .hbm, ⟨4, _⟩ => ⟨S2x8, .f32⟩
  | .hbm, ⟨5, _⟩ => ⟨S2x512, .f32⟩
  | .hbm, ⟨6, _⟩ => ⟨S1x8, .f32⟩
  | .hbm, ⟨7, _⟩ => ⟨S8, .f32⟩
  | .hbm, ⟨8, _⟩ => ⟨S1x512, .f32⟩
  | .hbm, ⟨9, _⟩ => ⟨S512, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S16384x512 : Shape := ⟨2, ![16384, 512]⟩
abbrev S16384x1024 : Shape := ⟨2, ![16384, 1024]⟩
abbrev S24576x1536 : Shape := ⟨2, ![24576, 1536]⟩
abbrev S2x8 : Shape := ⟨2, ![2, 8]⟩
abbrev S2x512 : Shape := ⟨2, ![2, 512]⟩
abbrev S16384x8x64 : Shape := ⟨3, ![16384, 8, 64]⟩
abbrev S1x8 : Shape := ⟨2, ![1, 8]⟩
abbrev S8 : Shape := ⟨1, ![8]⟩
abbrev S8x1 : Shape := ⟨2, ![8, 1]⟩
abbrev S1x8x1 : Shape := ⟨3, ![1, 8, 1]⟩
abbrev S_ : Shape := ⟨0, ![]⟩
abbrev S1x512 : Shape := ⟨2, ![1, 512]⟩
abbrev S512 : Shape := ⟨1, ![512]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S24576x1536, .bf16⟩
  | .hbm, ⟨4, _⟩ => ⟨S2x8, .f32⟩
  | .hbm, ⟨5, _⟩ => ⟨S2x512, .f32⟩
  | .hbm, ⟨6, _⟩ => ⟨S16384x1024, .f32⟩
  | .hbm, ⟨7, _⟩ => ⟨S16384x512, .f32⟩
  | .hbm, ⟨8, _⟩ => ⟨S16384x8x64, .f32⟩
  | .hbm, ⟨9, _⟩ => ⟨S16384x512, .bf16⟩
  | .hbm, ⟨10, _⟩ => ⟨S16384x512, .f32⟩
  | .hbm, ⟨11, _⟩ => ⟨S16384x8x64, .f32⟩
  | .hbm, ⟨12, _⟩ => ⟨S16384x8x64, .f32⟩
  | .hbm, ⟨13, _⟩ => ⟨S16384x8x64, .f32⟩
  | .hbm, ⟨14, _⟩ => ⟨S1x8, .f32⟩
  | .hbm, ⟨15, _⟩ => ⟨S8, .f32⟩
  | .hbm, ⟨16, _⟩ => ⟨S8x1, .f32⟩
  | .hbm, ⟨17, _⟩ => ⟨S1x8x1, .f32⟩
  | .hbm, ⟨18, _⟩ => ⟨S16384x8x64, .f32⟩
  | .hbm, ⟨19, _⟩ => ⟨S16384x8x64, .f32⟩
  | .hbm, ⟨20, _⟩ => ⟨S16384x8x64, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S512, .f32⟩
  | .hbm, ⟨34, _⟩ => ⟨S16384x512, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x512, .f32⟩
  | .hbm, ⟨46, _⟩ => ⟨S16384x512, .f32⟩
  | .hbm, ⟨47, _⟩ => ⟨S1x512, .f32⟩
  | .hbm, ⟨48, _⟩ => ⟨S16384x512, .f32⟩
  | .hbm, ⟨49, _⟩ => ⟨S16384x512, .f32⟩
  | .hbm, ⟨50, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel16.lean ====
abbrev S24576x1536 : Shape := ⟨2, ![24576, 1536]⟩
abbrev S2x3x1024 : Shape := ⟨3, ![2, 3, 1024]⟩
abbrev S2x1024 : Shape := ⟨2, ![2, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S8192x1024 : Shape := ⟨2, ![8192, 1024]⟩
abbrev S256x512 : Shape := ⟨2, ![256, 512]⟩
abbrev S3x512 : Shape := ⟨2, ![3, 512]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S24576x1536, .bf16⟩
  | .hbm, ⟨1, _⟩ => ⟨S2x3x1024, .f32⟩
  | .hbm, ⟨2, _⟩ => ⟨S2x1024, .f32⟩
  | .hbm, ⟨3, _⟩ => ⟨S1x3x1024, .f32⟩
  | .hbm, ⟨4, _⟩ => ⟨S3x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | _, _ => ⟨S24576x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S24576x1536 : Shape := ⟨2, ![24576, 1536]⟩
abbrev S2x3x1024 : Shape := ⟨3, ![2, 3, 1024]⟩
abbrev S2x1024 : Shape := ⟨2, ![2, 1024]⟩
abbrev S8192x1024 : Shape := ⟨2, ![8192, 1024]⟩
abbrev S32x256x1024 : Shape := ⟨3, ![32, 256, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S32x258x1024 : Shape := ⟨3, ![32, 258, 1024]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S24576x1536, .bf16⟩
  | .hbm, ⟨1, _⟩ => ⟨S2x3x1024, .f32⟩
  | .hbm, ⟨2, _⟩ => ⟨S2x1024, .f32⟩
  | .hbm, ⟨3, _⟩ => ⟨S8192x1024, .bf16⟩
  | .hbm, ⟨4, _⟩ => ⟨S8192x1024, .f32⟩
  | .hbm, ⟨5, _⟩ => ⟨S32x256x1024, .f32⟩
  | .hbm, ⟨6, _⟩ => ⟨S1x3x1024, .f32⟩
  | .hbm, ⟨7, _⟩ => ⟨S3x1024, .f32⟩
  | .hbm, ⟨8, _⟩ => ⟨S1x1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S32x258x1024, .f32⟩
  | .hbm, ⟨13, _⟩ => ⟨S32x256x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S32x256x1024, .f32⟩
  | .hbm, ⟨26, _⟩ => ⟨S32x256x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S_, .f32⟩
  | .hbm, ⟨39, _⟩ => ⟨S32x256x1024, .f32⟩
  | .hbm, ⟨40, _⟩ => ⟨S32x256x1024, .f32⟩
  | .hbm, ⟨41, _⟩ => ⟨S_, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S8192x1024, .f32⟩
  | .hbm, ⟨46, _⟩ => ⟨S8192x1024, .bf16⟩
  | _, _ => ⟨S24576x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.AttnMath.lean ====
/-
  The neighbourhood attention as a formula over the extended reals, with no program in it: which keys a query sees,
  the score of a key, and the two orders in which the weighted mean of the values can be taken.
-/
module

public import Idealize.ShloMosaic.Lib.Pointwise

@[expose] public section

noncomputable section

namespace Cert.Attn

open Idealize.ShloMosaic

/-- The first of the eight grid rows in the window of grid row `r`. -/
def rs (r : Nat) : Nat := min 56 (r - 4)

theorem rs_le (r : Nat) : rs r ≤ 56 := Nat.min_le_left _ _

/-- Whether grid column `k` lies in the window of sixteen columns of grid column `q`. -/
def colIn (q k : Nat) : Bool := decide (min 48 (q - 8) ≤ k) && decide (k < min 48 (q - 8) + 16)

/-- The bias table's row for the `a`-th window row of grid row `r`. -/
def dRow (r a : Nat) : Nat := rs r + a + 7 - r

theorem dRow_lt (r a : Nat) (ha : a < 8) : dRow r a < 15 := by unfold dRow rs; omega

/-- The bias table's column for key column `k` and query column `q`. -/
def dCol (q k : Nat) : Nat := min 30 (k + 15 - q)

theorem dCol_lt (q k : Nat) : dCol q k < 31 := by unfold dCol; omega

/-- The greatest of the 512 window scores and the 256 cached scores. -/
def top (s : Fin 512 → EReal) (sc : Fin 256 → EReal) : EReal :=
  max (Finset.univ.fold max (Ideal.ofBits .f32 0xFF800000#32) s) (Finset.univ.fold max (Ideal.ofBits .f32 0xFF800000#32) sc)

/-- The greatest of the 768 scores in one row, the window's before the cache's. -/
theorem top_eq (s : Fin 512 → EReal) (sc : Fin 256 → EReal) :
    max (Ideal.ofBits .f32 0xFF800000#32) (Finset.univ.fold max (Ideal.ofBits .f32 0xFF800000#32)
      (fun x : Fin 768 => if h : x.val < 512 then s ⟨x.val, h⟩ else sc ⟨x.val - 512, by omega⟩)) = top s sc := by
  refine eq_of_forall_ge_iff fun c => ?_
  unfold top
  simp only [max_le_iff, Finset.fold_max_le, Finset.mem_univ, true_imp_iff]
  constructor
  · rintro ⟨hb, -, hx⟩
    refine ⟨⟨hb, fun x => ?_⟩, hb, fun x => ?_⟩
    · have := hx ⟨x.val, by omega⟩
      simpa only [x.isLt, ↓reduceDIte] using this
    · have := hx ⟨x.val + 512, by omega⟩
      simpa only [show ¬ (x.val + 512 < 512) by omega, ↓reduceDIte, Nat.add_sub_cancel] using this
  · rintro ⟨⟨hb, h1⟩, -, h2⟩
    refine ⟨hb, hb, fun x => ?_⟩
    split
    · exact h1 _
    · exact h2 _

/-- A sum over the window's eight rows of 64 columns is one over its 512 places. -/
theorem sum_window (f : Fin 512 → EReal) :
    (∑ a : Fin 8, ∑ k : Fin 64, f ⟨a.val * 64 + k.val, by omega⟩) = ∑ j, f j := by
  rw [← Fintype.sum_prod_type']
  refine Fintype.sum_equiv (finProdFinEquiv : Fin 8 × Fin 64 ≃ Fin (8 * 64)) _ _ fun x => ?_
  congr 1
  refine Fin.ext ?_
  show x.1.val * 64 + x.2.val = x.2.val + 64 * x.1.val
  omega

/-- The weighted mean as the kernel takes it: the weighted sum first, then one division by the weights' total. -/
def meanLate (s : Fin 512 → EReal) (sc : Fin 256 → EReal) (v : Fin 512 → EReal) (vc : Fin 256 → EReal) : EReal :=
  Ideal.div ((∑ x, Ideal.exp (s x - top s sc) * v x) + ∑ x, Ideal.exp (sc x - top s sc) * vc x)
    ((∑ x, Ideal.exp (s x - top s sc)) + ∑ x, Ideal.exp (sc x - top s sc))

/-- The weighted mean as the reference takes it: every weight divided by the total, then the weighted sum. -/
def meanEarly (s : Fin 512 → EReal) (sc : Fin 256 → EReal) (v : Fin 512 → EReal) (vc : Fin 256 → EReal) : EReal :=
  (∑ x, v x * Ideal.div (Ideal.exp (s x - top s sc)) ((∑ x, Ideal.exp (s x - top s sc)) + ∑ x, Ideal.exp (sc x - top s sc)))
    + ∑ x, vc x * Ideal.div (Ideal.exp (sc x - top s sc)) ((∑ x, Ideal.exp (s x - top s sc)) + ∑ x, Ideal.exp (sc x - top s sc))

/-- A score of the window: the product of query and key over 64 coordinates, scaled, with the bias; masked where the bias is. -/
def winScore (qk bias : EReal) : EReal :=
  if Ideal.ofBits .f32 0xF0C9F2CA#32 < bias then qk * Ideal.ofBits .f32 0x3E000000#32 + bias else Ideal.ofBits .f32 0xF149F2CA#32

variable (x0 : FVec Ideal ⟨2, ![24576, 1536]⟩ .bf16) (x1 x2 : FVec Ideal ⟨5, ![4, 2, 256, 8, 64]⟩ .f32) (x3 : FVec Ideal ⟨3, ![8, 15, 31]⟩ .f32)

/-- Query coordinate `e` of head `h` at sample `b`, grid row `r`, grid column `q`. -/
def qy (b : Fin 4) (r q : Fin 64) (h : Fin 8) (e : Fin 64) : EReal :=
  x0 (ix2 ⟨8192 + (b.val * 4096 + (r.val * 64 + q.val)), by omega⟩ ⟨h.val * 64 + e.val, by omega⟩)

/-- Key coordinate `e` of head `h` at the `j`-th place of the window of grid row `r`. -/
def ky (b : Fin 4) (r : Fin 64) (j : Fin 512) (h : Fin 8) (e : Fin 64) : EReal :=
  x0 (ix2 ⟨8192 + (b.val * 4096 + (rs r.val * 64 + j.val)), by have := rs_le r.val; omega⟩ ⟨512 + (h.val * 64 + e.val), by omega⟩)

/-- Value coordinate `e` of head `h` at the `j`-th place of the window of grid row `r`. -/
def vl (b : Fin 4) (r : Fin 64) (j : Fin 512) (h : Fin 8) (e : Fin 64) : EReal :=
  x0 (ix2 ⟨8192 + (b.val * 4096 + (rs r.val * 64 + j.val)), by have := rs_le r.val; omega⟩ ⟨1024 + (h.val * 64 + e.val), by omega⟩)

/-- The relative-position bias of the `j`-th place of the window for the query at `(r, q)`. -/
def rel (r q : Fin 64) (h : Fin 8) (j : Fin 512) : EReal :=
  x3 (ix3 h ⟨dRow r.val (j.val / 64), dRow_lt _ _ (by omega)⟩ ⟨dCol q.val (j.val % 64), dCol_lt _ _⟩)

/-- The score of the `j`-th place of the window. -/
def sWin (b : Fin 4) (r q : Fin 64) (h : Fin 8) (j : Fin 512) : EReal :=
  if colIn q.val (j.val % 64) then
    (∑ e : Fin 64, qy x0 b r q h e * ky x0 b r j h e) * Ideal.ofBits .f32 0x3E000000#32 + rel x3 r q h j
  else Ideal.ofBits .f32 0xF149F2CA#32

/-- The score of the `p`-th cached key. -/
def sCtx (b : Fin 4) (r q : Fin 64) (h : Fin 8) (p : Fin 256) : EReal :=
  (∑ e : Fin 64, qy x0 b r q h e * x1 (ix5 b 0 p h e)) * Ideal.ofBits .f32 0x3E000000#32

/-- The kernel's result at one element. -/
def lateAt (b : Fin 4) (r q : Fin 64) (h : Fin 8) (d : Fin 64) : EReal :=
  meanLate (sWin x0 x3 b r q h) (sCtx x0 x1 b r q h) (fun j => vl x0 b r j h d) (fun p => x2 (ix5 b 0 p h d))

/-- The reference's result at one element. -/
def earlyAt (b : Fin 4) (r q : Fin 64) (h : Fin 8) (d : Fin 64) : EReal :=
  meanEarly (sWin x0 x3 b r q h) (sCtx x0 x1 b r q h) (fun j => vl x0 b r j h d) (fun p => x2 (ix5 b 0 p h d))

end Cert.Attn
end
-- ==== Proof.AttnBlock.lean ====
/-
  What one grid point of the neighbourhood attention computes: the 64 rows of one grid row of one sample, the eight
  heads side by side. The run's single store is read back; its payload is eight copies of one function of a head's
  slices, written here as `headOut`.
-/
module

public import proofs.«01_k».proof.Proof.Gen.KernelIdeal.Value
public import proofs.«01_k».proof.Proof.AttnMath

@[expose] public section

set_option maxRecDepth 16384

noncomputable section

namespace Cert.Attn

open Cert.KernelIdeal Cert.KernelIdeal.Gen Idealize.ShloMosaic Idealize.ShloMosaic.TcCoe Idealize.ShloMosaic.Tactic Idealize.SL.Sem

variable {F : FTy → Type} [FloatOps F]

/-- One head's output from its query rows, bias rows, window of keys, cached keys, window of values and cached values. -/
def headOut (q : Vec F S64x64 .bf16) (bias : Vec F S1x1x64x512 .f32) (k : Vec F S512x64 .bf16)
    (kc : Vec F S1x1x256x64 .f32) (v : Vec F S512x64 .bf16) (vc : Vec F S1x1x256x64 .f32) : FVec F S64x64 .f32 :=
  k0_pay6 (k0_pay2 q bias k) (k0_pay3 q kc) v (k0_pay4 vc) (k0_pay5 q bias k)

/-! The other heads' arithmetic, cut at other places, is the same function. -/

theorem head1 (q : Vec F S64x64 .bf16) (bias : Vec F S1x1x64x512 .f32) (k : Vec F S512x64 .bf16)
    (kc : Vec F S1x1x256x64 .f32) (v : Vec F S512x64 .bf16) (vc : Vec F S1x1x256x64 .f32) :
    k0_pay9 (k0_pay7 q bias k) (k0_pay8 q kc) (FloatOps.ofBits .f32 0x3E000000#32) v vc = headOut q bias k kc v vc := by
  unfold headOut; unfold_payloads; rfl

theorem head2 (q : Vec F S64x64 .bf16) (bias : Vec F S1x1x64x512 .f32) (k : Vec F S512x64 .bf16)
    (kc : Vec F S1x1x256x64 .f32) (v : Vec F S512x64 .bf16) (vc : Vec F S1x1x256x64 .f32) :
    k0_pay13 q (k0_pay10 bias) (k0_pay11 q k) k0_pay12 kc v vc = headOut q bias k kc v vc := by
  unfold headOut; unfold_payloads; rfl

theorem head3 (q : Vec F S64x64 .bf16) (bias : Vec F S1x1x64x512 .f32) (k : Vec F S512x64 .bf16)
    (kc : Vec F S1x1x256x64 .f32) (v : Vec F S512x64 .bf16) (vc : Vec F S1x1x256x64 .f32) :
    k0_pay22 v (k0_pay16 vc) (k0_pay18 q bias k kc) (k0_pay19 q bias k kc) (k0_pay20 q bias k kc) (k0_pay21 q bias k kc) = headOut q bias k kc v vc := by
  unfold headOut; unfold_payloads; rfl

theorem head4 (q : Vec F S64x64 .bf16) (bias : Vec F S1x1x64x512 .f32) (k : Vec F S512x64 .bf16)
    (kc : Vec F S1x1x256x64 .f32) (v : Vec F S512x64 .bf16) (vc : Vec F S1x1x256x64 .f32) :
    k0_pay27 (k0_pay23 q bias k) (k0_pay24 q kc) v (k0_pay25 vc) (k0_pay26 q bias k) = headOut q bias k kc v vc := by
  unfold headOut; unfold_payloads; rfl

theorem head5 (q : Vec F S64x64 .bf16) (bias : Vec F S1x1x64x512 .f32) (k : Vec F S512x64 .bf16)
    (kc : Vec F S1x1x256x64 .f32) (v : Vec F S512x64 .bf16) (vc : Vec F S1x1x256x64 .f32) :
    k0_pay30 (k0_pay28 q bias k) (k0_pay29 q kc) (FloatOps.ofBits .f32 0x3E000000#32) v vc = headOut q bias k kc v vc := by
  unfold headOut; unfold_payloads; rfl

theorem head6 (q : Vec F S64x64 .bf16) (bias : Vec F S1x1x64x512 .f32) (k : Vec F S512x64 .bf16)
    (kc : Vec F S1x1x256x64 .f32) (v : Vec F S512x64 .bf16) (vc : Vec F S1x1x256x64 .f32) :
    k0_pay34 q (k0_pay31 bias) (k0_pay32 q k) k0_pay33 kc v vc = headOut q bias k kc v vc := by
  unfold headOut; unfold_payloads; rfl

theorem head7 (o0 o1 o2 o3 o4 o5 o6 : FVec F S64x64 .f32) (q : Vec F S64x64 .bf16) (bias : Vec F S1x1x64x512 .f32) (k : Vec F S512x64 .bf16)
    (kc : Vec F S1x1x256x64 .f32) (v : Vec F S512x64 .bf16) (vc : Vec F S1x1x256x64 .f32) :
    k0_pay1 o0 o1 o2 o3 o4 o5 o6 v (k0_pay37 vc) (k0_pay39 q bias k kc) (k0_pay40 q bias k kc) (k0_pay41 q bias k kc) (k0_pay42 q bias k kc)
      = truncf .bf16 (concatenate S64x512 1 [⟨S64x64, o0⟩, ⟨S64x64, o1⟩, ⟨S64x64, o2⟩, ⟨S64x64, o3⟩, ⟨S64x64, o4⟩, ⟨S64x64, o5⟩, ⟨S64x64, o6⟩,
          ⟨S64x64, headOut q bias k kc v vc⟩] concatenates_S64x64_S64x64_S64x64_S64x64_S64x64_S64x64_S64x64_S64x64_S64x512_d1) bitsLt_bf16_f32 := by
  unfold headOut; unfold_payloads; rfl

/-- The row of the window's first key, as the body computes it. -/
theorem rs_word (r : Nat) (hr : r < 64) :
    BitVec.toNat (Scalar.indexCast (Scalar.muli (Scalar.minsi 56#32 (Scalar.maxsi 0#32 (Scalar.subi (BitVec.ofNat 32 r) 4#32))) 64#32))
      = 64 * rs r := by
  have h : ∀ r : Fin 64, BitVec.toNat (Scalar.indexCast (Scalar.muli (Scalar.minsi 56#32 (Scalar.maxsi 0#32 (Scalar.subi (BitVec.ofNat 32 r.val) 4#32))) 64#32))
      = 64 * rs r.val := by decide +kernel
  exact h ⟨r, hr⟩

theorem off1 (i : grid0.Coords) : k0_off1 i = ![64 * rs (i 1).val, 0] := by
  rw [← rs_word _ (i 1).isLt]; rfl

theorem off2 (i : grid0.Coords) : k0_off2 i = ![64 * rs (i 1).val, 64] := by
  rw [← rs_word _ (i 1).isLt]; rfl

theorem off3 (i : grid0.Coords) : k0_off3 i = ![64 * rs (i 1).val, 128] := by
  rw [← rs_word _ (i 1).isLt]; rfl

theorem off4 (i : grid0.Coords) : k0_off4 i = ![64 * rs (i 1).val, 192] := by
  rw [← rs_word _ (i 1).isLt]; rfl

theorem off5 (i : grid0.Coords) : k0_off5 i = ![64 * rs (i 1).val, 256] := by
  rw [← rs_word _ (i 1).isLt]; rfl

theorem off6 (i : grid0.Coords) : k0_off6 i = ![64 * rs (i 1).val, 320] := by
  rw [← rs_word _ (i 1).isLt]; rfl

theorem off7 (i : grid0.Coords) : k0_off7 i = ![64 * rs (i 1).val, 384] := by
  rw [← rs_word _ (i 1).isLt]; rfl

theorem off8 (i : grid0.Coords) : k0_off8 i = ![64 * rs (i 1).val, 448] := by
  rw [← rs_word _ (i 1).isLt]; rfl

/-- Head `h`'s query rows. -/
def qAt (x0 : Vec F S64x512 .bf16) (h : Fin 8) : Vec F S64x64 .bf16 :=
  fun i => x0 (ix2 (i 0) ⟨64 * h.val + (i 1).val, by have := h.isLt; have : (i 1).val < 64 := (i 1).isLt; omega⟩)

/-- Head `h`'s window of 512 keys (or values) of grid row `r`. -/
def kAt (x1 : Vec F S4096x512 .bf16) (r : Nat) (h : Fin 8) : Vec F S512x64 .bf16 :=
  fun i => x1 (ix2 ⟨64 * rs r + (i 0).val, by have := rs_le r; have : (i 0).val < 512 := (i 0).isLt; omega⟩
    ⟨64 * h.val + (i 1).val, by have := h.isLt; have : (i 1).val < 64 := (i 1).isLt; omega⟩)

/-- Head `h`'s cached keys (or values). -/
def cAt (x3 : Vec F S1x1x256x512 .f32) (h : Fin 8) : Vec F S1x1x256x64 .f32 :=
  fun i => x3 (ix4 0 0 (i 2) ⟨64 * h.val + (i 3).val, by have := h.isLt; have : (i 3).val < 64 := (i 3).isLt; omega⟩)

/-- Head `h`'s bias rows. -/
def bAt (x5 : Vec F S1x8x64x512 .f32) (h : Fin 8) : Vec F S1x1x64x512 .f32 :=
  fun i => x5 (ix4 0 h (i 2) (i 3))

/-- Head `h`'s output at grid row `r`. -/
def headAt (x0 : Vec F S64x512 .bf16) (x1 x2 : Vec F S4096x512 .bf16) (x3 x4 : Vec F S1x1x256x512 .f32)
    (x5 : Vec F S1x8x64x512 .f32) (r : Nat) (h : Fin 8) : FVec F S64x64 .f32 :=
  headOut (qAt x0 h) (bAt x5 h) (kAt x1 r h) (cAt x3 h) (kAt x2 r h) (cAt x4 h)

/-- The 64 output rows of grid row `r`: the eight heads side by side, narrowed to the output's format. -/
def blockOut (x0 : Vec F S64x512 .bf16) (x1 x2 : Vec F S4096x512 .bf16) (x3 x4 : Vec F S1x1x256x512 .f32)
    (x5 : Vec F S1x8x64x512 .f32) (r : Nat) : FVec F S64x512 .bf16 :=
  truncf .bf16 (concatenate S64x512 1 [⟨S64x64, headAt x0 x1 x2 x3 x4 x5 r 0⟩, ⟨S64x64, headAt x0 x1 x2 x3 x4 x5 r 1⟩, ⟨S64x64, headAt x0 x1 x2 x3 x4 x5 r 2⟩, ⟨S64x64, headAt x0 x1 x2 x3 x4 x5 r 3⟩, ⟨S64x64, headAt x0 x1 x2 x3 x4 x5 r 4⟩, ⟨S64x64, headAt x0 x1 x2 x3 x4 x5 r 5⟩, ⟨S64x64, headAt x0 x1 x2 x3 x4 x5 r 6⟩, ⟨S64x64, headAt x0 x1 x2 x3 x4 x5 r 7⟩]
    concatenates_S64x64_S64x64_S64x64_S64x64_S64x64_S64x64_S64x64_S64x64_S64x512_d1) bitsLt_bf16_f32

theorem ld_q (x0 : Vec F S64x512 .bf16) (h : Fin 8) (off : Fin 2 → Nat) (ho : off = ![0, 64 * h.val]) (inb) :
    View.ld x0 (Rect.unit (s := S64x512) off ![64, 64] inb) = qAt x0 h := by
  subst ho; funext i; idx_vars i; pointwise [qAt]

theorem ld_k (x1 : Vec F S4096x512 .bf16) (r : Nat) (h : Fin 8) (off : Fin 2 → Nat) (ho : off = ![64 * rs r, 64 * h.val]) (inb) :
    View.ld x1 (Rect.unit (s := S4096x512) off ![512, 64] inb) = kAt x1 r h := by
  subst ho; funext i; idx_vars i; pointwise [kAt]

theorem ld_c (x3 : Vec F S1x1x256x512 .f32) (h : Fin 8) (off : Fin 4 → Nat) (ho : off = ![0, 0, 0, 64 * h.val]) (inb) :
    View.ld x3 (Rect.unit (s := S1x1x256x512) off ![1, 1, 256, 64] inb) = cAt x3 h := by
  subst ho; funext i; idx_vars i; pointwise [cAt]

theorem ld_b (x5 : Vec F S1x8x64x512 .f32) (h : Fin 8) (off : Fin 4 → Nat) (ho : off = ![0, h.val, 0, 0]) (inb) :
    View.ld x5 (Rect.unit (s := S1x8x64x512) off ![1, 1, 64, 512] inb) = bAt x5 h := by
  subst ho; funext i; idx_vars i; pointwise [bAt]

theorem out_eq (c : Dev nD) (i : grid0.Coords)
    (arg2 : Memref sig .tc .vmem S64x512 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S1x1x256x512 .f32) (harg5 : arg5.IsWhole)
    (arg6 : Memref sig .tc .vmem S1x1x256x512 .f32) (harg6 : arg6.IsWhole) (arg7 : Memref sig .tc .vmem S1x8x64x512 .f32) (harg7 : arg7.IsWhole)
    (arg8 : Memref sig .tc .vmem S64x512 .bf16) (harg8 : arg8.IsWhole)
    (x0 : Vec F S64x512 .bf16) (x1 : Vec F S4096x512 .bf16) (x2 : Vec F S4096x512 .bf16) (x3 : Vec F S1x1x256x512 .f32)
    (x4 : Vec F S1x1x256x512 .f32) (x5 : Vec F S1x8x64x512 .f32) :
    out0_A_6 c i arg2 harg2 arg3 harg3 arg4 harg4 arg5 harg5 arg6 harg6 arg7 harg7 arg8 harg8 x0 x1 x2 x3 x4 x5
      = blockOut x0 x1 x2 x3 x4 x5 (i 1).val := by
  have hz : (![0, 0] : Fin S64x512.rank → Nat) = fun _ => 0 := funext fun a => by fin_cases a <;> rfl
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  rw [View.canon_unit_zero hz]
  simp only [kernelRun0_A.sl.r, kernelRun0_A.sl.cst_40, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10,
    kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20,
    kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29, kernelRun0_A.sl.r_30,
    kernelRun0_A.sl.r_31, kernelRun0_A.sl.r_32, kernelRun0_A.sl.r_33, kernelRun0_A.sl.r_34, kernelRun0_A.sl.r_35,
    kernelRun0_A.sl.r_36, kernelRun0_A.sl.r_37, kernelRun0_A.sl.r_38, kernelRun0_A.sl.r_39, kernelRun0_A.sl.r_40]
  simp only [View.readAt_eq_ld, harg2.read_unread, harg3.read_unread, harg4.read_unread, harg5.read_unread, harg6.read_unread, harg7.read_unread]
  simp only [ld_q x0 0 ![0, 0] rfl, ld_q x0 1 ![0, 64] rfl, ld_q x0 2 ![0, 128] rfl, ld_q x0 3 ![0, 192] rfl,
    ld_q x0 4 ![0, 256] rfl, ld_q x0 5 ![0, 320] rfl, ld_q x0 6 ![0, 384] rfl, ld_q x0 7 ![0, 448] rfl,
    ld_k x1 (i 1).val 0 (k0_off1 i) (off1 i), ld_k x1 (i 1).val 1 (k0_off2 i) (off2 i), ld_k x1 (i 1).val 2 (k0_off3 i) (off3 i), ld_k x1 (i 1).val 3 (k0_off4 i) (off4 i),
    ld_k x1 (i 1).val 4 (k0_off5 i) (off5 i), ld_k x1 (i 1).val 5 (k0_off6 i) (off6 i), ld_k x1 (i 1).val 6 (k0_off7 i) (off7 i), ld_k x1 (i 1).val 7 (k0_off8 i) (off8 i),
    ld_k x2 (i 1).val 0 (k0_off1 i) (off1 i), ld_k x2 (i 1).val 1 (k0_off2 i) (off2 i), ld_k x2 (i 1).val 2 (k0_off3 i) (off3 i), ld_k x2 (i 1).val 3 (k0_off4 i) (off4 i),
    ld_k x2 (i 1).val 4 (k0_off5 i) (off5 i), ld_k x2 (i 1).val 5 (k0_off6 i) (off6 i), ld_k x2 (i 1).val 6 (k0_off7 i) (off7 i), ld_k x2 (i 1).val 7 (k0_off8 i) (off8 i),
    ld_c x3 0 ![0, 0, 0, 0] rfl, ld_c x3 1 ![0, 0, 0, 64] rfl, ld_c x3 2 ![0, 0, 0, 128] rfl, ld_c x3 3 ![0, 0, 0, 192] rfl,
    ld_c x3 4 ![0, 0, 0, 256] rfl, ld_c x3 5 ![0, 0, 0, 320] rfl, ld_c x3 6 ![0, 0, 0, 384] rfl, ld_c x3 7 ![0, 0, 0, 448] rfl,
    ld_c x4 0 ![0, 0, 0, 0] rfl, ld_c x4 1 ![0, 0, 0, 64] rfl, ld_c x4 2 ![0, 0, 0, 128] rfl, ld_c x4 3 ![0, 0, 0, 192] rfl,
    ld_c x4 4 ![0, 0, 0, 256] rfl, ld_c x4 5 ![0, 0, 0, 320] rfl, ld_c x4 6 ![0, 0, 0, 384] rfl, ld_c x4 7 ![0, 0, 0, 448] rfl,
    ld_b x5 0 ![0, 0, 0, 0] rfl, ld_b x5 1 ![0, 1, 0, 0] rfl, ld_b x5 2 ![0, 2, 0, 0] rfl, ld_b x5 3 ![0, 3, 0, 0] rfl,
    ld_b x5 4 ![0, 4, 0, 0] rfl, ld_b x5 5 ![0, 5, 0, 0] rfl, ld_b x5 6 ![0, 6, 0, 0] rfl, ld_b x5 7 ![0, 7, 0, 0] rfl]
  rw [head1, head2, head3, head4, head5, head6, head7]
  rfl

/-- Column `64 h + d` of the block's row `q` is column `d` of head `h`. -/
theorem blockOut_apply (x0 : Vec Ideal S64x512 .bf16) (x1 x2 : Vec Ideal S4096x512 .bf16) (x3 x4 : Vec Ideal S1x1x256x512 .f32)
    (x5 : Vec Ideal S1x8x64x512 .f32) (r : Nat) (q : Fin 64) (h : Fin 8) (d : Fin 64) :
    blockOut x0 x1 x2 x3 x4 x5 r (ix2 q ⟨64 * h.val + d.val, by omega⟩) = headAt x0 x1 x2 x3 x4 x5 r h (ix2 q d) := by
  unfold blockOut
  show concatenate S64x512 1 (List.ofFn fun h : Fin 8 => ⟨S64x64, headAt x0 x1 x2 x3 x4 x5 r h⟩)
    concatenates_S64x64_S64x64_S64x64_S64x64_S64x64_S64x64_S64x64_S64x64_S64x512_d1 (ix2 q ⟨64 * h.val + d.val, by omega⟩) = _
  refine concatenate_ofFn_apply (t := S64x512) 1 (fun h : Fin 8 => headAt x0 x1 x2 x3 x4 x5 r h) _ rfl 64 rfl _ h ?_ (ix2 q d) ?_ ?_
  · show (64 * h.val + d.val) / 64 = h.val
    omega
  · show d.val = (64 * h.val + d.val) % 64
    omega
  · intro b hb
    fin_cases b
    · rfl
    · exact absurd rfl hb

/-- One element of a head's output. -/
theorem headOut_apply (q : Vec Ideal S64x64 .bf16) (bias : Vec Ideal S1x1x64x512 .f32) (k : Vec Ideal S512x64 .bf16)
    (kc : Vec Ideal S1x1x256x64 .f32) (v : Vec Ideal S512x64 .bf16) (vc : Vec Ideal S1x1x256x64 .f32) (r d : Fin 64) :
    headOut q bias k kc v vc (ix2 r d)
      = meanLate (fun x => winScore (∑ e : Fin 64, q (ix2 r e) * k (ix2 x e)) (bias (ix4 0 0 r x)))
          (fun x => (∑ e : Fin 64, q (ix2 r e) * kc (ix4 0 0 x e)) * Ideal.ofBits .f32 0x3E000000#32)
          (fun x => v (ix2 x d)) (fun x => vc (ix4 0 0 x d)) := by
  pointwise [headOut, k0_pay6, k0_pay2, k0_pay3, k0_pay4, k0_pay5]
  rfl

end Cert.Attn
end
-- ==== Proof.AttnKernel.lean ====
/-
  The kernel's window blocks and its bias table, element by element, in terms of its arguments.
-/
module

public import proofs.«01_k».proof.Proof.AttnBlock
public import Idealize.ShloMosaic.Lib.Pipeline.ValueKit
public import Idealize.ShloMosaic.Lib.StableHlo.ReadAt

@[expose] public section

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## Which block each grid point reads and writes (decided over the 256 points) -/

theorem idx0 : ∀ t : Fin cfg0.N, win0_0.index t 0 = 128 + t.val ∧ win0_0.index t 1 = 0 :=
  (by decide +kernel : ∀ t : Fin grid0.N, win0_0.index t 0 = 128 + t.val ∧ win0_0.index t 1 = 0)
theorem idx1 : ∀ t : Fin cfg0.N, win0_1.index t 0 = 2 + t.val / 64 ∧ win0_1.index t 1 = 1 :=
  (by decide +kernel : ∀ t : Fin grid0.N, win0_1.index t 0 = 2 + t.val / 64 ∧ win0_1.index t 1 = 1)
theorem idx2 : ∀ t : Fin cfg0.N, win0_2.index t 0 = 2 + t.val / 64 ∧ win0_2.index t 1 = 2 :=
  (by decide +kernel : ∀ t : Fin grid0.N, win0_2.index t 0 = 2 + t.val / 64 ∧ win0_2.index t 1 = 2)
theorem idx3 : ∀ t : Fin cfg0.N, win0_3.index t 0 = t.val / 64 ∧ win0_3.index t 1 = 0 ∧ win0_3.index t 2 = 0 ∧ win0_3.index t 3 = 0 :=
  (by decide +kernel : ∀ t : Fin grid0.N, win0_3.index t 0 = t.val / 64 ∧ win0_3.index t 1 = 0 ∧ win0_3.index t 2 = 0 ∧ win0_3.index t 3 = 0)
theorem idx4 : ∀ t : Fin cfg0.N, win0_4.index t 0 = t.val / 64 ∧ win0_4.index t 1 = 0 ∧ win0_4.index t 2 = 0 ∧ win0_4.index t 3 = 0 :=
  (by decide +kernel : ∀ t : Fin grid0.N, win0_4.index t 0 = t.val / 64 ∧ win0_4.index t 1 = 0 ∧ win0_4.index t 2 = 0 ∧ win0_4.index t 3 = 0)
theorem idx5 : ∀ t : Fin cfg0.N, win0_5.index t 0 = t.val % 64 - rs (t.val % 64) ∧ win0_5.index t 1 = 0 ∧ win0_5.index t 2 = 0 ∧ win0_5.index t 3 = 0 :=
  (by decide +kernel : ∀ t : Fin grid0.N, win0_5.index t 0 = t.val % 64 - rs (t.val % 64) ∧ win0_5.index t 1 = 0 ∧ win0_5.index t 2 = 0 ∧ win0_5.index t 3 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem crd : ∀ t : Fin cfg0.N, (grid0.coords t 1).val = t.val % 64 :=
  (by decide +kernel : ∀ t : Fin grid0.N, (grid0.coords t 1).val = t.val % 64)

/-! ## The blocks' elements -/

/-- The query block of point `t`. -/
theorem q_block (c : Dev nD) (t : Fin cfg0.N) (q : Fin 64) (e : Fin 512) :
    iblk m c 0 t (ix2 q e) = m (c, main_arg0) (ix2 ⟨8192 + (t.val * 64 + q.val), by have : t.val < 256 := t.isLt; omega⟩ ⟨e.val, by omega⟩) := by
  blk_simp [iblk, V_main_arg0]
  blk_ext [idx0]

/-- The key block of point `t`: all rows of its sample. -/
theorem k_block (c : Dev nD) (t : Fin cfg0.N) (q : Fin 4096) (e : Fin 512) :
    iblk m c 1 t (ix2 q e) = m (c, main_arg0) (ix2 ⟨8192 + (t.val / 64 * 4096 + q.val), by have : t.val < 256 := t.isLt; omega⟩ ⟨512 + e.val, by omega⟩) := by
  blk_simp [iblk, V_main_arg0]
  blk_ext [idx1]

/-- The value block of point `t`. -/
theorem v_block (c : Dev nD) (t : Fin cfg0.N) (q : Fin 4096) (e : Fin 512) :
    iblk m c 2 t (ix2 q e) = m (c, main_arg0) (ix2 ⟨8192 + (t.val / 64 * 4096 + q.val), by have : t.val < 256 := t.isLt; omega⟩ ⟨1024 + e.val, by omega⟩) := by
  blk_simp [iblk, V_main_arg0]
  blk_ext [idx2]

/-- The cached keys with the heads laid side by side. -/
theorem v0_apply (c : Dev nD) (b : Fin 4) (l : Fin 2) (p : Fin 256) (h : Fin 8) (e : Fin 64) :
    V m c main_v0 (ix4 b l p ⟨64 * h.val + e.val, by omega⟩) = m (c, main_arg1) (ix5 b l p h e) := by
  unfold V
  after_reads_at

/-- The cached values with the heads laid side by side. -/
theorem v1_apply (c : Dev nD) (b : Fin 4) (l : Fin 2) (p : Fin 256) (h : Fin 8) (e : Fin 64) :
    V m c main_v1 (ix4 b l p ⟨64 * h.val + e.val, by omega⟩) = m (c, main_arg2) (ix5 b l p h e) := by
  unfold V
  after_reads_at

/-- The cached keys' block of point `t`. -/
theorem ck_block (c : Dev nD) (t : Fin cfg0.N) (p : Fin 256) (e : Fin 512) :
    iblk m c 3 t (ix4 0 0 p e) = V m c main_v0 (ix4 ⟨t.val / 64, by have : t.val < 256 := t.isLt; omega⟩ 0 p e) := by
  blk_simp [iblk]
  blk_ext [idx3]

/-- The cached values' block of point `t`. -/
theorem cv_block (c : Dev nD) (t : Fin cfg0.N) (p : Fin 256) (e : Fin 512) :
    iblk m c 4 t (ix4 0 0 p e) = V m c main_v1 (ix4 ⟨t.val / 64, by have : t.val < 256 := t.isLt; omega⟩ 0 p e) := by
  blk_simp [iblk]
  blk_ext [idx4]

/-- The bias block of point `t`: the table variant of its grid row. -/
theorem bias_block (c : Dev nD) (t : Fin cfg0.N) (h : Fin 8) (q : Fin 64) (j : Fin 512) :
    iblk m c 5 t (ix4 0 h q j) = V m c main_v57 (ix4 ⟨t.val % 64 - rs (t.val % 64), by unfold rs; omega⟩ h q j) := by
  blk_simp [iblk]
  blk_ext [idx5]

/-! ## The bias table -/

/-- The table look-up at an element. -/
theorem gather_table (x : FVec Ideal S8x15x31 .f32) (idx : IVec S8x64x8x64x2 32) (v h a : Fin 8) (q k : Fin 64) :
    Host.gather gather_S8x15x31_S8x64x8x64x2_S8x8x64x8x64_0_12_n_n_12_4_811 x idx (ix5 h v q a k)
      = x (ix3 h ⟨min (idx (ix5 v q a k 0)).toInt.toNat 14, by omega⟩ ⟨min (idx (ix5 v q a k 1)).toInt.toNat 30, by omega⟩) := by
  unfold Host.gather
  congr 1
  funext e
  refine Fin.ext ?_
  unfold GatherDims.operandIdx
  dsimp only
  unfold GatherDims.start GatherDims.batchCoord GatherDims.offCoord
  fin_cases e
  · rw [dif_neg (by decide), dif_neg (by decide), dif_pos (by decide)]; simp only [Nat.zero_add]; rfl
  · rw [dif_pos (by decide), dif_neg (by decide), dif_neg (by decide)]; simp only [Nat.add_zero]
    refine congrArg (fun z => min (idx z).toInt.toNat 14) ?_; funext e; fin_cases e <;> rfl
  · rw [dif_pos (by decide), dif_neg (by decide), dif_neg (by decide)]; simp only [Nat.add_zero]
    refine congrArg (fun z => min (idx z).toInt.toNat 30) ?_; funext e; fin_cases e <;> rfl

/-- The table look-up where the two indices are in range. -/
theorem gather_at (x : FVec Ideal S8x15x31 .f32) (idx : IVec S8x64x8x64x2 32) (v h a : Fin 8) (q k : Fin 64) (i : Fin 15) (j : Fin 31)
    (hi : (idx (ix5 v q a k 0)).toInt.toNat = i.val) (hj : (idx (ix5 v q a k 1)).toInt.toNat = j.val) :
    Host.gather gather_S8x15x31_S8x64x8x64x2_S8x8x64x8x64_0_12_n_n_12_4_811 x idx (ix5 h v q a k) = x (ix3 h i j) := by
  rw [gather_table]
  have e1 : (⟨min (idx (ix5 v q a k 0)).toInt.toNat 14, by omega⟩ : Fin 15) = i := Fin.ext (by dsimp only; omega)
  have e2 : (⟨min (idx (ix5 v q a k 1)).toInt.toNat 30, by omega⟩ : Fin 31) = j := Fin.ext (by dsimp only; omega)
  rw [e1, e2]

/-- The row index looked up for window row `a` in variant `v`. -/
theorem v52_row (c : Dev nD) (v a : Fin 8) (q k : Fin 64) :
    (V m c main_v52 (ix5 v q a k 0)).toInt.toNat = a.val + 7 - v.val := by
  unfold V
  after_reads_at
  clear q k
  revert v a
  decide +kernel

/-- The column index looked up. -/
theorem v52_col (c : Dev nD) (v a : Fin 8) (q k : Fin 64) :
    (V m c main_v52 (ix5 v q a k 1)).toInt.toNat = dCol q.val k.val := by
  unfold V
  after_reads_at
  clear v a
  revert q k
  decide +kernel

/-- The looked-up table as one gather. -/
theorem v53_eq (c : Dev nD) : V m c main_v53 = Host.gather gather_S8x15x31_S8x64x8x64x2_S8x8x64x8x64_0_12_n_n_12_4_811 (m (c, main_arg3)) (V m c main_v52) := by
  unfold V
  after_reads_simp

/-- The column mask's bit. -/
theorem mask_bit : ∀ q k : Fin 64, (IntOp.andi
            (IntOp.cmpi CmpIPredicate.sge (BitVec.ofNat 32 ↑k)
              (IntOp.minsi 48#32 (IntOp.maxsi 0#32 (IntOp.subi (BitVec.ofNat 32 ↑q) 8#32))))
            (IntOp.cmpi CmpIPredicate.slt (BitVec.ofNat 32 ↑k)
              (IntOp.addi (IntOp.minsi 48#32 (IntOp.maxsi 0#32 (IntOp.subi (BitVec.ofNat 32 ↑q) 8#32))) 16#32)) = 1)
      ↔ colIn q.val k.val = true := by
  decide +kernel

/-- The masked table in terms of the looked-up one. -/
theorem v57_eq (c : Dev nD) (v h a : Fin 8) (q k : Fin 64) :
    V m c main_v57 (ix4 v h q ⟨a.val * 64 + k.val, by omega⟩) = if colIn q.val k.val then
      V m c main_v53 (ix5 h v q a k) else Ideal.ofBits .f32 0xF149F2CA#32 := by
  unfold V
  after_reads_at
  rw [Scalar.select]
  exact if_congr (mask_bit q k) rfl rfl

/-- The masked table in terms of the bias argument. -/
theorem v57_apply (c : Dev nD) (v h a : Fin 8) (q k : Fin 64) :
    V m c main_v57 (ix4 v h q ⟨a.val * 64 + k.val, by omega⟩) = if colIn q.val k.val then
      m (c, main_arg3) (ix3 h ⟨a.val + 7 - v.val, by omega⟩ ⟨dCol q.val k.val, dCol_lt _ _⟩) else Ideal.ofBits .f32 0xF149F2CA#32 := by
  rw [v57_eq, v53_eq, gather_at _ _ v h a q k ⟨a.val + 7 - v.val, by omega⟩ ⟨dCol q.val k.val, dCol_lt _ _⟩ (v52_row m c v a q k) (v52_col m c v a q k)]
end Cert.Attn
end
-- ==== Proof.AttnArray.lean ====
/-
  The kernel's result array, element by element: the weighted mean of `AttnMath.lean` taken with one late division.
-/
module

public import proofs.«01_k».proof.Proof.AttnKernel

@[expose] public section

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where element `(q, j)` of point `t`'s output block lies in the array. -/
theorem out_emb (t : Fin cfg0.N) (q : Fin 64) (j : Fin 512) :
    ((cfg0.win 6).blk t).view.emb (ix2 q j) = ix2 ⟨t.val * 64 + q.val, by have : t.val < 256 := t.isLt; omega⟩ j := by
  blk_ext [idx6]

/-- An element of the result array is the one of the block of its grid row. -/
theorem arr_at (c : Dev nD) (t : Fin cfg0.N) (q : Fin 64) (h : Fin 8) (d : Fin 64) :
    (dats m 0 c).arrAt 6 cfg0.N (ix2 ⟨t.val * 64 + q.val, by have : t.val < 256 := t.isLt; omega⟩ ⟨64 * h.val + d.val, by omega⟩)
      = headAt (iblk m c 0 t) (iblk m c 1 t) (iblk m c 2 t) (iblk m c 3 t) (iblk m c 4 t) (iblk m c 5 t) (t.val % 64) h (ix2 q d) := by
  have e := congrFun (Cert.KernelIdeal.Value.blocks6 m c t (flush0_6 t)) (ix2 q ⟨64 * h.val + d.val, by omega⟩)
  rw [Cert.KernelIdeal.Value.flushed6_A, out_eq, crd] at e
  rw [← out_emb t q]
  refine Eq.trans e ?_
  exact blockOut_apply (iblk m c 0 t) (iblk m c 1 t) (iblk m c 2 t) (iblk m c 3 t) (iblk m c 4 t) (iblk m c 5 t) (t.val % 64) q h d

/-- The mask value is below the test for it. -/
theorem mask_low : ¬ Ideal.ofBits .f32 0xF0C9F2CA#32 < Ideal.ofBits .f32 0xF149F2CA#32 := by
  simp [Ideal.ofBits, Ideal.ieee]
  norm_num
  exact_mod_cast (by norm_num : (13234890 : ℝ) * 2 ^ 75 ≤ 13234890 * 2 ^ 76)

/-- A score of the window from the masked table. -/
theorem winScore_table (qk x : EReal) (hx : Ideal.ofBits .f32 0xF0C9F2CA#32 < x) (b : Bool) :
    winScore qk (if b then x else Ideal.ofBits .f32 0xF149F2CA#32) = if b then qk * Ideal.ofBits .f32 0x3E000000#32 + x else Ideal.ofBits .f32 0xF149F2CA#32 := by
  unfold winScore
  cases b
  · simp only [Bool.false_eq_true, if_false, ite_self, if_neg mask_low]
  · simp only [if_true, hx]

/-- The kernel's result at an element. -/
theorem result_at (c : Dev nD) (hb : ∀ i, Ideal.ofBits .f32 0xF0C9F2CA#32 < m (c, main_arg3) i) (b : Fin 4) (r q : Fin 64) (h : Fin 8) (d : Fin 64) :
    (dats m 0 c).arrAt 6 cfg0.N (ix2 ⟨b.val * 4096 + (r.val * 64 + q.val), by omega⟩ ⟨h.val * 64 + d.val, by omega⟩)
      = lateAt (m (c, main_arg0)) (m (c, main_arg1)) (m (c, main_arg2)) (m (c, main_arg3)) b r q h d := by
  have hT : b.val * 64 + r.val < cfg0.N := by show _ < 256; omega
  have e1 : (b.val * 64 + r.val) / 64 = b.val := by omega
  have e2 : (b.val * 64 + r.val) % 64 = r.val := by omega
  have hr := rs_le r.val
  have e0 : ((ix2 ⟨b.val * 4096 + (r.val * 64 + q.val), by omega⟩ ⟨h.val * 64 + d.val, by omega⟩ : S16384x512.Idx))
      = ix2 ⟨(b.val * 64 + r.val) * 64 + q.val, by omega⟩ ⟨64 * h.val + d.val, by omega⟩ :=
    congrArg₂ ix2 (Fin.ext (by dsimp only; omega)) (Fin.ext (by dsimp only; omega))
  rw [e0]
  refine (arr_at m c ⟨b.val * 64 + r.val, hT⟩ q h d).trans ?_
  unfold headAt
  rw [headOut_apply]
  unfold lateAt
  have hq : ∀ e : Fin 64, qAt (iblk m c 0 ⟨b.val * 64 + r.val, hT⟩) h (ix2 q e) = qy (m (c, main_arg0)) b r q h e := fun e => by
    refine (q_block m c _ q ⟨64 * h.val + e.val, by omega⟩).trans ?_
    exact congrArg _ (congrArg₂ ix2 (Fin.ext (by dsimp only; omega)) (Fin.ext (by dsimp only; omega)))
  have hk : ∀ (j : Fin 512) (e : Fin 64), kAt (iblk m c 1 ⟨b.val * 64 + r.val, hT⟩) ((b.val * 64 + r.val) % 64) h (ix2 j e) = ky (m (c, main_arg0)) b r j h e := fun j e => by
    refine (k_block m c _ ⟨64 * rs ((b.val * 64 + r.val) % 64) + j.val, by rw [e2]; omega⟩ ⟨64 * h.val + e.val, by omega⟩).trans ?_
    exact congrArg _ (congrArg₂ ix2 (Fin.ext (by dsimp only; rw [e1, e2]; omega)) (Fin.ext (by dsimp only; omega)))
  have hv : ∀ (j : Fin 512), kAt (iblk m c 2 ⟨b.val * 64 + r.val, hT⟩) ((b.val * 64 + r.val) % 64) h (ix2 j d) = vl (m (c, main_arg0)) b r j h d := fun j => by
    refine (v_block m c _ ⟨64 * rs ((b.val * 64 + r.val) % 64) + j.val, by rw [e2]; omega⟩ ⟨64 * h.val + d.val, by omega⟩).trans ?_
    exact congrArg _ (congrArg₂ ix2 (Fin.ext (by dsimp only; rw [e1, e2]; omega)) (Fin.ext (by dsimp only; omega)))
  have hc : ∀ (p : Fin 256) (e : Fin 64), cAt (iblk m c 3 ⟨b.val * 64 + r.val, hT⟩) h (ix4 0 0 p e) = m (c, main_arg1) (ix5 b 0 p h e) := fun p e => by
    refine (ck_block m c _ p ⟨64 * h.val + e.val, by omega⟩).trans ((v0_apply m c _ 0 p h e).trans ?_)
    exact congrArg (fun b => m (c, main_arg1) (ix5 b 0 p h e)) (Fin.ext e1)
  have hcv : ∀ (p : Fin 256), cAt (iblk m c 4 ⟨b.val * 64 + r.val, hT⟩) h (ix4 0 0 p d) = m (c, main_arg2) (ix5 b 0 p h d) := fun p => by
    refine (cv_block m c _ p ⟨64 * h.val + d.val, by omega⟩).trans ((v1_apply m c _ 0 p h d).trans ?_)
    exact congrArg (fun b => m (c, main_arg2) (ix5 b 0 p h d)) (Fin.ext e1)
  have hbias : ∀ j : Fin 512, bAt (iblk m c 5 ⟨b.val * 64 + r.val, hT⟩) h (ix4 0 0 q j)
      = if colIn q.val (j.val % 64) then rel (m (c, main_arg3)) r q h j else Ideal.ofBits .f32 0xF149F2CA#32 := fun j => by
    have hj : j = ⟨(⟨j.val / 64, by omega⟩ : Fin 8).val * 64 + (⟨j.val % 64, by omega⟩ : Fin 64).val, by dsimp only; omega⟩ := Fin.ext (by dsimp only; omega)
    refine (bias_block m c _ h q j).trans ?_
    rw [congrArg (fun j => V m c main_v57 (ix4 _ h q j)) hj, v57_apply]
    refine if_congr Iff.rfl ?_ rfl
    refine congrArg _ (congrArg (fun i => ix3 h i _) (Fin.ext ?_))
    dsimp only
    rw [e2]
    unfold dRow rs
    omega
  simp only [hq, hk, hv, hc, hcv, hbias]
  have hs : (fun j => winScore (∑ e, qy (m (c, main_arg0)) b r q h e * ky (m (c, main_arg0)) b r j h e)
      (if colIn q.val (j.val % 64) = true then rel (m (c, main_arg3)) r q h j else Ideal.ofBits .f32 0xF149F2CA#32)) = sWin (m (c, main_arg0)) (m (c, main_arg3)) b r q h :=
    funext fun j => winScore_table _ _ (hb _) _
  rw [hs]
  rfl

end Cert.Attn
end
-- ==== Proof.AttnRef.lean ====
/-
  The reference's result read at one element: `earlyAt` of the four arguments.
-/
module

public import proofs.«01_k».proof.Proof.Gen.ReferenceIdeal.Read
public import proofs.«01_k».proof.Proof.AttnMath

@[expose] public section

set_option maxRecDepth 16384

noncomputable section

namespace Cert.Attn.Ref

open Cert.ReferenceIdeal Cert.ReferenceIdeal.Gen Idealize.ShloMosaic Idealize.ShloMosaic.TcCoe Idealize.SL.Sem Cert.ReferenceIdeal.Read

/-! ## The index tables -/

/-- The table of window rows. -/
theorem row_word (r : Fin 64) (a : Fin 8) : (val_main_v47 (F := Ideal) (ix3 r a 0)).toInt.toNat = rs r.val + a.val := by
  pointwise [val_main_v47, val_main_v46, val_main_v45, val_main_v44, val_main_v43, val_main_v42, val_main_c_6, val_main_c_7,
    val_main_v22, val_main_v21, val_main_v20, val_main_v19, val_main_v18, val_main_v17, val_main_v16, val_main_call0_v4,
    val_main_call0_v3, val_main_call0_v2, val_main_call0_v1, val_main_call0_v0, val_main_v15, val_main_v14, val_main_v13,
    val_main_c, val_main_c_0, val_main_c_1]
  revert r a
  decide +kernel

theorem row_word' (r : Fin 64) (a : Fin 8) : (val_main_v55 (F := Ideal) (ix3 r a 0)).toInt.toNat = rs r.val + a.val := row_word r a

/-- The column mask. -/
theorem mask_word (q k : Fin 64) : val_main_v39 (F := Ideal) (ix2 q k) = if colIn q.val k.val then 1#1 else 0#1 := by
  pointwise [val_main_v39, val_main_v38, val_main_v37, val_main_v36, val_main_v35, val_main_v34, val_main_c_5, val_main_v33, val_main_v32,
    val_main_v31, val_main_v30, val_main_v29, val_main_v28, val_main_v27, val_main_v26, val_main_call1_v4, val_main_call1_v3,
    val_main_call1_v2, val_main_call1_v1, val_main_call1_v0, val_main_c_4, val_main_c_3, val_main_v25, val_main_v24, val_main_c_2, val_main_v23]
  revert q k
  decide +kernel

/-- The bias table's row indices. -/
theorem bias_row (r : Fin 64) (a : Fin 8) : (val_main_v79 (F := Ideal) (ix4 r 0 a 0)).toInt.toNat = dRow r.val a.val := by
  pointwise [val_main_v79, val_main_v78, val_main_v77, val_main_c_15, val_main_v76, val_main_v75, val_main_c_14, val_main_v73, val_main_v64, val_main_v63,
    val_main_c_10, val_main_v62, val_main_v61, val_main_v60,
    val_main_v22, val_main_v21, val_main_v20, val_main_v19, val_main_v18, val_main_v17, val_main_v16, val_main_call0_v4,
    val_main_call0_v3, val_main_call0_v2, val_main_call0_v1, val_main_call0_v0, val_main_v15, val_main_v14, val_main_v13,
    val_main_c, val_main_c_0, val_main_c_1]
  revert r a
  decide +kernel

/-- The bias table's column indices. -/
theorem bias_col (q k : Fin 64) : (val_main_v84 (F := Ideal) (ix4 0 q 0 k)).toInt.toNat = dCol q.val k.val := by
  pointwise [val_main_v84, val_main_v83, val_main_v82, val_main_c_17, val_main_v81, val_main_v80, val_main_c_16, val_main_v74, val_main_v72, val_main_v71,
    val_main_c_13, val_main_v70, val_main_call2_v4, val_main_call2_v3, val_main_call2_v2, val_main_call2_v1, val_main_call2_v0, val_main_c_11, val_main_c_12,
    val_main_v69, val_main_v68, val_main_v67, val_main_v66, val_main_v65, val_main_v23]
  revert q k
  decide +kernel

/-! ## The gathers -/

theorem gather_rows (x : FVec Ideal S4x64x64x8x64 .f32) (idx : IVec S64x8x1 32) (b : Fin 4) (r : Fin 64) (a : Fin 8) (kc : Fin 64) (h : Fin 8) (d : Fin 64) :
    Host.gather gather_S4x64x64x8x64_S64x8x1_S4x64x8x64x8x64_0345_1_n_n_1_2_4164864 x idx (ix6 b r a kc h d)
      = x (ix5 b ⟨min (idx (ix3 r a 0)).toInt.toNat 63, by omega⟩ kc h d) := by
  unfold Host.gather
  congr 1
  funext e
  refine Fin.ext ?_
  unfold GatherDims.operandIdx
  dsimp only
  unfold GatherDims.start GatherDims.batchCoord GatherDims.offCoord
  fin_cases e
  · rw [dif_neg (by decide), dif_neg (by decide), dif_pos (by decide)]
    simp only [Nat.zero_add]
    rfl
  · rw [dif_pos (by decide), dif_neg (by decide), dif_neg (by decide)]
    simp only [Nat.add_zero]
    refine congrArg (fun z => min (idx z).toInt.toNat 63) ?_
    funext e
    fin_cases e <;> rfl
  · rw [dif_neg (by decide), dif_neg (by decide), dif_pos (by decide)]
    simp only [Nat.zero_add]
    rfl
  · rw [dif_neg (by decide), dif_neg (by decide), dif_pos (by decide)]
    simp only [Nat.zero_add]
    rfl
  · rw [dif_neg (by decide), dif_neg (by decide), dif_pos (by decide)]
    simp only [Nat.zero_add]
    rfl

theorem gather_bias (x : FVec Ideal S8x15x31 .f32) (idx : IVec S64x64x8x64x2 32) (h : Fin 8) (r q : Fin 64) (a : Fin 8) (kc : Fin 64) :
    Host.gather gather_S8x15x31_S64x64x8x64x2_S8x64x64x8x64_0_12_n_n_12_4_811 x idx (ix5 h r q a kc)
      = x (ix3 h ⟨min (idx (ix5 r q a kc 0)).toInt.toNat 14, by omega⟩ ⟨min (idx (ix5 r q a kc 1)).toInt.toNat 30, by omega⟩) := by
  unfold Host.gather
  congr 1
  funext e
  refine Fin.ext ?_
  unfold GatherDims.operandIdx
  dsimp only
  unfold GatherDims.start GatherDims.batchCoord GatherDims.offCoord
  fin_cases e
  · rw [dif_neg (by decide), dif_neg (by decide), dif_pos (by decide)]
    simp only [Nat.zero_add]
    rfl
  · rw [dif_pos (by decide), dif_neg (by decide), dif_neg (by decide)]
    simp only [Nat.add_zero]
    refine congrArg (fun z => min (idx z).toInt.toNat 14) ?_
    funext e
    fin_cases e <;> rfl
  · rw [dif_pos (by decide), dif_neg (by decide), dif_neg (by decide)]
    simp only [Nat.add_zero]
    refine congrArg (fun z => min (idx z).toInt.toNat 30) ?_
    funext e
    fin_cases e <;> rfl

variable (x0 : FVec Ideal S24576x1536 .bf16) (x1 x2 : FVec Ideal S4x2x256x8x64 .f32) (x3 : FVec Ideal S8x15x31 .f32)

theorem q_apply (b : Fin 4) (r q : Fin 64) (h : Fin 8) (e : Fin 64) : val_main_v40 (F := Ideal) x0 (ix5 b r q h e) = qy x0 b r q h e := by
  pointwise [val_main_v40, val_main_v6, val_main_v3, val_main_v2, val_main_v1, val_main_v0, qy]

theorem k_apply (b : Fin 4) (r : Fin 64) (a : Fin 8) (k : Fin 64) (h : Fin 8) (e : Fin 64) :
    val_main_v48 (F := Ideal) x0 (ix6 b r a k h e) = ky x0 b r ⟨a.val * 64 + k.val, by omega⟩ h e := by
  pointwise [val_main_v48, gather_rows, row_word, val_main_v41, val_main_v7, val_main_v4, val_main_v2, val_main_v1, val_main_v0, ky]
  congr 2
  refine Fin.ext ?_
  have := rs_le r.val
  show 8192 + (b.val * 4096 + (min (rs r.val + a.val) 63 * 64 + k.val)) = 8192 + (b.val * 4096 + (rs r.val * 64 + (a.val * 64 + k.val)))
  omega

theorem v_apply (b : Fin 4) (r : Fin 64) (a : Fin 8) (k : Fin 64) (h : Fin 8) (e : Fin 64) :
    val_main_v56 (F := Ideal) x0 (ix6 b r a k h e) = vl x0 b r ⟨a.val * 64 + k.val, by omega⟩ h e := by
  pointwise [val_main_v56, gather_rows, row_word', val_main_v49, val_main_v8, val_main_v5, val_main_v2, val_main_v1, val_main_v0, vl]
  congr 2
  refine Fin.ext ?_
  have := rs_le r.val
  show 8192 + (b.val * 4096 + (min (rs r.val + a.val) 63 * 64 + k.val)) = 8192 + (b.val * 4096 + (rs r.val * 64 + (a.val * 64 + k.val)))
  omega

theorem rel_eq (r q : Fin 64) (h : Fin 8) (a : Fin 8) (k : Fin 64) (h1 h2) :
    x3 (ix3 h ⟨min (dRow r.val a.val) 14, h1⟩ ⟨min (dCol q.val k.val) 30, h2⟩) = rel x3 r q h ⟨a.val * 64 + k.val, by omega⟩ := by
  have e1 := dRow_lt r.val a.val a.isLt
  have e2 := dCol_lt q.val k.val
  have e3 : (a.val * 64 + k.val) / 64 = a.val := by omega
  have e4 : (a.val * 64 + k.val) % 64 = k.val := by omega
  unfold rel
  simp only [e3, e4]
  congr 2 <;> refine Fin.ext ?_ <;> simp only <;> omega

/-- The masked window scores. -/
theorem win_apply (b : Fin 4) (r q : Fin 64) (h : Fin 8) (a : Fin 8) (k : Fin 64) :
    val_main_v95 (F := Ideal) x0 x3 (ix6 b h r q a k) = sWin x0 x3 b r q h ⟨a.val * 64 + k.val, by omega⟩ := by
  have e4 : (a.val * 64 + k.val) % 64 = k.val := by omega
  pointwise [val_main_v95, val_main_call3_v2, val_main_call3_v1, val_main_call3_v0, val_main_cst_18, val_main_v94, val_main_v93, val_main_v92, val_main_v91,
    val_main_v90, mask_word, gather_bias, val_main_v59, val_main_v58, val_main_cst, val_main_v57, q_apply, k_apply,
    val_main_v89, val_main_v88, val_main_v87, val_main_v86, val_main_v85, bias_row, bias_col]
  rw [rel_eq x3]
  unfold sWin
  simp only [e4]
  cases colIn q.val k.val <;> rfl

theorem win_apply' (b : Fin 4) (r q : Fin 64) (h : Fin 8) (j : Fin 512) :
    val_main_v96 (F := Ideal) x0 x3 (ix5 b h r q j) = sWin x0 x3 b r q h j := by
  pointwise [val_main_v96, win_apply]
  congr 1
  refine Fin.ext ?_
  simp only
  omega

theorem ctx_apply (b : Fin 4) (r q : Fin 64) (h : Fin 8) (p : Fin 256) :
    val_main_v99 (F := Ideal) x0 x1 (ix5 b h r q p) = sCtx x0 x1 b r q h p := by
  pointwise [val_main_v99, val_main_v98, val_main_cst_19, val_main_v97, q_apply, val_main_v10, val_main_v9, sCtx]

/-- The greatest element along the last axis. -/
theorem reduce_max (y : FVec Ideal S4x8x64x64x768 .f32) (z : FVec Ideal S_ .f32) (b : Fin 4) (r q : Fin 64) (h : Fin 8) :
    Host.reduce FloatOps.maximumf y z reducesTo_S4x8x64x64x768_S4x8x64x64_d4 h_S_ (ix4 b h r q)
      = Finset.univ.fold max (z (Shape.Idx.first h_S_)) (fun x : Fin 768 => y (ix5 b h r q x)) := by
  pointwise

theorem cat_apply (b : Fin 4) (r q : Fin 64) (h : Fin 8) (x : Fin 768) :
    val_main_v100 (F := Ideal) x0 x1 x3 (ix5 b h r q x)
      = if h1 : x.val < 512 then sWin x0 x3 b r q h ⟨x.val, h1⟩ else sCtx x0 x1 b r q h ⟨x.val - 512, by omega⟩ := by
  pointwise [val_main_v100, win_apply', ctx_apply]

theorem v101_apply (b : Fin 4) (r q : Fin 64) (h : Fin 8) :
    val_main_v101 (F := Ideal) x0 x1 x3 (ix4 b h r q)
      = Finset.univ.fold max (Ideal.ofBits .f32 0xFF800000#32) (fun x : Fin 768 => val_main_v100 (F := Ideal) x0 x1 x3 (ix5 b h r q x)) := by
  unfold val_main_v101
  generalize val_main_v100 (F := Ideal) x0 x1 x3 = y
  exact reduce_max y _ b r q h

theorem v102_max (y : FVec Ideal S4x8x64x64 .f32) (i : S4x8x64x64.Idx) :
    maximumf (val_main_v102 (F := Ideal)) y i = max (Ideal.ofBits .f32 0xFF800000#32) (y i) := by
  pointwise [val_main_v102, val_main_cst_21]

theorem max_apply (b : Fin 4) (r q : Fin 64) (h : Fin 8) :
    val_main_v103 (F := Ideal) x0 x1 x3 (ix4 b h r q) = top (sWin x0 x3 b r q h) (sCtx x0 x1 b r q h) := by
  rw [← top_eq]
  have e := v101_apply x0 x1 x3 b r q h
  simp only [cat_apply] at e
  rw [← e]
  unfold val_main_v103
  generalize val_main_v101 (F := Ideal) x0 x1 x3 = y
  exact v102_max y _

theorem out_apply (b : Fin 4) (r q : Fin 64) (h : Fin 8) (d : Fin 64) :
    val_main_v121 (F := Ideal) x0 x1 x2 x3 (ix2 ⟨b.val * 4096 + (r.val * 64 + q.val), by omega⟩ ⟨h.val * 64 + d.val, by omega⟩)
      = earlyAt x0 x1 x2 x3 b r q h d := by
  pointwise [val_main_v121, val_main_v120, val_main_v119, val_main_v118, val_main_v117, val_main_v116, val_main_v115, val_main_v114, val_main_v113, val_main_v112,
    val_main_v111, val_main_v110, val_main_v109, val_main_v108, val_main_v107, val_main_v106, val_main_v105, val_main_v104, max_apply, val_main_cst_22,
    cat_apply, v_apply, val_main_v12, val_main_v11]
  have hlt : ∀ (a : Fin 8) (k : Fin 64), a.val * 64 + k.val < 512 := fun a k => by omega
  simp only [hlt, ↓reduceDIte]
  unfold earlyAt meanEarly
  exact congrArg (· + _) (sum_window fun j => vl x0 b r j h d * Ideal.div (Ideal.exp (sWin x0 x3 b r q h j - top (sWin x0 x3 b r q h) (sCtx x0 x1 b r q h)))
    ((∑ x, Ideal.exp (sWin x0 x3 b r q h x - top (sWin x0 x3 b r q h) (sCtx x0 x1 b r q h)))
      + ∑ x, Ideal.exp (sCtx x0 x1 b r q h x - top (sWin x0 x3 b r q h) (sCtx x0 x1 b r q h))))

end Cert.Attn.Ref
end
-- ==== Proof.AttnSoftmax.lean ====
/-
  Where queries, keys and biases are finite, the two orders of the weighted mean agree, whatever the values are.
-/
module

public import proofs.«01_k».proof.Proof.AttnMath

@[expose] public section

noncomputable section

namespace Cert.Attn

open Idealize.ShloMosaic

/-- An extended real that is a real number. -/
def Real' (x : EReal) : Prop := ∃ r : ℝ, x = r

theorem Real'.add {x y : EReal} : Real' x → Real' y → Real' (x + y) := by
  rintro ⟨a, rfl⟩ ⟨b, rfl⟩
  exact ⟨a + b, (EReal.coe_add a b).symm⟩

theorem Real'.mul {x y : EReal} : Real' x → Real' y → Real' (x * y) := by
  rintro ⟨a, rfl⟩ ⟨b, rfl⟩
  exact ⟨a * b, (EReal.coe_mul a b).symm⟩

theorem Real'.sum {ι : Type} (s : Finset ι) (f : ι → EReal) (hf : ∀ i, Real' (f i)) : Real' (∑ i ∈ s, f i) :=
  Finset.sum_induction f Real' (fun _ _ => Real'.add) ⟨0, rfl⟩ fun i _ => hf i

theorem Real'.of_ne {x : EReal} (h1 : x ≠ ⊥) (h2 : x ≠ ⊤) : Real' x := ⟨x.toReal, (EReal.coe_toReal h2 h1).symm⟩

theorem Real'.lt_top {x : EReal} : Real' x → x < ⊤ := by
  rintro ⟨a, rfl⟩
  exact EReal.coe_lt_top a

theorem Real'.bot_lt {x : EReal} : Real' x → ⊥ < x := by
  rintro ⟨a, rfl⟩
  exact EReal.bot_lt_coe a

theorem scale_real : Real' (Ideal.ofBits .f32 0x3E000000#32) := by
  simp only [Ideal.ofBits, Ideal.ieee]
  exact ⟨_, rfl⟩

theorem mask_real : Real' (Ideal.ofBits .f32 0xF149F2CA#32) := by
  simp only [Ideal.ofBits, Ideal.ieee]
  exact ⟨_, rfl⟩

theorem start_bot : Ideal.ofBits .f32 0xFF800000#32 = ⊥ := by
  simp [Ideal.ofBits, Ideal.ieee]

/-- The greatest of finite scores is finite. -/
theorem top_real (s : Fin 512 → EReal) (sc : Fin 256 → EReal) (hs : ∀ j, Real' (s j)) (hsc : ∀ p, Real' (sc p)) : Real' (top s sc) := by
  refine Real'.of_ne (ne_of_gt ?_) (ne_of_lt ?_)
  · refine lt_of_lt_of_le (hs 0).bot_lt (le_max_of_le_left ?_)
    exact (Finset.le_fold_max _).2 (Or.inr ⟨0, Finset.mem_univ _, le_rfl⟩)
  · refine max_lt ?_ ?_ <;> refine (Finset.fold_max_lt _).2 ⟨?_, fun x _ => ?_⟩
    · rw [start_bot]; exact bot_lt_top
    · exact (hs x).lt_top
    · rw [start_bot]; exact bot_lt_top
    · exact (hsc x).lt_top

/-- An extended real that is a positive real number. -/
def Pos' (x : EReal) : Prop := ∃ r : ℝ, 0 < r ∧ x = r

theorem Pos'.add {x y : EReal} : Pos' x → Pos' y → Pos' (x + y) := by
  rintro ⟨a, ha, rfl⟩ ⟨b, hb, rfl⟩
  exact ⟨a + b, add_pos ha hb, (EReal.coe_add a b).symm⟩

theorem exp_pos {x y : EReal} : Real' x → Real' y → Pos' (Ideal.exp (x - y)) := by
  rintro ⟨a, rfl⟩ ⟨b, rfl⟩
  exact ⟨Real.exp (a - b), Real.exp_pos _, by rw [← EReal.coe_sub]; rfl⟩

theorem Pos'.sum {n : Nat} (f : Fin (n + 1) → EReal) (hf : ∀ i, Pos' (f i)) : Pos' (∑ i, f i) :=
  Finset.sum_induction_nonempty f Pos' (fun _ _ => Pos'.add) Finset.univ_nonempty fun i _ => hf i

/-- Division by a positive real is multiplication by one. -/
theorem div_eq {d : EReal} (hd : Pos' d) : ∃ r : ℝ, 0 < r ∧ ∀ x, Ideal.div x d = x * r := by
  obtain ⟨a, ha, rfl⟩ := hd
  refine ⟨a⁻¹, inv_pos.2 ha, fun x => ?_⟩
  unfold Ideal.div
  rw [if_neg (by exact_mod_cast ha.ne'), EReal.coe_inv]

/-- Multiplication by a positive real distributes over a sum of extended reals. -/
theorem sum_mul_pos {ι : Type} (s : Finset ι) (f : ι → EReal) (r : ℝ) (hr : 0 < r) : (∑ i ∈ s, f i) * (r : EReal) = ∑ i ∈ s, f i * r := by
  classical
  induction s using Finset.induction_on with
  | empty => simp
  | insert a s ha ih =>
    rw [Finset.sum_insert ha, Finset.sum_insert ha, ← ih]
    exact EReal.right_distrib_of_nonneg_of_ne_top (by exact_mod_cast hr.le) (EReal.coe_ne_top r) _ _

/-- Dividing every weight by the weights' total first, or the weighted sum by it last, is the same for finite scores. -/
theorem mean_eq (s : Fin 512 → EReal) (sc : Fin 256 → EReal) (v : Fin 512 → EReal) (vc : Fin 256 → EReal)
    (hs : ∀ j, Real' (s j)) (hsc : ∀ p, Real' (sc p)) : meanLate s sc v vc = meanEarly s sc v vc := by
  have ht := top_real s sc hs hsc
  obtain ⟨r, hr, hdiv⟩ := div_eq ((Pos'.sum _ fun x => exp_pos (hs x) ht).add (Pos'.sum _ fun x => exp_pos (hsc x) ht))
  unfold meanLate meanEarly
  simp only [hdiv]
  rw [EReal.right_distrib_of_nonneg_of_ne_top (by exact_mod_cast hr.le) (EReal.coe_ne_top r), sum_mul_pos _ _ r hr, sum_mul_pos _ _ r hr]
  congr 1 <;> refine Finset.sum_congr rfl fun x _ => ?_
  · rw [mul_comm (Ideal.exp _) (v x), mul_assoc]
  · rw [mul_comm (Ideal.exp _) (vc x), mul_assoc]

/-- The kernel's element is the reference's where the samples' queries and keys, the cached keys and the biases are finite. -/
theorem late_eq_early (x0 : FVec Ideal ⟨2, ![24576, 1536]⟩ .bf16) (x1 x2 : FVec Ideal ⟨5, ![4, 2, 256, 8, 64]⟩ .f32)
    (x3 : FVec Ideal ⟨3, ![8, 15, 31]⟩ .f32)
    (h0 : ∀ (n : Fin 16384) (j : Fin 1024), Real' (x0 (ix2 ⟨8192 + n.val, by omega⟩ ⟨j.val, by omega⟩)))
    (h1 : ∀ b p h e, Real' (x1 (ix5 b 0 p h e))) (h3 : ∀ i, Real' (x3 i))
    (b : Fin 4) (r q : Fin 64) (h : Fin 8) (d : Fin 64) : lateAt x0 x1 x2 x3 b r q h d = earlyAt x0 x1 x2 x3 b r q h d := by
  have hr := rs_le r.val
  have hq : ∀ e, Real' (qy x0 b r q h e) := fun e =>
    h0 ⟨b.val * 4096 + (r.val * 64 + q.val), by omega⟩ ⟨h.val * 64 + e.val, by omega⟩
  have hk : ∀ j e, Real' (ky x0 b r j h e) := fun j e =>
    h0 ⟨b.val * 4096 + (rs r.val * 64 + j.val), by omega⟩ ⟨512 + (h.val * 64 + e.val), by omega⟩
  refine mean_eq _ _ _ _ (fun j => ?_) fun p => ?_
  · unfold sWin
    split
    · exact ((Real'.sum _ _ fun e => (hq e).mul (hk j e)).mul scale_real).add (h3 _)
    · exact mask_real
  · exact (Real'.sum _ _ fun e => (hq e).mul (h1 _ _ _ _)).mul scale_real

end Cert.Attn
end
-- ==== Proof.AttnPre.lean ====
/-
  What the precondition says of the arguments' elements.
-/
module

public import proofs.«01_k».proof.Proof.AttnSoftmax
public import proofs.«01_k».proof.Proof.Gen.Pre_finite_scores
public import Idealize.ShloMosaic.Lib.ReduceAll

@[expose] public section

noncomputable section

namespace Cert.Attn.Pre

open Idealize.ShloMosaic Cert.Pre_finite_scores

theorem inf_top : Ideal.ofBits .f32 0x7F800000#32 = ⊤ := by
  simp [Ideal.ofBits, Ideal.ieee]

/-- A comparison's bit. -/
theorem lt_of_bit {x y : EReal} (h : Ideal.cmp .olt x y = 1#1) : x < y := by
  by_contra hn
  simp [Ideal.cmp, hn] at h

theorem gt_of_bit {x y : EReal} (h : Ideal.cmp .ogt x y = 1#1) : y < x := by
  by_contra hn
  simp [Ideal.cmp, hn] at h

/-- A number whose absolute value is below infinity is real. -/
theorem real_of_abs {x : EReal} (h : max x (-x) < ⊤) : Real' x := by
  refine Real'.of_ne (fun e => ?_) fun e => ?_ <;> subst e <;> simp at h

/-- The conjunction of two bits. -/
theorem and_bits {a b : BitVec 1} (h : IntOp.andi a b = 1#1) : a = 1#1 ∧ b = 1#1 := by
  revert a b
  decide

instance : Subsingleton S_.Idx := ⟨fun a b => funext fun i => i.elim0⟩

variable (x0 : FVec Ideal S24576x1536 .bf16) (x1 x2 : FVec Ideal S4x2x256x8x64 .f32) (x3 : FVec Ideal S8x15x31 .f32)

/-- The precondition, element by element. -/
theorem finite (h : fn (F := Ideal) x0 x1 x2 x3 = fun _ => 1#1) :
    (∀ (n : Fin 16384) (j : Fin 1024), Real' (x0 (ix2 ⟨8192 + n.val, by omega⟩ ⟨j.val, by omega⟩)))
    ∧ (∀ b p g e, Real' (x1 (ix5 b 0 p g e)))
    ∧ (∀ i, Real' (x3 i)) ∧ ∀ i, Ideal.ofBits .f32 0xF0C9F2CA#32 < x3 i := by
  have e := congrFun h ix0
  dsimp only [fn, fn_part1] at e
  obtain ⟨e, c4⟩ := and_bits e
  obtain ⟨e, c3⟩ := and_bits e
  obtain ⟨c1, c2⟩ := and_bits e
  have h1 := Host.reduce_andi_all _ _ _ _ _ c1
  have h2 := Host.reduce_andi_all _ _ _ _ _ c2
  have h3 := Host.reduce_andi_all _ _ _ _ _ c3
  have h4 := Host.reduce_andi_all _ _ _ _ _ c4
  have l3 : ∀ i, x3 i < ⊤ := fun i => inf_top ▸ lt_of_bit (h3 i)
  have l4 : ∀ i, Ideal.ofBits .f32 0xF0C9F2CA#32 < x3 i := fun i => gt_of_bit (h4 i)
  refine ⟨fun n j => ?_, fun b p g e => ?_, fun i => Real'.of_ne (ne_of_gt (lt_of_le_of_lt bot_le (l4 i))) (l3 i).ne, l4⟩
  · have := h1 (ix2 n j)
    revert this
    pointwise
    intro t
    exact real_of_abs (inf_top ▸ lt_of_bit t)
  · have := h2 (ix4 b p g e)
    revert this
    pointwise
    intro t
    exact real_of_abs (inf_top ▸ lt_of_bit t)

end Cert.Attn.Pre
end
-- ==== Proof.AttnClaim.lean ====
/-
  The neighbourhood attention's claims: the reference's frame, and that kernel and reference compute the same array.
-/
module

public import proofs.«01_k».proof.Defs
public import proofs.«01_k».proof.Proof.AttnArray
public import proofs.«01_k».proof.Proof.AttnRef
public import proofs.«01_k».proof.Proof.AttnPre
public import proofs.«01_k».proof.Proof.Gen.ReferenceIdeal.Run
public import Idealize.ShloMosaic.Lib.Quiescent

@[expose] public section

noncomputable section

namespace Cert.Attn

open Idealize.ShloMosaic Idealize.ShloMosaic.TcCoe Idealize.SL.Sem
open Idealize.ShloMosaic.Pipeline (Dat)

/-- The reference keeps its arguments and leaves every semaphore at zero. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every index of the result is of the form the two sides are read at. -/
theorem index_split (i : Cert.KernelIdeal.S16384x512.Idx) : ∃ (b : Fin 4) (r q : Fin 64) (h : Fin 8) (d : Fin 64),
    i = ix2 ⟨b.val * 4096 + (r.val * 64 + q.val), by omega⟩ ⟨h.val * 64 + d.val, by omega⟩ := by
  have h0 : (i 0).val < 16384 := (i 0).isLt
  have h1 : (i 1).val < 512 := (i 1).isLt
  refine ⟨⟨(i 0).val / 4096, by omega⟩, ⟨(i 0).val / 64 % 64, by omega⟩, ⟨(i 0).val % 64, by omega⟩, ⟨(i 1).val / 64, by omega⟩, ⟨(i 1).val % 64, by omega⟩, ?_⟩
  funext a
  fin_cases a
  · refine Fin.ext ?_
    show (i 0).val = (i 0).val / 4096 * 4096 + ((i 0).val / 64 % 64 * 64 + (i 0).val % 64)
    omega
  · refine Fin.ext ?_
    show (i 1).val = (i 1).val / 64 * 64 + (i 1).val % 64
    omega

/-- The kernel's array is the reference's, of the same arguments. -/
theorem arrays_eq (m : (ℓ : Loc Cert.KernelIdeal.nD Cert.KernelIdeal.τ Cert.KernelIdeal.sig) → Buf (Elt Ideal) ℓ) (hp : Cert.Pre_KernelIdeal_finite_scores m) (c : Dev Cert.KernelIdeal.nD) :
    (Cert.KernelIdeal.Gen.dats m 0 c).arrAt 6 Cert.KernelIdeal.cfg0.N
      = Cert.ReferenceIdeal.Read.val_main_v121 (F := Ideal) (m (c, Cert.KernelIdeal.main_arg0)) (m (c, Cert.KernelIdeal.main_arg1))
          (m (c, Cert.KernelIdeal.main_arg2)) (m (c, Cert.KernelIdeal.main_arg3)) := by
  obtain ⟨h0, h1, h3, hb⟩ := Pre.finite _ _ _ _ (hp c)
  funext i
  obtain ⟨b, r, q, h, d, rfl⟩ := index_split i
  exact (result_at m c hb b r q h d).trans ((late_eq_early _ _ _ _ h0 h1 h3 b r q h d).trans (Ref.out_apply _ _ _ _ b r q h d).symm)

theorem algebraic : Cert.algebraic_KernelIdeal_ReferenceIdeal_pre_finite_scores := by
  intro m g m' g' hp hag
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  obtain ⟨a0, a1, a2, a3⟩ := hag c
  refine (h c).1.trans ?_
  rw [Cert.ReferenceIdeal.Read.val_main_v121_eq, a0, a1, a2, a3]
  exact (arrays_eq m hp c).symm

end Cert.Attn
end
-- ==== Proof.ProjMath.lean ====
/-
  An element of a layer's input projection as a formula over the extended reals, with no program in it.
-/
module

public import Idealize.ShloMosaic.Lib.Pointwise

@[expose] public section

noncomputable section

namespace Cert.Proj

open Idealize.ShloMosaic

/-- Row `i` of the hidden states times column `j` of the first layer's input weights. -/
def proj (h : (⟨2, ![24576, 2048]⟩ : Shape).Idx → EReal) (w : (⟨3, ![2, 2048, 14880]⟩ : Shape).Idx → EReal)
    (i : Fin 24576) (j : Fin 14880) : EReal :=
  ∑ k : Fin 2048, h (ix2 i k) * w (ix3 0 k j)

/-- Row `i` of the hidden states times column `j` of packed weights. -/
def dotAt {n : Nat} (h : (⟨2, ![24576, 2048]⟩ : Shape).Idx → EReal) (w : (⟨2, ![2048, n]⟩ : Shape).Idx → EReal)
    (i : Fin 24576) (j : Fin n) : EReal :=
  ∑ k : Fin 2048, h (ix2 i k) * w (ix2 k j)

/-- Where the packed column is column `c` of the input weights. -/
theorem dotAt_eq {n : Nat} (h : (⟨2, ![24576, 2048]⟩ : Shape).Idx → EReal) (w : (⟨3, ![2, 2048, 14880]⟩ : Shape).Idx → EReal)
    (v : (⟨2, ![2048, n]⟩ : Shape).Idx → EReal) (i : Fin 24576) (j : Fin n) (c : Fin 14880) (hv : ∀ k, v (ix2 k j) = w (ix3 0 k c)) :
    dotAt h v i j = proj h w i c :=
  Finset.sum_congr rfl fun k _ => by rw [hv]

/-- Where the packed column is zero. -/
theorem dotAt_zero {n : Nat} (h : (⟨2, ![24576, 2048]⟩ : Shape).Idx → EReal)
    (v : (⟨2, ![2048, n]⟩ : Shape).Idx → EReal) (i : Fin 24576) (j : Fin n) (hv : ∀ k, v (ix2 k j) = 0) :
    dotAt h v i j = 0 :=
  Finset.sum_eq_zero fun k _ => by rw [hv, mul_zero]

end Cert.Proj
end
-- ==== Proof.Gates.lean ====
/-
  The gate logits of a layer: the blocked product of the kernel is the reference's product, column for column.
-/
module

public import proofs.«01_k».proof.Defs
public import proofs.«01_k».proof.Proof.ProjMath
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.Gates

open Cert.Kernel2Ideal Cert.Kernel2Ideal.Gen Idealize.ShloMosaic Idealize.ShloMosaic.TcCoe Idealize.SL.Sem
open Idealize.ShloMosaic.Pipeline (Dat)
open Cert.Proj (proj dotAt dotAt_eq dotAt_zero)

variable (m : (ℓ : Loc nD τ sig) → Buf (Elt Ideal) ℓ)

/-! ## Which block each grid point reads and writes -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- The rows' block of point `t`. -/
theorem row_block (c : Dev nD) (t : Fin cfg0.N) (p : Fin 1024) (k : Fin 2048) :
    iblk m c 0 t (ix2 p k) = m (c, main_arg0) (ix2 ⟨t.val / 8 * 1024 + p.val, by have : t.val < 192 := t.isLt; omega⟩ k) := by
  blk_simp [iblk, V_main_arg0]
  blk_ext [idx0]

/-- The columns' block of point `t`. -/
theorem col_block (c : Dev nD) (t : Fin cfg0.N) (k : Fin 2048) (q : Fin 1024) :
    iblk m c 1 t (ix2 k q) = V m c main_v20 (ix2 k ⟨t.val % 8 * 1024 + q.val, by omega⟩) := by
  blk_simp [iblk]
  blk_ext [idx1]

/-- The product of the two blocks. -/
theorem out_apply (x0 : Vec Ideal S1024x2048 .bf16) (x1 : Vec Ideal S2048x1024 .bf16) (p : Fin 1024) (q : Fin 1024) :
    out0_2 x0 x1 (ix2 p q) = ∑ k : Fin 2048, x0 (ix2 p k) * x1 (ix2 k q) := by
  have hz : (![0, 0] : Fin S1024x1024.rank → Nat) = fun _ => 0 := funext fun a => by fin_cases a <;> rfl
  unfold out0_2 r0_2
  rw [View.canon_unit_zero hz]
  pointwise [k0_pay1, r0_0, r0_1]

/-- Where element `(p, q)` of point `t`'s output block lies in the array. -/
theorem out_emb (t : Fin cfg0.N) (p : Fin 1024) (q : Fin 1024) :
    ((cfg0.win 2).blk t).view.emb (ix2 p q)
      = ix2 ⟨t.val / 8 * 1024 + p.val, by have : t.val < 192 := t.isLt; omega⟩ ⟨t.val % 8 * 1024 + q.val, by omega⟩ := by
  blk_ext [idx2]

/-- An element of the result is a row of the hidden states times a column of the packed weights. -/
theorem arr_at (c : Dev nD) (i : Fin 24576) (j : Fin 8192) :
    (dats m 0 c).arrAt 2 cfg0.N (ix2 i j)
      = dotAt (m (c, main_arg0)) (V m c main_v20) i j := by
  have hT : i.val / 1024 * 8 + j.val / 1024 < cfg0.N := by show _ < 192; omega
  have e := congrFun (Cert.Kernel2Ideal.Value.blocks2 m c ⟨_, hT⟩ (flush0_2 _)) (ix2 ⟨i.val % 1024, by omega⟩ ⟨j.val % 1024, by omega⟩)
  rw [Cert.Kernel2Ideal.Value.flushed2] at e
  have ei : (ix2 i j : S24576x8192.Idx) = ((cfg0.win 2).blk ⟨_, hT⟩).view.emb (ix2 ⟨i.val % 1024, by omega⟩ ⟨j.val % 1024, by omega⟩) := by
    rw [out_emb]
    exact congrArg₂ ix2 (Fin.ext (by dsimp only; omega)) (Fin.ext (by dsimp only; omega))
  rw [ei]
  refine Eq.trans e ((out_apply _ _ _ _).trans (Finset.sum_congr rfl fun k _ => ?_))
  rw [row_block, col_block]
  refine congrArg₂ (· * ·) (congrArg _ (congrArg (ix2 · k) (Fin.ext (by dsimp only; omega)))) (congrArg _ (congrArg (ix2 k) (Fin.ext (by dsimp only; omega))))

/-- The packed weights are the layer's input weights at these columns. -/
theorem weight_apply (c : Dev nD) (k : Fin 2048) (j : Fin 8192) :
    V m c main_v20 (ix2 k j) = m (c, main_arg1) (ix3 0 k ⟨6688 + j.val, by omega⟩) := by
  unfold V
  after_reads_at

/-- The kernel's result at an element. -/
theorem result_at (c : Dev nD) (i : Fin 24576) (j : Fin 8192) :
    (dats m 0 c).arrAt 2 cfg0.N (ix2 i j) = proj (m (c, main_arg0)) (m (c, main_arg1)) i ⟨6688 + j.val, by omega⟩ :=
  (arr_at m c i j).trans (dotAt_eq _ _ _ _ _ _ fun k => weight_apply m c k j)

/-- The reference's result at an element. -/
theorem reference_at (x0 : (⟨S24576x2048, .bf16⟩ : BufTy).Contents (Elt Ideal)) (x1 : (⟨S2x2048x14880, .f32⟩ : BufTy).Contents (Elt Ideal)) (i : Fin 24576) (j : Fin 8192) :
    Cert.Reference2Ideal.Read.val_main_v14 (F := Ideal) x0 x1 (ix2 i j) = proj x0 x1 i ⟨6688 + j.val, by omega⟩ := by
  unfold proj
  pointwise [Cert.Reference2Ideal.Read.val_main_v14, Cert.Reference2Ideal.Read.val_main_v13, Cert.Reference2Ideal.Read.val_main_v3, Cert.Reference2Ideal.Read.val_main_v2, Cert.Reference2Ideal.Read.val_main_v1, Cert.Reference2Ideal.Read.val_main_v0]

/-- The reference keeps its arguments and leaves every semaphore at zero. -/
theorem frame_r : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's array is the reference's, of the same arguments. -/
theorem algebraic : Cert.algebraic_Kernel2Ideal_Reference2Ideal := by
  intro m g m' g' hp hag
  refine ⟨fun c => (dats m 0 c).arrAt 2 cfg0.N, Cert.Kernel2Ideal.Value.run_blocks m g, ?_⟩
  refine (θ_run Cert.Reference2Ideal.defs _ _).mono (fun r h c => ⟨?_, (h c).2⟩) (Cert.Reference2Ideal.Value.run (F := Ideal) m' g')
  obtain ⟨a0, a1⟩ := hag c
  refine (h c).1.trans ?_
  rw [Cert.Reference2Ideal.Read.val_main_v14_eq, a0, a1]
  funext i
  obtain ⟨i, j, rfl⟩ : ∃ (a : Fin 24576) (b : Fin 8192), i = ix2 a b := ⟨i 0, i 1, by funext a; fin_cases a <;> rfl⟩
  exact (reference_at _ _ i j).trans (result_at m c i j).symm

end Cert.Gates
end
-- ==== Proof.NaProj.lean ====
/-
  The attention's projections and the new cache: the blocked product of the kernel is the reference's product, column for column.
-/
module

public import proofs.«01_k».proof.Defs
public import proofs.«01_k».proof.Proof.ProjMath
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.NaProj

open Cert.Kernel3Ideal Cert.Kernel3Ideal.Gen Idealize.ShloMosaic Idealize.ShloMosaic.TcCoe Idealize.SL.Sem
open Idealize.ShloMosaic.Pipeline (Dat)
open Cert.Proj (proj dotAt dotAt_eq dotAt_zero)

variable (m : (ℓ : Loc nD τ sig) → Buf (Elt Ideal) ℓ)

/-! ## Which block each grid point reads and writes -/

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

/-- The rows' block of point `t`. -/
theorem row_block (c : Dev nD) (t : Fin cfg0.N) (p : Fin 1024) (k : Fin 2048) :
    iblk m c 0 t (ix2 p k) = m (c, main_arg0) (ix2 ⟨t.val / 3 * 1024 + p.val, by have : t.val < 72 := t.isLt; omega⟩ k) := by
  blk_simp [iblk, V_main_arg0]
  blk_ext [idx0]

/-- The columns' block of point `t`. -/
theorem col_block (c : Dev nD) (t : Fin cfg0.N) (k : Fin 2048) (q : Fin 512) :
    iblk m c 1 t (ix2 k q) = V m c main_v19 (ix2 k ⟨t.val % 3 * 512 + q.val, by omega⟩) := by
  blk_simp [iblk]
  blk_ext [idx1]

/-- The product of the two blocks. -/
theorem out_apply (x0 : Vec Ideal S1024x2048 .bf16) (x1 : Vec Ideal S2048x512 .bf16) (p : Fin 1024) (q : Fin 512) :
    out0_2 x0 x1 (ix2 p q) = ∑ k : Fin 2048, x0 (ix2 p k) * x1 (ix2 k q) := by
  have hz : (![0, 0] : Fin S1024x512.rank → Nat) = fun _ => 0 := funext fun a => by fin_cases a <;> rfl
  unfold out0_2 r0_2
  rw [View.canon_unit_zero hz]
  pointwise [k0_pay1, r0_0, r0_1]

/-- Where element `(p, q)` of point `t`'s output block lies in the array. -/
theorem out_emb (t : Fin cfg0.N) (p : Fin 1024) (q : Fin 512) :
    ((cfg0.win 2).blk t).view.emb (ix2 p q)
      = ix2 ⟨t.val / 3 * 1024 + p.val, by have : t.val < 72 := t.isLt; omega⟩ ⟨t.val % 3 * 512 + q.val, by omega⟩ := by
  blk_ext [idx2]

/-- Distinct points write blocks that share no element. -/
theorem apart : ∀ t t' : Fin cfg0.N, (cfg0.win 2).flush t = true → (cfg0.win 2).flush t' = true → t ≠ t' →
    Disjoint ((cfg0.win 2).blk t).view.set ((cfg0.win 2).blk t').view.set := fun t t' _ _ hne =>
  (cfg0.win 2).disjoint_blk fun h => hne (Fin.ext (by
    have h0 : win0_2.index t 0 = win0_2.index t' 0 := congrFun h 0
    have h1 : win0_2.index t 1 = win0_2.index t' 1 := congrFun h 1
    rw [(idx2 t).1, (idx2 t').1] at h0
    rw [(idx2 t).2, (idx2 t').2] at h1
    omega))

/-- So the final array holds in each block what its point wrote. -/
theorem block_kept (c : Dev nD) (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 apart cfg0.N t t.isLt hf

/-- Which is the body's result from the point's blocks. -/
theorem point_wrote (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- An element of the result is a row of the hidden states times a column of the packed weights. -/
theorem arr_at (c : Dev nD) (i : Fin 24576) (j : Fin 1536) :
    (dats m 0 c).arrAt 2 cfg0.N (ix2 i j)
      = dotAt (m (c, main_arg0)) (V m c main_v19) i j := by
  have hT : i.val / 1024 * 3 + j.val / 512 < cfg0.N := by show _ < 72; omega
  have e := congrFun (block_kept m c ⟨_, hT⟩ (flush0_2 _)) (ix2 ⟨i.val % 1024, by omega⟩ ⟨j.val % 512, by omega⟩)
  rw [point_wrote] at e
  have ei : (ix2 i j : S24576x1536.Idx) = ((cfg0.win 2).blk ⟨_, hT⟩).view.emb (ix2 ⟨i.val % 1024, by omega⟩ ⟨j.val % 512, by omega⟩) := by
    rw [out_emb]
    exact congrArg₂ ix2 (Fin.ext (by dsimp only; omega)) (Fin.ext (by dsimp only; omega))
  rw [ei]
  refine Eq.trans e ((out_apply _ _ _ _).trans (Finset.sum_congr rfl fun k _ => ?_))
  rw [row_block, col_block]
  refine congrArg₂ (· * ·) (congrArg _ (congrArg (ix2 · k) (Fin.ext (by dsimp only; omega)))) (congrArg _ (congrArg (ix2 k) (Fin.ext (by dsimp only; omega))))

/-- The packed weights are the layer's input weights at these columns. -/
theorem weight_apply (c : Dev nD) (k : Fin 2048) (j : Fin 1536) :
    V m c main_v19 (ix2 k j) = m (c, main_arg1) (ix3 0 k ⟨5152 + j.val, by omega⟩) := by
  unfold V
  after_reads_at

/-- The kernel's result at an element. -/
theorem result_at (c : Dev nD) (i : Fin 24576) (j : Fin 1536) :
    (dats m 0 c).arrAt 2 cfg0.N (ix2 i j) = proj (m (c, main_arg0)) (m (c, main_arg1)) i ⟨5152 + j.val, by omega⟩ :=
  (arr_at m c i j).trans (dotAt_eq _ _ _ _ _ _ fun k => weight_apply m c k j)

/-- The reference's result at an element. -/
theorem reference_at (x0 : (⟨S24576x2048, .bf16⟩ : BufTy).Contents (Elt Ideal)) (x1 : (⟨S2x2048x14880, .f32⟩ : BufTy).Contents (Elt Ideal)) (i : Fin 24576) (j : Fin 1536) :
    Cert.Reference3Ideal.Read.val_main_v21 (F := Ideal) x0 x1 (ix2 i j) = proj x0 x1 i ⟨5152 + j.val, by omega⟩ := by
  unfold proj
  pointwise [Cert.Reference3Ideal.Read.val_main_v21, Cert.Reference3Ideal.Read.val_main_v12, Cert.Reference3Ideal.Read.val_main_v3, Cert.Reference3Ideal.Read.val_main_v2, Cert.Reference3Ideal.Read.val_main_v1, Cert.Reference3Ideal.Read.val_main_v0]

/-- The reference keeps its arguments and leaves every semaphore at zero. -/
theorem frame_r : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The keys the host takes from the kernel's array. -/
theorem tail_keys (c : Dev nD) (a : Fin 32) (b : Fin 256) (d : Fin 8) (e : Fin 64) :
    Pipeline.afterTail₀ cfgs (dats m) 0 (V0 m) [hostOps1] c main_v25 (ix4 a b d e)
      = (dats m 0 c).arrAt 2 cfg0.N (ix2 ⟨a.val * 256 + b.val, by omega⟩ ⟨512 + (d.val * 64 + e.val), by omega⟩) := by
  unfold Pipeline.afterTail₀
  after_reads_at
  refine Eq.trans (congrFun (Pipeline.withArrays_arr spec0 (by decide) c _ _ 2) _) (congrArg _ ?_)
  exact congrArg₂ ix2 (Fin.ext (by dsimp only)) (Fin.ext (by dsimp only))

/-- The reference's keys at an element. -/
theorem reference_keys (x0 : (⟨S24576x2048, .bf16⟩ : BufTy).Contents (Elt Ideal)) (x1 : (⟨S2x2048x14880, .f32⟩ : BufTy).Contents (Elt Ideal)) (a : Fin 32) (b : Fin 256) (d : Fin 8) (e : Fin 64) :
    Cert.Reference3Ideal.Read.val_main_v19 (F := Ideal) x0 x1 (ix4 a b d e)
      = proj x0 x1 ⟨a.val * 256 + b.val, by omega⟩ ⟨5152 + (512 + (d.val * 64 + e.val)), by omega⟩ := by
  unfold proj
  pointwise [Cert.Reference3Ideal.Read.val_main_v19, Cert.Reference3Ideal.Read.val_main_v16, Cert.Reference3Ideal.Read.val_main_v14, Cert.Reference3Ideal.Read.val_main_v12, Cert.Reference3Ideal.Read.val_main_v3, Cert.Reference3Ideal.Read.val_main_v2, Cert.Reference3Ideal.Read.val_main_v1, Cert.Reference3Ideal.Read.val_main_v0]

/-- The values the host takes from the kernel's array. -/
theorem tail_values (c : Dev nD) (a : Fin 32) (b : Fin 256) (d : Fin 8) (e : Fin 64) :
    Pipeline.afterTail₀ cfgs (dats m) 0 (V0 m) [hostOps1] c main_v28 (ix4 a b d e)
      = (dats m 0 c).arrAt 2 cfg0.N (ix2 ⟨a.val * 256 + b.val, by omega⟩ ⟨1024 + (d.val * 64 + e.val), by omega⟩) := by
  unfold Pipeline.afterTail₀
  after_reads_at
  refine Eq.trans (congrFun (Pipeline.withArrays_arr spec0 (by decide) c _ _ 2) _) (congrArg _ ?_)
  exact congrArg₂ ix2 (Fin.ext (by dsimp only)) (Fin.ext (by dsimp only))

/-- The reference's values at an element. -/
theorem reference_values (x0 : (⟨S24576x2048, .bf16⟩ : BufTy).Contents (Elt Ideal)) (x1 : (⟨S2x2048x14880, .f32⟩ : BufTy).Contents (Elt Ideal)) (a : Fin 32) (b : Fin 256) (d : Fin 8) (e : Fin 64) :
    Cert.Reference3Ideal.Read.val_main_v20 (F := Ideal) x0 x1 (ix4 a b d e)
      = proj x0 x1 ⟨a.val * 256 + b.val, by omega⟩ ⟨5152 + (1024 + (d.val * 64 + e.val)), by omega⟩ := by
  unfold proj
  pointwise [Cert.Reference3Ideal.Read.val_main_v20, Cert.Reference3Ideal.Read.val_main_v17, Cert.Reference3Ideal.Read.val_main_v14, Cert.Reference3Ideal.Read.val_main_v12, Cert.Reference3Ideal.Read.val_main_v3, Cert.Reference3Ideal.Read.val_main_v2, Cert.Reference3Ideal.Read.val_main_v1, Cert.Reference3Ideal.Read.val_main_v0]

/-- Every final state of the kernel has the product's array, the keys and the values the host takes from it, and its arguments as launched. -/
theorem kernel_run (g : Dev nD → PrngReg) : θ_run (Cert.Kernel3Ideal.defs (F := Ideal)) (onTc (τ := τ) (Cert.Kernel3Ideal.main (F := Ideal))) ⟨m, fun _ => 0, g⟩ (fun r => ∀ c : Dev nD,
    r.2.mem ((c.tc : Thread nD τ).loc main_v22) = (dats m 0 c).arrAt 2 cfg0.N
    ∧ r.2.mem ((c.tc : Thread nD τ).loc main_v25) = Pipeline.afterTail₀ cfgs (dats m) 0 (V0 m) [hostOps1] c main_v25
    ∧ r.2.mem ((c.tc : Thread nD τ).loc main_v28) = Pipeline.afterTail₀ cfgs (dats m) 0 (V0 m) [hostOps1] c main_v28
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run Cert.Kernel3Ideal.defs _ _).mono (fun _ h c => ⟨(h c).1 2,
    (h c).2 main_v25 (Pipeline.mem_restRefs_of main_v25 (by decide) (by decide)),
    (h c).2 main_v28 (Pipeline.mem_restRefs_of main_v28 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m g)

/-- The kernel's three results are the reference's, of the same arguments. -/
theorem algebraic : Cert.algebraic_Kernel3Ideal_Reference3Ideal := by
  intro m g m' g' hp hag
  refine ⟨_, _, _, kernel_run m g, ?_⟩
  refine (θ_run Cert.Reference3Ideal.defs _ _).mono (fun r h c => ⟨?_, ?_, ?_, (h c).2.2.2⟩) (Cert.Reference3Ideal.Value.run (F := Ideal) m' g')
  · obtain ⟨a0, a1⟩ := hag c
    refine (h c).1.trans ?_
    rw [Cert.Reference3Ideal.Read.val_main_v21_eq, a0, a1]
    funext i
    obtain ⟨i, j, rfl⟩ : ∃ (a : Fin 24576) (b : Fin 1536), i = ix2 a b := ⟨i 0, i 1, by funext a; fin_cases a <;> rfl⟩
    exact (reference_at _ _ i j).trans (result_at m c i j).symm
  · obtain ⟨a0, a1⟩ := hag c
    refine (h c).2.1.trans ?_
    rw [Cert.Reference3Ideal.Read.val_main_v19_eq, a0, a1]
    funext i
    obtain ⟨a, b, d, e, rfl⟩ : ∃ (a : Fin 32) (b : Fin 256) (d : Fin 8) (e : Fin 64), i = ix4 a b d e := ⟨i 0, i 1, i 2, i 3, by funext a; fin_cases a <;> rfl⟩
    exact (reference_keys _ _ a b d e).trans ((tail_keys m c a b d e).trans (result_at m c _ _)).symm
  · obtain ⟨a0, a1⟩ := hag c
    refine (h c).2.2.1.trans ?_
    rw [Cert.Reference3Ideal.Read.val_main_v20_eq, a0, a1]
    funext i
    obtain ⟨a, b, d, e, rfl⟩ : ∃ (a : Fin 32) (b : Fin 256) (d : Fin 8) (e : Fin 64), i = ix4 a b d e := ⟨i 0, i 1, i 2, i 3, by funext a; fin_cases a <;> rfl⟩
    exact (reference_values _ _ a b d e).trans ((tail_values m c a b d e).trans (result_at m c _ _)).symm

end Cert.NaProj
end
-- ==== Proof.DnProj.lean ====
/-
  The DeltaNet branch's projections: the blocked product of the kernel is the reference's product, column for column.
-/
module

public import proofs.«01_k».proof.Defs
public import proofs.«01_k».proof.Proof.ProjMath
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.DnProj

open Cert.Kernel4Ideal Cert.Kernel4Ideal.Gen Idealize.ShloMosaic Idealize.ShloMosaic.TcCoe Idealize.SL.Sem
open Idealize.ShloMosaic.Pipeline (Dat)
open Cert.Proj (proj dotAt dotAt_eq dotAt_zero)

variable (m : (ℓ : Loc nD τ sig) → Buf (Elt Ideal) ℓ)

/-! ## Which block each grid point reads and writes -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The rows' block of point `t`. -/
theorem row_block (c : Dev nD) (t : Fin cfg0.N) (p : Fin 1024) (k : Fin 2048) :
    iblk m c 0 t (ix2 p k) = m (c, main_arg0) (ix2 ⟨t.val / 4 * 1024 + p.val, by have : t.val < 96 := t.isLt; omega⟩ k) := by
  blk_simp [iblk, V_main_arg0]
  blk_ext [idx0]

/-- The columns' block of point `t`. -/
theorem col_block (c : Dev nD) (t : Fin cfg0.N) (k : Fin 2048) (q : Fin 512) :
    iblk m c 1 t (ix2 k q) = V m c main_v15 (ix2 k ⟨t.val % 4 * 512 + q.val, by omega⟩) := by
  blk_simp [iblk]
  blk_ext [idx1]

/-- The product of the two blocks. -/
theorem out_apply (x0 : Vec Ideal S1024x2048 .bf16) (x1 : Vec Ideal S2048x512 .bf16) (p : Fin 1024) (q : Fin 512) :
    out0_2 x0 x1 (ix2 p q) = ∑ k : Fin 2048, x0 (ix2 p k) * x1 (ix2 k q) := by
  have hz : (![0, 0] : Fin S1024x512.rank → Nat) = fun _ => 0 := funext fun a => by fin_cases a <;> rfl
  unfold out0_2 r0_2
  rw [View.canon_unit_zero hz]
  pointwise [k0_pay1, r0_0, r0_1]

/-- Where element `(p, q)` of point `t`'s output block lies in the array. -/
theorem out_emb (t : Fin cfg0.N) (p : Fin 1024) (q : Fin 512) :
    ((cfg0.win 2).blk t).view.emb (ix2 p q)
      = ix2 ⟨t.val / 4 * 1024 + p.val, by have : t.val < 96 := t.isLt; omega⟩ ⟨t.val % 4 * 512 + q.val, by omega⟩ := by
  blk_ext [idx2]

/-- An element of the result is a row of the hidden states times a column of the packed weights. -/
theorem arr_at (c : Dev nD) (i : Fin 24576) (j : Fin 2048) :
    (dats m 0 c).arrAt 2 cfg0.N (ix2 i j)
      = dotAt (m (c, main_arg0)) (V m c main_v15) i j := by
  have hT : i.val / 1024 * 4 + j.val / 512 < cfg0.N := by show _ < 96; omega
  have e := congrFun (Cert.Kernel4Ideal.Value.blocks2 m c ⟨_, hT⟩ (flush0_2 _)) (ix2 ⟨i.val % 1024, by omega⟩ ⟨j.val % 512, by omega⟩)
  rw [Cert.Kernel4Ideal.Value.flushed2] at e
  have ei : (ix2 i j : S24576x2048.Idx) = ((cfg0.win 2).blk ⟨_, hT⟩).view.emb (ix2 ⟨i.val % 1024, by omega⟩ ⟨j.val % 512, by omega⟩) := by
    rw [out_emb]
    exact congrArg₂ ix2 (Fin.ext (by dsimp only; omega)) (Fin.ext (by dsimp only; omega))
  rw [ei]
  refine Eq.trans e ((out_apply _ _ _ _).trans (Finset.sum_congr rfl fun k _ => ?_))
  rw [row_block, col_block]
  refine congrArg₂ (· * ·) (congrArg _ (congrArg (ix2 · k) (Fin.ext (by dsimp only; omega)))) (congrArg _ (congrArg (ix2 k) (Fin.ext (by dsimp only; omega))))

/-- The packed weights are the layer's first 2048 columns. -/
theorem weight_apply (c : Dev nD) (k : Fin 2048) (j : Fin 2048) :
    V m c main_v15 (ix2 k j) = m (c, main_arg1) (ix3 0 k ⟨j.val, by omega⟩) := by
  unfold V
  after_reads_at
  split
  · after_reads_at
  · after_reads_at
    exact congrArg _ (congrArg (ix3 0 k) (Fin.ext (by dsimp only; omega)))

/-- The kernel's result at an element. -/
theorem result_at (c : Dev nD) (i : Fin 24576) (j : Fin 2048) :
    (dats m 0 c).arrAt 2 cfg0.N (ix2 i j) = proj (m (c, main_arg0)) (m (c, main_arg1)) i ⟨j.val, by omega⟩ :=
  (arr_at m c i j).trans (dotAt_eq _ _ _ _ _ _ fun k => weight_apply m c k j)

/-- The reference's result at an element. -/
theorem reference_at (x0 : (⟨S24576x2048, .bf16⟩ : BufTy).Contents (Elt Ideal)) (x1 : (⟨S2x2048x14880, .f32⟩ : BufTy).Contents (Elt Ideal)) (i : Fin 24576) (j : Fin 2048) :
    Cert.Reference4Ideal.Read.val_main_v15 (F := Ideal) x0 x1 (ix2 i j) = proj x0 x1 i ⟨j.val, by omega⟩ := by
  unfold proj
  pointwise [Cert.Reference4Ideal.Read.val_main_v15, Cert.Reference4Ideal.Read.val_main_v14, Cert.Reference4Ideal.Read.val_main_v4, Cert.Reference4Ideal.Read.val_main_v5, Cert.Reference4Ideal.Read.val_main_v3, Cert.Reference4Ideal.Read.val_main_v2, Cert.Reference4Ideal.Read.val_main_v1, Cert.Reference4Ideal.Read.val_main_v0]
  split
  · rfl
  · exact Finset.sum_congr rfl fun k _ => congrArg _ (congrArg _ (congrArg (ix3 0 k) (Fin.ext (by dsimp only; omega))))

/-- The reference keeps its arguments and leaves every semaphore at zero. -/
theorem frame_r : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's array is the reference's, of the same arguments. -/
theorem algebraic : Cert.algebraic_Kernel4Ideal_Reference4Ideal := by
  intro m g m' g' hp hag
  refine ⟨fun c => (dats m 0 c).arrAt 2 cfg0.N, Cert.Kernel4Ideal.Value.run_blocks m g, ?_⟩
  refine (θ_run Cert.Reference4Ideal.defs _ _).mono (fun r h c => ⟨?_, (h c).2⟩) (Cert.Reference4Ideal.Value.run (F := Ideal) m' g')
  obtain ⟨a0, a1⟩ := hag c
  refine (h c).1.trans ?_
  rw [Cert.Reference4Ideal.Read.val_main_v15_eq, a0, a1]
  funext i
  obtain ⟨i, j, rfl⟩ : ∃ (a : Fin 24576) (b : Fin 2048), i = ix2 a b := ⟨i 0, i 1, by funext a; fin_cases a <;> rfl⟩
  exact (reference_at _ _ i j).trans (result_at m c i j).symm

end Cert.DnProj
end
-- ==== Proof.SsdProj.lean ====
/-
  The state-space branch's projections: the blocked product of the kernel is the reference's product, column for column.
-/
module

public import proofs.«01_k».proof.Defs
public import proofs.«01_k».proof.Proof.ProjMath
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.SsdProj

open Cert.Kernel5Ideal Cert.Kernel5Ideal.Gen Idealize.ShloMosaic Idealize.ShloMosaic.TcCoe Idealize.SL.Sem
open Idealize.ShloMosaic.Pipeline (Dat)
open Cert.Proj (proj dotAt dotAt_eq dotAt_zero)

variable (m : (ℓ : Loc nD τ sig) → Buf (Elt Ideal) ℓ)

/-! ## Which block each grid point reads and writes -/

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

/-- The rows' block of point `t`. -/
theorem row_block (c : Dev nD) (t : Fin cfg0.N) (p : Fin 1024) (k : Fin 2048) :
    iblk m c 0 t (ix2 p k) = m (c, main_arg0) (ix2 ⟨t.val / 3 * 1024 + p.val, by have : t.val < 72 := t.isLt; omega⟩ k) := by
  blk_simp [iblk, V_main_arg0]
  blk_ext [idx0]

/-- The columns' block of point `t`. -/
theorem col_block (c : Dev nD) (t : Fin cfg0.N) (k : Fin 2048) (q : Fin 512) :
    iblk m c 1 t (ix2 k q) = V m c main_v17 (ix2 k ⟨t.val % 3 * 512 + q.val, by omega⟩) := by
  blk_simp [iblk]
  blk_ext [idx1]

/-- The product of the two blocks. -/
theorem out_apply (x0 : Vec Ideal S1024x2048 .bf16) (x1 : Vec Ideal S2048x512 .bf16) (p : Fin 1024) (q : Fin 512) :
    out0_2 x0 x1 (ix2 p q) = ∑ k : Fin 2048, x0 (ix2 p k) * x1 (ix2 k q) := by
  have hz : (![0, 0] : Fin S1024x512.rank → Nat) = fun _ => 0 := funext fun a => by fin_cases a <;> rfl
  unfold out0_2 r0_2
  rw [View.canon_unit_zero hz]
  pointwise [k0_pay1, r0_0, r0_1]

/-- Where element `(p, q)` of point `t`'s output block lies in the array. -/
theorem out_emb (t : Fin cfg0.N) (p : Fin 1024) (q : Fin 512) :
    ((cfg0.win 2).blk t).view.emb (ix2 p q)
      = ix2 ⟨t.val / 3 * 1024 + p.val, by have : t.val < 72 := t.isLt; omega⟩ ⟨t.val % 3 * 512 + q.val, by omega⟩ := by
  blk_ext [idx2]

/-- An element of the result is a row of the hidden states times a column of the packed weights. -/
theorem arr_at (c : Dev nD) (i : Fin 24576) (j : Fin 1536) :
    (dats m 0 c).arrAt 2 cfg0.N (ix2 i j)
      = dotAt (m (c, main_arg0)) (V m c main_v17) i j := by
  have hT : i.val / 1024 * 3 + j.val / 512 < cfg0.N := by show _ < 72; omega
  have e := congrFun (Cert.Kernel5Ideal.Value.blocks2 m c ⟨_, hT⟩ (flush0_2 _)) (ix2 ⟨i.val % 1024, by omega⟩ ⟨j.val % 512, by omega⟩)
  rw [Cert.Kernel5Ideal.Value.flushed2] at e
  have ei : (ix2 i j : S24576x1536.Idx) = ((cfg0.win 2).blk ⟨_, hT⟩).view.emb (ix2 ⟨i.val % 1024, by omega⟩ ⟨j.val % 512, by omega⟩) := by
    rw [out_emb]
    exact congrArg₂ ix2 (Fin.ext (by dsimp only; omega)) (Fin.ext (by dsimp only; omega))
  rw [ei]
  refine Eq.trans e ((out_apply _ _ _ _).trans (Finset.sum_congr rfl fun k _ => ?_))
  rw [row_block, col_block]
  refine congrArg₂ (· * ·) (congrArg _ (congrArg (ix2 · k) (Fin.ext (by dsimp only; omega)))) (congrArg _ (congrArg (ix2 k) (Fin.ext (by dsimp only; omega))))

/-- The column of the input weights that column `j` of the result comes from. -/
def col (j : Fin 1536) : Fin 14880 := if j.val < 1024 then ⟨2576 + j.val, by omega⟩ else ⟨1040 + j.val, by omega⟩

/-- The packed weights: the 1024 convolved columns, then the 512 of the gate. -/
theorem weight_apply (c : Dev nD) (k : Fin 2048) (j : Fin 1536) :
    V m c main_v17 (ix2 k j) = m (c, main_arg1) (ix3 0 k (col j)) := by
  unfold V
  after_reads_at
  unfold col
  split
  · after_reads_at
  · after_reads_at
    exact congrArg _ (congrArg (ix3 0 k) (Fin.ext (by dsimp only; omega)))

/-- The kernel's result at an element. -/
theorem result_at (c : Dev nD) (i : Fin 24576) (j : Fin 1536) :
    (dats m 0 c).arrAt 2 cfg0.N (ix2 i j) = proj (m (c, main_arg0)) (m (c, main_arg1)) i (col j) :=
  (arr_at m c i j).trans (dotAt_eq _ _ _ _ _ _ fun k => weight_apply m c k j)

/-- The reference's result at an element. -/
theorem reference_at (x0 : (⟨S24576x2048, .bf16⟩ : BufTy).Contents (Elt Ideal)) (x1 : (⟨S2x2048x14880, .f32⟩ : BufTy).Contents (Elt Ideal)) (i : Fin 24576) (j : Fin 1536) :
    Cert.Reference5Ideal.Read.val_main_v15 (F := Ideal) x0 x1 (ix2 i j) = proj x0 x1 i (col j) := by
  unfold proj
  pointwise [Cert.Reference5Ideal.Read.val_main_v15, Cert.Reference5Ideal.Read.val_main_v14, Cert.Reference5Ideal.Read.val_main_v9, Cert.Reference5Ideal.Read.val_main_v8, Cert.Reference5Ideal.Read.val_main_v3, Cert.Reference5Ideal.Read.val_main_v2, Cert.Reference5Ideal.Read.val_main_v1, Cert.Reference5Ideal.Read.val_main_v0]
  unfold col
  split
  · rfl
  · exact Finset.sum_congr rfl fun k _ => congrArg _ (congrArg _ (congrArg (ix3 0 k) (Fin.ext (by dsimp only; omega))))

/-- The reference keeps its arguments and leaves every semaphore at zero. -/
theorem frame_r : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's array is the reference's, of the same arguments. -/
theorem algebraic : Cert.algebraic_Kernel5Ideal_Reference5Ideal := by
  intro m g m' g' hp hag
  refine ⟨fun c => (dats m 0 c).arrAt 2 cfg0.N, Cert.Kernel5Ideal.Value.run_blocks m g, ?_⟩
  refine (θ_run Cert.Reference5Ideal.defs _ _).mono (fun r h c => ⟨?_, (h c).2⟩) (Cert.Reference5Ideal.Value.run (F := Ideal) m' g')
  obtain ⟨a0, a1⟩ := hag c
  refine (h c).1.trans ?_
  rw [Cert.Reference5Ideal.Read.val_main_v15_eq, a0, a1]
  funext i
  obtain ⟨i, j, rfl⟩ : ∃ (a : Fin 24576) (b : Fin 1536), i = ix2 a b := ⟨i 0, i 1, by funext a; fin_cases a <;> rfl⟩
  exact (reference_at _ _ i j).trans (result_at m c i j).symm

end Cert.SsdProj
end
-- ==== Proof.HyProj.lean ====
/-
  The Hyena branch's projections: the blocked product of the kernel is the reference's product, column for column.
-/
module

public import proofs.«01_k».proof.Defs
public import proofs.«01_k».proof.Proof.ProjMath
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.HyProj

open Cert.Kernel6Ideal Cert.Kernel6Ideal.Gen Idealize.ShloMosaic Idealize.ShloMosaic.TcCoe Idealize.SL.Sem
open Idealize.ShloMosaic.Pipeline (Dat)
open Cert.Proj (proj dotAt dotAt_eq dotAt_zero)

variable (m : (ℓ : Loc nD τ sig) → Buf (Elt Ideal) ℓ)

/-! ## Which block each grid point reads and writes -/

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

/-- The rows' block of point `t`. -/
theorem row_block (c : Dev nD) (t : Fin cfg0.N) (p : Fin 1024) (k : Fin 2048) :
    iblk m c 0 t (ix2 p k) = m (c, main_arg0) (ix2 ⟨t.val / 3 * 1024 + p.val, by have : t.val < 72 := t.isLt; omega⟩ k) := by
  blk_simp [iblk, V_main_arg0]
  blk_ext [idx0]

/-- The columns' block of point `t`. -/
theorem col_block (c : Dev nD) (t : Fin cfg0.N) (k : Fin 2048) (q : Fin 512) :
    iblk m c 1 t (ix2 k q) = V m c main_v18 (ix2 k ⟨t.val % 3 * 512 + q.val, by omega⟩) := by
  blk_simp [iblk]
  blk_ext [idx1]

/-- The product of the two blocks. -/
theorem out_apply (x0 : Vec Ideal S1024x2048 .bf16) (x1 : Vec Ideal S2048x512 .bf16) (p : Fin 1024) (q : Fin 512) :
    out0_2 x0 x1 (ix2 p q) = ∑ k : Fin 2048, x0 (ix2 p k) * x1 (ix2 k q) := by
  have hz : (![0, 0] : Fin S1024x512.rank → Nat) = fun _ => 0 := funext fun a => by fin_cases a <;> rfl
  unfold out0_2 r0_2
  rw [View.canon_unit_zero hz]
  pointwise [k0_pay1, r0_0, r0_1]

/-- Where element `(p, q)` of point `t`'s output block lies in the array. -/
theorem out_emb (t : Fin cfg0.N) (p : Fin 1024) (q : Fin 512) :
    ((cfg0.win 2).blk t).view.emb (ix2 p q)
      = ix2 ⟨t.val / 3 * 1024 + p.val, by have : t.val < 72 := t.isLt; omega⟩ ⟨t.val % 3 * 512 + q.val, by omega⟩ := by
  blk_ext [idx2]

/-- An element of the result is a row of the hidden states times a column of the packed weights. -/
theorem arr_at (c : Dev nD) (i : Fin 24576) (j : Fin 1536) :
    (dats m 0 c).arrAt 2 cfg0.N (ix2 i j)
      = dotAt (m (c, main_arg0)) (V m c main_v18) i j := by
  have hT : i.val / 1024 * 3 + j.val / 512 < cfg0.N := by show _ < 72; omega
  have e := congrFun (Cert.Kernel6Ideal.Value.blocks2 m c ⟨_, hT⟩ (flush0_2 _)) (ix2 ⟨i.val % 1024, by omega⟩ ⟨j.val % 512, by omega⟩)
  rw [Cert.Kernel6Ideal.Value.flushed2] at e
  have ei : (ix2 i j : S24576x1536.Idx) = ((cfg0.win 2).blk ⟨_, hT⟩).view.emb (ix2 ⟨i.val % 1024, by omega⟩ ⟨j.val % 512, by omega⟩) := by
    rw [out_emb]
    exact congrArg₂ ix2 (Fin.ext (by dsimp only; omega)) (Fin.ext (by dsimp only; omega))
  rw [ei]
  refine Eq.trans e ((out_apply _ _ _ _).trans (Finset.sum_congr rfl fun k _ => ?_))
  rw [row_block, col_block]
  refine congrArg₂ (· * ·) (congrArg _ (congrArg (ix2 · k) (Fin.ext (by dsimp only; omega)))) (congrArg _ (congrArg (ix2 k) (Fin.ext (by dsimp only; omega))))

/-- The packed weights are the layer's input weights at these columns. -/
theorem weight_apply (c : Dev nD) (k : Fin 2048) (j : Fin 1536) :
    V m c main_v18 (ix2 k j) = m (c, main_arg1) (ix3 0 k ⟨3616 + j.val, by omega⟩) := by
  unfold V
  after_reads_at

/-- The kernel's result at an element. -/
theorem result_at (c : Dev nD) (i : Fin 24576) (j : Fin 1536) :
    (dats m 0 c).arrAt 2 cfg0.N (ix2 i j) = proj (m (c, main_arg0)) (m (c, main_arg1)) i ⟨3616 + j.val, by omega⟩ :=
  (arr_at m c i j).trans (dotAt_eq _ _ _ _ _ _ fun k => weight_apply m c k j)

/-- The reference's result at an element. -/
theorem reference_at (x0 : (⟨S24576x2048, .bf16⟩ : BufTy).Contents (Elt Ideal)) (x1 : (⟨S2x2048x14880, .f32⟩ : BufTy).Contents (Elt Ideal)) (i : Fin 24576) (j : Fin 1536) :
    Cert.Reference6Ideal.Read.val_main_v14 (F := Ideal) x0 x1 (ix2 i j) = proj x0 x1 i ⟨3616 + j.val, by omega⟩ := by
  unfold proj
  pointwise [Cert.Reference6Ideal.Read.val_main_v14, Cert.Reference6Ideal.Read.val_main_v11, Cert.Reference6Ideal.Read.val_main_v3, Cert.Reference6Ideal.Read.val_main_v2, Cert.Reference6Ideal.Read.val_main_v1, Cert.Reference6Ideal.Read.val_main_v0]

/-- The reference keeps its arguments and leaves every semaphore at zero. -/
theorem frame_r : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's array is the reference's, of the same arguments. -/
theorem algebraic : Cert.algebraic_Kernel6Ideal_Reference6Ideal := by
  intro m g m' g' hp hag
  refine ⟨fun c => (dats m 0 c).arrAt 2 cfg0.N, Cert.Kernel6Ideal.Value.run_blocks m g, ?_⟩
  refine (θ_run Cert.Reference6Ideal.defs _ _).mono (fun r h c => ⟨?_, (h c).2⟩) (Cert.Reference6Ideal.Value.run (F := Ideal) m' g')
  obtain ⟨a0, a1⟩ := hag c
  refine (h c).1.trans ?_
  rw [Cert.Reference6Ideal.Read.val_main_v14_eq, a0, a1]
  funext i
  obtain ⟨i, j, rfl⟩ : ∃ (a : Fin 24576) (b : Fin 1536), i = ix2 a b := ⟨i 0, i 1, by funext a; fin_cases a <;> rfl⟩
  exact (reference_at _ _ i j).trans (result_at m c i j).symm

end Cert.HyProj
end
-- ==== Proof.SmallProj.lean ====
/-
  The scans' gates and steps: the blocked product of the kernel is the reference's product, column for column.
-/
module

public import proofs.«01_k».proof.Defs
public import proofs.«01_k».proof.Proof.ProjMath
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.SmallProj

open Cert.Kernel7Ideal Cert.Kernel7Ideal.Gen Idealize.ShloMosaic Idealize.ShloMosaic.TcCoe Idealize.SL.Sem
open Idealize.ShloMosaic.Pipeline (Dat)
open Cert.Proj (proj dotAt dotAt_eq dotAt_zero)

variable (m : (ℓ : Loc nD τ sig) → Buf (Elt Ideal) ℓ)

/-! ## Which block each grid point reads and writes -/

theorem idx0 : ∀ t : Fin cfg0.N, win0_0.index t 0 = t.val / 1 ∧ win0_0.index t 1 = 0 :=
  (by decide +kernel : ∀ t : Fin grid0.N, win0_0.index t 0 = t.val / 1 ∧ win0_0.index t 1 = 0)
theorem idx1 : ∀ t : Fin cfg0.N, win0_1.index t 0 = 0 ∧ win0_1.index t 1 = t.val % 1 :=
  (by decide +kernel : ∀ t : Fin grid0.N, win0_1.index t 0 = 0 ∧ win0_1.index t 1 = t.val % 1)
theorem idx2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)

/-- The rows' block of point `t`. -/
theorem row_block (c : Dev nD) (t : Fin cfg0.N) (p : Fin 1024) (k : Fin 2048) :
    iblk m c 0 t (ix2 p k) = m (c, main_arg0) (ix2 ⟨t.val / 1 * 1024 + p.val, by have : t.val < 24 := t.isLt; omega⟩ k) := by
  blk_simp [iblk, V_main_arg0]
  blk_ext [idx0]

/-- The columns' block of point `t`. -/
theorem col_block (c : Dev nD) (t : Fin cfg0.N) (k : Fin 2048) (q : Fin 128) :
    iblk m c 1 t (ix2 k q) = V m c main_v21 (ix2 k ⟨t.val % 1 * 128 + q.val, by omega⟩) := by
  blk_simp [iblk]
  blk_ext [idx1]

/-- The product of the two blocks. -/
theorem out_apply (x0 : Vec Ideal S1024x2048 .bf16) (x1 : Vec Ideal S2048x128 .bf16) (p : Fin 1024) (q : Fin 128) :
    out0_2 x0 x1 (ix2 p q) = ∑ k : Fin 2048, x0 (ix2 p k) * x1 (ix2 k q) := by
  have hz : (![0, 0] : Fin S1024x128.rank → Nat) = fun _ => 0 := funext fun a => by fin_cases a <;> rfl
  unfold out0_2 r0_2
  rw [View.canon_unit_zero hz]
  pointwise [k0_pay1, r0_0, r0_1]

/-- Where element `(p, q)` of point `t`'s output block lies in the array. -/
theorem out_emb (t : Fin cfg0.N) (p : Fin 1024) (q : Fin 128) :
    ((cfg0.win 2).blk t).view.emb (ix2 p q)
      = ix2 ⟨t.val / 1 * 1024 + p.val, by have : t.val < 24 := t.isLt; omega⟩ ⟨t.val % 1 * 128 + q.val, by omega⟩ := by
  blk_ext [idx2]

/-- An element of the result is a row of the hidden states times a column of the packed weights. -/
theorem arr_at (c : Dev nD) (i : Fin 24576) (j : Fin 128) :
    (dats m 0 c).arrAt 2 cfg0.N (ix2 i j)
      = dotAt (m (c, main_arg0)) (V m c main_v21) i j := by
  have hT : i.val / 1024 * 1 + j.val / 128 < cfg0.N := by show _ < 24; omega
  have e := congrFun (Cert.Kernel7Ideal.Value.blocks2 m c ⟨_, hT⟩ (flush0_2 _)) (ix2 ⟨i.val % 1024, by omega⟩ ⟨j.val % 128, by omega⟩)
  rw [Cert.Kernel7Ideal.Value.flushed2] at e
  have ei : (ix2 i j : S24576x128.Idx) = ((cfg0.win 2).blk ⟨_, hT⟩).view.emb (ix2 ⟨i.val % 1024, by omega⟩ ⟨j.val % 128, by omega⟩) := by
    rw [out_emb]
    exact congrArg₂ ix2 (Fin.ext (by dsimp only; omega)) (Fin.ext (by dsimp only; omega))
  rw [ei]
  refine Eq.trans e ((out_apply _ _ _ _).trans (Finset.sum_congr rfl fun k _ => ?_))
  rw [row_block, col_block]
  refine congrArg₂ (· * ·) (congrArg _ (congrArg (ix2 · k) (Fin.ext (by dsimp only; omega)))) (congrArg _ (congrArg (ix2 k) (Fin.ext (by dsimp only; omega))))

/-- The integer zero the columns are padded with is the number zero. -/
theorem zero_word : FloatOps.sitofp (F := Ideal) FTy.f32 (0#32 : BitVec 32) = (0 : EReal) := by
  simp [FloatOps.sitofp]

/-- The packed weights: sixteen columns of gates, sixteen of steps, then zeros. -/
theorem weight_apply (c : Dev nD) (k : Fin 2048) (j : Fin 128) :
    V m c main_v21 (ix2 k j) = (if j.val < 16 then m (c, main_arg1) (ix3 0 k ⟨2048 + j.val, by omega⟩) else
      if j.val < 32 then m (c, main_arg1) (ix3 0 k ⟨3584 + j.val, by omega⟩) else (0 : EReal) : EReal) := by
  by_cases h1 : j.val < 16
  · rw [if_pos h1]
    unfold V
    after_reads_at
    split
    · split
      · after_reads_at
      · split
        · after_reads_at; exact congrArg _ (congrArg (ix3 0 k) (Fin.ext (by dsimp only; omega)))
        · exfalso; omega
    · exfalso; omega
  · rw [if_neg h1]
    by_cases h2 : j.val < 32
    · rw [if_pos h2]
      unfold V
      after_reads_at
      split
      · split
        · exfalso; omega
        · split
          · exfalso; omega
          · after_reads_at; exact congrArg _ (congrArg (ix3 0 k) (Fin.ext (by dsimp only; omega)))
      · exfalso; omega
    · rw [if_neg h2]
      unfold V
      after_reads_at
      split
      · exfalso; omega
      · exact zero_word

/-- The kernel's result at an element. -/
theorem result_at (c : Dev nD) (i : Fin 24576) (j : Fin 128) :
    (dats m 0 c).arrAt 2 cfg0.N (ix2 i j) = (if j.val < 16 then proj (m (c, main_arg0)) (m (c, main_arg1)) i ⟨2048 + j.val, by omega⟩ else
      if j.val < 32 then proj (m (c, main_arg0)) (m (c, main_arg1)) i ⟨3584 + j.val, by omega⟩ else (0 : EReal) : EReal) := by
  refine (arr_at m c i j).trans ?_
  split
  · rename_i h
    exact dotAt_eq _ _ _ _ _ _ fun k => (weight_apply m c k j).trans (if_pos h)
  · rename_i h
    split
    · rename_i h'
      exact dotAt_eq _ _ _ _ _ _ fun k => (weight_apply m c k j).trans ((if_neg h).trans (if_pos h'))
    · rename_i h'
      exact dotAt_zero _ _ _ _ fun k => (weight_apply m c k j).trans ((if_neg h).trans (if_neg h'))

/-- The reference's result at an element. -/
theorem reference_at (x0 : (⟨S24576x2048, .bf16⟩ : BufTy).Contents (Elt Ideal)) (x1 : (⟨S2x2048x14880, .f32⟩ : BufTy).Contents (Elt Ideal)) (i : Fin 24576) (j : Fin 128) :
    Cert.Reference7Ideal.Read.val_main_v15 (F := Ideal) x0 x1 (ix2 i j) = if j.val < 16 then proj x0 x1 i ⟨2048 + j.val, by omega⟩ else
      if j.val < 32 then proj x0 x1 i ⟨3584 + j.val, by omega⟩ else 0 := by
  by_cases h1 : j.val < 16
  · rw [if_pos h1]
    try unfold proj
    pointwise [Cert.Reference7Ideal.Read.val_main_v15, Cert.Reference7Ideal.Read.val_main_v14, Cert.Reference7Ideal.Read.val_main_v6, Cert.Reference7Ideal.Read.val_main_v7, Cert.Reference7Ideal.Read.val_main_v10, Cert.Reference7Ideal.Read.val_main_v3, Cert.Reference7Ideal.Read.val_main_v2, Cert.Reference7Ideal.Read.val_main_v1, Cert.Reference7Ideal.Read.val_main_v0, Cert.Reference7Ideal.Read.val_main_call0_v0, Cert.Reference7Ideal.Read.val_main_c]
    split
    · split
      · rfl
      · split
        · exact Finset.sum_congr rfl fun k _ => congrArg _ (congrArg _ (congrArg (ix3 0 k) (Fin.ext (by dsimp only; omega))))
        · exfalso; omega
    · exfalso; omega
  · rw [if_neg h1]
    by_cases h2 : j.val < 32
    · rw [if_pos h2]
      try unfold proj
      pointwise [Cert.Reference7Ideal.Read.val_main_v15, Cert.Reference7Ideal.Read.val_main_v14, Cert.Reference7Ideal.Read.val_main_v6, Cert.Reference7Ideal.Read.val_main_v7, Cert.Reference7Ideal.Read.val_main_v10, Cert.Reference7Ideal.Read.val_main_v3, Cert.Reference7Ideal.Read.val_main_v2, Cert.Reference7Ideal.Read.val_main_v1, Cert.Reference7Ideal.Read.val_main_v0, Cert.Reference7Ideal.Read.val_main_call0_v0, Cert.Reference7Ideal.Read.val_main_c]
      split
      · split
        · exfalso; omega
        · split
          · exfalso; omega
          · exact Finset.sum_congr rfl fun k _ => congrArg _ (congrArg _ (congrArg (ix3 0 k) (Fin.ext (by dsimp only; omega))))
      · exfalso; omega
    · rw [if_neg h2]
      try unfold proj
      pointwise [Cert.Reference7Ideal.Read.val_main_v15, Cert.Reference7Ideal.Read.val_main_v14, Cert.Reference7Ideal.Read.val_main_v6, Cert.Reference7Ideal.Read.val_main_v7, Cert.Reference7Ideal.Read.val_main_v10, Cert.Reference7Ideal.Read.val_main_v3, Cert.Reference7Ideal.Read.val_main_v2, Cert.Reference7Ideal.Read.val_main_v1, Cert.Reference7Ideal.Read.val_main_v0, Cert.Reference7Ideal.Read.val_main_call0_v0, Cert.Reference7Ideal.Read.val_main_c]
      split
      · exfalso; omega
      · exact zero_word

/-- The reference keeps its arguments and leaves every semaphore at zero. -/
theorem frame_r : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's array is the reference's, of the same arguments. -/
theorem algebraic : Cert.algebraic_Kernel7Ideal_Reference7Ideal := by
  intro m g m' g' hp hag
  refine ⟨fun c => (dats m 0 c).arrAt 2 cfg0.N, Cert.Kernel7Ideal.Value.run_blocks m g, ?_⟩
  refine (θ_run Cert.Reference7Ideal.defs _ _).mono (fun r h c => ⟨?_, (h c).2⟩) (Cert.Reference7Ideal.Value.run (F := Ideal) m' g')
  obtain ⟨a0, a1⟩ := hag c
  refine (h c).1.trans ?_
  rw [Cert.Reference7Ideal.Read.val_main_v15_eq, a0, a1]
  funext i
  obtain ⟨i, j, rfl⟩ : ∃ (a : Fin 24576) (b : Fin 128), i = ix2 a b := ⟨i 0, i 1, by funext a; fin_cases a <;> rfl⟩
  exact (reference_at _ _ i j).trans (result_at m c i j).symm

end Cert.SmallProj
end
-- ==== Proof.LayerMath.lean ====
/-
  The remaining steps of a layer as formulas over the extended reals, with no program in them.
-/
module

public import Idealize.ShloMosaic.Lib.Pointwise

@[expose] public section

noncomputable section

namespace Cert.Layer

open Idealize.ShloMosaic

/-- The tokens' activations. -/
abbrev Tokens := (⟨2, ![24576, 2048]⟩ : Shape).Idx → EReal

/-- Which row of a table of modulations a token takes: the prompts' tokens row 0, the samples' four sequences rows 1 to 4. -/
def modRow (i : Fin 24576) : Fin 8 := ⟨if i.val < 8192 then 0 else 1 + (i.val - 8192) / 4096, by split <;> omega⟩

/-- A token's residual with a gated update. -/
def resid (x : Tokens) (g : (⟨3, ![8, 1, 2048]⟩ : Shape).Idx → EReal) (d : EReal) (i : Fin 24576) (j : Fin 2048) : EReal :=
  x (ix2 i j) + g (ix3 (modRow i) 0 j) * d

/-- Row `i` of the merged branches times column `j` of the first layer's output weights. -/
def mixAt (a : Tokens) (w : (⟨3, ![2, 2048, 2048]⟩ : Shape).Idx → EReal) (i : Fin 24576) (j : Fin 2048) : EReal :=
  ∑ k : Fin 2048, a (ix2 i k) * w (ix3 0 k j)

/-- Row `i` of the merged branches times column `j` of a matrix. -/
def mixOf (a : Tokens) (w : (⟨2, ![2048, 2048]⟩ : Shape).Idx → EReal) (i : Fin 24576) (j : Fin 2048) : EReal :=
  ∑ k : Fin 2048, a (ix2 i k) * w (ix2 k j)

theorem mixOf_eq (a : Tokens) (w : (⟨3, ![2, 2048, 2048]⟩ : Shape).Idx → EReal) (v : (⟨2, ![2048, 2048]⟩ : Shape).Idx → EReal)
    (i : Fin 24576) (j : Fin 2048) (hv : ∀ k, v (ix2 k j) = w (ix3 0 k j)) : mixOf a v i j = mixAt a w i j :=
  Finset.sum_congr rfl fun k _ => by rw [hv]

/-- One branch's projection, gated by the logistic of its logits. -/
def branch (o : (⟨2, ![24576, 512]⟩ : Shape).Idx → EReal) (g : (⟨2, ![24576, 8192]⟩ : Shape).Idx → EReal)
    (w : (⟨4, ![2, 4, 512, 2048]⟩ : Shape).Idx → EReal) (n : Fin 4) (i : Fin 24576) (j : Fin 2048) : EReal :=
  Ideal.logistic (g (ix2 i ⟨2048 * n.val + j.val, by omega⟩)) * ∑ k : Fin 512, o (ix2 i k) * w (ix4 0 n k j)

/-- The four branches' sum. -/
def merged (a b c d : (⟨2, ![24576, 512]⟩ : Shape).Idx → EReal) (g : (⟨2, ![24576, 8192]⟩ : Shape).Idx → EReal)
    (w : (⟨4, ![2, 4, 512, 2048]⟩ : Shape).Idx → EReal) (i : Fin 24576) (j : Fin 2048) : EReal :=
  branch a g w 0 i j + branch b g w 1 i j + branch c g w 2 i j + branch d g w 3 i j

/-- Row `i` divided by the root of its mean square, times the norm's weights. -/
def normed (x : Tokens) (w : (⟨1, ![2048]⟩ : Shape).Idx → EReal) (i : Fin 24576) (j : Fin 2048) : EReal :=
  x (ix2 i j) * Ideal.rsqrt (Ideal.div (∑ k : Fin 2048, x (ix2 i k) * x (ix2 i k)) (Ideal.ofBits FTy.f32 0x45000000#32) + Ideal.ofBits FTy.f32 0x358637bd#32)
    * w (ix1 j)

/-- The weights of the first layer of the shared expert's input projections. -/
abbrev Up := (⟨3, ![2, 2048, 512]⟩ : Shape).Idx → EReal

/-- Row `i` times column `f` of an input projection of the shared expert. -/
def upAt (h : Tokens) (w : Up) (i : Fin 24576) (f : Fin 512) : EReal :=
  ∑ k : Fin 2048, h (ix2 i k) * w (ix3 0 k f)

/-- The shared expert: the gated product of its two input projections, projected back. -/
def sharedAt (h : Tokens) (w1 w3 : Up) (w2 : (⟨3, ![2, 512, 2048]⟩ : Shape).Idx → EReal) (i : Fin 24576) (j : Fin 2048) : EReal :=
  ∑ f : Fin 512, upAt h w1 i f * Ideal.logistic (upAt h w1 i f) * upAt h w3 i f * w2 (ix3 0 f j)

/-- Feature `j` of what expert slot `e` gave token `i`: the slots' rows one after another, the features in 16 groups of 128. -/
def slotAt (y : (⟨3, ![147456, 16, 128]⟩ : Shape).Idx → EReal) (e : Fin 6) (i : Fin 24576) (j : Fin 2048) : EReal :=
  y (ix3 ⟨e.val * 24576 + i.val, by omega⟩ ⟨j.val / 128, by omega⟩ ⟨j.val % 128, by omega⟩)

/-- The six slots' outputs, weighed by the token's routing weights. -/
def routedAt (y : (⟨3, ![147456, 16, 128]⟩ : Shape).Idx → EReal) (w : (⟨2, ![8, 24576]⟩ : Shape).Idx → EReal) (i : Fin 24576) (j : Fin 2048) : EReal :=
  ∑ e : Fin 6, slotAt y e i j * w (ix2 ⟨e.val, by omega⟩ i)

end Cert.Layer
end
-- ==== Proof.Merge.lean ====
/-
  The gated sum of the four branches: the kernel's blocks are the reference's rows and columns.
-/
module

public import proofs.«01_k».proof.Defs
public import proofs.«01_k».proof.Proof.LayerMath
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.Merge

open Cert.Kernel8Ideal Cert.Kernel8Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-! ## Which block each grid point reads and writes -/

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val / 2 ∧ win0_1.index t 1 = 0 :=
  (by decide +kernel : ∀ t : Fin grid0.N, win0_1.index t 0 = t.val / 2 ∧ win0_1.index t 1 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)
theorem idx4 : ∀ t : Fin cfg0.N, win0_4.index t 0 = t.val / 2 ∧ win0_4.index t 1 = 0 + t.val % 2 :=
  (by decide +kernel : ∀ t : Fin grid0.N, win0_4.index t 0 = t.val / 2 ∧ win0_4.index t 1 = 0 + t.val % 2)
theorem idx5 : ∀ t : Fin cfg0.N, win0_5.index t 0 = t.val / 2 ∧ win0_5.index t 1 = 2 + t.val % 2 :=
  (by decide +kernel : ∀ t : Fin grid0.N, win0_5.index t 0 = t.val / 2 ∧ win0_5.index t 1 = 2 + t.val % 2)
theorem idx6 : ∀ t : Fin cfg0.N, win0_6.index t 0 = t.val / 2 ∧ win0_6.index t 1 = 4 + t.val % 2 :=
  (by decide +kernel : ∀ t : Fin grid0.N, win0_6.index t 0 = t.val / 2 ∧ win0_6.index t 1 = 4 + t.val % 2)
theorem idx7 : ∀ t : Fin cfg0.N, win0_7.index t 0 = t.val / 2 ∧ win0_7.index t 1 = 6 + t.val % 2 :=
  (by decide +kernel : ∀ t : Fin grid0.N, win0_7.index t 0 = t.val / 2 ∧ win0_7.index t 1 = 6 + t.val % 2)
theorem idx8 : ∀ t : Fin cfg0.N, win0_8.index t 0 = 0 ∧ win0_8.index t 1 = 0 ∧ win0_8.index t 2 = t.val % 2 :=
  (by decide +kernel : ∀ t : Fin grid0.N, win0_8.index t 0 = 0 ∧ win0_8.index t 1 = 0 ∧ win0_8.index t 2 = t.val % 2)
theorem idx9 : ∀ t : Fin cfg0.N, win0_9.index t 0 = t.val / 2 ∧ win0_9.index t 1 = t.val % 2 :=
  (by decide +kernel : ∀ t : Fin grid0.N, win0_9.index t 0 = t.val / 2 ∧ win0_9.index t 1 = t.val % 2)

/-- Branch 0's block of rows. -/
theorem branch_block0 (c : Dev nD) (t : Fin cfg0.N) (p : Fin 512) (k : Fin 512) :
    iblk m c 0 t (ix2 p k) = m (c, main_arg0) (ix2 ⟨t.val / 2 * 512 + p.val, by have : t.val < 96 := t.isLt; omega⟩ k) := by
  blk_simp [iblk, V_main_arg0]
  blk_ext [idx0]

/-- Branch 1's block of rows. -/
theorem branch_block1 (c : Dev nD) (t : Fin cfg0.N) (p : Fin 512) (k : Fin 512) :
    iblk m c 1 t (ix2 p k) = m (c, main_arg1) (ix2 ⟨t.val / 2 * 512 + p.val, by have : t.val < 96 := t.isLt; omega⟩ k) := by
  blk_simp [iblk, V_main_arg1]
  blk_ext [idx1]

/-- Branch 2's block of rows. -/
theorem branch_block2 (c : Dev nD) (t : Fin cfg0.N) (p : Fin 512) (k : Fin 512) :
    iblk m c 2 t (ix2 p k) = m (c, main_arg2) (ix2 ⟨t.val / 2 * 512 + p.val, by have : t.val < 96 := t.isLt; omega⟩ k) := by
  blk_simp [iblk, V_main_arg2]
  blk_ext [idx2]

/-- Branch 3's block of rows. -/
theorem branch_block3 (c : Dev nD) (t : Fin cfg0.N) (p : Fin 512) (k : Fin 512) :
    iblk m c 3 t (ix2 p k) = m (c, main_arg3) (ix2 ⟨t.val / 2 * 512 + p.val, by have : t.val < 96 := t.isLt; omega⟩ k) := by
  blk_simp [iblk, V_main_arg3]
  blk_ext [idx3]

/-- Branch 0's block of gates. -/
theorem gate_block0 (c : Dev nD) (t : Fin cfg0.N) (p : Fin 512) (q : Fin 1024) :
    iblk m c 4 t (ix2 p q) = m (c, main_arg4) (ix2 ⟨t.val / 2 * 512 + p.val, by have : t.val < 96 := t.isLt; omega⟩ ⟨(0 + t.val % 2) * 1024 + q.val, by omega⟩) := by
  blk_simp [iblk, V_main_arg4]
  blk_ext [idx4]

/-- Branch 1's block of gates. -/
theorem gate_block1 (c : Dev nD) (t : Fin cfg0.N) (p : Fin 512) (q : Fin 1024) :
    iblk m c 5 t (ix2 p q) = m (c, main_arg4) (ix2 ⟨t.val / 2 * 512 + p.val, by have : t.val < 96 := t.isLt; omega⟩ ⟨(2 + t.val % 2) * 1024 + q.val, by omega⟩) := by
  blk_simp [iblk, V_main_arg4]
  blk_ext [idx5]

/-- Branch 2's block of gates. -/
theorem gate_block2 (c : Dev nD) (t : Fin cfg0.N) (p : Fin 512) (q : Fin 1024) :
    iblk m c 6 t (ix2 p q) = m (c, main_arg4) (ix2 ⟨t.val / 2 * 512 + p.val, by have : t.val < 96 := t.isLt; omega⟩ ⟨(4 + t.val % 2) * 1024 + q.val, by omega⟩) := by
  blk_simp [iblk, V_main_arg4]
  blk_ext [idx6]

/-- Branch 3's block of gates. -/
theorem gate_block3 (c : Dev nD) (t : Fin cfg0.N) (p : Fin 512) (q : Fin 1024) :
    iblk m c 7 t (ix2 p q) = m (c, main_arg4) (ix2 ⟨t.val / 2 * 512 + p.val, by have : t.val < 96 := t.isLt; omega⟩ ⟨(6 + t.val % 2) * 1024 + q.val, by omega⟩) := by
  blk_simp [iblk, V_main_arg4]
  blk_ext [idx7]

/-- The weights' block of columns. -/
theorem weight_block (c : Dev nD) (t : Fin cfg0.N) (n : Fin 4) (k : Fin 512) (q : Fin 1024) :
    iblk m c 8 t (ix3 n k q) = V m c main_v2 (ix3 n k ⟨t.val % 2 * 1024 + q.val, by omega⟩) := by
  blk_simp [iblk]
  blk_ext [idx8]

/-- The weights are the layer's. -/
theorem weight_apply (c : Dev nD) (n : Fin 4) (k : Fin 512) (j : Fin 2048) :
    V m c main_v2 (ix3 n k j) = m (c, main_arg5) (ix4 0 n k j) := by
  unfold V
  after_reads_at

/-- Where element `(p, q)` of point `t`'s output block lies in the array. -/
theorem out_emb (t : Fin cfg0.N) (p : Fin 512) (q : Fin 1024) :
    ((cfg0.win 9).blk t).view.emb (ix2 p q)
      = ix2 ⟨t.val / 2 * 512 + p.val, by have : t.val < 96 := t.isLt; omega⟩ ⟨t.val % 2 * 1024 + q.val, by omega⟩ := by
  blk_ext [idx9]

/-- One branch's term in a block. -/
def term (o : S512x512.Idx → EReal) (g : S512x1024.Idx → EReal) (w : S4x512x1024.Idx → EReal) (n : Fin 4) (p : Fin 512) (q : Fin 1024) : EReal :=
  Ideal.logistic (g (ix2 p q)) * ∑ k : Fin 512, o (ix2 p k) * w (ix3 n k q)

/-- The four terms' sum. -/
theorem out_apply (x0 x1 x2 x3 : Vec Ideal S512x512 .bf16) (x4 x5 x6 x7 : Vec Ideal S512x1024 .bf16) (x8 : Vec Ideal S4x512x1024 .bf16) (p : Fin 512) (q : Fin 1024) :
    out0_9 x0 x1 x2 x3 x4 x5 x6 x7 x8 (ix2 p q) = term x0 x4 x8 0 p q + term x1 x5 x8 1 p q + term x2 x6 x8 2 p q + term x3 x7 x8 3 p q := by
  have hz : (![0, 0] : Fin S512x1024.rank → Nat) = fun _ => 0 := funext fun a => by fin_cases a <;> rfl
  unfold out0_9 r0_0 term
  rw [View.canon_unit_zero hz]
  pointwise [k0_pay1, k0_pay2, k0_pay3, r0_0, r0_1, r0_2, r0_3, r0_4, r0_5]

/-- Branch 0's term at point `t` is the layer's. -/
theorem term0 (c : Dev nD) (t : Fin cfg0.N) (p : Fin 512) (q : Fin 1024) (i : Fin 24576) (j : Fin 2048)
    (hi : t.val / 2 * 512 + p.val = i.val) (hj : t.val % 2 * 1024 + q.val = j.val) :
    term (iblk m c 0 t) (iblk m c 4 t) (iblk m c 8 t) 0 p q = branch (m (c, main_arg0)) (m (c, main_arg4)) (m (c, main_arg5)) 0 i j := by
  unfold term branch
  refine congrArg₂ (· * ·) (congrArg Ideal.logistic ?_) (Finset.sum_congr rfl fun k _ => congrArg₂ (· * ·) ?_ ?_)
  · exact (gate_block0 m c t p q).trans (congrArg _ (congrArg₂ ix2 (Fin.ext hi) (Fin.ext (by
      show (0 + t.val % 2) * 1024 + q.val = 2048 * 0 + j.val
      omega))))
  · exact (branch_block0 m c t p k).trans (congrArg _ (congrArg (ix2 · k) (Fin.ext hi)))
  · exact (weight_block m c t 0 k q).trans ((weight_apply m c 0 k _).trans (congrArg _ (congrArg (ix4 0 0 k) (Fin.ext hj))))

/-- Branch 1's term at point `t` is the layer's. -/
theorem term1 (c : Dev nD) (t : Fin cfg0.N) (p : Fin 512) (q : Fin 1024) (i : Fin 24576) (j : Fin 2048)
    (hi : t.val / 2 * 512 + p.val = i.val) (hj : t.val % 2 * 1024 + q.val = j.val) :
    term (iblk m c 1 t) (iblk m c 5 t) (iblk m c 8 t) 1 p q = branch (m (c, main_arg1)) (m (c, main_arg4)) (m (c, main_arg5)) 1 i j := by
  unfold term branch
  refine congrArg₂ (· * ·) (congrArg Ideal.logistic ?_) (Finset.sum_congr rfl fun k _ => congrArg₂ (· * ·) ?_ ?_)
  · exact (gate_block1 m c t p q).trans (congrArg _ (congrArg₂ ix2 (Fin.ext hi) (Fin.ext (by
      show (2 + t.val % 2) * 1024 + q.val = 2048 * 1 + j.val
      omega))))
  · exact (branch_block1 m c t p k).trans (congrArg _ (congrArg (ix2 · k) (Fin.ext hi)))
  · exact (weight_block m c t 1 k q).trans ((weight_apply m c 1 k _).trans (congrArg _ (congrArg (ix4 0 1 k) (Fin.ext hj))))

/-- Branch 2's term at point `t` is the layer's. -/
theorem term2 (c : Dev nD) (t : Fin cfg0.N) (p : Fin 512) (q : Fin 1024) (i : Fin 24576) (j : Fin 2048)
    (hi : t.val / 2 * 512 + p.val = i.val) (hj : t.val % 2 * 1024 + q.val = j.val) :
    term (iblk m c 2 t) (iblk m c 6 t) (iblk m c 8 t) 2 p q = branch (m (c, main_arg2)) (m (c, main_arg4)) (m (c, main_arg5)) 2 i j := by
  unfold term branch
  refine congrArg₂ (· * ·) (congrArg Ideal.logistic ?_) (Finset.sum_congr rfl fun k _ => congrArg₂ (· * ·) ?_ ?_)
  · exact (gate_block2 m c t p q).trans (congrArg _ (congrArg₂ ix2 (Fin.ext hi) (Fin.ext (by
      show (4 + t.val % 2) * 1024 + q.val = 2048 * 2 + j.val
      omega))))
  · exact (branch_block2 m c t p k).trans (congrArg _ (congrArg (ix2 · k) (Fin.ext hi)))
  · exact (weight_block m c t 2 k q).trans ((weight_apply m c 2 k _).trans (congrArg _ (congrArg (ix4 0 2 k) (Fin.ext hj))))

/-- Branch 3's term at point `t` is the layer's. -/
theorem term3 (c : Dev nD) (t : Fin cfg0.N) (p : Fin 512) (q : Fin 1024) (i : Fin 24576) (j : Fin 2048)
    (hi : t.val / 2 * 512 + p.val = i.val) (hj : t.val % 2 * 1024 + q.val = j.val) :
    term (iblk m c 3 t) (iblk m c 7 t) (iblk m c 8 t) 3 p q = branch (m (c, main_arg3)) (m (c, main_arg4)) (m (c, main_arg5)) 3 i j := by
  unfold term branch
  refine congrArg₂ (· * ·) (congrArg Ideal.logistic ?_) (Finset.sum_congr rfl fun k _ => congrArg₂ (· * ·) ?_ ?_)
  · exact (gate_block3 m c t p q).trans (congrArg _ (congrArg₂ ix2 (Fin.ext hi) (Fin.ext (by
      show (6 + t.val % 2) * 1024 + q.val = 2048 * 3 + j.val
      omega))))
  · exact (branch_block3 m c t p k).trans (congrArg _ (congrArg (ix2 · k) (Fin.ext hi)))
  · exact (weight_block m c t 3 k q).trans ((weight_apply m c 3 k _).trans (congrArg _ (congrArg (ix4 0 3 k) (Fin.ext hj))))

/-- The kernel's result at an element. -/
theorem result_at (c : Dev nD) (i : Fin 24576) (j : Fin 2048) :
    (dats m 0 c).arrAt 9 cfg0.N (ix2 i j)
      = merged (m (c, main_arg0)) (m (c, main_arg1)) (m (c, main_arg2)) (m (c, main_arg3)) (m (c, main_arg4)) (m (c, main_arg5)) i j := by
  have hT : i.val / 512 * 2 + j.val / 1024 < cfg0.N := by show _ < 96; omega
  have e := congrFun (Cert.Kernel8Ideal.Value.blocks9 m c ⟨_, hT⟩ (flush0_9 _)) (ix2 ⟨i.val % 512, by omega⟩ ⟨j.val % 1024, by omega⟩)
  rw [Cert.Kernel8Ideal.Value.flushed9] at e
  have ei : (ix2 i j : S24576x2048.Idx) = ((cfg0.win 9).blk ⟨_, hT⟩).view.emb (ix2 ⟨i.val % 512, by omega⟩ ⟨j.val % 1024, by omega⟩) := by
    rw [out_emb]
    exact congrArg₂ ix2 (Fin.ext (by dsimp only; omega)) (Fin.ext (by dsimp only; omega))
  rw [ei]
  refine Eq.trans e ((out_apply _ _ _ _ _ _ _ _ _ _ _).trans ?_)
  unfold merged
  refine congrArg₂ (· + ·) (congrArg₂ (· + ·) (congrArg₂ (· + ·) ?_ ?_) ?_) ?_
  · exact (term0 m c _ _ _ i j (by dsimp only; omega) (by dsimp only; omega))
  · exact (term1 m c _ _ _ i j (by dsimp only; omega) (by dsimp only; omega))
  · exact (term2 m c _ _ _ i j (by dsimp only; omega) (by dsimp only; omega))
  · exact (term3 m c _ _ _ i j (by dsimp only; omega) (by dsimp only; omega))

/-- The reference's result at an element. -/
theorem reference_at (x0 x1 x2 x3 : (⟨S24576x512, .bf16⟩ : BufTy).Contents (Elt Ideal)) (x4 : (⟨S24576x8192, .bf16⟩ : BufTy).Contents (Elt Ideal)) (x5 : (⟨S2x4x512x2048, .f32⟩ : BufTy).Contents (Elt Ideal)) (i : Fin 24576) (j : Fin 2048) :
    Cert.Reference8Ideal.Read.val_main_v34 (F := Ideal) x0 x1 x2 x3 x4 x5 (ix2 i j) = merged x0 x1 x2 x3 x4 x5 i j := by
  pointwise [Cert.Reference8Ideal.Read.val_main_v0, Cert.Reference8Ideal.Read.val_main_v1, Cert.Reference8Ideal.Read.val_main_v2, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11, Cert.Reference8Ideal.Read.val_main_v12, Cert.Reference8Ideal.Read.val_main_v13, Cert.Reference8Ideal.Read.val_main_v14, Cert.Reference8Ideal.Read.val_main_v15, Cert.Reference8Ideal.Read.val_main_v16, Cert.Reference8Ideal.Read.val_main_v17, Cert.Reference8Ideal.Read.val_main_v18, Cert.Reference8Ideal.Read.val_main_v19, Cert.Reference8Ideal.Read.val_main_v20, Cert.Reference8Ideal.Read.val_main_v21, Cert.Reference8Ideal.Read.val_main_v22, Cert.Reference8Ideal.Read.val_main_v23, Cert.Reference8Ideal.Read.val_main_v24, Cert.Reference8Ideal.Read.val_main_v25, Cert.Reference8Ideal.Read.val_main_v26, Cert.Reference8Ideal.Read.val_main_v27, Cert.Reference8Ideal.Read.val_main_v28, Cert.Reference8Ideal.Read.val_main_v29, Cert.Reference8Ideal.Read.val_main_v30, Cert.Reference8Ideal.Read.val_main_v31, Cert.Reference8Ideal.Read.val_main_v32, Cert.Reference8Ideal.Read.val_main_v33, Cert.Reference8Ideal.Read.val_main_v34, Cert.Reference8Ideal.Read.val_main_cst, Cert.Reference8Ideal.Read.val_main_cst_0]
  have h0 : (⟨j.val, by omega⟩ : Fin 8192) = ⟨2048 * (0 : Fin 4).val + j.val, by have : (0 : Fin 4).val = 0 := rfl; omega⟩ :=
    Fin.ext (by have : (0 : Fin 4).val = 0 := rfl; dsimp only; omega)
  rw [h0]
  rfl

/-- The reference keeps its arguments and leaves every semaphore at zero. -/
theorem frame_r : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's array is the reference's, of the same arguments. -/
theorem algebraic : Cert.algebraic_Kernel8Ideal_Reference8Ideal := by
  intro m g m' g' hp hag
  refine ⟨fun c => (dats m 0 c).arrAt 9 cfg0.N, Cert.Kernel8Ideal.Value.run_blocks m g, ?_⟩
  refine (θ_run Cert.Reference8Ideal.defs _ _).mono (fun r h c => ⟨?_, (h c).2⟩) (Cert.Reference8Ideal.Value.run (F := Ideal) m' g')
  obtain ⟨a0, a1, a2, a3, a4, a5⟩ := hag c
  refine (h c).1.trans ?_
  rw [Cert.Reference8Ideal.Read.val_main_v34_eq, a0, a1, a2, a3, a4, a5]
  funext i
  obtain ⟨i, j, rfl⟩ : ∃ (a : Fin 24576) (b : Fin 2048), i = ix2 a b := ⟨i 0, i 1, by funext a; fin_cases a <;> rfl⟩
  exact (reference_at _ _ _ _ _ _ i j).trans (result_at m c i j).symm

end Cert.Merge
end
-- ==== Proof.OutProj.lean ====
/-
  The mixer's output projection and residual: the kernel's blocks are the reference's rows and columns.
-/
module

public import proofs.«01_k».proof.Defs
public import proofs.«01_k».proof.Proof.LayerMath
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.OutProj

open Cert.Kernel9Ideal Cert.Kernel9Ideal.Gen Idealize.ShloMosaic Idealize.ShloMosaic.TcCoe Idealize.SL.Sem
open Idealize.ShloMosaic.Pipeline (Dat)
open Cert.Layer (resid mixAt mixOf mixOf_eq modRow)

variable (m : (ℓ : Loc nD τ sig) → Buf (Elt Ideal) ℓ)

/-! ## Which block each grid point reads and writes -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = (if t.val / 4 < 8 then 0 else 1 + (t.val / 4 - 8) / 4) ∧ win0_3.index t 1 = 0 ∧ win0_3.index t 2 = t.val % 4 :=
  (by decide +kernel : ∀ t : Fin grid0.N, win0_3.index t 0 = (if t.val / 4 < 8 then 0 else 1 + (t.val / 4 - 8) / 4) ∧ win0_3.index t 1 = 0 ∧ win0_3.index t 2 = t.val % 4)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

/-- The row of the gates' table that point `t` reads. -/
def gateRow (t : Fin cfg0.N) : Fin 8 :=
  ⟨if t.val / 4 < 8 then 0 else 1 + (t.val / 4 - 8) / 4, by have : t.val < 96 := t.isLt; split <;> omega⟩

/-- The rows' block of point `t`. -/
theorem row_block (c : Dev nD) (t : Fin cfg0.N) (p : Fin 1024) (k : Fin 2048) :
    iblk m c 0 t (ix2 p k) = m (c, main_arg0) (ix2 ⟨t.val / 4 * 1024 + p.val, by have : t.val < 96 := t.isLt; omega⟩ k) := by
  blk_simp [iblk, V_main_arg0]
  blk_ext [idx0]

/-- The columns' block of point `t`. -/
theorem col_block (c : Dev nD) (t : Fin cfg0.N) (k : Fin 2048) (q : Fin 512) :
    iblk m c 1 t (ix2 k q) = V m c main_v2 (ix2 k ⟨t.val % 4 * 512 + q.val, by omega⟩) := by
  blk_simp [iblk]
  blk_ext [idx1]

/-- The residual's block of point `t`. -/
theorem res_block (c : Dev nD) (t : Fin cfg0.N) (p : Fin 1024) (q : Fin 512) :
    iblk m c 2 t (ix2 p q) = m (c, main_arg2) (ix2 ⟨t.val / 4 * 1024 + p.val, by have : t.val < 96 := t.isLt; omega⟩ ⟨t.val % 4 * 512 + q.val, by omega⟩) := by
  blk_simp [iblk, V_main_arg2]
  blk_ext [idx2]

/-- The gates' block of point `t`. -/
theorem gate_block (c : Dev nD) (t : Fin cfg0.N) (q : Fin 512) :
    iblk m c 3 t (ix3 0 0 q) = m (c, main_arg3) (ix3 (gateRow t) 0 ⟨t.val % 4 * 512 + q.val, by omega⟩) := by
  unfold gateRow
  blk_simp [iblk, V_main_arg3]
  blk_ext [idx3]

/-- The residual plus the gated product of the blocks. -/
theorem out_apply (x0 : Vec Ideal S1024x2048 .bf16) (x1 : Vec Ideal S2048x512 .bf16) (x2 : Vec Ideal S1024x512 .f32) (x3 : Vec Ideal S1x1x512 .f32) (p : Fin 1024) (q : Fin 512) :
    out0_4 x0 x1 x2 x3 (ix2 p q) = x2 (ix2 p q) + x3 (ix3 0 0 q) * ∑ k : Fin 2048, x0 (ix2 p k) * x1 (ix2 k q) := by
  have hz : (![0, 0] : Fin S1024x512.rank → Nat) = fun _ => 0 := funext fun a => by fin_cases a <;> rfl
  unfold out0_4 r0_2
  rw [View.canon_unit_zero hz]
  pointwise [k0_pay1, r0_0, r0_1, r0_2, r0_3]

/-- Where element `(p, q)` of point `t`'s output block lies in the array. -/
theorem out_emb (t : Fin cfg0.N) (p : Fin 1024) (q : Fin 512) :
    ((cfg0.win 4).blk t).view.emb (ix2 p q)
      = ix2 ⟨t.val / 4 * 1024 + p.val, by have : t.val < 96 := t.isLt; omega⟩ ⟨t.val % 4 * 512 + q.val, by omega⟩ := by
  blk_ext [idx4]

/-- An element of the result from the packed weights. -/
theorem arr_at (c : Dev nD) (i : Fin 24576) (j : Fin 2048) :
    (dats m 0 c).arrAt 4 cfg0.N (ix2 i j)
      = resid (m (c, main_arg2)) (m (c, main_arg3)) (mixOf (m (c, main_arg0)) (V m c main_v2) i j) i j := by
  have hT : i.val / 1024 * 4 + j.val / 512 < cfg0.N := by show _ < 96; omega
  have e := congrFun (Cert.Kernel9Ideal.Value.blocks4 m c ⟨_, hT⟩ (flush0_4 _)) (ix2 ⟨i.val % 1024, by omega⟩ ⟨j.val % 512, by omega⟩)
  rw [Cert.Kernel9Ideal.Value.flushed4] at e
  have ei : (ix2 i j : S24576x2048.Idx) = ((cfg0.win 4).blk ⟨_, hT⟩).view.emb (ix2 ⟨i.val % 1024, by omega⟩ ⟨j.val % 512, by omega⟩) := by
    rw [out_emb]
    exact congrArg₂ ix2 (Fin.ext (by dsimp only; omega)) (Fin.ext (by dsimp only; omega))
  have hg : gateRow ⟨i.val / 1024 * 4 + j.val / 512, hT⟩ = modRow i := Fin.ext (by
    unfold gateRow modRow
    dsimp only
    split <;> split <;> omega)
  rw [ei]
  refine Eq.trans e ((out_apply _ _ _ _ _ _).trans (congrArg₂ (· + ·) ?_ (congrArg₂ (· * ·) ?_ (Finset.sum_congr rfl fun k _ => congrArg₂ (· * ·) ?_ ?_))))
  · exact (res_block m c _ _ _).trans (congrArg _ (congrArg₂ ix2 (Fin.ext (by dsimp only; omega)) (Fin.ext (by dsimp only; omega))))
  · exact (gate_block m c _ _).trans (congrArg _ (congrArg₂ (ix3 · 0 ·) hg (Fin.ext (by dsimp only; omega))))
  · exact (row_block m c _ _ _).trans (congrArg _ (congrArg (ix2 · k) (Fin.ext (by dsimp only; omega))))
  · exact (col_block m c _ _ _).trans (congrArg _ (congrArg (ix2 k) (Fin.ext (by dsimp only; omega))))

/-- The packed weights are the layer's. -/
theorem weight_apply (c : Dev nD) (k : Fin 2048) (j : Fin 2048) :
    V m c main_v2 (ix2 k j) = m (c, main_arg1) (ix3 0 k j) := by
  unfold V
  after_reads_at

/-- The kernel's result at an element. -/
theorem result_at (c : Dev nD) (i : Fin 24576) (j : Fin 2048) :
    (dats m 0 c).arrAt 4 cfg0.N (ix2 i j)
      = resid (m (c, main_arg2)) (m (c, main_arg3)) (mixAt (m (c, main_arg0)) (m (c, main_arg1)) i j) i j :=
  (arr_at m c i j).trans (congrArg (resid _ _ · i j) (mixOf_eq _ _ _ _ _ fun k => weight_apply m c k j))

/-- The reference's result at an element. -/
theorem reference_at (x0 : (⟨S24576x2048, .bf16⟩ : BufTy).Contents (Elt Ideal)) (x1 : (⟨S2x2048x2048, .f32⟩ : BufTy).Contents (Elt Ideal))
    (x2 : (⟨S24576x2048, .f32⟩ : BufTy).Contents (Elt Ideal)) (x3 : (⟨S8x1x2048, .f32⟩ : BufTy).Contents (Elt Ideal)) (i : Fin 24576) (j : Fin 2048) :
    Cert.Reference9Ideal.Read.val_main_v20 (F := Ideal) x0 x1 x2 x3 (ix2 i j) = resid x2 x3 (mixAt x0 x1 i j) i j := by
  unfold resid mixAt
  pointwise [Cert.Reference9Ideal.Read.val_main_v0, Cert.Reference9Ideal.Read.val_main_v1, Cert.Reference9Ideal.Read.val_main_v2, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16, Cert.Reference9Ideal.Read.val_main_v17, Cert.Reference9Ideal.Read.val_main_v18, Cert.Reference9Ideal.Read.val_main_v19, Cert.Reference9Ideal.Read.val_main_v20]
  split
  · rename_i h
    rw [show modRow i = 0 from Fin.ext (by unfold modRow; dsimp only; rw [if_pos h]; rfl)]
  · rename_i h
    rw [show modRow i = ⟨1 + (i.val - 8192) / 4096, by have := i.isLt; omega⟩ from Fin.ext (by unfold modRow; dsimp only; rw [if_neg h])]
    have hi : (⟨8192 + ((i.val - 8192) / 4096 * 4096 + (i.val - 8192) % 4096), by have := i.isLt; omega⟩ : Fin 24576) = i := Fin.ext (by dsimp only; omega)
    rw [hi]

/-- The reference keeps its arguments and leaves every semaphore at zero. -/
theorem frame_r : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel's array is the reference's, of the same arguments. -/
theorem algebraic : Cert.algebraic_Kernel9Ideal_Reference9Ideal := by
  intro m g m' g' hp hag
  refine ⟨fun c => (dats m 0 c).arrAt 4 cfg0.N, Cert.Kernel9Ideal.Value.run_blocks m g, ?_⟩
  refine (θ_run Cert.Reference9Ideal.defs _ _).mono (fun r h c => ⟨?_, (h c).2⟩) (Cert.Reference9Ideal.Value.run (F := Ideal) m' g')
  obtain ⟨a0, a1, a2, a3⟩ := hag c
  refine (h c).1.trans ?_
  rw [Cert.Reference9Ideal.Read.val_main_v20_eq, a0, a1, a2, a3]
  funext i
  obtain ⟨i, j, rfl⟩ : ∃ (a : Fin 24576) (b : Fin 2048), i = ix2 a b := ⟨i 0, i 1, by funext a; fin_cases a <;> rfl⟩
  exact (reference_at _ _ _ _ i j).trans (result_at m c i j).symm

end Cert.OutProj
end
-- ==== Proof.Combine.lean ====
/-
  The shared expert, the routed experts' weighted sum and the residual: the kernel's blocks are the reference's rows.
-/
module

public import proofs.«01_k».proof.Defs
public import proofs.«01_k».proof.Proof.LayerMath
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.Combine

open Cert.Kernel10Ideal Cert.Kernel10Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-! ## Which block each grid point reads and writes -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 + t.val ∧ win0_2.index t 1 = 0 ∧ win0_2.index t 2 = 0 :=
  (by decide +kernel : ∀ t : Fin grid0.N, win0_2.index t 0 = 0 + t.val ∧ win0_2.index t 1 = 0 ∧ win0_2.index t 2 = 0)
theorem idx3 : ∀ t : Fin cfg0.N, win0_3.index t 0 = 96 + t.val ∧ win0_3.index t 1 = 0 ∧ win0_3.index t 2 = 0 :=
  (by decide +kernel : ∀ t : Fin grid0.N, win0_3.index t 0 = 96 + t.val ∧ win0_3.index t 1 = 0 ∧ win0_3.index t 2 = 0)
theorem idx4 : ∀ t : Fin cfg0.N, win0_4.index t 0 = 192 + t.val ∧ win0_4.index t 1 = 0 ∧ win0_4.index t 2 = 0 :=
  (by decide +kernel : ∀ t : Fin grid0.N, win0_4.index t 0 = 192 + t.val ∧ win0_4.index t 1 = 0 ∧ win0_4.index t 2 = 0)
theorem idx5 : ∀ t : Fin cfg0.N, win0_5.index t 0 = 288 + t.val ∧ win0_5.index t 1 = 0 ∧ win0_5.index t 2 = 0 :=
  (by decide +kernel : ∀ t : Fin grid0.N, win0_5.index t 0 = 288 + t.val ∧ win0_5.index t 1 = 0 ∧ win0_5.index t 2 = 0)
theorem idx6 : ∀ t : Fin cfg0.N, win0_6.index t 0 = 384 + t.val ∧ win0_6.index t 1 = 0 ∧ win0_6.index t 2 = 0 :=
  (by decide +kernel : ∀ t : Fin grid0.N, win0_6.index t 0 = 384 + t.val ∧ win0_6.index t 1 = 0 ∧ win0_6.index t 2 = 0)
theorem idx7 : ∀ t : Fin cfg0.N, win0_7.index t 0 = 480 + t.val ∧ win0_7.index t 1 = 0 ∧ win0_7.index t 2 = 0 :=
  (by decide +kernel : ∀ t : Fin grid0.N, win0_7.index t 0 = 480 + t.val ∧ win0_7.index t 1 = 0 ∧ win0_7.index t 2 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = (if t.val < 32 then 0 else 1 + (t.val - 32) / 16) ∧ win0_12.index t 1 = 0 ∧ win0_12.index t 2 = 0 :=
  (by decide +kernel : ∀ t : Fin grid0.N, win0_12.index t 0 = (if t.val < 32 then 0 else 1 + (t.val - 32) / 16) ∧ win0_12.index t 1 = 0 ∧ win0_12.index t 2 = 0)
theorem idx13 : ∀ t : Fin cfg0.N, win0_13.index t 0 = t.val ∧ win0_13.index t 1 = 0 :=
  (by decide +kernel : ∀ t : Fin grid0.N, win0_13.index t 0 = t.val ∧ win0_13.index t 1 = 0)

theorem res_block (c : Dev nD) (t : Fin cfg0.N) (p : Fin 256) (k : Fin 2048) :
    iblk m c 0 t (ix2 p k) = m (c, main_arg0) (ix2 ⟨t.val * 256 + p.val, by have : t.val < 96 := t.isLt; omega⟩ k) := by
  blk_simp [iblk, V_main_arg0]
  blk_ext [idx0]

theorem row_block (c : Dev nD) (t : Fin cfg0.N) (p : Fin 256) (k : Fin 2048) :
    iblk m c 1 t (ix2 p k) = m (c, main_arg1) (ix2 ⟨t.val * 256 + p.val, by have : t.val < 96 := t.isLt; omega⟩ k) := by
  blk_simp [iblk, V_main_arg1]
  blk_ext [idx1]

/-- The token's expert 0's block. -/
theorem expert_block0 (c : Dev nD) (t : Fin cfg0.N) (p : Fin 256) (s : Fin 16) (l : Fin 128) :
    iblk m c 2 t (ix3 p s l) = m (c, main_arg2) (ix3 ⟨(0 + t.val) * 256 + p.val, by have : t.val < 96 := t.isLt; omega⟩ s l) := by
  blk_simp [iblk, V_main_arg2]
  blk_ext [idx2]

/-- The token's expert 1's block. -/
theorem expert_block1 (c : Dev nD) (t : Fin cfg0.N) (p : Fin 256) (s : Fin 16) (l : Fin 128) :
    iblk m c 3 t (ix3 p s l) = m (c, main_arg2) (ix3 ⟨(96 + t.val) * 256 + p.val, by have : t.val < 96 := t.isLt; omega⟩ s l) := by
  blk_simp [iblk, V_main_arg2]
  blk_ext [idx3]

/-- The token's expert 2's block. -/
theorem expert_block2 (c : Dev nD) (t : Fin cfg0.N) (p : Fin 256) (s : Fin 16) (l : Fin 128) :
    iblk m c 4 t (ix3 p s l) = m (c, main_arg2) (ix3 ⟨(192 + t.val) * 256 + p.val, by have : t.val < 96 := t.isLt; omega⟩ s l) := by
  blk_simp [iblk, V_main_arg2]
  blk_ext [idx4]

/-- The token's expert 3's block. -/
theorem expert_block3 (c : Dev nD) (t : Fin cfg0.N) (p : Fin 256) (s : Fin 16) (l : Fin 128) :
    iblk m c 5 t (ix3 p s l) = m (c, main_arg2) (ix3 ⟨(288 + t.val) * 256 + p.val, by have : t.val < 96 := t.isLt; omega⟩ s l) := by
  blk_simp [iblk, V_main_arg2]
  blk_ext [idx5]

/-- The token's expert 4's block. -/
theorem expert_block4 (c : Dev nD) (t : Fin cfg0.N) (p : Fin 256) (s : Fin 16) (l : Fin 128) :
    iblk m c 6 t (ix3 p s l) = m (c, main_arg2) (ix3 ⟨(384 + t.val) * 256 + p.val, by have : t.val < 96 := t.isLt; omega⟩ s l) := by
  blk_simp [iblk, V_main_arg2]
  blk_ext [idx6]

/-- The token's expert 5's block. -/
theorem expert_block5 (c : Dev nD) (t : Fin cfg0.N) (p : Fin 256) (s : Fin 16) (l : Fin 128) :
    iblk m c 7 t (ix3 p s l) = m (c, main_arg2) (ix3 ⟨(480 + t.val) * 256 + p.val, by have : t.val < 96 := t.isLt; omega⟩ s l) := by
  blk_simp [iblk, V_main_arg2]
  blk_ext [idx7]

/-- The routing weights' block. -/
theorem wts_block (c : Dev nD) (t : Fin cfg0.N) (p : Fin 256) (k : Fin 8) :
    iblk m c 8 t (ix2 p k) = m (c, main_arg3) (ix2 k ⟨t.val * 256 + p.val, by have : t.val < 96 := t.isLt; omega⟩) := by
  have e : iblk m c 8 t (ix2 p k) = V m c main_v0 (ix2 ⟨t.val * 256 + p.val, by have : t.val < 96 := t.isLt; omega⟩ k) := by
    blk_simp [iblk]
    blk_ext [idx8]
  refine e.trans ?_
  unfold V
  after_reads_at

/-- The shared expert's weights. -/
theorem shared_block9 (c : Dev nD) (t : Fin cfg0.N) (k : Fin 2048) (j : Fin 512) :
    iblk m c 9 t (ix2 k j) = m (c, main_arg4) (ix3 0 k j) := by
  have e : iblk m c 9 t (ix2 k j) = V m c main_v3 (ix2 k j) := by
    blk_simp [iblk]
    blk_ext [idx9]
  refine e.trans ?_
  unfold V
  after_reads_at

/-- The shared expert's weights. -/
theorem shared_block10 (c : Dev nD) (t : Fin cfg0.N) (k : Fin 2048) (j : Fin 512) :
    iblk m c 10 t (ix2 k j) = m (c, main_arg5) (ix3 0 k j) := by
  have e : iblk m c 10 t (ix2 k j) = V m c main_v6 (ix2 k j) := by
    blk_simp [iblk]
    blk_ext [idx10]
  refine e.trans ?_
  unfold V
  after_reads_at

/-- The shared expert's weights. -/
theorem shared_block11 (c : Dev nD) (t : Fin cfg0.N) (k : Fin 512) (j : Fin 2048) :
    iblk m c 11 t (ix2 k j) = m (c, main_arg6) (ix3 0 k j) := by
  have e : iblk m c 11 t (ix2 k j) = V m c main_v9 (ix2 k j) := by
    blk_simp [iblk]
    blk_ext [idx11]
  refine e.trans ?_
  unfold V
  after_reads_at

/-- The row of the gates' table that point `t` reads. -/
def gateRow (t : Fin cfg0.N) : Fin 8 :=
  ⟨if t.val < 32 then 0 else 1 + (t.val - 32) / 16, by have : t.val < 96 := t.isLt; split <;> omega⟩

/-- The gates' block. -/
theorem gate_block (c : Dev nD) (t : Fin cfg0.N) (q : Fin 2048) :
    iblk m c 12 t (ix3 0 0 q) = m (c, main_arg7) (ix3 (gateRow t) 0 q) := by
  unfold gateRow
  blk_simp [iblk, V_main_arg7]
  blk_ext [idx12]

/-- Where element `(p, q)` of point `t`'s output block lies in the array. -/
theorem out_emb (t : Fin cfg0.N) (p : Fin 256) (q : Fin 2048) :
    ((cfg0.win 13).blk t).view.emb (ix2 p q) = ix2 ⟨t.val * 256 + p.val, by have : t.val < 96 := t.isLt; omega⟩ q := by
  blk_ext [idx13]

/-- The block's groups of features. -/
def slab (x : Vec Ideal S256x16x128 .f32) : Fin 16 → (S256x128.Idx → EReal) :=
  ![shapeCast S256x128 (View.ld x r0_3) shapeCasts_S256x1x128_S256x128, shapeCast S256x128 (View.ld x r0_4) shapeCasts_S256x1x128_S256x128, shapeCast S256x128 (View.ld x r0_5) shapeCasts_S256x1x128_S256x128, shapeCast S256x128 (View.ld x r0_6) shapeCasts_S256x1x128_S256x128, shapeCast S256x128 (View.ld x r0_7) shapeCasts_S256x1x128_S256x128, shapeCast S256x128 (View.ld x r0_8) shapeCasts_S256x1x128_S256x128, shapeCast S256x128 (View.ld x r0_9) shapeCasts_S256x1x128_S256x128, shapeCast S256x128 (View.ld x r0_10) shapeCasts_S256x1x128_S256x128, shapeCast S256x128 (View.ld x r0_11) shapeCasts_S256x1x128_S256x128, shapeCast S256x128 (View.ld x r0_12) shapeCasts_S256x1x128_S256x128, shapeCast S256x128 (View.ld x r0_13) shapeCasts_S256x1x128_S256x128, shapeCast S256x128 (View.ld x r0_14) shapeCasts_S256x1x128_S256x128, shapeCast S256x128 (View.ld x r0_15) shapeCasts_S256x1x128_S256x128, shapeCast S256x128 (View.ld x r0_16) shapeCasts_S256x1x128_S256x128, shapeCast S256x128 (View.ld x r0_17) shapeCasts_S256x1x128_S256x128, shapeCast S256x128 (View.ld x r0_18) shapeCasts_S256x1x128_S256x128]

/-- Group `n` of the block. -/
theorem slab_apply (x : Vec Ideal S256x16x128 .f32) (p : Fin 256) (l : Fin 128) : ∀ n : Fin 16, slab x n (ix2 p l) = x (ix3 p n l) := by
  intro n
  fin_cases n
  · show (shapeCast S256x128 (View.ld x r0_3) shapeCasts_S256x1x128_S256x128) _ = _
    pointwise [r0_3]
  · show (shapeCast S256x128 (View.ld x r0_4) shapeCasts_S256x1x128_S256x128) _ = _
    pointwise [r0_4]
  · show (shapeCast S256x128 (View.ld x r0_5) shapeCasts_S256x1x128_S256x128) _ = _
    pointwise [r0_5]
  · show (shapeCast S256x128 (View.ld x r0_6) shapeCasts_S256x1x128_S256x128) _ = _
    pointwise [r0_6]
  · show (shapeCast S256x128 (View.ld x r0_7) shapeCasts_S256x1x128_S256x128) _ = _
    pointwise [r0_7]
  · show (shapeCast S256x128 (View.ld x r0_8) shapeCasts_S256x1x128_S256x128) _ = _
    pointwise [r0_8]
  · show (shapeCast S256x128 (View.ld x r0_9) shapeCasts_S256x1x128_S256x128) _ = _
    pointwise [r0_9]
  · show (shapeCast S256x128 (View.ld x r0_10) shapeCasts_S256x1x128_S256x128) _ = _
    pointwise [r0_10]
  · show (shapeCast S256x128 (View.ld x r0_11) shapeCasts_S256x1x128_S256x128) _ = _
    pointwise [r0_11]
  · show (shapeCast S256x128 (View.ld x r0_12) shapeCasts_S256x1x128_S256x128) _ = _
    pointwise [r0_12]
  · show (shapeCast S256x128 (View.ld x r0_13) shapeCasts_S256x1x128_S256x128) _ = _
    pointwise [r0_13]
  · show (shapeCast S256x128 (View.ld x r0_14) shapeCasts_S256x1x128_S256x128) _ = _
    pointwise [r0_14]
  · show (shapeCast S256x128 (View.ld x r0_15) shapeCasts_S256x1x128_S256x128) _ = _
    pointwise [r0_15]
  · show (shapeCast S256x128 (View.ld x r0_16) shapeCasts_S256x1x128_S256x128) _ = _
    pointwise [r0_16]
  · show (shapeCast S256x128 (View.ld x r0_17) shapeCasts_S256x1x128_S256x128) _ = _
    pointwise [r0_17]
  · show (shapeCast S256x128 (View.ld x r0_18) shapeCasts_S256x1x128_S256x128) _ = _
    pointwise [r0_18]

/-- A block's 16 groups of features side by side. -/
theorem slabs (x : Vec Ideal S256x16x128 .f32) :
    (concatenate S256x2048 1 [⟨S256x128, shapeCast S256x128 (View.ld x r0_3) shapeCasts_S256x1x128_S256x128⟩, ⟨S256x128, shapeCast S256x128 (View.ld x r0_4) shapeCasts_S256x1x128_S256x128⟩, ⟨S256x128, shapeCast S256x128 (View.ld x r0_5) shapeCasts_S256x1x128_S256x128⟩, ⟨S256x128, shapeCast S256x128 (View.ld x r0_6) shapeCasts_S256x1x128_S256x128⟩, ⟨S256x128, shapeCast S256x128 (View.ld x r0_7) shapeCasts_S256x1x128_S256x128⟩, ⟨S256x128, shapeCast S256x128 (View.ld x r0_8) shapeCasts_S256x1x128_S256x128⟩, ⟨S256x128, shapeCast S256x128 (View.ld x r0_9) shapeCasts_S256x1x128_S256x128⟩, ⟨S256x128, shapeCast S256x128 (View.ld x r0_10) shapeCasts_S256x1x128_S256x128⟩, ⟨S256x128, shapeCast S256x128 (View.ld x r0_11) shapeCasts_S256x1x128_S256x128⟩, ⟨S256x128, shapeCast S256x128 (View.ld x r0_12) shapeCasts_S256x1x128_S256x128⟩, ⟨S256x128, shapeCast S256x128 (View.ld x r0_13) shapeCasts_S256x1x128_S256x128⟩, ⟨S256x128, shapeCast S256x128 (View.ld x r0_14) shapeCasts_S256x1x128_S256x128⟩, ⟨S256x128, shapeCast S256x128 (View.ld x r0_15) shapeCasts_S256x1x128_S256x128⟩, ⟨S256x128, shapeCast S256x128 (View.ld x r0_16) shapeCasts_S256x1x128_S256x128⟩, ⟨S256x128, shapeCast S256x128 (View.ld x r0_17) shapeCasts_S256x1x128_S256x128⟩, ⟨S256x128, shapeCast S256x128 (View.ld x r0_18) shapeCasts_S256x1x128_S256x128⟩] concatenates_S256x128_S256x128_S256x128_S256x128_S256x128_S256x128_S256x128_S256x128_S256x128_S256x128_S256x128_S256x128_S256x128_S256x128_S256x128_S256x128_S256x2048_d1 : FVec Ideal S256x2048 .f32)
      = fun i => x (ix3 (i 0) ⟨(i 1).val / 128, by have : (i 1).val < 2048 := (i 1).isLt; omega⟩ ⟨(i 1).val % 128, by omega⟩) := by
  funext i
  obtain ⟨p, q, rfl⟩ : ∃ (a : Fin 256) (b : Fin 2048), i = ix2 a b := ⟨i 0, i 1, by funext a; fin_cases a <;> rfl⟩
  refine (concatenate_ofFn_apply (t := S256x2048) (s₁ := S256x128) 1 (slab x) concatenates_S256x128_S256x128_S256x128_S256x128_S256x128_S256x128_S256x128_S256x128_S256x128_S256x128_S256x128_S256x128_S256x128_S256x128_S256x128_S256x128_S256x2048_d1 rfl 128 rfl (ix2 p q) ⟨q.val / 128, by omega⟩ rfl (ix2 p ⟨q.val % 128, by omega⟩) rfl ?_).trans (slab_apply x p _ _)
  intro b hb
  fin_cases b
  · rfl
  · exact absurd rfl hb

/-- The shared expert of a block's row. -/
def blockShared (h : Vec Ideal S256x2048 .f32) (w1 w3 : Vec Ideal S2048x512 .bf16) (w2 : Vec Ideal S512x2048 .bf16) (p : Fin 256) (q : Fin 2048) : EReal :=
  ∑ f : Fin 512, (∑ k : Fin 2048, h (ix2 p k) * w1 (ix2 k f)) * Ideal.logistic (∑ k : Fin 2048, h (ix2 p k) * w1 (ix2 k f))
    * (∑ k : Fin 2048, h (ix2 p k) * w3 (ix2 k f)) * w2 (ix2 f q)

/-- What the body leaves at an element: the residual with the gated sum of the six slots and the shared expert. -/
theorem out_apply (x0 x1 : Vec Ideal S256x2048 .f32) (x2 x3 x4 x5 x6 x7 : Vec Ideal S256x16x128 .f32) (x8 : Vec Ideal S256x8 .f32)
    (x9 x10 : Vec Ideal S2048x512 .bf16) (x11 : Vec Ideal S512x2048 .bf16) (x12 : Vec Ideal S1x1x2048 .f32) (p : Fin 256) (q : Fin 2048) :
    out0_13 x0 x1 x2 x3 x4 x5 x6 x7 x8 x9 x10 x11 x12 (ix2 p q)
      = x0 (ix2 p q) + x12 (ix3 0 0 q) * (x2 (ix3 p ⟨q.val / 128, by omega⟩ ⟨q.val % 128, by omega⟩) * x8 (ix2 p 0)
        + x3 (ix3 p ⟨q.val / 128, by omega⟩ ⟨q.val % 128, by omega⟩) * x8 (ix2 p 1)
        + x4 (ix3 p ⟨q.val / 128, by omega⟩ ⟨q.val % 128, by omega⟩) * x8 (ix2 p 2)
        + x5 (ix3 p ⟨q.val / 128, by omega⟩ ⟨q.val % 128, by omega⟩) * x8 (ix2 p 3)
        + x6 (ix3 p ⟨q.val / 128, by omega⟩ ⟨q.val % 128, by omega⟩) * x8 (ix2 p 4)
        + x7 (ix3 p ⟨q.val / 128, by omega⟩ ⟨q.val % 128, by omega⟩) * x8 (ix2 p 5)
        + blockShared x1 x9 x10 x11 p q) := by
  have hz : (![0, 0] : Fin S256x2048.rank → Nat) = fun _ => 0 := funext fun a => by fin_cases a <;> rfl
  unfold out0_13 r0_0 blockShared
  rw [View.canon_unit_zero hz]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  simp only [slabs]
  pointwise [r0_1, r0_2, r0_19, r0_20, r0_21, r0_22, r0_23, r0_24, r0_25]

set_option maxHeartbeats 1000000 in
/-- The reference's result at an element. -/
theorem reference_at (x0 x1 : (⟨S24576x2048, .f32⟩ : BufTy).Contents (Elt Ideal)) (x2 : (⟨S147456x16x128, .f32⟩ : BufTy).Contents (Elt Ideal))
    (x3 : (⟨S8x24576, .f32⟩ : BufTy).Contents (Elt Ideal)) (x4 x5 : (⟨S2x2048x512, .f32⟩ : BufTy).Contents (Elt Ideal))
    (x6 : (⟨S2x512x2048, .f32⟩ : BufTy).Contents (Elt Ideal)) (x7 : (⟨S8x1x2048, .f32⟩ : BufTy).Contents (Elt Ideal)) (i : Fin 24576) (j : Fin 2048) :
    Cert.Reference10Ideal.Read.val_main_v34 (F := Ideal) x0 x1 x2 x3 x4 x5 x6 x7 (ix2 i j)
      = resid x0 x7 (routedAt x2 x3 i j + sharedAt x1 x4 x5 x6 i j) i j := by
  unfold resid routedAt slotAt sharedAt upAt
  pointwise [Cert.Reference10Ideal.Read.val_main_v0, Cert.Reference10Ideal.Read.val_main_v1, Cert.Reference10Ideal.Read.val_main_v2, Cert.Reference10Ideal.Read.val_main_v3, Cert.Reference10Ideal.Read.val_main_v4, Cert.Reference10Ideal.Read.val_main_cst, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_call0_v0, Cert.Reference10Ideal.Read.val_main_call0_v1, Cert.Reference10Ideal.Read.val_main_call0_cst, Cert.Reference10Ideal.Read.val_main_call0_v2, Cert.Reference10Ideal.Read.val_main_call0_v3, Cert.Reference10Ideal.Read.val_main_call0_cst_0, Cert.Reference10Ideal.Read.val_main_call0_v4, Cert.Reference10Ideal.Read.val_main_call0_v5, Cert.Reference10Ideal.Read.val_main_v13, Cert.Reference10Ideal.Read.val_main_v14, Cert.Reference10Ideal.Read.val_main_v15, Cert.Reference10Ideal.Read.val_main_v16, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_v27, Cert.Reference10Ideal.Read.val_main_v28, Cert.Reference10Ideal.Read.val_main_v29, Cert.Reference10Ideal.Read.val_main_v30, Cert.Reference10Ideal.Read.val_main_v31, Cert.Reference10Ideal.Read.val_main_v32, Cert.Reference10Ideal.Read.val_main_v33, Cert.Reference10Ideal.Read.val_main_v34]
  split
  · rename_i h
    rw [show modRow i = 0 from Fin.ext (by unfold modRow; dsimp only; rw [if_pos h]; rfl)]
    rfl
  · rename_i h
    rw [show modRow i = ⟨1 + (i.val - 8192) / 4096, by have := i.isLt; omega⟩ from Fin.ext (by unfold modRow; dsimp only; rw [if_neg h])]
    have hi : (⟨8192 + ((i.val - 8192) / 4096 * 4096 + (i.val - 8192) % 4096), by have := i.isLt; omega⟩ : Fin 24576) = i := Fin.ext (by dsimp only; omega)
    have hn : 8192 + ((i.val - 8192) / 4096 * 4096 + (i.val - 8192) % 4096) = i.val := by omega
    simp only [hn]
    rfl

/-- Distinct points write blocks that share no element. -/
theorem apart : ∀ t t' : Fin cfg0.N, (cfg0.win 13).flush t = true → (cfg0.win 13).flush t' = true → t ≠ t' →
    Disjoint ((cfg0.win 13).blk t).view.set ((cfg0.win 13).blk t').view.set := fun t t' _ _ hne =>
  (cfg0.win 13).disjoint_blk fun h => hne (Fin.ext (by
    have h0 : win0_13.index t 0 = win0_13.index t' 0 := congrFun h 0
    rw [(idx13 t).1, (idx13 t').1] at h0
    exact h0))

/-- So the final array holds in each block what its point wrote. -/
theorem block_kept (c : Dev nD) (t : Fin cfg0.N) (hf : (cfg0.win 13).flush t = true) :
    ((cfg0.win 13).blk t).view.read (Elt Ideal) ((dats m 0 c).arrAt 13 cfg0.N) = (dats m 0 c).flushed 13 t :=
  (dats m 0 c).read_blk_arrAt_eq_flushed 13 apart cfg0.N t t.isLt hf

/-- Which is the body's result from the point's blocks. -/
theorem point_wrote (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 13).cut (grid0.coords t) ((dats m 0 c).after 13 t) = _
  rw [after0_13]

/-- A block's row times a column is the token's. -/
theorem up_eq (h : Vec Ideal S256x2048 .f32) (w : Vec Ideal S2048x512 .bf16) (H : Tokens) (W : Up) (p : Fin 256) (f : Fin 512) (i : Fin 24576)
    (hh : ∀ k, h (ix2 p k) = H (ix2 i k)) (hw : ∀ k, w (ix2 k f) = W (ix3 0 k f)) :
    (∑ k : Fin 2048, h (ix2 p k) * w (ix2 k f)) = upAt H W i f :=
  Finset.sum_congr rfl fun k _ => congrArg₂ (· * ·) (hh k) (hw k)

/-- The shared expert of a point's row is the token's. -/
theorem shared_eq (c : Dev nD) (t : Fin cfg0.N) (p : Fin 256) (q : Fin 2048) (i : Fin 24576) (hi : t.val * 256 + p.val = i.val) :
    blockShared (iblk m c 1 t) (iblk m c 9 t) (iblk m c 10 t) (iblk m c 11 t) p q
      = sharedAt (m (c, main_arg1)) (m (c, main_arg4)) (m (c, main_arg5)) (m (c, main_arg6)) i q := by
  have hrow : ∀ k, iblk m c 1 t (ix2 p k) = m (c, main_arg1) (ix2 i k) := fun k =>
    (row_block m c t p k).trans (congrArg _ (congrArg (ix2 · k) (Fin.ext hi)))
  have h1 := fun f => up_eq (iblk m c 1 t) (iblk m c 9 t) _ _ p f i hrow fun k => shared_block9 m c t k f
  have h3 := fun f => up_eq (iblk m c 1 t) (iblk m c 10 t) _ _ p f i hrow fun k => shared_block10 m c t k f
  unfold blockShared sharedAt
  refine Finset.sum_congr rfl fun f _ => congrArg₂ (· * ·) (congrArg₂ (· * ·) (congrArg₂ (· * ·) (h1 f) (congrArg _ (h1 f))) (h3 f)) (shared_block11 m c t f q)

/-- An element of the kernel's array. -/
theorem arr_at (c : Dev nD) (i : Fin 24576) (j : Fin 2048) :
    (dats m 0 c).arrAt 13 cfg0.N (ix2 i j)
      = resid (m (c, main_arg0)) (m (c, main_arg7)) (routedAt (m (c, main_arg2)) (m (c, main_arg3)) i j
          + sharedAt (m (c, main_arg1)) (m (c, main_arg4)) (m (c, main_arg5)) (m (c, main_arg6)) i j) i j := by
  have hT : i.val / 256 < cfg0.N := by show _ < 96; omega
  have e := congrFun (block_kept m c ⟨_, hT⟩ (flush0_13 _)) (ix2 ⟨i.val % 256, by omega⟩ j)
  rw [point_wrote] at e
  have ei : (ix2 i j : S24576x2048.Idx) = ((cfg0.win 13).blk ⟨_, hT⟩).view.emb (ix2 ⟨i.val % 256, by omega⟩ j) := by
    rw [out_emb]
    exact congrArg (ix2 · j) (Fin.ext (by dsimp only; omega))
  have hg : gateRow ⟨i.val / 256, hT⟩ = modRow i := Fin.ext (by
    unfold gateRow modRow
    dsimp only
    split <;> split <;> omega)
  have hw : ∀ (s : Fin 8), iblk m c 8 ⟨i.val / 256, hT⟩ (ix2 ⟨i.val % 256, by omega⟩ s) = m (c, main_arg3) (ix2 s i) := fun s =>
    (wts_block m c _ _ s).trans (congrArg _ (congrArg (ix2 s) (Fin.ext (by dsimp only; omega))))
  rw [ei]
  refine Eq.trans e ((out_apply _ _ _ _ _ _ _ _ _ _ _ _ _ _ _).trans ?_)
  unfold resid routedAt slotAt
  rw [Fin.sum_univ_six]
  refine congrArg₂ (· + ·) ?_ (congrArg₂ (· * ·) ?_ (congrArg₂ (· + ·) (congrArg₂ (· + ·) (congrArg₂ (· + ·) (congrArg₂ (· + ·) (congrArg₂ (· + ·) (congrArg₂ (· + ·) ?_ ?_) ?_) ?_) ?_) ?_) ?_))
  · exact (res_block m c _ _ _).trans (congrArg _ (congrArg (ix2 · j) (Fin.ext (by dsimp only; omega))))
  · exact (gate_block m c _ _).trans (congrArg _ (congrArg (ix3 · 0 j) hg))
  · exact congrArg₂ (· * ·) ((expert_block0 m c _ _ _ _).trans (congrArg _ (congrArg (ix3 · _ _) (Fin.ext (by dsimp only; show _ = 0 * 24576 + i.val; omega))))) (hw 0)
  · exact congrArg₂ (· * ·) ((expert_block1 m c _ _ _ _).trans (congrArg _ (congrArg (ix3 · _ _) (Fin.ext (by dsimp only; show _ = 1 * 24576 + i.val; omega))))) (hw 1)
  · exact congrArg₂ (· * ·) ((expert_block2 m c _ _ _ _).trans (congrArg _ (congrArg (ix3 · _ _) (Fin.ext (by dsimp only; show _ = 2 * 24576 + i.val; omega))))) (hw 2)
  · exact congrArg₂ (· * ·) ((expert_block3 m c _ _ _ _).trans (congrArg _ (congrArg (ix3 · _ _) (Fin.ext (by dsimp only; show _ = 3 * 24576 + i.val; omega))))) (hw 3)
  · exact congrArg₂ (· * ·) ((expert_block4 m c _ _ _ _).trans (congrArg _ (congrArg (ix3 · _ _) (Fin.ext (by dsimp only; show _ = 4 * 24576 + i.val; omega))))) (hw 4)
  · exact congrArg₂ (· * ·) ((expert_block5 m c _ _ _ _).trans (congrArg _ (congrArg (ix3 · _ _) (Fin.ext (by dsimp only; show _ = 5 * 24576 + i.val; omega))))) (hw 5)
  · exact shared_eq m c _ _ _ _ (by dsimp only; omega)

/-- The reference keeps its arguments and leaves every semaphore at zero. -/
theorem frame_r : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Every final state of the kernel has its array and its arguments as launched. -/
theorem kernel_run (g : Dev nD → PrngReg) : θ_run (Cert.Kernel10Ideal.defs (F := Ideal)) (onTc (τ := τ) (Cert.Kernel10Ideal.main (F := Ideal))) ⟨m, fun _ => 0, g⟩ (fun r => ∀ c : Dev nD,
    r.2.mem ((c.tc : Thread nD τ).loc main_v10) = (dats m 0 c).arrAt 13 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run Cert.Kernel10Ideal.defs _ _).mono (fun _ h c => ⟨(h c).1 13,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 7).trans (((dats m 0 c).arrAt_in 7 rfl _).trans ((A_eq m c 7).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 12).trans (((dats m 0 c).arrAt_in 12 rfl _).trans ((A_eq m c 12).trans (V_main_arg7 m c)))⟩) (run_main m g)

/-- The kernel's array is the reference's, of the same arguments. -/
theorem algebraic : Cert.algebraic_Kernel10Ideal_Reference10Ideal := by
  intro m g m' g' hp hag
  refine ⟨_, kernel_run m g, ?_⟩
  refine (θ_run Cert.Reference10Ideal.defs _ _).mono (fun r h c => ⟨?_, (h c).2⟩) (Cert.Reference10Ideal.Value.run (F := Ideal) m' g')
  obtain ⟨a0, a1, a2, a3, a4, a5, a6, a7⟩ := hag c
  refine (h c).1.trans ?_
  rw [Cert.Reference10Ideal.Read.val_main_v34_eq m' c, a0, a1, a2, a3, a4, a5, a6, a7]
  funext i
  obtain ⟨i, j, rfl⟩ : ∃ (a : Fin 24576) (b : Fin 2048), i = ix2 a b := ⟨i 0, i 1, by funext a; fin_cases a <;> rfl⟩
  exact (reference_at _ _ _ _ _ _ _ _ i j).trans (arr_at m c i j).symm

end Cert.Combine
end
-- ==== Proof.FinalNorm.lean ====
/-
  The final norm, row by row, and its results for the prompts and the samples.
-/
module

public import proofs.«01_k».proof.Defs
public import proofs.«01_k».proof.Proof.LayerMath
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.FinalNorm

open Cert.Kernel11Ideal Cert.Kernel11Ideal.Gen Idealize.ShloMosaic Idealize.ShloMosaic.TcCoe Idealize.SL.Sem
open Idealize.ShloMosaic.Pipeline (Dat)
open Cert.Layer

variable (m : (ℓ : Loc nD τ sig) → Buf (Elt Ideal) ℓ)

/-! ## Which block each grid point reads and writes -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The rows of point `t`. -/
theorem row_block (c : Dev nD) (t : Fin cfg0.N) (p : Fin 512) (k : Fin 2048) :
    iblk m c 0 t (ix2 p k) = m (c, main_arg0) (ix2 ⟨t.val * 512 + p.val, by have : t.val < 48 := t.isLt; omega⟩ k) := by
  blk_simp [iblk, V_main_arg0]
  blk_ext [idx0]

/-- The weights of every point. -/
theorem weight_block (c : Dev nD) (t : Fin cfg0.N) (k : Fin 2048) :
    iblk m c 1 t (ix2 0 k) = V m c main_v0 (ix2 0 k) := by
  blk_simp [iblk]
  blk_ext [idx1]

/-- The weights are the argument's. -/
theorem weight_apply (c : Dev nD) (k : Fin 2048) : V m c main_v0 (ix2 0 k) = m (c, main_arg1) (ix1 k) := by
  unfold V
  after_reads_at

/-- Where element `(p, q)` of point `t`'s output block lies in the array. -/
theorem out_emb (t : Fin cfg0.N) (p : Fin 512) (q : Fin 2048) :
    ((cfg0.win 2).blk t).view.emb (ix2 p q) = ix2 ⟨t.val * 512 + p.val, by have : t.val < 48 := t.isLt; omega⟩ q := by
  blk_ext [idx2]

/-- The norm of a row of the block. -/
theorem out_apply (x0 : Vec Ideal S512x2048 .f32) (x1 : Vec Ideal S1x2048 .f32) (p : Fin 512) (q : Fin 2048) :
    out0_2 x0 x1 (ix2 p q)
      = x0 (ix2 p q) * Ideal.rsqrt (Ideal.div (∑ k : Fin 2048, x0 (ix2 p k) * x0 (ix2 p k)) (Ideal.ofBits FTy.f32 0x45000000#32) + Ideal.ofBits FTy.f32 0x358637bd#32)
        * x1 (ix2 0 q) := by
  have hz : (![0, 0] : Fin S512x2048.rank → Nat) = fun _ => 0 := funext fun a => by fin_cases a <;> rfl
  unfold out0_2 r0_0
  rw [View.canon_unit_zero hz]
  pointwise [k0_pay1, r0_0, r0_1]

/-- Distinct points write blocks that share no element. -/
theorem apart : ∀ t t' : Fin cfg0.N, (cfg0.win 2).flush t = true → (cfg0.win 2).flush t' = true → t ≠ t' →
    Disjoint ((cfg0.win 2).blk t).view.set ((cfg0.win 2).blk t').view.set := fun t t' _ _ hne =>
  (cfg0.win 2).disjoint_blk fun h => hne (Fin.ext (by
    have h0 : win0_2.index t 0 = win0_2.index t' 0 := congrFun h 0
    rw [(idx2 t).1, (idx2 t').1] at h0
    exact h0))

/-- So the final array holds in each block what its point wrote. -/
theorem block_kept (c : Dev nD) (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 apart cfg0.N t t.isLt hf

/-- Which is the body's result from the point's blocks. -/
theorem point_wrote (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- An element of the kernel's array. -/
theorem arr_at (c : Dev nD) (i : Fin 24576) (j : Fin 2048) :
    (dats m 0 c).arrAt 2 cfg0.N (ix2 i j) = normed (m (c, main_arg0)) (m (c, main_arg1)) i j := by
  have hT : i.val / 512 < cfg0.N := by show _ < 48; omega
  have e := congrFun (block_kept m c ⟨_, hT⟩ (flush0_2 _)) (ix2 ⟨i.val % 512, by omega⟩ j)
  rw [point_wrote] at e
  have ei : (ix2 i j : S24576x2048.Idx) = ((cfg0.win 2).blk ⟨_, hT⟩).view.emb (ix2 ⟨i.val % 512, by omega⟩ j) := by
    rw [out_emb]
    exact congrArg (ix2 · j) (Fin.ext (by dsimp only; omega))
  have hrow : ∀ k, iblk m c 0 ⟨i.val / 512, hT⟩ (ix2 ⟨i.val % 512, by omega⟩ k) = m (c, main_arg0) (ix2 i k) := fun k =>
    (row_block m c _ _ k).trans (congrArg _ (congrArg (ix2 · k) (Fin.ext (by dsimp only; omega))))
  rw [ei]
  refine Eq.trans e ((out_apply _ _ _ _).trans ?_)
  unfold normed
  refine congrArg₂ (· * ·) (congrArg₂ (· * ·) (hrow j) (congrArg Ideal.rsqrt (congrArg₂ (· + ·) (congrArg₂ Ideal.div ?_ rfl) rfl))) ?_
  · exact Finset.sum_congr rfl fun k _ => congrArg₂ (· * ·) (hrow k) (hrow k)
  · exact (weight_block m c _ j).trans (weight_apply m c j)

/-- The reference's result for the prompts at an element. -/
theorem reference_prompt (x0 : (⟨S24576x2048, .f32⟩ : BufTy).Contents (Elt Ideal)) (x1 : (⟨S2048, .f32⟩ : BufTy).Contents (Elt Ideal))
    (a : Fin 32) (b : Fin 256) (j : Fin 2048) :
    Cert.Reference11Ideal.Read.val_main_v14 (F := Ideal) x0 x1 (ix3 a b j) = normed x0 x1 ⟨a.val * 256 + b.val, by omega⟩ j := by
  unfold normed
  pointwise [Cert.Reference11Ideal.Read.val_main_v0, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_cst, Cert.Reference11Ideal.Read.val_main_cst_0, Cert.Reference11Ideal.Read.val_main_cst_1]

/-- The reference's result for the samples at an element. -/
theorem reference_sample (x0 : (⟨S24576x2048, .f32⟩ : BufTy).Contents (Elt Ideal)) (x1 : (⟨S2048, .f32⟩ : BufTy).Contents (Elt Ideal))
    (a : Fin 4) (b : Fin 4096) (j : Fin 2048) :
    Cert.Reference11Ideal.Read.val_main_v29 (F := Ideal) x0 x1 (ix3 a b j) = normed x0 x1 ⟨8192 + (a.val * 4096 + b.val), by omega⟩ j := by
  unfold normed
  pointwise [Cert.Reference11Ideal.Read.val_main_v15, Cert.Reference11Ideal.Read.val_main_v16, Cert.Reference11Ideal.Read.val_main_v17, Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_v27, Cert.Reference11Ideal.Read.val_main_v28, Cert.Reference11Ideal.Read.val_main_v29, Cert.Reference11Ideal.Read.val_main_cst_2, Cert.Reference11Ideal.Read.val_main_cst_3, Cert.Reference11Ideal.Read.val_main_cst_4]

/-- The reference keeps its arguments and leaves every semaphore at zero. -/
theorem frame_r : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The prompts' rows that the host takes from the kernel's array. -/
theorem tail_prompt (c : Dev nD) (a : Fin 32) (b : Fin 256) (j : Fin 2048) :
    Pipeline.afterTail₀ cfgs (dats m) 0 (V0 m) [hostOps1] c main_v3 (ix3 a b j)
      = (dats m 0 c).arrAt 2 cfg0.N (ix2 ⟨a.val * 256 + b.val, by omega⟩ j) := by
  unfold Pipeline.afterTail₀
  after_reads_at
  refine Eq.trans (congrFun (Pipeline.withArrays_arr spec0 (by decide) c _ _ 2) _) (congrArg _ ?_)
  exact congrArg (ix2 · j) (Fin.ext (by dsimp only))

/-- The samples' rows that the host takes from the kernel's array. -/
theorem tail_sample (c : Dev nD) (a : Fin 4) (b : Fin 4096) (j : Fin 2048) :
    Pipeline.afterTail₀ cfgs (dats m) 0 (V0 m) [hostOps1] c main_v5 (ix3 a b j)
      = (dats m 0 c).arrAt 2 cfg0.N (ix2 ⟨8192 + (a.val * 4096 + b.val), by omega⟩ j) := by
  unfold Pipeline.afterTail₀
  after_reads_at
  refine Eq.trans (congrFun (Pipeline.withArrays_arr spec0 (by decide) c _ _ 2) _) (congrArg _ ?_)
  exact congrArg (ix2 · j) (Fin.ext (by dsimp only))

/-- Every final state of the kernel has the two results the host takes from the kernel's array, and its arguments as launched. -/
theorem kernel_run (g : Dev nD → PrngReg) : θ_run (Cert.Kernel11Ideal.defs (F := Ideal)) (onTc (τ := τ) (Cert.Kernel11Ideal.main (F := Ideal))) ⟨m, fun _ => 0, g⟩ (fun r => ∀ c : Dev nD,
    r.2.mem ((c.tc : Thread nD τ).loc main_v3) = Pipeline.afterTail₀ cfgs (dats m) 0 (V0 m) [hostOps1] c main_v3
    ∧ r.2.mem ((c.tc : Thread nD τ).loc main_v5) = Pipeline.afterTail₀ cfgs (dats m) 0 (V0 m) [hostOps1] c main_v5
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run Cert.Kernel11Ideal.defs _ _).mono (fun _ h c => ⟨
    (h c).2 main_v3 (Pipeline.mem_restRefs_of main_v3 (by decide) (by decide)),
    (h c).2 main_v5 (Pipeline.mem_restRefs_of main_v5 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m g)

/-- The kernel's two results are the reference's, of the same arguments. -/
theorem algebraic : Cert.algebraic_Kernel11Ideal_Reference11Ideal := by
  intro m g m' g' hp hag
  refine ⟨_, _, kernel_run m g, ?_⟩
  refine (θ_run Cert.Reference11Ideal.defs _ _).mono (fun r h c => ⟨?_, ?_, (h c).2.2⟩) (Cert.Reference11Ideal.Value.run (F := Ideal) m' g')
  · obtain ⟨a0, a1⟩ := hag c
    refine (h c).1.trans ?_
    rw [Cert.Reference11Ideal.Read.val_main_v14_eq, a0, a1]
    funext i
    obtain ⟨a, b, j, rfl⟩ : ∃ (a : Fin 32) (b : Fin 256) (j : Fin 2048), i = ix3 a b j := ⟨i 0, i 1, i 2, by funext a; fin_cases a <;> rfl⟩
    exact (reference_prompt _ _ a b j).trans ((tail_prompt m c a b j).trans (arr_at m c _ _)).symm
  · obtain ⟨a0, a1⟩ := hag c
    refine (h c).2.1.trans ?_
    rw [Cert.Reference11Ideal.Read.val_main_v29_eq, a0, a1]
    funext i
    obtain ⟨a, b, j, rfl⟩ : ∃ (a : Fin 4) (b : Fin 4096) (j : Fin 2048), i = ix3 a b j := ⟨i 0, i 1, i 2, by funext a; fin_cases a <;> rfl⟩
    exact (reference_sample _ _ a b j).trans ((tail_sample m c a b j).trans (arr_at m c _ _)).symm

end Cert.FinalNorm
end
-- ==== Proof.ExpertsIdealBody.lean ====
/-
  The routed experts' launch on ideal values: what the region finds, its two tables, and the body in its two cases.
-/
module

public import proofs.«01_k».proof.Proof.Gen.Kernel12Ideal.Launch
public import proofs.«01_k».proof.Proof.Gen.Kernel12Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal

open Cert.Kernel12Ideal Cert.Kernel12Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable (m : (ℓ : Loc nD τ sig) → Buf (Elt F) ℓ) (ρ : Dev nD → PrngReg)

/-! ## The launch: @main up to the region -/

/-- The buffers when the region is entered: after the host's operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operations and then the region. -/
theorem main_region (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- No host operation writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two tables: each block's expert, and whether the block holds tokens -/

/-- The tables' contents at the launch. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev pipe (hO : Ok m) : Pipeline.Cfg sig Λ₀ := cfg0 (adm m hO)

abbrev table0 : Memref sig .tc .smem S352 .i32 := Memref.whole main_arg1
abbrev table0_whole : table0.IsWhole := Memref.isWhole_whole _
abbrev table1 : Memref sig .tc .smem S352 .i32 := Memref.whole main_arg2
abbrev table1_whole : table1.IsWhole := Memref.isWhole_whole _

/-- A table's contents on core `c`, and the half share of it that the body is given. -/
abbrev TableAt (c : Dev nD) {S : Shape} {e : EltTy} (M : Memref sig .tc .smem S e) : Type := Buf (Elt F) (M.view.loc (c : Thread nD τ))
abbrev tableHalf (c : Dev nD) {S : Shape} {e : EltTy} (M : Memref sig .tc .smem S e) (f : TableAt (F := F) c M) : sProp (MT nD τ sig Unit (Elt F) ℕ (UR sig nD τ) ℕ) :=
  M.view.loc (c : Thread nD τ) ↦{fullShare.right} f

theorem halves (c : Dev nD) : (Pipeline.ΦT pre0 (tbl m) c : sProp (MT nD τ sig Unit (Elt F) ℕ (UR sig nD τ) ℕ)) = iprop(tableHalf c table0 (tbl m 0) ∗ tableHalf c table1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word of the second table that the body's first condition reads, -/
abbrev word1 (c : Dev nD) (i : grid0.Coords) (xt1 : TableAt (F := F) c table1) : BitVec 32 :=
  table1.view.readAt (Elt F) (Rect.unit (s := S352) (k0_off1 i) S1.size (k0_off1_inb i)).toLoadRect xt1 (Shape.Idx.first (numel1_S1.symm ▸ Nat.one_pos))
/-- and the word its second condition reads. -/
abbrev word2 (c : Dev nD) (i : grid0.Coords) (xt1 : TableAt (F := F) c table1) : BitVec 32 :=
  table1.view.readAt (Elt F) (Rect.unit (s := S352) (k0_off2 i) S1.size (k0_off2_inb i)).toLoadRect xt1 (Shape.Idx.first (numel1_S1.symm ▸ Nat.one_pos))

/-! ## The body -/

set_option maxHeartbeats 1000000 in
/-- The body on a block that holds tokens: it reads its inputs and stores the block's 16 groups of features.
    The stores are the first component. -/
noncomputable def runTokens (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec F S512x16x128 .f32) (x1 : Vec F S1x2048x512 .bf16) (x2 : Vec F S1x2048x512 .bf16) (x3 : Vec F S1x512x2048 .bf16) (xt0 : TableAt (F := F) c table0) (xt1 : TableAt (F := F) c table1) (h1 : k0_cond1 (word1 c i xt1) = 1#1) (h2 : ¬k0_cond2 (word2 c i xt1) = 1#1) :
    { L : List (View.Piece (Elt F) S512x16x128 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tableHalf c table0 xt0 ∗ tableHalf c table1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ tableHalf c table0 xt0 ∗ tableHalf c table1 xt1) -∗ K ⟨⟩))
          ⊢ wp frame (wpE (defs₀ (F := F)) Variants.none c none) E (cc0_expert_ffn i table0 table0_whole table1 table1_whole arg3 harg3 arg4 harg4 arg5 harg5 arg6 harg6 arg7 harg7) K } := by
  refine ⟨?_, fun E K => ?run⟩
  case run =>
    simp only [cc0_expert_ffn_eq_skeleton]; unfold cc0_expert_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- The body on a block that holds no token: it stores zeros. -/
noncomputable def runEmpty (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec F S512x16x128 .f32) (x1 : Vec F S1x2048x512 .bf16) (x2 : Vec F S1x2048x512 .bf16) (x3 : Vec F S1x512x2048 .bf16) (xt0 : TableAt (F := F) c table0) (xt1 : TableAt (F := F) c table1) (h1 : ¬k0_cond1 (word1 c i xt1) = 1#1) (h2 : k0_cond2 (word2 c i xt1) = 1#1) :
    { L : List (View.Piece (Elt F) S512x16x128 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tableHalf c table0 xt0 ∗ tableHalf c table1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ tableHalf c table0 xt0 ∗ tableHalf c table1 xt1) -∗ K ⟨⟩))
          ⊢ wp frame (wpE (defs₀ (F := F)) Variants.none c none) E (cc0_expert_ffn i table0 table0_whole table1 table1_whole arg3 harg3 arg4 harg4 arg5 harg5 arg6 harg6 arg7 harg7) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpertsIdeal

end
-- ==== Proof.ExpertsIdealRun.lean ====
/-
  The routed experts' launch on ideal values: what each grid point leaves in the output, and the run.
-/
module

public import proofs.«01_k».proof.Proof.ExpertsIdealBody
public import Idealize.ShloMosaic.Lib.Claim

@[expose] public section

set_option maxRecDepth 16384

noncomputable section

namespace Cert.ExpertsIdeal

open Cert.Kernel12Ideal Cert.Kernel12Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable (m : (ℓ : Loc nD τ sig) → Buf (Elt F) ℓ) (ρ : Dev nD → PrngReg)

/-! ## The windows -/

/-- The output is written back at every point. -/
theorem out_flush (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The body as the pipeline calls it at point `t`. -/
abbrev bodyAt (a : (pcfg0 (F := F)).Adm) (t : Fin (cfg0 a).N) : Prog (TpuEff nD τ sig (Elt F) Λ₀ .tc) PUnit :=
  cc0_expert_ffn (grid0.coords t) table0 table0_whole table1 table1_whole (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- Window `w`'s block at point `t`, as the region finds its array. -/
def iblk (hO : Ok m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (V m c (Pipeline.arrRef spec0 w))

theorem before0_of (hO : Ok m) {c : Dev nD} (dat : Dat τ (Elt F) Unit ℕ (UR sig nD τ) ℕ (pipe m hO) c) (hA : dat.A 0 = V m c (Pipeline.arrRef spec0 0))
    (hafter : ∀ t, dat.after 0 t = iblk m hO c 0 t) (t : Fin (pipe m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (pipe m hO) c) (hA : dat.A 1 = V m c (Pipeline.arrRef spec0 1))
    (hafter : ∀ t, dat.after 1 t = iblk m hO c 1 t) (t : Fin (pipe m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (pipe m hO) c) (hA : dat.A 2 = V m c (Pipeline.arrRef spec0 2))
    (hafter : ∀ t, dat.after 2 t = iblk m hO c 2 t) (t : Fin (pipe m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (pipe m hO) c) (hA : dat.A 3 = V m c (Pipeline.arrRef spec0 3))
    (hafter : ∀ t, dat.after 3 t = iblk m hO c 3 t) (t : Fin (pipe m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A staging buffer of the output, through which its contents are stated. -/
abbrev outView : View sig .tc .vmem S512x16x128 .f32 := (Memref.whole cc0_stg4_0 : Memref sig .tc .vmem S512x16x128 .f32).view
abbrev ms0 (hO : Ok m) (t : Fin (pipe m hO).N) : Memref sig .tc .vmem S512x16x128 .f32 := spec0_0.stage ((pipe m hO).slots t 0)
abbrev hs0 (hO : Ok m) (t : Fin (pipe m hO).N) : (ms0 m hO t).IsWhole := hstage0_0 (((pipe m hO).slots t 0).cast nbuf0_0)
abbrev ms1 (hO : Ok m) (t : Fin (pipe m hO).N) : Memref sig .tc .vmem S1x2048x512 .bf16 := spec0_1.stage ((pipe m hO).slots t 1)
abbrev hs1 (hO : Ok m) (t : Fin (pipe m hO).N) : (ms1 m hO t).IsWhole := hstage0_1 (((pipe m hO).slots t 1).cast nbuf0_1)
abbrev ms2 (hO : Ok m) (t : Fin (pipe m hO).N) : Memref sig .tc .vmem S1x2048x512 .bf16 := spec0_2.stage ((pipe m hO).slots t 2)
abbrev hs2 (hO : Ok m) (t : Fin (pipe m hO).N) : (ms2 m hO t).IsWhole := hstage0_2 (((pipe m hO).slots t 2).cast nbuf0_2)
abbrev ms3 (hO : Ok m) (t : Fin (pipe m hO).N) : Memref sig .tc .vmem S1x512x2048 .bf16 := spec0_3.stage ((pipe m hO).slots t 3)
abbrev hs3 (hO : Ok m) (t : Fin (pipe m hO).N) : (ms3 m hO t).IsWhole := hstage0_3 (((pipe m hO).slots t 3).cast nbuf0_3)
abbrev ms4 (hO : Ok m) (t : Fin (pipe m hO).N) : Memref sig .tc .vmem S512x16x128 .f32 := spec0_4.stage ((pipe m hO).slots t 4)
abbrev hs4 (hO : Ok m) (t : Fin (pipe m hO).N) : (ms4 m hO t).IsWhole := hstage0_4 (((pipe m hO).slots t 4).cast nbuf0_4)

/-- The 16 groups of features cover the block. -/
theorem coverTokens (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec F S512x16x128 .f32) (x1 : Vec F S1x2048x512 .bf16) (x2 : Vec F S1x2048x512 .bf16) (x3 : Vec F S1x512x2048 .bf16) (xt0 : TableAt (F := F) c table0) (xt1 : TableAt (F := F) c table1) (h1 : k0_cond1 (word1 c i xt1) = 1#1) (h2 : ¬k0_cond2 (word2 c i xt1) = 1#1) (y : S512x16x128.Idx) :
    ∃ pc ∈ (runTokens c i arg3 harg3 arg4 harg4 arg5 harg5 arg6 harg6 arg7 harg7 x0 x1 x2 x3 xt0 xt1 h1 h2).1, y ∈ pc.1.set :=
  View.cover_of_tiledBy (runTokens c i arg3 harg3 arg4 harg4 arg5 harg5 arg6 harg6 arg7 harg7 x0 x1 x2 x3 xt0 xt1 h1 h2).1 ![512, 1, 128] (by sl_kernel_rfl) y

/-- What that case leaves in the output's buffer. -/
def outTokens (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec F S512x16x128 .f32) (x1 : Vec F S1x2048x512 .bf16) (x2 : Vec F S1x2048x512 .bf16) (x3 : Vec F S1x512x2048 .bf16) (xt0 : TableAt (F := F) c table0) (xt1 : TableAt (F := F) c table1) (h1 : k0_cond1 (word1 c i xt1) = 1#1) (h2 : ¬k0_cond2 (word2 c i xt1) = 1#1) : Vec F S512x16x128 .f32 :=
  outView.read (Elt F) (outView.writes (Elt F) outView.junk (runTokens c i arg3 harg3 arg4 harg4 arg5 harg5 arg6 harg6 arg7 harg7 x0 x1 x2 x3 xt0 xt1 h1 h2).1)

/-- The zeros cover the block. -/
theorem coverEmpty (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec F S512x16x128 .f32) (x1 : Vec F S1x2048x512 .bf16) (x2 : Vec F S1x2048x512 .bf16) (x3 : Vec F S1x512x2048 .bf16) (xt0 : TableAt (F := F) c table0) (xt1 : TableAt (F := F) c table1) (h1 : ¬k0_cond1 (word1 c i xt1) = 1#1) (h2 : k0_cond2 (word2 c i xt1) = 1#1) (y : S512x16x128.Idx) :
    ∃ pc ∈ (runEmpty c i arg3 harg3 arg4 harg4 arg5 harg5 arg6 harg6 arg7 harg7 x0 x1 x2 x3 xt0 xt1 h1 h2).1, y ∈ pc.1.set :=
  View.cover_of_tiledL (runEmpty c i arg3 harg3 arg4 harg4 arg5 harg5 arg6 harg6 arg7 harg7 x0 x1 x2 x3 xt0 xt1 h1 h2).1 S512x16x128.size (by sl_kernel_rfl) y

/-- What that case leaves in the output's buffer. -/
def outEmpty (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec F S512x16x128 .f32) (x1 : Vec F S1x2048x512 .bf16) (x2 : Vec F S1x2048x512 .bf16) (x3 : Vec F S1x512x2048 .bf16) (xt0 : TableAt (F := F) c table0) (xt1 : TableAt (F := F) c table1) (h1 : ¬k0_cond1 (word1 c i xt1) = 1#1) (h2 : k0_cond2 (word2 c i xt1) = 1#1) : Vec F S512x16x128 .f32 :=
  outView.read (Elt F) (outView.writes (Elt F) outView.junk (runEmpty c i arg3 harg3 arg4 harg4 arg5 harg5 arg6 harg6 arg7 harg7 x0 x1 x2 x3 xt0 xt1 h1 h2).1)

/-- The block of point `t` holds tokens. -/
abbrev Tokens (hO : Ok m) (c : Dev nD) (t : Fin (pipe m hO).N) : Prop := k0_cond1 (word1 c (grid0.coords t) (tbl m 1)) = 1#1 ∧ ¬k0_cond2 (word2 c (grid0.coords t) (tbl m 1)) = 1#1
/-- The block of point `t` holds none. -/
abbrev Empty (hO : Ok m) (c : Dev nD) (t : Fin (pipe m hO).N) : Prop := ¬k0_cond1 (word1 c (grid0.coords t) (tbl m 1)) = 1#1 ∧ k0_cond2 (word2 c (grid0.coords t) (tbl m 1)) = 1#1
/-- Every block does one or the other. -/
abbrev Split (hO : Ok m) : Prop := ∀ (c : Dev nD) (t : Fin (pipe m hO).N), Tokens m hO c t ∨ Empty m hO c t

open Classical in
/-- What the output's buffer holds after point `t`. -/
def outAt (hO : Ok m) (c : Dev nD) (t : Fin (pipe m hO).N) : Vec F S512x16x128 .f32 :=
  if h : Tokens m hO c t then outTokens c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) h.1 h.2
  else if h : Empty m hO c t then outEmpty c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) h.1 h.2
  else outView.read (Elt F) outView.junk

theorem outAt_tokens (hO : Ok m) (c : Dev nD) (t : Fin (pipe m hO).N) (h : Tokens m hO c t) : outAt m hO c t = outTokens c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) h.1 h.2 := by
  unfold outAt; exact (dif_pos h).trans rfl

theorem outAt_empty (hO : Ok m) (c : Dev nD) (t : Fin (pipe m hO).N) (h : Empty m hO c t) : outAt m hO c t = outEmpty c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) h.1 h.2 := by
  unfold outAt; exact (dif_neg fun h' => h.1 h'.1).trans ((dif_pos h).trans rfl)

/-! ## The pipeline's proof data -/

/-- The arrays as the region finds them; after each point the inputs' blocks in place and the output's block. -/
def dats (hO : Ok m) (_ : Fin 1) (c : Dev nD) : Dat τ (Elt F) Unit ℕ (UR sig nD τ) ℕ (pipe m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem dats_A (hO : Ok m) (c : Dev nD) (w : Fin (pipe m hO).W) : (dats m hO 0 c).A w = V m c (Pipeline.arrRef spec0 w) := by
  dsimp only [dats]

theorem after0 (hO : Ok m) (c : Dev nD) (t : Fin (pipe m hO).N) : (dats m hO 0 c).after 0 t = iblk m hO c 0 t := by dsimp only [dats]; try rfl
theorem after1 (hO : Ok m) (c : Dev nD) (t : Fin (pipe m hO).N) : (dats m hO 0 c).after 1 t = iblk m hO c 1 t := by dsimp only [dats]; try rfl
theorem after2 (hO : Ok m) (c : Dev nD) (t : Fin (pipe m hO).N) : (dats m hO 0 c).after 2 t = iblk m hO c 2 t := by dsimp only [dats]; try rfl
theorem after3 (hO : Ok m) (c : Dev nD) (t : Fin (pipe m hO).N) : (dats m hO 0 c).after 3 t = iblk m hO c 3 t := by dsimp only [dats]; try rfl
theorem after4 (hO : Ok m) (c : Dev nD) (t : Fin (pipe m hO).N) : (dats m hO 0 c).after 4 t = outAt m hO c t := by dsimp only [dats]; try rfl
theorem before0 (hO : Ok m) (c : Dev nD) (t : Fin (pipe m hO).N) (d) : (dats m hO 0 c).before 0 t d = iblk m hO c 0 t :=
  before0_of m hO (dats m hO 0 c) (dats_A m hO c 0) (after0 m hO c) t d
theorem before1 (hO : Ok m) (c : Dev nD) (t : Fin (pipe m hO).N) (d) : (dats m hO 0 c).before 1 t d = iblk m hO c 1 t :=
  before1_of m hO (dats m hO 0 c) (dats_A m hO c 1) (after1 m hO c) t d
theorem before2 (hO : Ok m) (c : Dev nD) (t : Fin (pipe m hO).N) (d) : (dats m hO 0 c).before 2 t d = iblk m hO c 2 t :=
  before2_of m hO (dats m hO 0 c) (dats_A m hO c 2) (after2 m hO c) t d
theorem before3 (hO : Ok m) (c : Dev nD) (t : Fin (pipe m hO).N) (d) : (dats m hO 0 c).before 3 t d = iblk m hO c 3 t :=
  before3_of m hO (dats m hO 0 c) (dats_A m hO c 3) (after3 m hO c) t d

/-! ## The body at a point -/

/-- What the body finds at point `t`, -/
def bodyPre (hO : Ok m) (c : Dev nD) (t : Fin (pipe m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it leaves. -/
def bodyPost (hO : Ok m) (c : Dev nD) (t : Fin (pipe m hO).N) : sProp (MT nD τ sig Unit (Elt F) ℕ (UR sig nD τ) ℕ) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 800000 in
/-- The body at any point of either kind. -/
theorem sound_body (hO : Ok m) (hS : Split m hO) (c : Dev nD) (t : Fin (pipe m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, halves]
  rcases hS c t with h | h
  · rw [outAt_tokens m hO c t h]
    unfold outTokens
    iintro ⟨⟨HΦ, ⟨HT0, HT1⟩⟩, Ho, ⟨%d0, H0⟩, ⟨%d1, H1⟩, ⟨%d2, H2⟩, ⟨%d3, H3⟩, ⟨%d4, H4⟩⟩
    iapply ((runTokens c (grid0.coords t) _ _ _ _ _ _ _ _ _ _ (iblk m hO c 0 t) (iblk m hO c 1 t) (iblk m hO c 2 t) (iblk m hO c 3 t) (tbl m 0) (tbl m 1) h.1 h.2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverTokens c _ _ _ _ _ _ _ _ _ _ _ _ _ _ _ _ _ _ _)
  · rw [outAt_empty m hO c t h]
    unfold outEmpty
    iintro ⟨⟨HΦ, ⟨HT0, HT1⟩⟩, Ho, ⟨%d0, H0⟩, ⟨%d1, H1⟩, ⟨%d2, H2⟩, ⟨%d3, H3⟩, ⟨%d4, H4⟩⟩
    iapply ((runEmpty c (grid0.coords t) _ _ _ _ _ _ _ _ _ _ (iblk m hO c 0 t) (iblk m hO c 1 t) (iblk m hO c 2 t) (iblk m hO c 3 t) (tbl m 0) (tbl m 1) h.1 h.2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverEmpty c _ _ _ _ _ _ _ _ _ _ _ _ _ _ _ _ _ _ _)

theorem body_row (hO : Ok m) (t : Fin (pipe m hO).N) :
    defs₀ (F := F) .tc (pipe m hO).body ((pipe m hO).bodyArgs t ((pipe m hO).slots t)) = bodyAt (adm m hO) t := by
  unfold defs₀; rw [Defs.onTc_tc]

/-- The body's obligation to the pipeline. The output is written back at every point, so it is owed at every point. -/
theorem body_obligation (hO : Ok m) (hS : Split m hO) (c : Dev nD) : BodyObligation (dats (F := F) m hO 0 c) (defs₀ (F := F)) Variants.none () Set.univ := fun t => by
  rw [bigSep_W0, bigSep_W0, body_row m hO]
  refine triple_restated (sound_body m hO hS c t) rfl .rfl fun _ => ?_
  have hf : ((pipe m hO).win 4).flush t = true := out_flush (adm m hO) t
  unfold bodyPost
  repeat' refine sep_mono .rfl ?_
  split
  · rename_i h; exact absurd h Bool.false_ne_true
  split
  · split
    · rename_i h; exact absurd (h.symm.trans hf) (by decide)
    · exact .rfl
  · exact .rfl

set_option backward.isDefEq.respectTransparency.types false in
/-- The launch: every array of the pipeline ends as the data say, and no semaphore is left raised. -/
theorem run_quiescent (hO : Ok m) (hS : Split m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := main_region m Variants.none) (hA := dats_A m hO) (hpf := V_tbl m)
    (hΦ := fun _ _ => rfl)

/-- Every run ends, with the arguments unchanged and no semaphore raised. -/
theorem frame (hO : Ok m) (hS : Split m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨((hr.1 c).1 0).trans (((dats m hO 0 c).arrAt_in 0 rfl _).trans ((dats_A m hO c 0).trans (V_arg0 m c))),
      ((hr.1 c).2 main_arg1 (by decide : main_arg1 ∈ Pipeline.restRefs sig spec0)).trans (V_arg1 m c),
      ((hr.1 c).2 main_arg2 (by decide : main_arg2 ∈ Pipeline.restRefs sig spec0)).trans (V_arg2 m c),
      ((hr.1 c).2 main_arg3 (by decide : main_arg3 ∈ Pipeline.restRefs sig spec0)).trans (V_arg3 m c),
      ((hr.1 c).2 main_arg4 (by decide : main_arg4 ∈ Pipeline.restRefs sig spec0)).trans (V_arg4 m c),
      ((hr.1 c).2 main_arg5 (by decide : main_arg5 ∈ Pipeline.restRefs sig spec0)).trans (V_arg5 m c)⟩, hr.2⟩) (run_quiescent m ρ hO hS)

end Cert.ExpertsIdeal

end
-- ==== Proof.ExpertsRange.lean ====
/-
  What the routed experts' precondition says of the two tables, in plain numbers.
-/
module

public import proofs.«01_k».proof.Proof.Gen.Pre_experts_in_range
public import Idealize.ShloMosaic.Lib.StableHlo.Predicate
public import Idealize.ShloMosaic.Lib.Pointwise

@[expose] public section

namespace Cert.ExpertsRange

open Idealize.ShloMosaic Cert.Pre_experts_in_range

theorem and_bits : ∀ p q : BitVec 1, IntOp.andi p q = 1#1 → p = 1#1 ∧ q = 1#1 := by decide
theorem or_bits : ∀ p q : BitVec 1, IntOp.ori p q = 1#1 → p = 1#1 ∨ q = 1#1 := by decide

theorem word_range (x : BitVec 32) (h0 : IntOp.cmpi .sge x 0#32 = 1#1) (h1 : IntOp.cmpi .slt x 64#32 = 1#1) : x.toNat < 64 := by
  have a : (0#32 : BitVec 32).toInt ≤ x.toInt := by
    have := h0; simp only [IntOp.cmpi, StableHlo.Predicate.ofBool_eq_one_iff, BitVec.sle, decide_eq_true_eq] at this; exact this
  have b : x.toInt < (64#32 : BitVec 32).toInt := by
    have := h1; simp only [IntOp.cmpi, StableHlo.Predicate.ofBool_eq_one_iff, BitVec.slt, decide_eq_true_eq] at this; exact this
  rw [show (0#32 : BitVec 32).toInt = 0 from by decide, BitVec.toInt_eq_toNat_cond] at a
  rw [show (64#32 : BitVec 32).toInt = 64 from by decide, BitVec.toInt_eq_toNat_cond] at b
  have := x.isLt
  split at a <;> simp_all <;> omega

/-- Each block names one of the 64 experts, and is said to hold tokens by 1 and to hold none by 0. -/
theorem of_pre {F : FTy → Type} [FloatOps F] {a0 : FVec F S180224x16x128 .f32} {a1 a2 : IVec S352 32}
    {a3 a4 : FVec F S2x64x2048x512 .f32} {a5 : FVec F S2x64x512x2048 .f32}
    (h : Cert.Pre_experts_in_range.fn (F := F) a0 a1 a2 a3 a4 a5 = fun _ => 1#1) (i : S352.Idx) :
    (a1 i).toNat < 64 ∧ (a2 i = 0#32 ∨ a2 i = 1#32) := by
  have e := congrFun h i
  change IntOp.andi (IntOp.andi (IntOp.cmpi .sge (a1 i) 0#32) (IntOp.cmpi .slt (a1 i) 64#32))
    (IntOp.ori (IntOp.cmpi .eq (a2 i) 0#32) (IntOp.cmpi .eq (a2 i) 1#32)) = 1#1 at e
  obtain ⟨e1, e2⟩ := and_bits _ _ e
  obtain ⟨e3, e4⟩ := and_bits _ _ e1
  refine ⟨word_range _ e3 e4, (or_bits _ _ e2).imp ?_ ?_⟩
  · exact StableHlo.Predicate.cmpi_eq_iff.mp
  · exact StableHlo.Predicate.cmpi_eq_iff.mp

end Cert.ExpertsRange
-- ==== Proof.ExpertsIdealTables.lean ====
/-
  The routed experts' tables on ideal values: under the precondition every block the tables name lies inside its array, and every
  block either holds tokens or holds none.
-/
module

public import proofs.«01_k».proof.Proof.ExpertsIdealRun
public import proofs.«01_k».proof.Proof.ExpertsRange
public import Idealize.ShloMosaic.Lib.Affine

@[expose] public section

set_option maxRecDepth 16384

noncomputable section

namespace Cert.ExpertsIdeal

open Cert.Kernel12Ideal Cert.Kernel12Ideal.Gen Idealize.ShloMosaic Idealize.ShloMosaic.TcCoe

variable {F : FTy → Type} [FloatOps F]
variable (m : (ℓ : Loc nD τ sig) → Buf (Elt F) ℓ)

/-- The tables are within range on this memory. -/
def InRange : Prop := ∀ i : S352.Idx, ((tbl m 0 : S352.Idx → BitVec 32) i).toNat < 64 ∧ ((tbl m 1 : S352.Idx → BitVec 32) i = 0#32 ∨ (tbl m 1 : S352.Idx → BitVec 32) i = 1#32)

theorem tbl0 : (tbl m 0 : S352.Idx → BitVec 32) = m ((0 : Dev nD), main_arg1) := V_arg1 m 0
theorem tbl1 : (tbl m 1 : S352.Idx → BitVec 32) = m ((0 : Dev nD), main_arg2) := V_arg2 m 0

/-- The place of block `i` in a table. -/
def at1 (i : grid0.Coords) : S352.Idx := ix1 (⟨(i 0).val, (i 0).isLt⟩ : Fin 352)

theorem place (i : grid0.Coords) (off : Fin 1 → Nat) (inb : ∀ a, off a + S1.size a ≤ S352.size a) (h : off = ![(i 0).val]) (y : S1.Idx) :
    (Rect.unit (s := S352) off S1.size inb).emb y = at1 i := by
  subst h
  funext a
  obtain rfl : a = 0 := Subsingleton.elim _ _
  apply Fin.ext
  have : (y 0).val < 1 := (y 0).isLt
  change (i 0).val + 1 * (y 0).val = (i 0).val
  omega

theorem index0 (pf : pre0.Contents (Elt F)) (i : grid0.Coords) :
    cc0_transform_0 k0_off1_inb numel1_S1 pf i = ![(IntOp.muli (BitVec.ofNat 32 (i 0).val) ((pf 1 : S352.Idx → BitVec 32) (at1 i))).toNat, 0, 0] := by
  rw [← place i (k0_off1 i) (k0_off1_inb i) (k0_off1_eq i) (Shape.Idx.first (numel1_S1.symm ▸ Nat.one_pos))]
  rfl
theorem index1 (pf : pre0.Contents (Elt F)) (i : grid0.Coords) :
    cc0_transform_1 k0_off1_inb numel1_S1 pf i = ![((pf 0 : S352.Idx → BitVec 32) (at1 i)).toNat, 0, 0] := by
  rw [← place i (k0_off1 i) (k0_off1_inb i) (k0_off1_eq i) (Shape.Idx.first (numel1_S1.symm ▸ Nat.one_pos))]
  rfl
theorem index2 (pf : pre0.Contents (Elt F)) (i : grid0.Coords) :
    cc0_transform_2 k0_off1_inb numel1_S1 pf i = ![((pf 0 : S352.Idx → BitVec 32) (at1 i)).toNat, 0, 0] := by
  rw [← place i (k0_off1 i) (k0_off1_inb i) (k0_off1_eq i) (Shape.Idx.first (numel1_S1.symm ▸ Nat.one_pos))]
  rfl
theorem index3 (pf : pre0.Contents (Elt F)) (i : grid0.Coords) :
    cc0_transform_3 k0_off1_inb numel1_S1 pf i = ![((pf 0 : S352.Idx → BitVec 32) (at1 i)).toNat, 0, 0] := by
  rw [← place i (k0_off1 i) (k0_off1_inb i) (k0_off1_eq i) (Shape.Idx.first (numel1_S1.symm ▸ Nat.one_pos))]
  rfl

/-- A whole expert's block of weights covers whole memory words. -/
theorem whole_words {s : Shape} {size ix : Fin s.rank → Nat} {p : Nat} (h2 : 2 ≤ s.rank) (h : ∀ a, (ix a + 1) * size a ≤ s.size a)
    (h0 : ix (s.rowAx h2) = 0) (h1 : size (s.rowAx h2) = s.size (s.rowAx h2)) : (Rect.block (s := s) size ix h).WholeWords p :=
  .inr ⟨h2, rfl, by change ix _ * size _ = 0; rw [h0, Nat.zero_mul], h1⟩

theorem product_lt (i : grid0.Coords) (v : BitVec 32) (h : v = 0#32 ∨ v = 1#32) : (IntOp.muli (BitVec.ofNat 32 (i 0).val) v).toNat < 352 := by
  have hi : (i 0).val < 352 := (i 0).isLt
  rcases h with rfl | rfl
  · unfold IntOp.muli; simp
  · unfold IntOp.muli; simp only [BitVec.mul_one, BitVec.toNat_ofNat]; omega

theorem ok_of_range (h : InRange m) : Ok m := by
  refine ⟨fun i => ⟨?_, .inl rfl⟩, fun i => ⟨?_, .inr (whole_words (by decide) _ ?_ (by decide))⟩, fun i => ⟨?_, .inr (whole_words (by decide) _ ?_ (by decide))⟩,
    fun i => ⟨?_, .inr (whole_words (by decide) _ ?_ (by decide))⟩⟩
  · rw [index0]
    have := product_lt i _ (h (at1 i)).2
    exact fun a => match a with
      | ⟨0, _⟩ => Nat.mul_le_mul_right 512 this
      | ⟨1, _⟩ => (by decide : (0 + 1) * 16 ≤ 16)
      | ⟨2, _⟩ => (by decide : (0 + 1) * 128 ≤ 128)
  · rw [index1]
    have := (h (at1 i)).1
    exact fun a => match a with
      | ⟨0, _⟩ => Nat.mul_le_mul_right 1 this
      | ⟨1, _⟩ => (by decide : (0 + 1) * 2048 ≤ 2048)
      | ⟨2, _⟩ => (by decide : (0 + 1) * 512 ≤ 512)
  · rw [index1]; rfl
  · rw [index2]
    have := (h (at1 i)).1
    exact fun a => match a with
      | ⟨0, _⟩ => Nat.mul_le_mul_right 1 this
      | ⟨1, _⟩ => (by decide : (0 + 1) * 2048 ≤ 2048)
      | ⟨2, _⟩ => (by decide : (0 + 1) * 512 ≤ 512)
  · rw [index2]; rfl
  · rw [index3]
    have := (h (at1 i)).1
    exact fun a => match a with
      | ⟨0, _⟩ => Nat.mul_le_mul_right 1 this
      | ⟨1, _⟩ => (by decide : (0 + 1) * 512 ≤ 512)
      | ⟨2, _⟩ => (by decide : (0 + 1) * 2048 ≤ 2048)
  · rw [index3]; rfl

theorem word1_eq (c : Dev nD) (i : grid0.Coords) (x : TableAt (F := F) c table1) : word1 c i x = (x : S352.Idx → BitVec 32) (at1 i) := by
  rw [← place i (k0_off1 i) (k0_off1_inb i) (k0_off1_eq i) (Shape.Idx.first (numel1_S1.symm ▸ Nat.one_pos))]
  rfl
theorem word2_eq (c : Dev nD) (i : grid0.Coords) (x : TableAt (F := F) c table1) : word2 c i x = (x : S352.Idx → BitVec 32) (at1 i) := by
  rw [← place i (k0_off2 i) (k0_off2_inb i) (k0_off2_eq i) (Shape.Idx.first (numel1_S1.symm ▸ Nat.one_pos))]
  rfl

/-- A block marked 1 holds tokens, -/
theorem tokens_of (hO : Ok m) (c : Dev nD) (t : Fin (pipe m hO).N) (h : (tbl m 1 : S352.Idx → BitVec 32) (at1 (grid0.coords t)) = 1#32) : Tokens m hO c t := by
  have e1 : k0_cond1 (word1 c (grid0.coords t) (tbl m 1)) = k0_cond1 1#32 := congrArg k0_cond1 ((word1_eq c _ (tbl m 1)).trans h)
  have e2 : k0_cond2 (word2 c (grid0.coords t) (tbl m 1)) = k0_cond2 1#32 := congrArg k0_cond2 ((word2_eq c _ (tbl m 1)).trans h)
  exact ⟨e1.trans (by decide), fun e => absurd (e2.symm.trans e) (by decide)⟩
/-- and one marked 0 holds none. -/
theorem empty_of (hO : Ok m) (c : Dev nD) (t : Fin (pipe m hO).N) (h : (tbl m 1 : S352.Idx → BitVec 32) (at1 (grid0.coords t)) = 0#32) : Empty m hO c t := by
  have e1 : k0_cond1 (word1 c (grid0.coords t) (tbl m 1)) = k0_cond1 0#32 := congrArg k0_cond1 ((word1_eq c _ (tbl m 1)).trans h)
  have e2 : k0_cond2 (word2 c (grid0.coords t) (tbl m 1)) = k0_cond2 0#32 := congrArg k0_cond2 ((word2_eq c _ (tbl m 1)).trans h)
  exact ⟨fun e => absurd (e1.symm.trans e) (by decide), e2.trans (by decide)⟩

theorem split_of_range (h : InRange m) (hO : Ok m) : Split m hO := fun c t =>
  (h (at1 (grid0.coords t))).2.symm.imp (tokens_of m hO c t) (empty_of m hO c t)

theorem range_of_pre (h : (Cert.Pre_experts_in_range.fn (F := F) (m ((0 : Dev nD), main_arg0)) (m ((0 : Dev nD), main_arg1)) (m ((0 : Dev nD), main_arg2)) (m ((0 : Dev nD), main_arg3)) (m ((0 : Dev nD), main_arg4)) (m ((0 : Dev nD), main_arg5))) = fun _ => 1#1) : InRange m := by
  intro i
  rw [tbl0, tbl1]
  exact Cert.ExpertsRange.of_pre h i

end Cert.ExpertsIdeal

end
-- ==== Proof.ExpertsBlock.lean ====
/-
  What the routed experts' body leaves in a block: its expert's rows where it holds tokens, zeros where not.
-/
module

public import proofs.«01_k».proof.Proof.ExpertsIdealTables
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.ExpertsIdeal

open Cert.Kernel12Ideal Cert.Kernel12Ideal.Gen Idealize.ShloMosaic Idealize.ShloMosaic.TcCoe

/-- Zeros. -/
theorem outEmpty_apply (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec Ideal S512x16x128 .f32) (x1 : Vec Ideal S1x2048x512 .bf16) (x2 : Vec Ideal S1x2048x512 .bf16) (x3 : Vec Ideal S1x512x2048 .bf16) (xt0 : TableAt (F := Ideal) c table0) (xt1 : TableAt (F := Ideal) c table1) (h1 : ¬k0_cond1 (word1 c i xt1) = 1#1) (h2 : k0_cond2 (word2 c i xt1) = 1#1) (y : S512x16x128.Idx) :
    outEmpty c i arg3 harg3 arg4 harg4 arg5 harg5 arg6 harg6 arg7 harg7 x0 x1 x2 x3 xt0 xt1 h1 h2 y = 0 := by
  have hz : (![0, 0, 0] : Fin S512x16x128.rank → Nat) = fun _ => 0 := funext fun a => by fin_cases a <;> rfl
  unfold outEmpty
  rw [View.read_writes_eq_canon _ _ _ (coverEmpty c i arg3 harg3 arg4 harg4 arg5 harg5 arg6 harg6 arg7 harg7 x0 x1 x2 x3 xt0 xt1 h1 h2)]
  unfold runEmpty
  dsimp only
  rw [View.canon_unit_zero hz]
  dsimp only [k0_pay8]
  pointwise []

/-- The block's result as one array of rows of 2048 features. -/
def blockOut (x0 : Vec Ideal S512x16x128 .f32) (x1 : Vec Ideal S1x2048x512 .bf16) (x2 : Vec Ideal S1x2048x512 .bf16) (x3 : Vec Ideal S1x512x2048 .bf16) : FVec Ideal S512x2048 .f32 :=
  k0_pay21 (F := Ideal) (k0_pay9 (F := Ideal) (View.ld x0 (Rect.unit (s := S512x16x128) ![0, 0, 0] S512x1x128.size inb_S512x16x128_S512x1x128_0_0_0))) (k0_pay10 (F := Ideal) (View.ld x0 (Rect.unit (s := S512x16x128) ![0, 1, 0] S512x1x128.size inb_S512x16x128_S512x1x128_0_1_0))) (k0_pay11 (F := Ideal) (View.ld x0 (Rect.unit (s := S512x16x128) ![0, 2, 0] S512x1x128.size inb_S512x16x128_S512x1x128_0_2_0))) (k0_pay12 (F := Ideal) (View.ld x0 (Rect.unit (s := S512x16x128) ![0, 3, 0] S512x1x128.size inb_S512x16x128_S512x1x128_0_3_0))) (k0_pay13 (F := Ideal) (View.ld x0 (Rect.unit (s := S512x16x128) ![0, 4, 0] S512x1x128.size inb_S512x16x128_S512x1x128_0_4_0))) (k0_pay14 (F := Ideal) (View.ld x0 (Rect.unit (s := S512x16x128) ![0, 5, 0] S512x1x128.size inb_S512x16x128_S512x1x128_0_5_0))) (k0_pay15 (F := Ideal) (View.ld x0 (Rect.unit (s := S512x16x128) ![0, 6, 0] S512x1x128.size inb_S512x16x128_S512x1x128_0_6_0))) (k0_pay16 (F := Ideal) (View.ld x0 (Rect.unit (s := S512x16x128) ![0, 7, 0] S512x1x128.size inb_S512x16x128_S512x1x128_0_7_0))) (k0_pay17 (F := Ideal) (View.ld x0 (Rect.unit (s := S512x16x128) ![0, 8, 0] S512x1x128.size inb_S512x16x128_S512x1x128_0_8_0))) (k0_pay18 (F := Ideal) (View.ld x0 (Rect.unit (s := S512x16x128) ![0, 9, 0] S512x1x128.size inb_S512x16x128_S512x1x128_0_9_0))) (k0_pay19 (F := Ideal) (View.ld x0 (Rect.unit (s := S512x16x128) ![0, 10, 0] S512x1x128.size inb_S512x16x128_S512x1x128_0_10_0))) (k0_pay20 (F := Ideal) (View.ld x0 (Rect.unit (s := S512x16x128) ![0, 11, 0] S512x1x128.size inb_S512x16x128_S512x1x128_0_11_0))) (View.ld x0 (Rect.unit (s := S512x16x128) ![0, 12, 0] S512x1x128.size inb_S512x16x128_S512x1x128_0_12_0)) (View.ld x0 (Rect.unit (s := S512x16x128) ![0, 13, 0] S512x1x128.size inb_S512x16x128_S512x1x128_0_13_0)) (View.ld x0 (Rect.unit (s := S512x16x128) ![0, 14, 0] S512x1x128.size inb_S512x16x128_S512x1x128_0_14_0)) (View.ld x0 (Rect.unit (s := S512x16x128) ![0, 15, 0] S512x1x128.size inb_S512x16x128_S512x1x128_0_15_0))
    (View.ld x1 (Rect.unit (s := S1x2048x512) ![0, 0, 0] S1x2048x512.size inb_S1x2048x512_S1x2048x512_0_0_0))
    (View.ld x2 (Rect.unit (s := S1x2048x512) ![0, 0, 0] S1x2048x512.size inb_S1x2048x512_S1x2048x512_0_0_0))
    (View.ld x3 (Rect.unit (s := S1x512x2048) ![0, 0, 0] S1x512x2048.size inb_S1x512x2048_S1x512x2048_0_0_0))

/-- 128 columns of an array from column `o`, as a group. -/
theorem piece (v : FVec Ideal S512x2048 .f32) (o : Nat) (ho : o + 128 ≤ 2048) (hs : S512x2048.Slices ![0, o] S512x128) (hc : S512x128.ShapeCasts S512x1x128) (a : Fin 512) (b : Fin 1) (q : Fin 128) :
    shapeCast S512x1x128 (extractStridedSlice S512x128 ![0, o] v hs) hc (ix3 a b q) = v (ix2 a ⟨o + q.val, by omega⟩) := by
  pointwise []

set_option maxHeartbeats 1000000 in
/-- The body stores that array's 16 groups of columns. -/
theorem outTokens_apply (c : Dev nD) (i : grid0.Coords) (arg3 : Memref sig .tc .vmem S512x16x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x16x128 .f32) (harg7 : arg7.IsWhole)
    (x0 : Vec Ideal S512x16x128 .f32) (x1 : Vec Ideal S1x2048x512 .bf16) (x2 : Vec Ideal S1x2048x512 .bf16) (x3 : Vec Ideal S1x512x2048 .bf16) (xt0 : TableAt (F := Ideal) c table0) (xt1 : TableAt (F := Ideal) c table1) (h1 : k0_cond1 (word1 c i xt1) = 1#1) (h2 : ¬k0_cond2 (word2 c i xt1) = 1#1) (p : Fin 512) (g : Fin 16) (l : Fin 128) :
    outTokens c i arg3 harg3 arg4 harg4 arg5 harg5 arg6 harg6 arg7 harg7 x0 x1 x2 x3 xt0 xt1 h1 h2 (ix3 p g l) = blockOut x0 x1 x2 x3 (ix2 p ⟨g.val * 128 + l.val, by omega⟩) := by
  unfold outTokens
  rw [View.read_writes_eq_canon _ _ _ (coverTokens c i arg3 harg3 arg4 harg4 arg5 harg5 arg6 harg6 arg7 harg7 x0 x1 x2 x3 xt0 xt1 h1 h2)]
  unfold runTokens
  dsimp only
  unfold runTokens.sl.r_13 runTokens.sl.r_14 runTokens.sl.r_15 runTokens.sl.r_13 runTokens.sl.r_1 runTokens.sl.r_2 runTokens.sl.r_3 runTokens.sl.r_4 runTokens.sl.r_5 runTokens.sl.r_6 runTokens.sl.r_7 runTokens.sl.r_8 runTokens.sl.r_9 runTokens.sl.r_10 runTokens.sl.r_11 runTokens.sl.r_12
  simp only [View.readAt_eq_ld, Memref.IsWhole.read_unread]
  unfold k0_pay22 k0_pay23 blockOut
  generalize k0_pay21 (F := Ideal) _ _ _ _ _ _ _ _ _ _ _ _ _ _ _ _ _ _ _ = v
  generalize hy : ix3 p g l = y
  have y0 : (y 0).val = p.val := by rw [← hy]; rfl
  have y1 : (y 1).val = g.val := by rw [← hy]; rfl
  have y2 : (y 2).val = l.val := by rw [← hy]; rfl
  canon_tiles x h
  all_goals
    obtain ⟨a, b, q, rfl⟩ : ∃ (a : Fin 512) (b : Fin 1) (q : Fin 128), x = ix3 a b q := ⟨x 0, x 1, x 2, funext fun k => match k with | ⟨0, _⟩ => rfl | ⟨1, _⟩ => rfl | ⟨2, _⟩ => rfl⟩
    refine (piece v _ (by decide) (by decide) _ a b q).trans (congrArg v (congrArg₂ ix2 (Fin.ext ?_) (Fin.ext ?_)))
    · exact h0.symm.trans y0
    · dsimp only at h1 h2 x1_lt ⊢
      first | change (y 1).val = _ + b.val at h1 | change (y 1).val = b.val at h1
      change (y 2).val = q.val at h2
      omega

/-- The block's groups of features. -/
def slab (x : Vec Ideal S512x16x128 .f32) : Fin 16 → (S512x128.Idx → EReal) :=
  ![shapeCast S512x128 (View.ld x (Rect.unit (s := S512x16x128) ![0, 0, 0] S512x1x128.size inb_S512x16x128_S512x1x128_0_0_0)) shapeCasts_S512x1x128_S512x128, shapeCast S512x128 (View.ld x (Rect.unit (s := S512x16x128) ![0, 1, 0] S512x1x128.size inb_S512x16x128_S512x1x128_0_1_0)) shapeCasts_S512x1x128_S512x128, shapeCast S512x128 (View.ld x (Rect.unit (s := S512x16x128) ![0, 2, 0] S512x1x128.size inb_S512x16x128_S512x1x128_0_2_0)) shapeCasts_S512x1x128_S512x128, shapeCast S512x128 (View.ld x (Rect.unit (s := S512x16x128) ![0, 3, 0] S512x1x128.size inb_S512x16x128_S512x1x128_0_3_0)) shapeCasts_S512x1x128_S512x128, shapeCast S512x128 (View.ld x (Rect.unit (s := S512x16x128) ![0, 4, 0] S512x1x128.size inb_S512x16x128_S512x1x128_0_4_0)) shapeCasts_S512x1x128_S512x128, shapeCast S512x128 (View.ld x (Rect.unit (s := S512x16x128) ![0, 5, 0] S512x1x128.size inb_S512x16x128_S512x1x128_0_5_0)) shapeCasts_S512x1x128_S512x128, shapeCast S512x128 (View.ld x (Rect.unit (s := S512x16x128) ![0, 6, 0] S512x1x128.size inb_S512x16x128_S512x1x128_0_6_0)) shapeCasts_S512x1x128_S512x128, shapeCast S512x128 (View.ld x (Rect.unit (s := S512x16x128) ![0, 7, 0] S512x1x128.size inb_S512x16x128_S512x1x128_0_7_0)) shapeCasts_S512x1x128_S512x128, shapeCast S512x128 (View.ld x (Rect.unit (s := S512x16x128) ![0, 8, 0] S512x1x128.size inb_S512x16x128_S512x1x128_0_8_0)) shapeCasts_S512x1x128_S512x128, shapeCast S512x128 (View.ld x (Rect.unit (s := S512x16x128) ![0, 9, 0] S512x1x128.size inb_S512x16x128_S512x1x128_0_9_0)) shapeCasts_S512x1x128_S512x128, shapeCast S512x128 (View.ld x (Rect.unit (s := S512x16x128) ![0, 10, 0] S512x1x128.size inb_S512x16x128_S512x1x128_0_10_0)) shapeCasts_S512x1x128_S512x128, shapeCast S512x128 (View.ld x (Rect.unit (s := S512x16x128) ![0, 11, 0] S512x1x128.size inb_S512x16x128_S512x1x128_0_11_0)) shapeCasts_S512x1x128_S512x128, shapeCast S512x128 (View.ld x (Rect.unit (s := S512x16x128) ![0, 12, 0] S512x1x128.size inb_S512x16x128_S512x1x128_0_12_0)) shapeCasts_S512x1x128_S512x128, shapeCast S512x128 (View.ld x (Rect.unit (s := S512x16x128) ![0, 13, 0] S512x1x128.size inb_S512x16x128_S512x1x128_0_13_0)) shapeCasts_S512x1x128_S512x128, shapeCast S512x128 (View.ld x (Rect.unit (s := S512x16x128) ![0, 14, 0] S512x1x128.size inb_S512x16x128_S512x1x128_0_14_0)) shapeCasts_S512x1x128_S512x128, shapeCast S512x128 (View.ld x (Rect.unit (s := S512x16x128) ![0, 15, 0] S512x1x128.size inb_S512x16x128_S512x1x128_0_15_0)) shapeCasts_S512x1x128_S512x128]

/-- Group `n` of the block. -/
theorem slab_apply (x : Vec Ideal S512x16x128 .f32) (p : Fin 512) (l : Fin 128) : ∀ n : Fin 16, slab x n (ix2 p l) = x (ix3 p n l) := by
  intro n
  fin_cases n
  · show (shapeCast S512x128 (View.ld x (Rect.unit (s := S512x16x128) ![0, 0, 0] S512x1x128.size inb_S512x16x128_S512x1x128_0_0_0)) shapeCasts_S512x1x128_S512x128) _ = _
    pointwise []
  · show (shapeCast S512x128 (View.ld x (Rect.unit (s := S512x16x128) ![0, 1, 0] S512x1x128.size inb_S512x16x128_S512x1x128_0_1_0)) shapeCasts_S512x1x128_S512x128) _ = _
    pointwise []
  · show (shapeCast S512x128 (View.ld x (Rect.unit (s := S512x16x128) ![0, 2, 0] S512x1x128.size inb_S512x16x128_S512x1x128_0_2_0)) shapeCasts_S512x1x128_S512x128) _ = _
    pointwise []
  · show (shapeCast S512x128 (View.ld x (Rect.unit (s := S512x16x128) ![0, 3, 0] S512x1x128.size inb_S512x16x128_S512x1x128_0_3_0)) shapeCasts_S512x1x128_S512x128) _ = _
    pointwise []
  · show (shapeCast S512x128 (View.ld x (Rect.unit (s := S512x16x128) ![0, 4, 0] S512x1x128.size inb_S512x16x128_S512x1x128_0_4_0)) shapeCasts_S512x1x128_S512x128) _ = _
    pointwise []
  · show (shapeCast S512x128 (View.ld x (Rect.unit (s := S512x16x128) ![0, 5, 0] S512x1x128.size inb_S512x16x128_S512x1x128_0_5_0)) shapeCasts_S512x1x128_S512x128) _ = _
    pointwise []
  · show (shapeCast S512x128 (View.ld x (Rect.unit (s := S512x16x128) ![0, 6, 0] S512x1x128.size inb_S512x16x128_S512x1x128_0_6_0)) shapeCasts_S512x1x128_S512x128) _ = _
    pointwise []
  · show (shapeCast S512x128 (View.ld x (Rect.unit (s := S512x16x128) ![0, 7, 0] S512x1x128.size inb_S512x16x128_S512x1x128_0_7_0)) shapeCasts_S512x1x128_S512x128) _ = _
    pointwise []
  · show (shapeCast S512x128 (View.ld x (Rect.unit (s := S512x16x128) ![0, 8, 0] S512x1x128.size inb_S512x16x128_S512x1x128_0_8_0)) shapeCasts_S512x1x128_S512x128) _ = _
    pointwise []
  · show (shapeCast S512x128 (View.ld x (Rect.unit (s := S512x16x128) ![0, 9, 0] S512x1x128.size inb_S512x16x128_S512x1x128_0_9_0)) shapeCasts_S512x1x128_S512x128) _ = _
    pointwise []
  · show (shapeCast S512x128 (View.ld x (Rect.unit (s := S512x16x128) ![0, 10, 0] S512x1x128.size inb_S512x16x128_S512x1x128_0_10_0)) shapeCasts_S512x1x128_S512x128) _ = _
    pointwise []
  · show (shapeCast S512x128 (View.ld x (Rect.unit (s := S512x16x128) ![0, 11, 0] S512x1x128.size inb_S512x16x128_S512x1x128_0_11_0)) shapeCasts_S512x1x128_S512x128) _ = _
    pointwise []
  · show (shapeCast S512x128 (View.ld x (Rect.unit (s := S512x16x128) ![0, 12, 0] S512x1x128.size inb_S512x16x128_S512x1x128_0_12_0)) shapeCasts_S512x1x128_S512x128) _ = _
    pointwise []
  · show (shapeCast S512x128 (View.ld x (Rect.unit (s := S512x16x128) ![0, 13, 0] S512x1x128.size inb_S512x16x128_S512x1x128_0_13_0)) shapeCasts_S512x1x128_S512x128) _ = _
    pointwise []
  · show (shapeCast S512x128 (View.ld x (Rect.unit (s := S512x16x128) ![0, 14, 0] S512x1x128.size inb_S512x16x128_S512x1x128_0_14_0)) shapeCasts_S512x1x128_S512x128) _ = _
    pointwise []
  · show (shapeCast S512x128 (View.ld x (Rect.unit (s := S512x16x128) ![0, 15, 0] S512x1x128.size inb_S512x16x128_S512x1x128_0_15_0)) shapeCasts_S512x1x128_S512x128) _ = _
    pointwise []

/-- A block's 16 groups of features side by side. -/
theorem slabs (x : Vec Ideal S512x16x128 .f32) :
    (concatenate S512x2048 1 [⟨S512x128, shapeCast S512x128 (View.ld x (Rect.unit (s := S512x16x128) ![0, 0, 0] S512x1x128.size inb_S512x16x128_S512x1x128_0_0_0)) shapeCasts_S512x1x128_S512x128⟩, ⟨S512x128, shapeCast S512x128 (View.ld x (Rect.unit (s := S512x16x128) ![0, 1, 0] S512x1x128.size inb_S512x16x128_S512x1x128_0_1_0)) shapeCasts_S512x1x128_S512x128⟩, ⟨S512x128, shapeCast S512x128 (View.ld x (Rect.unit (s := S512x16x128) ![0, 2, 0] S512x1x128.size inb_S512x16x128_S512x1x128_0_2_0)) shapeCasts_S512x1x128_S512x128⟩, ⟨S512x128, shapeCast S512x128 (View.ld x (Rect.unit (s := S512x16x128) ![0, 3, 0] S512x1x128.size inb_S512x16x128_S512x1x128_0_3_0)) shapeCasts_S512x1x128_S512x128⟩, ⟨S512x128, shapeCast S512x128 (View.ld x (Rect.unit (s := S512x16x128) ![0, 4, 0] S512x1x128.size inb_S512x16x128_S512x1x128_0_4_0)) shapeCasts_S512x1x128_S512x128⟩, ⟨S512x128, shapeCast S512x128 (View.ld x (Rect.unit (s := S512x16x128) ![0, 5, 0] S512x1x128.size inb_S512x16x128_S512x1x128_0_5_0)) shapeCasts_S512x1x128_S512x128⟩, ⟨S512x128, shapeCast S512x128 (View.ld x (Rect.unit (s := S512x16x128) ![0, 6, 0] S512x1x128.size inb_S512x16x128_S512x1x128_0_6_0)) shapeCasts_S512x1x128_S512x128⟩, ⟨S512x128, shapeCast S512x128 (View.ld x (Rect.unit (s := S512x16x128) ![0, 7, 0] S512x1x128.size inb_S512x16x128_S512x1x128_0_7_0)) shapeCasts_S512x1x128_S512x128⟩, ⟨S512x128, shapeCast S512x128 (View.ld x (Rect.unit (s := S512x16x128) ![0, 8, 0] S512x1x128.size inb_S512x16x128_S512x1x128_0_8_0)) shapeCasts_S512x1x128_S512x128⟩, ⟨S512x128, shapeCast S512x128 (View.ld x (Rect.unit (s := S512x16x128) ![0, 9, 0] S512x1x128.size inb_S512x16x128_S512x1x128_0_9_0)) shapeCasts_S512x1x128_S512x128⟩, ⟨S512x128, shapeCast S512x128 (View.ld x (Rect.unit (s := S512x16x128) ![0, 10, 0] S512x1x128.size inb_S512x16x128_S512x1x128_0_10_0)) shapeCasts_S512x1x128_S512x128⟩, ⟨S512x128, shapeCast S512x128 (View.ld x (Rect.unit (s := S512x16x128) ![0, 11, 0] S512x1x128.size inb_S512x16x128_S512x1x128_0_11_0)) shapeCasts_S512x1x128_S512x128⟩, ⟨S512x128, shapeCast S512x128 (View.ld x (Rect.unit (s := S512x16x128) ![0, 12, 0] S512x1x128.size inb_S512x16x128_S512x1x128_0_12_0)) shapeCasts_S512x1x128_S512x128⟩, ⟨S512x128, shapeCast S512x128 (View.ld x (Rect.unit (s := S512x16x128) ![0, 13, 0] S512x1x128.size inb_S512x16x128_S512x1x128_0_13_0)) shapeCasts_S512x1x128_S512x128⟩, ⟨S512x128, shapeCast S512x128 (View.ld x (Rect.unit (s := S512x16x128) ![0, 14, 0] S512x1x128.size inb_S512x16x128_S512x1x128_0_14_0)) shapeCasts_S512x1x128_S512x128⟩, ⟨S512x128, shapeCast S512x128 (View.ld x (Rect.unit (s := S512x16x128) ![0, 15, 0] S512x1x128.size inb_S512x16x128_S512x1x128_0_15_0)) shapeCasts_S512x1x128_S512x128⟩] concatenates_S512x128_S512x128_S512x128_S512x128_S512x128_S512x128_S512x128_S512x128_S512x128_S512x128_S512x128_S512x128_S512x128_S512x128_S512x128_S512x128_S512x2048_d1 : FVec Ideal S512x2048 .f32)
      = fun i => x (ix3 (i 0) ⟨(i 1).val / 128, by have : (i 1).val < 2048 := (i 1).isLt; omega⟩ ⟨(i 1).val % 128, by omega⟩) := by
  funext i
  obtain ⟨p, q, rfl⟩ : ∃ (a : Fin 512) (b : Fin 2048), i = ix2 a b := ⟨i 0, i 1, funext fun k => match k with | ⟨0, _⟩ => rfl | ⟨1, _⟩ => rfl⟩
  refine (concatenate_ofFn_apply (t := S512x2048) (s₁ := S512x128) 1 (slab x) concatenates_S512x128_S512x128_S512x128_S512x128_S512x128_S512x128_S512x128_S512x128_S512x128_S512x128_S512x128_S512x128_S512x128_S512x128_S512x128_S512x128_S512x2048_d1 rfl 128 rfl (ix2 p q) ⟨q.val / 128, by omega⟩ rfl (ix2 p ⟨q.val % 128, by omega⟩) rfl ?_).trans (slab_apply x p _ _)
  intro b hb
  match b with
  | ⟨0, _⟩ => rfl
  | ⟨1, _⟩ => exact absurd rfl hb

/-- A block's row times a column of the first or the third weight. -/
def blockUp (x0 : Vec Ideal S512x16x128 .f32) (w : Vec Ideal S1x2048x512 .bf16) (p : Fin 512) (f : Fin 512) : EReal :=
  ∑ k : Fin 2048, x0 (ix3 p ⟨k.val / 128, by omega⟩ ⟨k.val % 128, by omega⟩) * w (ix3 0 k f)

/-- The block's result at an element. -/
theorem blockOut_apply (x0 : Vec Ideal S512x16x128 .f32) (x1 : Vec Ideal S1x2048x512 .bf16) (x2 : Vec Ideal S1x2048x512 .bf16) (x3 : Vec Ideal S1x512x2048 .bf16) (p : Fin 512) (q : Fin 2048) :
    blockOut x0 x1 x2 x3 (ix2 p q)
      = ∑ f : Fin 512, blockUp x0 x1 p f * Ideal.logistic (blockUp x0 x1 p f) * blockUp x0 x2 p f * x3 (ix3 0 f q) := by
  unfold blockOut blockUp
  dsimp only [k0_pay9, k0_pay10, k0_pay11, k0_pay12, k0_pay13, k0_pay14, k0_pay15, k0_pay16, k0_pay17, k0_pay18, k0_pay19, k0_pay20, k0_pay21]
  simp only [slabs]
  pointwise []

end Cert.ExpertsIdeal

end
-- ==== Proof.ExpertsMath.lean ====
/-
  One routed expert applied to one row, as a formula over the extended reals, with no program in it; and the rows of a stack of
  matrices that an array of numbers picks.
-/
module

public import Idealize.ShloMosaic.Lib.Pointwise

@[expose] public section

noncomputable section

namespace Cert.ExpertsMath

open Idealize.ShloMosaic

/-- The rows, each its 2048 features in 16 groups of 128; and the two layers' weights of the 64 experts. -/
abbrev Rows := (⟨3, ![180224, 16, 128]⟩ : Shape).Idx → EReal
abbrev Up := (⟨4, ![2, 64, 2048, 512]⟩ : Shape).Idx → EReal
abbrev Down := (⟨4, ![2, 64, 512, 2048]⟩ : Shape).Idx → EReal

/-- Row `r` times column `f` of an input projection of expert `e` in the first layer. -/
def upAt (x : Rows) (w : Up) (e : Fin 64) (r : Fin 180224) (f : Fin 512) : EReal :=
  ∑ k : Fin 2048, x (ix3 r ⟨k.val / 128, by omega⟩ ⟨k.val % 128, by omega⟩) * w (ix4 0 e k f)

/-- Expert `e` of the first layer applied to row `r`, at feature `q`. -/
def expertAt (x : Rows) (w1 w3 : Up) (w2 : Down) (e : Fin 64) (r : Fin 180224) (q : Fin 2048) : EReal :=
  ∑ f : Fin 512, upAt x w1 e r f * Ideal.logistic (upAt x w1 e r f) * upAt x w3 e r f * w2 (ix4 0 e f q)

/-- What a block of rows holds afterwards: its expert's rows where it holds tokens, zeros where not. -/
def routedAt (x : Rows) (e v : (⟨1, ![352]⟩ : Shape).Idx → BitVec 32) (he : ∀ i, (e i).toNat < 64) (w1 w3 : Up) (w2 : Down)
    (r : Fin 180224) (g : Fin 16) (l : Fin 128) : EReal :=
  if v (ix1 ⟨r.val / 512, by omega⟩) = 1#32 then
    expertAt x w1 w3 w2 ⟨(e (ix1 ⟨r.val / 512, by omega⟩)).toNat, he _⟩ r ⟨g.val * 128 + l.val, by omega⟩
  else 0

/-- The picking of whole matrices of a stack by numbers. -/
abbrev pickDims (N R B C : Nat) (wf : GatherDims.WF ⟨3, ![N, B, C]⟩ ⟨2, ![R, 1]⟩ ⟨3, ![R, B, C]⟩ [1, 2] [0] [] [0] [] 1 ![1, B, C]) :
    GatherDims ⟨3, ![N, B, C]⟩ ⟨2, ![R, 1]⟩ ⟨3, ![R, B, C]⟩ where
  offsetDims := [1, 2]
  collapsedSliceDims := [0]
  operandBatchingDims := []
  startIndicesBatchingDims := []
  startIndexMap := [0]
  indexVectorDim := 1
  sliceSizes := ![1, B, C]
  wf := wf

/-- An element of the matrices picked: the element of the matrix whose number stands at that place, kept within the stack. -/
theorem pick_apply {α : Type} {N R B C w : Nat} (hN : 0 < N)
    (wf : GatherDims.WF ⟨3, ![N, B, C]⟩ ⟨2, ![R, 1]⟩ ⟨3, ![R, B, C]⟩ [1, 2] [0] [] [0] [] 1 ![1, B, C])
    (x : (⟨3, ![N, B, C]⟩ : Shape).Idx → α) (idx : IVec ⟨2, ![R, 1]⟩ w) (r : Fin R) (b : Fin B) (c : Fin C) :
    Host.gather (pickDims N R B C wf) x idx (ix3 r b c)
      = x (ix3 ⟨min (idx (ix2 r 0)).toInt.toNat (N - 1), by omega⟩ b c) := by
  unfold Host.gather
  congr 1
  funext a
  refine Fin.ext ?_
  show (pickDims N R B C wf).start (ix3 r b c) idx a + (pickDims N R B C wf).batchCoord (ix3 r b c) a + (pickDims N R B C wf).offCoord (ix3 r b c) a = _
  rw [GatherDims.batchCoord_eq_zero _ _ _ List.not_mem_nil]
  have cases : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases cases with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N R B C wf).startIndexMap from List.mem_singleton.mpr rfl)]
    have hsi : (pickDims N R B C wf).siIdx (ix3 r b c) ⟨List.idxOf (0 : Fin 3) (pickDims N R B C wf).startIndexMap,
        List.idxOf_lt_length_iff.2 (List.mem_singleton.mpr rfl)⟩ = ix2 r 0 := by
      funext b'; refine Fin.ext ?_
      match b' with
      | ⟨0, _⟩ => rfl
      | ⟨1, _⟩ => rfl
    rw [hsi]
    rfl
  · unfold GatherDims.start
    rw [dif_neg (by intro h; simp at h)]
    simp only [Nat.zero_add]
    rfl
  · unfold GatherDims.start
    rw [dif_neg (by intro h; simp at h)]
    simp only [Nat.zero_add]
    rfl

end Cert.ExpertsMath

end
-- ==== Proof.ExpertsValue.lean ====
/-
  The routed experts' array: each block of rows holds its expert's result, or zeros.
-/
module

public import proofs.«01_k».proof.Proof.ExpertsBlock
public import proofs.«01_k».proof.Proof.ExpertsMath
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.ExpertsIdeal

open Cert.Kernel12Ideal Cert.Kernel12Ideal.Gen Idealize.ShloMosaic Idealize.ShloMosaic.TcCoe
open Idealize.ShloMosaic.Pipeline (Dat)
open Cert.ExpertsMath

variable (m : (ℓ : Loc nD τ sig) → Buf (Elt Ideal) ℓ)

/-- Point `t` has the coordinate `t`. -/
theorem coords_eq : ∀ t : Fin grid0.N, (grid0.coords t 0).val = t.val := by decide +kernel

/-- A block's number in each table. -/
abbrev expertOf (t : Fin 352) : BitVec 32 := (tbl m 0 : S352.Idx → BitVec 32) (ix1 t)
abbrev validOf (t : Fin 352) : BitVec 32 := (tbl m 1 : S352.Idx → BitVec 32) (ix1 t)

theorem at1_eq (t : Fin 352) : at1 (grid0.coords (t : Fin grid0.N)) = ix1 t :=
  congrArg ix1 (Fin.ext (coords_eq t))

variable (hO : Ok m)

/-- The rows of a block that holds tokens. -/
theorem rows_block (c : Dev nD) (t : Fin 352) (hv : validOf m t = 1#32) (p : Fin 512) (g : Fin 16) (l : Fin 128) :
    (iblk m hO c 0 (t : Fin (pipe m hO).N) : S512x16x128.Idx → EReal) (ix3 p g l) = (m (c, main_arg0) : S180224x16x128.Idx → EReal) (ix3 ⟨t.val * 512 + p.val, by omega⟩ g l) := by
  have e : (iblk m hO c 0 (t : Fin (pipe m hO).N) : S512x16x128.Idx → EReal) (ix3 p g l) = (V m c main_arg0 : S180224x16x128.Idx → EReal) ((((pipe m hO).win 0).blk t).view.emb (ix3 p g l)) := rfl
  have hi : cc0_transform_0 k0_off1_inb numel1_S1 (tbl m) (grid0.coords (t : Fin grid0.N)) = ![t.val, 0, 0] := by
    rw [index0, at1_eq, show (tbl m 1 : S352.Idx → BitVec 32) (ix1 t) = 1#32 from hv]
    refine congrArg (![·, 0, 0]) ?_
    refine (congrArg (fun n => (IntOp.muli (BitVec.ofNat 32 n) 1#32).toNat) (coords_eq t)).trans ?_
    unfold IntOp.muli; simp only [BitVec.mul_one, BitVec.toNat_ofNat]; omega
  refine e.trans ((congrFun (V_arg0 m c) _).trans (congrArg (m (c, main_arg0)) (funext fun a => Fin.ext ?_)))
  match a with
  | ⟨0, _⟩ =>
    change cc0_transform_0 k0_off1_inb numel1_S1 (tbl m) (grid0.coords (t : Fin grid0.N)) 0 * 512 + 1 * p.val = t.val * 512 + p.val
    rw [hi]; change t.val * 512 + 1 * p.val = _; omega
  | ⟨1, _⟩ =>
    change cc0_transform_0 k0_off1_inb numel1_S1 (tbl m) (grid0.coords (t : Fin grid0.N)) 1 * 16 + 1 * g.val = g.val
    rw [hi]; change 0 * 16 + 1 * g.val = _; omega
  | ⟨2, _⟩ =>
    change cc0_transform_0 k0_off1_inb numel1_S1 (tbl m) (grid0.coords (t : Fin grid0.N)) 2 * 128 + 1 * l.val = l.val
    rw [hi]; change 0 * 128 + 1 * l.val = _; omega

/-- The first weight of the block's expert. -/
theorem weight_block1 (c : Dev nD) (t : Fin 352) (he : (expertOf m t).toNat < 64) (k : Fin 2048) (f : Fin 512) :
    (iblk m hO c 1 (t : Fin (pipe m hO).N) : S1x2048x512.Idx → EReal) (ix3 0 k f) = (m (c, main_arg3) : S2x64x2048x512.Idx → EReal) (ix4 0 ⟨(expertOf m t).toNat, he⟩ k f) := by
  have e : (iblk m hO c 1 (t : Fin (pipe m hO).N) : S1x2048x512.Idx → EReal) (ix3 0 k f) = (V m c main_v2 : S64x2048x512.Idx → EReal) ((((pipe m hO).win 1).blk t).view.emb (ix3 0 k f)) := rfl
  have hi : cc0_transform_1 k0_off1_inb numel1_S1 (tbl m) (grid0.coords (t : Fin grid0.N)) = ![(expertOf m t).toNat, 0, 0] := by
    rw [index1, at1_eq]
  have hemb : (((pipe m hO).win 1).blk t).view.emb (ix3 0 k f) = (ix3 ⟨(expertOf m t).toNat, he⟩ k f : S64x2048x512.Idx) := funext fun a => Fin.ext (by
    match a with
    | ⟨0, _⟩ =>
      change cc0_transform_1 k0_off1_inb numel1_S1 (tbl m) (grid0.coords (t : Fin grid0.N)) 0 * 1 + 1 * 0 = (expertOf m t).toNat
      rw [hi]; change (expertOf m t).toNat * 1 + 1 * 0 = _; omega
    | ⟨1, _⟩ =>
      change cc0_transform_1 k0_off1_inb numel1_S1 (tbl m) (grid0.coords (t : Fin grid0.N)) 1 * 2048 + 1 * k.val = k.val
      rw [hi]; change 0 * 2048 + 1 * k.val = _; omega
    | ⟨2, _⟩ =>
      change cc0_transform_1 k0_off1_inb numel1_S1 (tbl m) (grid0.coords (t : Fin grid0.N)) 2 * 512 + 1 * f.val = f.val
      rw [hi]; change 0 * 512 + 1 * f.val = _; omega)
  refine e.trans ((congrArg _ hemb).trans ?_)
  generalize (⟨(expertOf m t).toNat, he⟩ : Fin 64) = n
  unfold V
  after_reads_at

/-- The third weight of the block's expert. -/
theorem weight_block2 (c : Dev nD) (t : Fin 352) (he : (expertOf m t).toNat < 64) (k : Fin 2048) (f : Fin 512) :
    (iblk m hO c 2 (t : Fin (pipe m hO).N) : S1x2048x512.Idx → EReal) (ix3 0 k f) = (m (c, main_arg4) : S2x64x2048x512.Idx → EReal) (ix4 0 ⟨(expertOf m t).toNat, he⟩ k f) := by
  have e : (iblk m hO c 2 (t : Fin (pipe m hO).N) : S1x2048x512.Idx → EReal) (ix3 0 k f) = (V m c main_v5 : S64x2048x512.Idx → EReal) ((((pipe m hO).win 2).blk t).view.emb (ix3 0 k f)) := rfl
  have hi : cc0_transform_2 k0_off1_inb numel1_S1 (tbl m) (grid0.coords (t : Fin grid0.N)) = ![(expertOf m t).toNat, 0, 0] := by
    rw [index2, at1_eq]
  have hemb : (((pipe m hO).win 2).blk t).view.emb (ix3 0 k f) = (ix3 ⟨(expertOf m t).toNat, he⟩ k f : S64x2048x512.Idx) := funext fun a => Fin.ext (by
    match a with
    | ⟨0, _⟩ =>
      change cc0_transform_2 k0_off1_inb numel1_S1 (tbl m) (grid0.coords (t : Fin grid0.N)) 0 * 1 + 1 * 0 = (expertOf m t).toNat
      rw [hi]; change (expertOf m t).toNat * 1 + 1 * 0 = _; omega
    | ⟨1, _⟩ =>
      change cc0_transform_2 k0_off1_inb numel1_S1 (tbl m) (grid0.coords (t : Fin grid0.N)) 1 * 2048 + 1 * k.val = k.val
      rw [hi]; change 0 * 2048 + 1 * k.val = _; omega
    | ⟨2, _⟩ =>
      change cc0_transform_2 k0_off1_inb numel1_S1 (tbl m) (grid0.coords (t : Fin grid0.N)) 2 * 512 + 1 * f.val = f.val
      rw [hi]; change 0 * 512 + 1 * f.val = _; omega)
  refine e.trans ((congrArg _ hemb).trans ?_)
  generalize (⟨(expertOf m t).toNat, he⟩ : Fin 64) = n
  unfold V
  after_reads_at

/-- The second weight of the block's expert. -/
theorem weight_block3 (c : Dev nD) (t : Fin 352) (he : (expertOf m t).toNat < 64) (k : Fin 512) (f : Fin 2048) :
    (iblk m hO c 3 (t : Fin (pipe m hO).N) : S1x512x2048.Idx → EReal) (ix3 0 k f) = (m (c, main_arg5) : S2x64x512x2048.Idx → EReal) (ix4 0 ⟨(expertOf m t).toNat, he⟩ k f) := by
  have e : (iblk m hO c 3 (t : Fin (pipe m hO).N) : S1x512x2048.Idx → EReal) (ix3 0 k f) = (V m c main_v8 : S64x512x2048.Idx → EReal) ((((pipe m hO).win 3).blk t).view.emb (ix3 0 k f)) := rfl
  have hi : cc0_transform_3 k0_off1_inb numel1_S1 (tbl m) (grid0.coords (t : Fin grid0.N)) = ![(expertOf m t).toNat, 0, 0] := by
    rw [index3, at1_eq]
  have hemb : (((pipe m hO).win 3).blk t).view.emb (ix3 0 k f) = (ix3 ⟨(expertOf m t).toNat, he⟩ k f : S64x512x2048.Idx) := funext fun a => Fin.ext (by
    match a with
    | ⟨0, _⟩ =>
      change cc0_transform_3 k0_off1_inb numel1_S1 (tbl m) (grid0.coords (t : Fin grid0.N)) 0 * 1 + 1 * 0 = (expertOf m t).toNat
      rw [hi]; change (expertOf m t).toNat * 1 + 1 * 0 = _; omega
    | ⟨1, _⟩ =>
      change cc0_transform_3 k0_off1_inb numel1_S1 (tbl m) (grid0.coords (t : Fin grid0.N)) 1 * 512 + 1 * k.val = k.val
      rw [hi]; change 0 * 512 + 1 * k.val = _; omega
    | ⟨2, _⟩ =>
      change cc0_transform_3 k0_off1_inb numel1_S1 (tbl m) (grid0.coords (t : Fin grid0.N)) 2 * 2048 + 1 * f.val = f.val
      rw [hi]; change 0 * 2048 + 1 * f.val = _; omega)
  refine e.trans ((congrArg _ hemb).trans ?_)
  generalize (⟨(expertOf m t).toNat, he⟩ : Fin 64) = n
  unfold V
  after_reads_at

/-! ## The output -/

theorem out_index : ∀ t : Fin grid0.N, cc0_transform_4 (grid0.coords t) = ![t.val, 0, 0] := by decide +kernel

/-- Where an element of point `t`'s output block lies in the array. -/
theorem out_emb (t : Fin 352) (p : Fin 512) (g : Fin 16) (l : Fin 128) :
    (((pipe m hO).win 4).blk (t : Fin (pipe m hO).N)).view.emb (ix3 p g l) = (ix3 ⟨t.val * 512 + p.val, by omega⟩ g l : S180224x16x128.Idx) := funext fun a => Fin.ext (by
  have hi : cc0_transform_4 (grid0.coords (t : Fin grid0.N)) = ![t.val, 0, 0] := out_index t
  match a with
  | ⟨0, _⟩ =>
    change cc0_transform_4 (grid0.coords (t : Fin grid0.N)) 0 * 512 + 1 * p.val = t.val * 512 + p.val
    rw [hi]; change t.val * 512 + 1 * p.val = _; omega
  | ⟨1, _⟩ =>
    change cc0_transform_4 (grid0.coords (t : Fin grid0.N)) 1 * 16 + 1 * g.val = g.val
    rw [hi]; change 0 * 16 + 1 * g.val = _; omega
  | ⟨2, _⟩ =>
    change cc0_transform_4 (grid0.coords (t : Fin grid0.N)) 2 * 128 + 1 * l.val = l.val
    rw [hi]; change 0 * 128 + 1 * l.val = _; omega)

/-- Distinct points write blocks that share no element. -/
theorem apart : ∀ t t' : Fin (pipe m hO).N, ((pipe m hO).win 4).flush t = true → ((pipe m hO).win 4).flush t' = true → t ≠ t' →
    Disjoint (((pipe m hO).win 4).blk t).view.set (((pipe m hO).win 4).blk t').view.set := fun t t' _ _ hne =>
  ((pipe m hO).win 4).disjoint_blk fun h => hne (Fin.ext (by
    have h0 : cc0_transform_4 (grid0.coords (t : Fin grid0.N)) 0 = cc0_transform_4 (grid0.coords (t' : Fin grid0.N)) 0 := congrFun h (0 : Fin 3)
    rw [out_index, out_index] at h0
    exact h0))

/-- So the final array holds in each block what its point wrote. -/
theorem block_kept (c : Dev nD) (t : Fin (pipe m hO).N) :
    (((pipe m hO).win 4).blk t).view.read (Elt Ideal) ((dats m hO 0 c).arrAt 4 (pipe m hO).N) = (dats m hO 0 c).flushed 4 t :=
  (dats m hO 0 c).read_blk_arrAt_eq_flushed 4 (apart m hO) (pipe m hO).N t t.isLt (out_flush (adm m hO) t)

/-- Which is the body's result. -/
theorem point_wrote (c : Dev nD) (t : Fin (pipe m hO).N) :
    (dats m hO 0 c).flushed 4 t = ((pipe m hO).win 4).cut ((pipe m hO).grid.coords t) (outAt m hO c t) := by
  show ((pipe m hO).win 4).cut ((pipe m hO).grid.coords t) ((dats m hO 0 c).after 4 t) = _
  rw [after4]

theorem block_read (c : Dev nD) (t : Fin (pipe m hO).N) (y : S512x16x128.Idx) :
    ((dats m hO 0 c).arrAt 4 (pipe m hO).N : S180224x16x128.Idx → EReal) ((((pipe m hO).win 4).blk t).view.emb y) = outAt m hO c t y := by
  have e := block_kept m hO c t
  rw [point_wrote] at e
  generalize (dats m hO 0 c).arrAt 4 (pipe m hO).N = A at e ⊢
  generalize outAt m hO c t = o at e ⊢
  have e1 := congrFun e y
  have e2 : ((pipe m hO).win 4).cut ((pipe m hO).grid.coords t) o y = o y := rfl
  refine Eq.trans ?_ (e1.trans e2)
  rfl

/-- An element of a block of the final array. -/
theorem block_at (c : Dev nD) (t : Fin 352) (p : Fin 512) (g : Fin 16) (l : Fin 128) :
    ((dats m hO 0 c).arrAt 4 (pipe m hO).N : S180224x16x128.Idx → EReal) (ix3 ⟨t.val * 512 + p.val, by omega⟩ g l)
      = outAt m hO c t (ix3 p g l) := by
  exact (congrArg ((dats m hO 0 c).arrAt 4 (pipe m hO).N) (out_emb m hO t p g l).symm).trans (block_read m hO c t (ix3 p g l))

/-- A block of tokens holds its expert's result. -/
theorem tokens_at (c : Dev nD) (t : Fin 352) (hv : validOf m t = 1#32) (he : (expertOf m t).toNat < 64) (p : Fin 512) (g : Fin 16) (l : Fin 128) :
    outAt m hO c t (ix3 p g l)
      = expertAt (m (c, main_arg0)) (m (c, main_arg3)) (m (c, main_arg4)) (m (c, main_arg5)) ⟨(expertOf m t).toNat, he⟩ ⟨t.val * 512 + p.val, by omega⟩ ⟨g.val * 128 + l.val, by omega⟩ := by
  have hT : Tokens m hO c t := tokens_of m hO c t ((congrArg _ (at1_eq t)).trans hv)
  rw [outAt_tokens m hO c t hT]
  refine (outTokens_apply c _ _ _ _ _ _ _ _ _ _ _ _ _ _ _ _ _ _ _ p g l).trans ((blockOut_apply _ _ _ _ _ _).trans ?_)
  have h1 : ∀ f, blockUp (iblk m hO c 0 t) (iblk m hO c 1 t) p f = upAt (m (c, main_arg0)) (m (c, main_arg3)) ⟨(expertOf m t).toNat, he⟩ ⟨t.val * 512 + p.val, by omega⟩ f := fun f =>
    Finset.sum_congr rfl fun k _ => congrArg₂ (· * ·) (rows_block m hO c t hv p _ _) (weight_block1 m hO c t he k f)
  have h2 : ∀ f, blockUp (iblk m hO c 0 t) (iblk m hO c 2 t) p f = upAt (m (c, main_arg0)) (m (c, main_arg4)) ⟨(expertOf m t).toNat, he⟩ ⟨t.val * 512 + p.val, by omega⟩ f := fun f =>
    Finset.sum_congr rfl fun k _ => congrArg₂ (· * ·) (rows_block m hO c t hv p _ _) (weight_block2 m hO c t he k f)
  unfold expertAt
  exact Finset.sum_congr rfl fun f _ => congrArg₂ (· * ·) (congrArg₂ (· * ·) (congrArg₂ (· * ·) (h1 f) (congrArg _ (h1 f))) (h2 f)) (weight_block3 m hO c t he f _)

/-- A block of none holds zeros. -/
theorem empty_at (c : Dev nD) (t : Fin 352) (hv : validOf m t = 0#32) (y : S512x16x128.Idx) : outAt m hO c t y = 0 := by
  have hE : Empty m hO c t := empty_of m hO c t ((congrArg _ (at1_eq t)).trans hv)
  rw [outAt_empty m hO c t hE]
  exact outEmpty_apply c _ _ _ _ _ _ _ _ _ _ _ _ _ _ _ _ _ _ _ y

/-- An element of the kernel's array. -/
theorem arr_at (h : InRange m) (c : Dev nD) (r : Fin 180224) (g : Fin 16) (l : Fin 128) :
    ((dats m hO 0 c).arrAt 4 (pipe m hO).N : S180224x16x128.Idx → EReal) (ix3 r g l)
      = routedAt (m (c, main_arg0)) (tbl m 0) (tbl m 1) (fun i => (h i).1) (m (c, main_arg3)) (m (c, main_arg4)) (m (c, main_arg5)) r g l := by
  have hr : r = ⟨(⟨r.val / 512, by omega⟩ : Fin 352).val * 512 + (⟨r.val % 512, by omega⟩ : Fin 512).val, by dsimp only; omega⟩ := Fin.ext (by dsimp only; omega)
  have e := block_at m hO c ⟨r.val / 512, by omega⟩ ⟨r.val % 512, by omega⟩ g l
  rw [← hr] at e
  refine e.trans ?_
  unfold routedAt
  rcases (h (ix1 ⟨r.val / 512, by omega⟩)).2 with hv | hv
  · have hn : ¬ (tbl m 1 : S352.Idx → BitVec 32) (ix1 ⟨r.val / 512, by omega⟩) = 1#32 := fun h1 => absurd (hv.symm.trans h1) (by decide : ¬ (0#32 : BitVec 32) = 1#32)
    exact (empty_at m hO c _ hv _).trans (if_neg hn).symm
  · refine Eq.trans ((tokens_at m hO c ⟨r.val / 512, by omega⟩ hv (h _).1 _ g l).trans ?_) (if_pos hv).symm
    rw [← hr]

end Cert.ExpertsIdeal

end
-- ==== Proof.ExpertsReference.lean ====
/-
  The routed experts' reference at an element.
-/
module

public import proofs.«01_k».proof.Proof.ExpertsMath
public import proofs.«01_k».proof.Proof.Gen.Reference12Ideal.Run
public import proofs.«01_k».proof.Proof.Gen.Reference12Ideal.Read
public import Idealize.ShloMosaic.Lib.StableHlo.Predicate

@[expose] public section

noncomputable section

namespace Cert.ExpertsReference

open Cert.Reference12Ideal Cert.Reference12Ideal.Read Idealize.ShloMosaic Cert.ExpertsMath

variable (x0 : (⟨S180224x16x128, .f32⟩ : BufTy).Contents (Elt Ideal)) (x1 x2 : (⟨S352, .i32⟩ : BufTy).Contents (Elt Ideal))
  (x3 x4 : (⟨S2x64x2048x512, .f32⟩ : BufTy).Contents (Elt Ideal)) (x5 : (⟨S2x64x512x2048, .f32⟩ : BufTy).Contents (Elt Ideal))

/-- A number below 64 is not negative, so it is taken as it stands. -/
theorem taken (w : BitVec 32) (h : w.toNat < 64) : Scalar.select (IntOp.cmpi .slt w 0#32) (IntOp.addi w 64#32) w = w := by
  have e : IntOp.cmpi .slt w 0#32 = 0#1 := by
    have h' : w.toInt = w.toNat := StableHlo.Predicate.toInt_eq_toNat_of_lt (by omega)
    simp only [IntOp.cmpi, BitVec.slt, h', show (0#32 : BitVec 32).toInt = 0 from by decide]
    rw [decide_eq_false (by omega)]; rfl
  rw [e]; rfl

theorem clamped (w : BitVec 32) (h : w.toNat < 64) : min w.toInt.toNat (64 - 1) = w.toNat := by
  have h' : w.toInt = w.toNat := StableHlo.Predicate.toInt_eq_toNat_of_lt (by omega)
  rw [h']; omega

variable (he : ∀ i, ((x1 : S352.Idx → BitVec 32) i).toNat < 64)
include he

/-- The expert of block `b`. -/
abbrev expert (b : Fin 352) : Fin 64 := ⟨((x1 : S352.Idx → BitVec 32) (ix1 b)).toNat, he _⟩

theorem word8 (b : Fin 352) : (val_main_v8 (F := Ideal) x1 : S352x1.Idx → BitVec 32) (ix2 b 0) = (x1 : S352.Idx → BitVec 32) (ix1 b) := by
  rw [val_main_v8_apply, show idx_main_v8 (ix2 b 0) = ix1 b from funext fun a => match a with | ⟨0, _⟩ => rfl, val_main_v7_apply]
  exact taken _ (he _)
theorem word17 (b : Fin 352) : (val_main_v17 (F := Ideal) x1 : S352x1.Idx → BitVec 32) (ix2 b 0) = (x1 : S352.Idx → BitVec 32) (ix1 b) := by
  rw [val_main_v17_apply, show idx_main_v17 (ix2 b 0) = ix1 b from funext fun a => match a with | ⟨0, _⟩ => rfl, val_main_v16_apply]
  exact taken _ (he _)
theorem word26 (b : Fin 352) : (val_main_v26 (F := Ideal) x1 : S352x1.Idx → BitVec 32) (ix2 b 0) = (x1 : S352.Idx → BitVec 32) (ix1 b) := by
  rw [val_main_v26_apply, show idx_main_v26 (ix2 b 0) = ix1 b from funext fun a => match a with | ⟨0, _⟩ => rfl, val_main_v25_apply]
  exact taken _ (he _)

theorem weights9 (b : Fin 352) (k : Fin 2048) (f : Fin 512) :
    val_main_v9 (F := Ideal) x1 x3 (ix3 b k f) = x3 (ix4 0 (expert x1 he b) k f) := by
  unfold val_main_v9
  refine (pick_apply (by decide) _ (val_main_v2 (F := Ideal) x3) (val_main_v8 (F := Ideal) x1) b k f).trans ?_
  rw [val_main_v2_apply, val_main_v1_apply]
  have e := word8 x1 he b
  have hk : min ((val_main_v8 (F := Ideal) x1 : S352x1.Idx → BitVec 32) (ix2 b 0)).toInt.toNat (64 - 1) = (expert x1 he b).val := by
    rw [e]; exact clamped _ (he _)
  congr 1
  funext a
  apply Fin.ext
  have hb := (expert x1 he b).isLt
  match a with
  | ⟨0, _⟩ => rfl
  | ⟨1, _⟩ => show ((min _ _ * 2048 + k.val) * 512 + f.val) / 1048576 % 64 = (expert x1 he b).val; rw [hk]; omega
  | ⟨2, _⟩ => show ((min _ _ * 2048 + k.val) * 512 + f.val) / 512 % 2048 = k.val; omega
  | ⟨3, _⟩ => show ((min _ _ * 2048 + k.val) * 512 + f.val) % 512 = f.val; omega

theorem weights18 (b : Fin 352) (k : Fin 2048) (f : Fin 512) :
    val_main_v18 (F := Ideal) x1 x4 (ix3 b k f) = x4 (ix4 0 (expert x1 he b) k f) := by
  unfold val_main_v18
  refine (pick_apply (by decide) _ (val_main_v11 (F := Ideal) x4) (val_main_v17 (F := Ideal) x1) b k f).trans ?_
  rw [val_main_v11_apply, val_main_v10_apply]
  have e := word17 x1 he b
  have hk : min ((val_main_v17 (F := Ideal) x1 : S352x1.Idx → BitVec 32) (ix2 b 0)).toInt.toNat (64 - 1) = (expert x1 he b).val := by
    rw [e]; exact clamped _ (he _)
  congr 1
  funext a
  apply Fin.ext
  have hb := (expert x1 he b).isLt
  match a with
  | ⟨0, _⟩ => rfl
  | ⟨1, _⟩ => show ((min _ _ * 2048 + k.val) * 512 + f.val) / 1048576 % 64 = (expert x1 he b).val; rw [hk]; omega
  | ⟨2, _⟩ => show ((min _ _ * 2048 + k.val) * 512 + f.val) / 512 % 2048 = k.val; omega
  | ⟨3, _⟩ => show ((min _ _ * 2048 + k.val) * 512 + f.val) % 512 = f.val; omega

theorem weights27 (b : Fin 352) (f : Fin 512) (q : Fin 2048) :
    val_main_v27 (F := Ideal) x1 x5 (ix3 b f q) = x5 (ix4 0 (expert x1 he b) f q) := by
  unfold val_main_v27
  refine (pick_apply (by decide) _ (val_main_v20 (F := Ideal) x5) (val_main_v26 (F := Ideal) x1) b f q).trans ?_
  rw [val_main_v20_apply, val_main_v19_apply]
  have e := word26 x1 he b
  have hk : min ((val_main_v26 (F := Ideal) x1 : S352x1.Idx → BitVec 32) (ix2 b 0)).toInt.toNat (64 - 1) = (expert x1 he b).val := by
    rw [e]; exact clamped _ (he _)
  congr 1
  funext a
  apply Fin.ext
  have hb := (expert x1 he b).isLt
  match a with
  | ⟨0, _⟩ => rfl
  | ⟨1, _⟩ => show ((min _ _ * 512 + f.val) * 2048 + q.val) / 1048576 % 64 = (expert x1 he b).val; rw [hk]; omega
  | ⟨2, _⟩ => show ((min _ _ * 512 + f.val) * 2048 + q.val) / 2048 % 512 = f.val; omega
  | ⟨3, _⟩ => show ((min _ _ * 512 + f.val) * 2048 + q.val) % 2048 = q.val; omega

omit he in
theorem rows0 (b : Fin 352) (p : Fin 512) (k : Fin 2048) :
    val_main_v0 (F := Ideal) x0 (ix3 b p k) = x0 (ix3 ⟨b.val * 512 + p.val, by omega⟩ ⟨k.val / 128, by omega⟩ ⟨k.val % 128, by omega⟩) := by
  rw [val_main_v0_apply]
  congr 1
  funext a
  apply Fin.ext
  match a with
  | ⟨0, _⟩ => show ((b.val * 512 + p.val) * 2048 + k.val) / 2048 = b.val * 512 + p.val; omega
  | ⟨1, _⟩ => show ((b.val * 512 + p.val) * 2048 + k.val) / 128 % 16 = k.val / 128; omega
  | ⟨2, _⟩ => show ((b.val * 512 + p.val) * 2048 + k.val) % 128 = k.val % 128; omega

theorem up28 (b : Fin 352) (p : Fin 512) (f : Fin 512) :
    val_main_v28 (F := Ideal) x0 x1 x3 (ix3 b p f) = upAt x0 x3 (expert x1 he b) ⟨b.val * 512 + p.val, by omega⟩ f := by
  rw [val_main_v28_apply]
  refine Finset.sum_congr rfl fun k _ => ?_
  rw [show lidx_main_v28 (ix3 b p f) k = ix3 b p k from funext fun a => match a with | ⟨0, _⟩ => rfl | ⟨1, _⟩ => rfl | ⟨2, _⟩ => rfl,
    show ridx_main_v28 (ix3 b p f) k = ix3 b k f from funext fun a => match a with | ⟨0, _⟩ => rfl | ⟨1, _⟩ => rfl | ⟨2, _⟩ => rfl, rows0, weights9 x1 x3 he]

theorem up30 (b : Fin 352) (p : Fin 512) (f : Fin 512) :
    val_main_v30 (F := Ideal) x0 x1 x4 (ix3 b p f) = upAt x0 x4 (expert x1 he b) ⟨b.val * 512 + p.val, by omega⟩ f := by
  rw [val_main_v30_apply]
  refine Finset.sum_congr rfl fun k _ => ?_
  rw [show lidx_main_v30 (ix3 b p f) k = ix3 b p k from funext fun a => match a with | ⟨0, _⟩ => rfl | ⟨1, _⟩ => rfl | ⟨2, _⟩ => rfl,
    show ridx_main_v30 (ix3 b p f) k = ix3 b k f from funext fun a => match a with | ⟨0, _⟩ => rfl | ⟨1, _⟩ => rfl | ⟨2, _⟩ => rfl, rows0, weights18 x1 x4 he]

omit he in
theorem silu29 (i : S352x512x512.Idx) :
    val_main_v29 (F := Ideal) x0 x1 x3 i = val_main_v28 (F := Ideal) x0 x1 x3 i * Ideal.logistic (val_main_v28 (F := Ideal) x0 x1 x3 i) := by
  unfold val_main_v29 val_main_call0_v5 val_main_call0_v3 val_main_call0_v1 val_main_call0_v0
  generalize val_main_v28 (F := Ideal) x0 x1 x3 = y
  pointwise [val_main_call0_v2, val_main_call0_cst, val_main_call0_v4, val_main_call0_cst_0]
  rfl

theorem down32 (b : Fin 352) (p : Fin 512) (q : Fin 2048) :
    val_main_v32 (F := Ideal) x0 x1 x3 x4 x5 (ix3 b p q) = expertAt x0 x3 x4 x5 (expert x1 he b) ⟨b.val * 512 + p.val, by omega⟩ q := by
  rw [val_main_v32_apply]
  refine Finset.sum_congr rfl fun f _ => ?_
  rw [show lidx_main_v32 (ix3 b p q) f = ix3 b p f from funext fun a => match a with | ⟨0, _⟩ => rfl | ⟨1, _⟩ => rfl | ⟨2, _⟩ => rfl,
    show ridx_main_v32 (ix3 b p q) f = ix3 b f q from funext fun a => match a with | ⟨0, _⟩ => rfl | ⟨1, _⟩ => rfl | ⟨2, _⟩ => rfl, weights27 x1 x5 he,
    val_main_v31_apply, silu29, up28 x0 x1 x3 he, up30 x0 x1 x4 he]
  rfl

theorem where36 (hv : ∀ i, (x2 : S352.Idx → BitVec 32) i = 0#32 ∨ (x2 : S352.Idx → BitVec 32) i = 1#32) (b : Fin 352) (p : Fin 512) (q : Fin 2048) :
    val_main_v36 (F := Ideal) x0 x1 x2 x3 x4 x5 (ix3 b p q)
      = if (x2 : S352.Idx → BitVec 32) (ix1 b) = 1#32 then expertAt x0 x3 x4 x5 (expert x1 he b) ⟨b.val * 512 + p.val, by omega⟩ q else 0 := by
  rw [val_main_v36_apply]
  have e : val_main_call1_v1 (F := Ideal) x2 (ix3 b p q) = IntOp.cmpi .sgt ((x2 : S352.Idx → BitVec 32) (ix1 b)) 0#32 := by
    rw [val_main_call1_v1_apply, val_main_v35_apply, val_main_v33_apply]
    rw [show idx_main_v33 (idx_main_call1_v1 (ix3 b p q)) = ix1 b from funext fun a => match a with | ⟨0, _⟩ => rfl]
    rfl
  have z : val_main_call1_v2 (F := Ideal) (ix3 b p q) = 0 := by
    pointwise [val_main_call1_v2, val_main_call1_v0, val_main_cst]
    change constant (F := Ideal) S_ .f32 0x00000000#32 ix0 = 0
    pointwise []
  rw [e, z, down32 x0 x1 x3 x4 x5 he b p q]
  rcases hv (ix1 b) with h | h
  · rw [h, if_neg (by decide)]; rfl
  · rw [h, if_pos rfl]; rfl

/-- The reference's result at an element. -/
theorem reference_at (hv : ∀ i, (x2 : S352.Idx → BitVec 32) i = 0#32 ∨ (x2 : S352.Idx → BitVec 32) i = 1#32) (r : Fin 180224) (g : Fin 16) (l : Fin 128) :
    val_main_v37 (F := Ideal) x0 x1 x2 x3 x4 x5 (ix3 r g l) = routedAt x0 x1 x2 he x3 x4 x5 r g l := by
  rw [val_main_v37_apply]
  have e : idx_main_v37 (ix3 r g l) = ix3 (⟨r.val / 512, by omega⟩ : Fin 352) (⟨r.val % 512, by omega⟩ : Fin 512) (⟨g.val * 128 + l.val, by omega⟩ : Fin 2048) := by
    funext a
    apply Fin.ext
    match a with
    | ⟨0, _⟩ => show ((r.val * 16 + g.val) * 128 + l.val) / 1048576 = r.val / 512; omega
    | ⟨1, _⟩ => show ((r.val * 16 + g.val) * 128 + l.val) / 2048 % 512 = r.val % 512; omega
    | ⟨2, _⟩ => show ((r.val * 16 + g.val) * 128 + l.val) % 2048 = g.val * 128 + l.val; omega
  rw [e, where36 x0 x1 x2 x3 x4 x5 he hv]
  unfold routedAt
  have h : (⟨r.val / 512 * 512 + r.val % 512, by omega⟩ : Fin 180224) = r := Fin.ext (by show r.val / 512 * 512 + r.val % 512 = r.val; omega)
  simp only [h]

end Cert.ExpertsReference

end
-- ==== Proof.Experts.lean ====
/-
  The routed experts: the kernel's array is the reference's, of the same arguments with the tables within range; and the frames.
-/
module

public import proofs.«01_k».proof.Defs
public import proofs.«01_k».proof.Proof.ExpertsValue
public import proofs.«01_k».proof.Proof.ExpertsBitsTables
public import proofs.«01_k».proof.Proof.ExpertsReference
public import proofs.«01_k».proof.Proof.Gen.Reference12Ideal.Run
public import proofs.«01_k».proof.Proof.Gen.Reference12Ideal.Read
public import Idealize.ShloMosaic.Lib.Quiescent

@[expose] public section

set_option maxRecDepth 16384

noncomputable section

namespace Cert.Experts

open Idealize.ShloMosaic Idealize.ShloMosaic.TcCoe Idealize.SL.Sem

/-! ## The frames -/

theorem frame_bits : Cert.quiescent_Kernel12 := fun m ρ hp =>
  have h := Cert.ExpertsBits.range_of_pre m (hp 0)
  have hO := Cert.ExpertsBits.ok_of_range m h
  Cert.ExpertsBits.frame m ρ hO (Cert.ExpertsBits.split_of_range m h hO)

theorem frame_ideal : Cert.quiescent_Kernel12Ideal := fun m ρ hp =>
  have h := Cert.ExpertsIdeal.range_of_pre m (hp 0)
  have hO := Cert.ExpertsIdeal.ok_of_range m h
  Cert.ExpertsIdeal.frame m ρ hO (Cert.ExpertsIdeal.split_of_range m h hO)

theorem frame_r : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_r_pre : Cert.quiescent_Reference12Ideal_pre_experts_in_range := fun m ρ _ =>
  (θ_run Cert.Reference12Ideal.defs _ _).mono (fun r h => ⟨fun c => (h c).2, sem_eq_zero_of_no_sems (by decide) r.2⟩)
    (Cert.Reference12Ideal.Value.run (F := Ideal) m ρ)

/-! ## The value -/

section
open Cert.Kernel12Ideal Cert.Kernel12Ideal.Gen Cert.ExpertsIdeal

variable (m : (ℓ : Loc nD τ sig) → Buf (Elt Ideal) ℓ)

/-- Every final state of the kernel has its array and its arguments as launched. -/
theorem kernel_run (g : Dev nD → PrngReg) (hO : Ok m) (hS : Split m hO) :
    θ_run (Cert.Kernel12Ideal.defs (F := Ideal)) (onTc (τ := τ) (Cert.Kernel12Ideal.main (F := Ideal))) ⟨m, fun _ => 0, g⟩ (fun r => ∀ c : Dev nD,
    r.2.mem ((c.tc : Thread nD τ).loc main_v9) = (dats m hO 0 c).arrAt 4 (pipe m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run Cert.Kernel12Ideal.defs _ _).mono (fun _ hr c => ⟨(hr.1 c).1 4,
    ((hr.1 c).1 0).trans (((dats m hO 0 c).arrAt_in 0 rfl _).trans ((dats_A m hO c 0).trans (V_arg0 m c))),
    ((hr.1 c).2 main_arg1 (by decide : main_arg1 ∈ Pipeline.restRefs sig spec0)).trans (V_arg1 m c),
    ((hr.1 c).2 main_arg2 (by decide : main_arg2 ∈ Pipeline.restRefs sig spec0)).trans (V_arg2 m c),
    ((hr.1 c).2 main_arg3 (by decide : main_arg3 ∈ Pipeline.restRefs sig spec0)).trans (V_arg3 m c),
    ((hr.1 c).2 main_arg4 (by decide : main_arg4 ∈ Pipeline.restRefs sig spec0)).trans (V_arg4 m c),
    ((hr.1 c).2 main_arg5 (by decide : main_arg5 ∈ Pipeline.restRefs sig spec0)).trans (V_arg5 m c)⟩) (run_quiescent m g hO hS)

/-- The kernel's array is the reference's value of its arguments. -/
theorem value (h : InRange m) (hO : Ok m) (c : Dev nD) :
    (Cert.Reference12Ideal.Read.val_main_v37 (F := Ideal) (m (c, main_arg0)) (m (c, main_arg1)) (m (c, main_arg2)) (m (c, main_arg3)) (m (c, main_arg4)) (m (c, main_arg5)) : S180224x16x128.Idx → EReal)
      = (dats m hO 0 c).arrAt 4 (pipe m hO).N := by
  obtain rfl : c = 0 := Subsingleton.elim _ _
  funext i
  obtain ⟨r, g, l, rfl⟩ : ∃ (a : Fin 180224) (b : Fin 16) (d : Fin 128), i = ix3 a b d := ⟨i 0, i 1, i 2, funext fun k => match k with | ⟨0, _⟩ => rfl | ⟨1, _⟩ => rfl | ⟨2, _⟩ => rfl⟩
  rw [← tbl0 m, ← tbl1 m]
  exact (Cert.ExpertsReference.reference_at _ _ _ _ _ _ (fun i => (h i).1) (fun i => (h i).2) r g l).trans (arr_at m hO h 0 r g l).symm
end

/-- From the same arguments, with the tables within range, the kernel's array is the reference's. -/
theorem algebraic : Cert.algebraic_Kernel12Ideal_Reference12Ideal := by
  intro m g m' g' hp hag
  have h := Cert.ExpertsIdeal.range_of_pre m (hp 0)
  have hO := Cert.ExpertsIdeal.ok_of_range m h
  refine ⟨_, kernel_run m g hO (Cert.ExpertsIdeal.split_of_range m h hO), ?_⟩
  refine (θ_run Cert.Reference12Ideal.defs _ _).mono (fun r hr c => ⟨?_, (hr c).2⟩) (Cert.Reference12Ideal.Value.run (F := Ideal) m' g')
  obtain ⟨a0, a1, a2, a3, a4, a5⟩ := hag c
  refine (hr c).1.trans ?_
  refine (Cert.Reference12Ideal.Read.val_main_v37_eq (F := Ideal) _ _ _ _ _ _).trans ?_
  rw [a0, a1, a2, a3, a4, a5]
  exact value m h hO c

end Cert.Experts

end
-- ==== Proof.SsdIdealRun.lean ====
/-
  The run of the scan's body: what its stores leave in the three outputs. The loop's pieces of the two outputs that the
  body never loads are formally functions of what those buffers held before; they do not depend on it.
-/
module

public import proofs.«01_k».proof.Proof.Gen.Kernel13Ideal.Frame.Runs

@[expose] public section

-- membership in a rectangle of production extents (`View.cover_of_tiled`): the elaborator's structural look
-- recurses once per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's pieces do not depend on what it finds in the two outputs that it never loads. -/
theorem trip_free (𝒱 : Variants) (c : Dev nD) (bd : Option 𝒱.V) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (v3 : IVec S64x64 32) (v4 : IVec S64x64 32) (v11 : Vec F S1x128 .f32) (v12 : Vec F S1x128 .f32) (v13 : Vec F S128x1 .f32) (v15 : Vec F S128x1 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)
    (f10 f10' : BufTy.Contents (Elt F) arg10.view.ty) (f11 f11' : BufTy.Contents (Elt F) arg11.view.ty) (f12 : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 v3 v4 v11 v12 v13 v15 X_arg2 X_arg3 X_arg4 X_arg5 X_arg6 X_arg7 k f10 f11 f12 = tripL_k0_t1 (F := F) 𝒱 c bd i arg2 harg2 arg3 harg3 arg4 harg4 arg5 harg5 arg6 harg6 arg7 harg7 arg8 harg8 arg9 harg9 arg10 harg10 arg11 harg11 arg12 harg12 v3 v4 v11 v12 v13 v15 X_arg2 X_arg3 X_arg4 X_arg5 X_arg6 X_arg7 k f10' f11' f12 := by
  unfold tripL_k0_t1 trip_k0_t1
  rfl

/-- Nor do the loop's. -/
theorem pb_free (𝒱 : Variants) (c : Dev nD) (bd : Option 𝒱.V) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (v3 : IVec S64x64 32) (v4 : IVec S64x64 32) (v11 : Vec F S1x128 .f32) (v12 : Vec F S1x128 .f32) (v13 : Vec F S128x1 .f32) (v15 : Vec F S128x1 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (G10 G10' : BufTy.Contents (Elt F) arg10.view.ty) (G11 G11' : BufTy.Contents (Elt F) arg11.view.ty) (G12 : BufTy.Contents (Elt F) arg12.view.ty) (k : Nat) :
    pb_k0_t1 (F := F) 𝒱 c bd i arg2 harg2 arg3 harg3 arg4 harg4 arg5 harg5 arg6 harg6 arg7 harg7 arg8 harg8 arg9 harg9 arg10 harg10 arg11 harg11 arg12 harg12 v3 v4 v11 v12 v13 v15 X_arg2 X_arg3 X_arg4 X_arg5 X_arg6 X_arg7 G10 G11 G12 k = pb_k0_t1 (F := F) 𝒱 c bd i arg2 harg2 arg3 harg3 arg4 harg4 arg5 harg5 arg6 harg6 arg7 harg7 arg8 harg8 arg9 harg9 arg10 harg10 arg11 harg11 arg12 harg12 v3 v4 v11 v12 v13 v15 X_arg2 X_arg3 X_arg4 X_arg5 X_arg6 X_arg7 G10' G11' G12 k := by
  induction k with
  | zero => rfl
  | succ k ih =>
    rw [pb_k0_t1.eq_2, pb_k0_t1.eq_2, ih]
    generalize pb_k0_t1 (F := F) 𝒱 c bd i arg2 harg2 arg3 harg3 arg4 harg4 arg5 harg5 arg6 harg6 arg7 harg7 arg8 harg8 arg9 harg9 arg10 harg10 arg11 harg11 arg12 harg12 v3 v4 v11 v12 v13 v15 X_arg2 X_arg3 X_arg4 X_arg5 X_arg6 X_arg7 G10' G11' G12 k = p
    unfold pb_k0_t1Step
    split
    · rename_i h
      exact congrArg (fun t : List (View.Piece (Elt F) S256x512 .f32) × List (View.Piece (Elt F) S256x512 .f32) × List (View.Piece (Elt F) S1x2x512x128 .f32) => (t.1 ++ p.1, t.2.1 ++ p.2.1, t.2.2 ++ p.2.2))
        (trip_free (F := F) 𝒱 c bd i arg2 harg2 arg3 harg3 arg4 harg4 arg5 harg5 arg6 harg6 arg7 harg7 arg8 harg8 arg9 harg9 arg10 harg10 arg11 harg11 arg12 harg12 v3 v4 v11 v12 v13 v15 X_arg2 X_arg3 X_arg4 X_arg5 X_arg6 X_arg7 ⟨k, h⟩ (arg10.view.writes (Elt F) G10 p.1) (arg10.view.writes (Elt F) G10' p.1)
          (arg11.view.writes (Elt F) G11 p.2.1) (arg11.view.writes (Elt F) G11' p.2.1) (arg12.view.writes (Elt F) G12 p.2.2))
    · rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) :
    Σ' (L8 : List (View.Piece (Elt F) S256x512 .f32)), Σ' (L9 : List (View.Piece (Elt F) S256x512 .f32)), { L10 : List (View.Piece (Elt F) S1x2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0_ssd_scan i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_ssd_scan_eq_skeleton]; unfold cc0_ssd_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    rw [pb_free (G10 := f8) (G10' := arg10.view.junk) (G11 := f9) (G11' := arg11.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.Kernel13Ideal.Gen

end
-- ==== Proof.SsdIdealFrame.lean ====
/-
  The scan's frame, over the run of its body.
-/
module

public import proofs.«01_k».proof.Proof.SsdIdealRun
public import Idealize.ShloMosaic.Lib.Claim

@[expose] public section

-- membership in a rectangle of production extents (`View.cover_of_tiled`): the elaborator's structural look
-- recurses once per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (8 stores of `S64x256`, checked by the kernel's evaluation: Lib/Ring.lean `Piece.tiledL`, linear in the pieces, through a loop's `@[irreducible]` trip theorem too), so they cover it. -/
theorem cover0_A_8 (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) (y : S256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S64x256.size (by sl_kernel_rfl) y

/-- What the run leaves in output 8's staging buffer: its pieces read back over junk. -/
def out0_A_8 (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) : Vec F S256x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- The run's pieces for output 9 tile its block (8 stores of `S64x256`, checked by the kernel's evaluation: Lib/Ring.lean `Piece.tiledL`, linear in the pieces, through a loop's `@[irreducible]` trip theorem too), so they cover it. -/
theorem cover0_A_9 (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) (y : S256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S64x256.size (by sl_kernel_rfl) y

/-- What the run leaves in output 9's staging buffer: its pieces read back over junk. -/
def out0_A_9 (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) : Vec F S256x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- The run's pieces for output 10 are of SEVERAL sizes (17 stores of `S1x1x256x128`, `S1x2x512x128`): cut into blocks of `![1, 1, 256, 128]` they tile its block (checked by the kernel's evaluation: Lib/Ring.lean `Piece.tiledBy`), so they cover it. -/
theorem cover0_A_10 (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) (y : S1x2x512x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 ![1, 1, 256, 128] (by sl_kernel_rfl) y

/-- What the run leaves in output 10's staging buffer: its pieces read back over junk. -/
def out0_A_10 (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec F S256x1024 .bf16) (x1 : Vec F S256x128 .f32) (x2 : Vec F S4x128x64 .f32) (x3 : Vec F S256x1024 .bf16) (x4 : Vec F S256x128 .f32) (x5 : Vec F S4x128x64 .f32) (x6 : Vec F S8x128 .f32) (x7 : Vec F S128x8 .f32) : Vec F S1x2x512x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-! ## What the outputs hold after each point -/

/-- What the outputs' staging buffers hold after the body at point `t` (as a tuple, in window order): the run's contents at
    the point's memrefs and input blocks. -/
def outsAt0 (c : Dev nD) (t : Fin cfg0.N) : Vec F S256x512 .f32 × Vec F S256x512 .f32 × Vec F S1x2x512x128 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold outsAt0
  unfold out0_A_8 out0_A_9 out0_A_10; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_A_10 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel13Ideal`'s statement (Defs.lean) at any `F` — Proof.lean cites it at `Bits`:
    `theorem Cert.Proof.claim : Cert.Claim := ⟨Cert.Kernel13Ideal.Gen.facts, fun m ρ _ => Cert.Kernel13Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel13Ideal.Gen

end
-- ==== Proof.SsdMath.lean ====
/-
  The state-space scan of one prompt as formulas over the extended reals, with no program in them. A prompt is 256 rows,
  four chunks of 64; a head's state is a 64 by 128 matrix, carried through the chunks forwards (direction 0) or backwards
  (direction 1).
-/
module

public import Idealize.ShloMosaic.Lib.Pointwise

@[expose] public section

noncomputable section

namespace Cert.Ssd

open Idealize.ShloMosaic

/-- A prompt's convolved inputs: 512 columns of heads, 256 of input vectors, 256 of output vectors. -/
abbrev Rows := (⟨2, ![256, 1024]⟩ : Shape).Idx → EReal
/-- A prompt's projected steps. -/
abbrev Steps := (⟨2, ![256, 128]⟩ : Shape).Idx → EReal
/-- The parameters: row 0 the logarithms of the decay rates, row 1 the biases of the steps. -/
abbrev Params := (⟨2, ![8, 128]⟩ : Shape).Idx → EReal

/-- The softplus. -/
def softplus (u : EReal) : EReal := max u 0 + Ideal.log1p (Ideal.exp (0 - FloatOps.absf (F := Ideal) (φ := FTy.f32) u))

/-- The lane of a direction's head. -/
def lane (d : Fin 2) (h : Fin 8) : Fin 128 := ⟨16 + 8 * d.val + h.val, by omega⟩

/-- Row `i` of chunk `z`. -/
def row (z : Fin 4) (i : Fin 64) : Fin 256 := ⟨64 * z.val + i.val, by omega⟩

/-- A row's step. -/
def step (P : Steps) (A : Params) (z : Fin 4) (i : Fin 64) (j : Fin 128) : EReal :=
  softplus (P (ix2 (row z i) j) + A (ix2 1 j))

/-- The logarithm of a row's decay. -/
def decay (P : Steps) (A : Params) (z : Fin 4) (i : Fin 64) (j : Fin 128) : EReal :=
  step P A z i j * -Ideal.exp (A (ix2 0 j))

/-- Which rows a direction has met on reaching row `i`. -/
def met (d : Fin 2) (i k : Fin 64) : Prop := if d = 0 then k.val ≤ i.val else i.val ≤ k.val

instance (d : Fin 2) (i k : Fin 64) : Decidable (met d i k) := by unfold met; infer_instance

/-- The decay accumulated up to row `i`. -/
def accum (P : Steps) (A : Params) (d : Fin 2) (z : Fin 4) (i : Fin 64) (j : Fin 128) : EReal :=
  ∑ k : Fin 64, if met d i k then decay P A z k j else 0

/-- The decay of a whole chunk. -/
def total (P : Steps) (A : Params) (z : Fin 4) (j : Fin 128) : EReal := ∑ k : Fin 64, decay P A z k j

/-- The column of a head's input vector. -/
def inCol (h : Fin 8) (n : Fin 128) : Fin 1024 := ⟨512 + 128 * (h.val / 4) + n.val, by omega⟩

/-- The column of a head's input. -/
def headCol (h : Fin 8) (p : Fin 64) : Fin 1024 := ⟨64 * h.val + p.val, by omega⟩

/-- What a chunk adds to a head's state. -/
def added (X : Rows) (P : Steps) (A : Params) (d : Fin 2) (z : Fin 4) (h : Fin 8) (p : Fin 64) (n : Fin 128) : EReal :=
  ∑ i : Fin 64, X (ix2 (row z i) (headCol h p)) * step P A z i (lane d h)
    * Ideal.exp (total P A z (lane d h) - accum P A d z i (lane d h)) * X (ix2 (row z i) (inCol h n))

/-- The chunk a direction takes `k`-th. -/
def chunk (d : Fin 2) (k : Nat) : Fin 4 := if d = 0 then ⟨k % 4, by omega⟩ else ⟨3 - k % 4, by omega⟩

/-- A head's state after `k` chunks. -/
def state (X : Rows) (P : Steps) (A : Params) (d : Fin 2) (h : Fin 8) (p : Fin 64) (n : Fin 128) : Nat → EReal
  | 0 => 0
  | k + 1 => state X P A d h p n k * Ideal.exp (total P A (chunk d k) (lane d h)) + added X P A d (chunk d k) h p n

/-- The row of the accumulated decays that holds the chunk's total. -/
def lastRow (d : Fin 2) : Fin 64 := if d = 0 then 63 else 0

theorem accum_last (P : Steps) (A : Params) (d : Fin 2) (z : Fin 4) (j : Fin 128) : accum P A d z (lastRow d) j = total P A z j := by
  refine Finset.sum_congr rfl fun k _ => if_pos ?_
  fin_cases d
  · show k.val ≤ 63
    omega
  · show 0 ≤ k.val
    omega

end Cert.Ssd
end
-- ==== Proof.SsdBlock.lean ====
/-
  One chunk of the state-space scan, per group of four heads: the state decayed and the chunk's outer products added.
  The body holds this arithmetic four times (two directions, two groups), cut at other places each time; here each copy
  is read as the same formula.
-/
module

public import proofs.«01_k».proof.Proof.Gen.Kernel13Ideal.Skeleton
public import proofs.«01_k».proof.Proof.SsdMath
public import Idealize.ShloMosaic.Lib.Pipeline.Value
public import Idealize.ShloMosaic.Lib.Pointwise

@[expose] public section

set_option maxRecDepth 16384

noncomputable section

namespace Cert.Ssd

open Cert.Kernel13Ideal Cert.Kernel13Ideal.Gen Idealize.ShloMosaic Idealize.ShloMosaic.TcCoe Idealize.ShloMosaic.Tactic Idealize.SL.Sem

/-- A head's inputs times its steps and what is left of them at the chunk's end, row `l` of the accumulated decays. -/
def kept (x : Vec Ideal S64x64 .bf16) (dt ac : FVec Ideal S64x128 .f32) (l : Fin 64) (col : Fin 128) : FVec Ideal S64x64 .f32 :=
  fun i => x i * dt (ix2 (i 0) col) * Ideal.exp (ac (ix2 l col) - ac (ix2 (i 0) col))

/-- What is left of a head's state at the chunk's end. -/
def left (ac : FVec Ideal S64x128 .f32) (l : Fin 64) (col : Fin 128) : FVec Ideal S64x1 .f32 :=
  fun _ => Ideal.exp (ac (ix2 l col))

section Heads

variable (x : Vec Ideal S64x64 .bf16) (dt ac : FVec Ideal S64x128 .f32) (L : FVec Ideal S64x64 .f32)

theorem kept0 : k0_pay24 (k0_pay18 L ac) (k0_pay19 L ac) (k0_pay20 dt x) = kept x dt (k0_pay12 L ac) 63 16 := by
  unfold k0_pay18 k0_pay19
  generalize k0_pay12 (F := Ideal) L ac = a
  funext i; idx_vars i; pointwise [kept, k0_pay24, k0_pay20]

theorem left0 : k0_pay25 (k0_pay19 L ac) = left (k0_pay12 L ac) 63 16 := by
  unfold k0_pay19
  generalize k0_pay12 (F := Ideal) L ac = a
  funext i; idx_vars i; pointwise [left, k0_pay25]

theorem kept1 : k0_pay30 dt ac x = kept x dt ac 63 17 := by
  funext i; idx_vars i; pointwise [kept, k0_pay30, k0_pay26, k0_pay27, k0_pay28]

theorem left1 : k0_pay31 ac = left ac 63 17 := by
  funext i; idx_vars i; pointwise [left, k0_pay31, k0_pay27]

theorem kept2 : k0_pay37 dt (k0_pay32 ac) (k0_pay33 ac) x = kept x dt ac 63 18 := by
  funext i; idx_vars i; pointwise [kept, k0_pay37, k0_pay32, k0_pay33, k0_pay35]

theorem left2 : k0_pay38 (k0_pay33 ac) = left ac 63 18 := by
  funext i; idx_vars i; pointwise [left, k0_pay38, k0_pay33]

theorem kept3 : k0_pay43 dt ac x = kept x dt ac 63 19 := by
  funext i; idx_vars i; pointwise [kept, k0_pay43, k0_pay39, k0_pay40, k0_pay41]

theorem left3 : k0_pay44 ac = left ac 63 19 := by
  funext i; idx_vars i; pointwise [left, k0_pay44, k0_pay40]

theorem kept4 : k0_pay55 (k0_pay50 ac) (k0_pay51 ac) (k0_pay52 dt x) = kept x dt ac 63 20 := by
  funext i; idx_vars i; pointwise [kept, k0_pay55, k0_pay50, k0_pay51, k0_pay52]

theorem left4 : k0_pay56 (k0_pay51 ac) = left ac 63 20 := by
  funext i; idx_vars i; pointwise [left, k0_pay56, k0_pay51]

theorem kept5 : k0_pay61 dt ac x = kept x dt ac 63 21 := by
  funext i; idx_vars i; pointwise [kept, k0_pay61, k0_pay57, k0_pay58, k0_pay59]

theorem left5 : k0_pay62 ac = left ac 63 21 := by
  funext i; idx_vars i; pointwise [left, k0_pay62, k0_pay58]

theorem kept6 : k0_pay67 dt (k0_pay63 ac) (k0_pay64 ac) x = kept x dt ac 63 22 := by
  funext i; idx_vars i; pointwise [kept, k0_pay67, k0_pay63, k0_pay64, k0_pay66]

theorem left6 : k0_pay68 (k0_pay64 ac) = left ac 63 22 := by
  funext i; idx_vars i; pointwise [left, k0_pay68, k0_pay64]

theorem kept7 : k0_pay72 dt ac x = kept x dt ac 63 23 := by
  funext i; idx_vars i; pointwise [kept, k0_pay72, k0_pay69, k0_pay70, k0_pay71]

theorem left7 : k0_pay73 ac = left ac 63 23 := by
  funext i; idx_vars i; pointwise [left, k0_pay73, k0_pay70]

theorem kept8 : k0_pay92 dt ac x = kept x dt ac 0 24 := by
  funext i; idx_vars i; pointwise [kept, k0_pay92, k0_pay88, k0_pay89, k0_pay90]

theorem left8 : k0_pay93 ac = left ac 0 24 := by
  funext i; idx_vars i; pointwise [left, k0_pay93, k0_pay89]

theorem kept9 : k0_pay101 (k0_pay94 ac) (k0_pay95 ac) (k0_pay96 dt x) = kept x dt ac 0 25 := by
  funext i; idx_vars i; pointwise [kept, k0_pay101, k0_pay94, k0_pay95, k0_pay96]

theorem left9 : k0_pay102 (k0_pay95 ac) = left ac 0 25 := by
  funext i; idx_vars i; pointwise [left, k0_pay102, k0_pay95]

theorem kept10 : k0_pay107 dt ac x = kept x dt ac 0 26 := by
  funext i; idx_vars i; pointwise [kept, k0_pay107, k0_pay103, k0_pay104, k0_pay105]

theorem left10 : k0_pay108 ac = left ac 0 26 := by
  funext i; idx_vars i; pointwise [left, k0_pay108, k0_pay104]

theorem kept11 : k0_pay24 (k0_pay109 ac) (k0_pay110 ac) (k0_pay114 (k0_pay112 x) (k0_pay113 dt)) = kept x dt ac 0 27 := by
  funext i; idx_vars i; pointwise [kept, k0_pay24, k0_pay109, k0_pay110, k0_pay114, k0_pay112, k0_pay113]

theorem left11 : k0_pay25 (k0_pay110 ac) = left ac 0 27 := by
  funext i; idx_vars i; pointwise [left, k0_pay25, k0_pay110]

theorem kept12 : k0_pay125 dt ac (k0_pay120 ac) x = kept x dt ac 0 28 := by
  funext i; idx_vars i; pointwise [kept, k0_pay125, k0_pay120, k0_pay122, k0_pay123]

theorem left12 : k0_pay126 ac = left ac 0 28 := by
  funext i; idx_vars i; pointwise [left, k0_pay126, k0_pay122]

theorem kept13 : k0_pay131 (k0_pay127 ac) (k0_pay128 ac) (k0_pay129 dt x) = kept x dt ac 0 29 := by
  funext i; idx_vars i; pointwise [kept, k0_pay131, k0_pay127, k0_pay128, k0_pay129]

theorem left13 : k0_pay132 (k0_pay128 ac) = left ac 0 29 := by
  funext i; idx_vars i; pointwise [left, k0_pay132, k0_pay128]

theorem kept14 : k0_pay137 dt ac x = kept x dt ac 0 30 := by
  funext i; idx_vars i; pointwise [kept, k0_pay137, k0_pay133, k0_pay134, k0_pay135]

theorem left14 : k0_pay138 ac = left ac 0 30 := by
  funext i; idx_vars i; pointwise [left, k0_pay138, k0_pay134]

theorem kept15 : k0_pay24 (k0_pay139 ac) (k0_pay140 ac) (k0_pay142 dt x) = kept x dt ac 0 31 := by
  funext i; idx_vars i; pointwise [kept, k0_pay24, k0_pay139, k0_pay140, k0_pay142]

theorem left15 : k0_pay25 (k0_pay140 ac) = left ac 0 31 := by
  funext i; idx_vars i; pointwise [left, k0_pay25, k0_pay140]

end Heads

/-- The group's new state: the old one decayed per head, plus the chunk's outer products. -/
def next (b : Vec Ideal S64x128 .bf16) (s : FVec Ideal S256x128 .f32) (xs : Fin 4 → FVec Ideal S64x64 .f32) (ds : Fin 4 → FVec Ideal S64x1 .f32) :
    FVec Ideal S1x1x256x128 .f32 :=
  k0_pay46 b s (xs 0) (ds 0) (xs 1) (ds 1) (xs 2) (ds 2) (xs 3) (ds 3)

section Cuts

variable (b : Vec Ideal S64x128 .bf16) (s : FVec Ideal S256x128 .f32) (x0 x1 x2 x3 : FVec Ideal S64x64 .f32) (d0 d1 d2 d3 : FVec Ideal S64x1 .f32)

theorem cut75 : k0_pay75 b s x0 d0 x1 d1 x2 d2 x3 d3 = k0_pay46 b s x0 d0 x1 d1 x2 d2 x3 d3 := by
  unfold_payloads; rfl

theorem cut116 (l : FVec Ideal S1x1 .f32) (e : FVec Ideal S64x1 .f32) :
    k0_pay116 b s x0 d0 x1 d1 x2 d2 d3 l x3 e = k0_pay46 b s x0 d0 x1 d1 x2 d2 (k0_pay24 d3 l (k0_pay114 x3 e)) (k0_pay25 l) := by
  unfold_payloads; rfl

theorem cut7 (l : FVec Ideal S1x1 .f32) :
    k0_pay7 b s x0 d0 x1 d1 x2 d2 d3 l x3 = k0_pay46 b s x0 d0 x1 d1 x2 d2 (k0_pay24 d3 l x3) (k0_pay25 l) := by
  unfold_payloads; rfl

end Cuts

theorem next_apply (b : Vec Ideal S64x128 .bf16) (s : FVec Ideal S256x128 .f32) (xs : Fin 4 → FVec Ideal S64x64 .f32) (ds : Fin 4 → FVec Ideal S64x1 .f32)
    (h : Fin 4) (p : Fin 64) (n : Fin 128) :
    next b s xs ds (ix4 0 0 ⟨64 * h.val + p.val, by omega⟩ n)
      = s (ix2 ⟨64 * h.val + p.val, by omega⟩ n) * ds h (ix2 p 0) + ∑ i : Fin 64, xs h (ix2 i p) * b (ix2 i n) := by
  have hx : ∀ i : Fin 64, concatenate S64x256 1 [⟨S64x64, xs 0⟩, ⟨S64x64, xs 1⟩, ⟨S64x64, xs 2⟩, ⟨S64x64, xs 3⟩] concatenates_S64x64_S64x64_S64x64_S64x64_S64x256_d1
      (ix2 i ⟨64 * h.val + p.val, by omega⟩) = xs h (ix2 i p) := by
    intro i
    show concatenate S64x256 1 (List.ofFn fun h : Fin 4 => ⟨S64x64, xs h⟩) concatenates_S64x64_S64x64_S64x64_S64x64_S64x256_d1
      (ix2 i ⟨64 * h.val + p.val, by omega⟩) = _
    refine concatenate_ofFn_apply (t := S64x256) 1 xs _ rfl 64 rfl _ h ?_ (ix2 i p) ?_ ?_
    · show (64 * h.val + p.val) / 64 = h.val
      omega
    · show p.val = (64 * h.val + p.val) % 64
      omega
    · intro b hb
      fin_cases b
      · rfl
      · exact absurd rfl hb
  have hd : concatenate S256x1 0 [⟨S64x1, ds 0⟩, ⟨S64x1, ds 1⟩, ⟨S64x1, ds 2⟩, ⟨S64x1, ds 3⟩] concatenates_S64x1_S64x1_S64x1_S64x1_S256x1_d0
      (ix2 ⟨64 * h.val + p.val, by omega⟩ 0) = ds h (ix2 p 0) := by
    show concatenate S256x1 0 (List.ofFn fun h : Fin 4 => ⟨S64x1, ds h⟩) concatenates_S64x1_S64x1_S64x1_S64x1_S256x1_d0
      (ix2 ⟨64 * h.val + p.val, by omega⟩ 0) = _
    refine concatenate_ofFn_apply (t := S256x1) 0 ds _ rfl 64 rfl _ h ?_ (ix2 p 0) ?_ ?_
    · show (64 * h.val + p.val) / 64 = h.val
      omega
    · show p.val = (64 * h.val + p.val) % 64
      omega
    · intro b hb
      fin_cases b
      · exact absurd rfl hb
      · rfl
  unfold next k0_pay46
  generalize concatenate S64x256 1 [⟨S64x64, xs 0⟩, ⟨S64x64, xs 1⟩, ⟨S64x64, xs 2⟩, ⟨S64x64, xs 3⟩] concatenates_S64x64_S64x64_S64x64_S64x64_S64x256_d1 = cx at hx ⊢
  generalize concatenate S256x1 0 [⟨S64x1, ds 0⟩, ⟨S64x1, ds 1⟩, ⟨S64x1, ds 2⟩, ⟨S64x1, ds 3⟩] concatenates_S64x1_S64x1_S64x1_S64x1_S256x1_d0 = cd at hd ⊢
  rw [← hd, Finset.sum_congr rfl fun i _ => congrArg (· * b (ix2 i n)) (hx i).symm]
  clear hx hd
  generalize (⟨64 * h.val + p.val, by omega⟩ : Fin 256) = q
  pointwise []

theorem one_word : FloatOps.sitofp (F := Ideal) FTy.f32 (BitVec.setWidth 32 1#1) = (1 : EReal) := by
  show (((1#32).toInt : ℝ) : EReal) = 1
  norm_num

theorem zero_word : FloatOps.sitofp (F := Ideal) FTy.f32 (BitVec.setWidth 32 0#1) = (0 : EReal) := by
  show (((0#32).toInt : ℝ) : EReal) = 0
  norm_num

/-- The mask of the rows up to the row, and from the row on. -/
theorem lower_apply (i k : Fin 64) : k0_pay2 (F := Ideal) (ix2 i k) = if k.val ≤ i.val then 1 else 0 := by
  have h : ∀ i k : Fin 64, IntOp.cmpi CmpIPredicate.sge (BitVec.ofNat 32 i.val) (BitVec.ofNat 32 k.val) = if k.val ≤ i.val then 1#1 else 0#1 := by decide +kernel
  pointwise [k0_pay2]
  rw [h i k]
  split
  · exact one_word
  · exact zero_word

theorem upper_apply (i k : Fin 64) : k0_pay3 (F := Ideal) (ix2 i k) = if i.val ≤ k.val then 1 else 0 := by
  have h : ∀ i k : Fin 64, IntOp.cmpi CmpIPredicate.sle (BitVec.ofNat 32 i.val) (BitVec.ofNat 32 k.val) = if i.val ≤ k.val then 1#1 else 0#1 := by decide +kernel
  pointwise [k0_pay3]
  rw [h i k]
  split
  · exact one_word
  · exact zero_word

/-- The accumulated decays: a mask times the steps' decays. -/
theorem fwd_apply (m : FVec Ideal S64x64 .f32) (g : FVec Ideal S64x128 .f32) (i : Fin 64) (j : Fin 128) :
    k0_pay12 m g (ix2 i j) = ∑ k : Fin 64, m (ix2 i k) * g (ix2 k j) := by
  pointwise [k0_pay12]

/-- The steps: a softplus, as the body writes it. -/
theorem step_apply (v : Vec Ideal S1x128 .f32) (p : Vec Ideal S64x128 .f32) (i : Fin 64) (j : Fin 128) :
    k0_pay8 v p (ix2 i j) = softplus (p (ix2 i j) + v (ix2 0 j)) := by
  pointwise [k0_pay8]
  rw [if_neg (fun h => h rfl)]
  rfl

theorem decay_apply (u v : Vec Ideal S1x128 .f32) (p : Vec Ideal S64x128 .f32) (i : Fin 64) (j : Fin 128) :
    k0_pay9 u v p (ix2 i j) = softplus (p (ix2 i j) + v (ix2 0 j)) * -Ideal.exp (u (ix2 0 j)) := by
  pointwise [k0_pay9]
  rw [if_neg (fun h => h rfl), zero_sub, mul_comm]
  rfl

theorem step_bwd (v : Vec Ideal S1x128 .f32) (p : Vec Ideal S64x128 .f32) : k0_pay77 v p = k0_pay8 v p := by
  unfold_payloads; rfl

theorem bwd_eq (m : FVec Ideal S64x64 .f32) (u v : Vec Ideal S1x128 .f32) (p : Vec Ideal S64x128 .f32) :
    k0_pay82 m (k0_pay78 u) (k0_pay79 v p) (FloatOps.ofBits .f32 0x00000000#32) (k0_pay80 v p) k0_pay81 = k0_pay12 m (k0_pay9 u v p) := by
  unfold_payloads; rfl

end Cert.Ssd
end
-- ==== Proof.SsdTrip.lean ====
/-
  One trip of the scan's loop: what it leaves in the block of states. The trip reads one chunk forwards and one
  backwards and writes four pieces, a direction's group of four heads each.
-/
module

public import proofs.«01_k».proof.Proof.Gen.Kernel13Ideal.Loops
public import proofs.«01_k».proof.Proof.SsdBlock
public import Idealize.ShloMosaic.Lib.WritesUnit

@[expose] public section

set_option maxRecDepth 16384

noncomputable section

namespace Cert.Ssd

open Cert.Kernel13Ideal Cert.Kernel13Ideal.Gen Idealize.ShloMosaic Idealize.ShloMosaic.TcCoe Idealize.ShloMosaic.Tactic Idealize.SL.Sem

/-- Head `q` of group `g`. -/
def headOf (g : Fin 2) (q : Fin 4) : Fin 8 := ⟨4 * g.val + q.val, by omega⟩

def xAt (x : Vec Ideal S256x1024 .bf16) (z : Fin 4) (h : Fin 8) : Vec Ideal S64x64 .bf16 := fun i => x (ix2 (row z (i 0)) (headCol h (i 1)))

def bAt (x : Vec Ideal S256x1024 .bf16) (z : Fin 4) (g : Fin 2) : Vec Ideal S64x128 .bf16 :=
  fun i => x (ix2 (row z (i 0)) ⟨512 + 128 * g.val + (i 1).val, by have : (i 1).val < 128 := (i 1).isLt; omega⟩)

def pAt (p : Vec Ideal S256x128 .f32) (z : Fin 4) : Vec Ideal S64x128 .f32 := fun i => p (ix2 (row z (i 0)) (i 1))

def sAt (s : Vec Ideal S1x2x512x128 .f32) (d g : Fin 2) : FVec Ideal S256x128 .f32 :=
  fun i => s (ix4 0 d ⟨256 * g.val + (i 0).val, by have : (i 0).val < 256 := (i 0).isLt; omega⟩ (i 1))

theorem ld_x (x : Vec Ideal S256x1024 .bf16) (z : Fin 4) (h : Fin 8) (off : Fin 2 → Nat) (ho : off = ![64 * z.val, 64 * h.val]) (inb) :
    View.ld x (Rect.unit (s := S256x1024) off ![64, 64] inb) = xAt x z h := by
  subst ho; funext i; idx_vars i; pointwise [xAt, row, headCol]

theorem ld_b (x : Vec Ideal S256x1024 .bf16) (z : Fin 4) (g : Fin 2) (off : Fin 2 → Nat) (ho : off = ![64 * z.val, 512 + 128 * g.val]) (inb) :
    View.ld x (Rect.unit (s := S256x1024) off ![64, 128] inb) = bAt x z g := by
  subst ho; funext i; idx_vars i; pointwise [bAt, row]

theorem ld_p (p : Vec Ideal S256x128 .f32) (z : Fin 4) (off : Fin 2 → Nat) (ho : off = ![64 * z.val, 0]) (inb) :
    View.ld p (Rect.unit (s := S256x128) off ![64, 128] inb) = pAt p z := by
  subst ho; funext i; idx_vars i; pointwise [pAt, row]

theorem ld_s00 (s : Vec Ideal S1x2x512x128 .f32) (inb) :
    k0_pay16 (View.ld s (Rect.unit (s := S1x2x512x128) ![0, 0, 0, 0] ![1, 1, 256, 128] inb)) = sAt s 0 0 := by
  funext i; idx_vars i; pointwise [k0_pay16, sAt]

theorem ld_s01 (s : Vec Ideal S1x2x512x128 .f32) (inb) :
    k0_pay48 (View.ld s (Rect.unit (s := S1x2x512x128) ![0, 0, 256, 0] ![1, 1, 256, 128] inb)) = sAt s 0 1 := by
  funext i; idx_vars i; pointwise [k0_pay48, sAt]

theorem ld_s10 (s : Vec Ideal S1x2x512x128 .f32) (inb) :
    k0_pay86 (View.ld s (Rect.unit (s := S1x2x512x128) ![0, 1, 0, 0] ![1, 1, 256, 128] inb)) = sAt s 1 0 := by
  funext i; idx_vars i; pointwise [k0_pay86, sAt]

theorem ld_s11 (s : Vec Ideal S1x2x512x128 .f32) (inb) :
    k0_pay118 (View.ld s (Rect.unit (s := S1x2x512x128) ![0, 1, 256, 0] ![1, 1, 256, 128] inb)) = sAt s 1 1 := by
  funext i; idx_vars i; pointwise [k0_pay118, sAt]

theorem off1 : ∀ k : Fin k0_t1_loop.trips, k0_off1 k = ![64 * (chunk 0 k.val).val, 0] := by decide +kernel

theorem off3 : ∀ k : Fin k0_t1_loop.trips, k0_off3 k = ![64 * (chunk 0 k.val).val, 512] := by decide +kernel

theorem off5 : ∀ k : Fin k0_t1_loop.trips, k0_off5 k = ![64 * (chunk 0 k.val).val, 0] := by decide +kernel

theorem off6 : ∀ k : Fin k0_t1_loop.trips, k0_off6 k = ![64 * (chunk 0 k.val).val, 64] := by decide +kernel

theorem off7 : ∀ k : Fin k0_t1_loop.trips, k0_off7 k = ![64 * (chunk 0 k.val).val, 128] := by decide +kernel

theorem off8 : ∀ k : Fin k0_t1_loop.trips, k0_off8 k = ![64 * (chunk 0 k.val).val, 192] := by decide +kernel

theorem off10 : ∀ k : Fin k0_t1_loop.trips, k0_off10 k = ![64 * (chunk 0 k.val).val, 640] := by decide +kernel

theorem off12 : ∀ k : Fin k0_t1_loop.trips, k0_off12 k = ![64 * (chunk 0 k.val).val, 256] := by decide +kernel

theorem off13 : ∀ k : Fin k0_t1_loop.trips, k0_off13 k = ![64 * (chunk 0 k.val).val, 320] := by decide +kernel

theorem off14 : ∀ k : Fin k0_t1_loop.trips, k0_off14 k = ![64 * (chunk 0 k.val).val, 384] := by decide +kernel

theorem off15 : ∀ k : Fin k0_t1_loop.trips, k0_off15 k = ![64 * (chunk 0 k.val).val, 448] := by decide +kernel

theorem off17 : ∀ k : Fin k0_t1_loop.trips, k0_off17 k = ![64 * (chunk 1 k.val).val, 0] := by decide +kernel

theorem off19 : ∀ k : Fin k0_t1_loop.trips, k0_off19 k = ![64 * (chunk 1 k.val).val, 512] := by decide +kernel

theorem off21 : ∀ k : Fin k0_t1_loop.trips, k0_off21 k = ![64 * (chunk 1 k.val).val, 0] := by decide +kernel

theorem off22 : ∀ k : Fin k0_t1_loop.trips, k0_off22 k = ![64 * (chunk 1 k.val).val, 64] := by decide +kernel

theorem off23 : ∀ k : Fin k0_t1_loop.trips, k0_off23 k = ![64 * (chunk 1 k.val).val, 128] := by decide +kernel

theorem off24 : ∀ k : Fin k0_t1_loop.trips, k0_off24 k = ![64 * (chunk 1 k.val).val, 192] := by decide +kernel

theorem off26 : ∀ k : Fin k0_t1_loop.trips, k0_off26 k = ![64 * (chunk 1 k.val).val, 640] := by decide +kernel

theorem off28 : ∀ k : Fin k0_t1_loop.trips, k0_off28 k = ![64 * (chunk 1 k.val).val, 256] := by decide +kernel

theorem off29 : ∀ k : Fin k0_t1_loop.trips, k0_off29 k = ![64 * (chunk 1 k.val).val, 320] := by decide +kernel

theorem off30 : ∀ k : Fin k0_t1_loop.trips, k0_off30 k = ![64 * (chunk 1 k.val).val, 384] := by decide +kernel

theorem off31 : ∀ k : Fin k0_t1_loop.trips, k0_off31 k = ![64 * (chunk 1 k.val).val, 448] := by decide +kernel

/-- What the trip leaves for a direction's group: its chunk's rows, steps and the old states in, the new ones out. -/
def piece (x : Vec Ideal S256x1024 .bf16) (p : Vec Ideal S256x128 .f32) (u v : Vec Ideal S1x128 .f32) (m : FVec Ideal S64x64 .f32)
    (s : Vec Ideal S1x2x512x128 .f32) (d : Fin 2) (z : Fin 4) (g : Fin 2) : FVec Ideal S1x1x256x128 .f32 :=
  next (bAt x z g) (sAt s d g)
    (fun q => kept (xAt x z (headOf g q)) (k0_pay8 v (pAt p z)) (k0_pay12 m (k0_pay9 u v (pAt p z))) (lastRow d) (lane d (headOf g q)))
    (fun q => left (k0_pay12 m (k0_pay9 u v (pAt p z))) (lastRow d) (lane d (headOf g q)))

theorem accum_apply (A : Params) (p : Vec Ideal S256x128 .f32) (u v : Vec Ideal S1x128 .f32)
    (hu : ∀ j, u (ix2 0 j) = A (ix2 0 j)) (hv : ∀ j, v (ix2 0 j) = A (ix2 1 j)) (m : FVec Ideal S64x64 .f32) (d : Fin 2)
    (hm : ∀ i k, m (ix2 i k) = if met d i k then 1 else 0) (z : Fin 4) (i : Fin 64) (j : Fin 128) :
    k0_pay12 m (k0_pay9 u v (pAt p z)) (ix2 i j) = accum p A d z i j := by
  rw [fwd_apply]
  refine Finset.sum_congr rfl fun k _ => ?_
  rw [decay_apply, hm, hu, hv]
  split
  · rw [one_mul]; rfl
  · rw [zero_mul]

theorem piece_apply (A : Params) (x : Vec Ideal S256x1024 .bf16) (p : Vec Ideal S256x128 .f32) (u v : Vec Ideal S1x128 .f32)
    (hu : ∀ j, u (ix2 0 j) = A (ix2 0 j)) (hv : ∀ j, v (ix2 0 j) = A (ix2 1 j)) (m : FVec Ideal S64x64 .f32)
    (s : Vec Ideal S1x2x512x128 .f32) (d : Fin 2) (hm : ∀ i k, m (ix2 i k) = if met d i k then 1 else 0)
    (z : Fin 4) (g : Fin 2) (q : Fin 4) (a : Fin 64) (n : Fin 128) :
    piece x p u v m s d z g (ix4 0 0 ⟨64 * q.val + a.val, by omega⟩ n)
      = s (ix4 0 d ⟨64 * (headOf g q).val + a.val, by omega⟩ n) * Ideal.exp (total p A z (lane d (headOf g q)))
        + added x p A d z (headOf g q) a n := by
  unfold piece
  rw [next_apply]
  have hl : ∀ j, k0_pay12 m (k0_pay9 u v (pAt p z)) (ix2 (lastRow d) j) = total p A z j := fun j => by
    rw [accum_apply A p u v hu hv m d hm, accum_last]
  refine congrArg₂ (· + ·) (congrArg₂ (· * ·) ?_ ?_) (Finset.sum_congr rfl fun i _ => ?_)
  · show s (ix4 0 d ⟨256 * g.val + (64 * q.val + a.val), _⟩ n) = s (ix4 0 d ⟨64 * (4 * g.val + q.val) + a.val, _⟩ n)
    refine congrArg (fun r => s (ix4 0 d r n)) (Fin.ext ?_)
    show 256 * g.val + (64 * q.val + a.val) = 64 * (4 * g.val + q.val) + a.val
    omega
  · show Ideal.exp _ = _
    rw [hl]
  · show x (ix2 (row z i) (headCol (headOf g q) a)) * k0_pay8 v (pAt p z) (ix2 i (lane d (headOf g q)))
        * Ideal.exp (k0_pay12 m (k0_pay9 u v (pAt p z)) (ix2 (lastRow d) (lane d (headOf g q))) - k0_pay12 m (k0_pay9 u v (pAt p z)) (ix2 i (lane d (headOf g q))))
        * x (ix2 (row z i) ⟨512 + 128 * g.val + n.val, _⟩) = _
    rw [hl, accum_apply A p u v hu hv m d hm, step_apply, hv]
    refine congrArg₂ (· * ·) rfl (congrArg (fun r : Fin 1024 => x (ix2 (row z i) r)) (Fin.ext ?_))
    show 512 + 128 * g.val + n.val = 512 + 128 * ((4 * g.val + q.val) / 4) + n.val
    omega

theorem lower_met (i k : Fin 64) : k0_pay2 (F := Ideal) (ix2 i k) = if met 0 i k then 1 else 0 := by
  rw [lower_apply]; rfl

theorem upper_met (i k : Fin 64) : k0_pay3 (F := Ideal) (ix2 i k) = if met 1 i k then 1 else 0 := by
  rw [upper_apply]; rfl

set_option maxHeartbeats 1000000 in
/-- The trip's four pieces of the block of states, last first. -/
theorem trip_pieces (𝒱 : Variants) (c : Dev nD) (bd : Option 𝒱.V) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole)
    (v3 v4 u v v15 v17 X4 X7) (k : Fin k0_t1_loop.trips) (f10 f11 f12)
    (x0 x3 : Vec Ideal S256x1024 .bf16) (x1 x4 : Vec Ideal S256x128 .f32) :
    (trip_k0_t1 (F := Ideal) 𝒱 c bd i arg2 harg2 arg3 harg3 arg4 harg4 arg5 harg5 arg6 harg6 arg7 harg7 arg8 harg8 arg9 harg9 arg10 harg10 arg11 harg11 arg12 harg12 v3 v4 u v v15 v17 (harg2.unread x0) (harg3.unread x1) X4 (harg5.unread x3) (harg6.unread x4) X7 k).2.2.1 f10 f11 f12
      = [(⟨Rect.unit (s := S1x2x512x128) ![0, 1, 256, 0] ![1, 1, 256, 128] inb_S1x2x512x128_S1x1x256x128_0_1_256_0, piece x3 x4 u v k0_pay3 (arg12.view.read (Elt Ideal) f12) 1 (chunk 1 k.val) 1⟩ : View.Piece (Elt Ideal) S1x2x512x128 .f32),
          (⟨Rect.unit (s := S1x2x512x128) ![0, 1, 0, 0] ![1, 1, 256, 128] inb_S1x2x512x128_S1x1x256x128_0_1_0_0, piece x3 x4 u v k0_pay3 (arg12.view.read (Elt Ideal) f12) 1 (chunk 1 k.val) 0⟩ : View.Piece (Elt Ideal) S1x2x512x128 .f32),
          (⟨Rect.unit (s := S1x2x512x128) ![0, 0, 256, 0] ![1, 1, 256, 128] inb_S1x2x512x128_S1x1x256x128_0_0_256_0, piece x0 x1 u v k0_pay2 (arg12.view.read (Elt Ideal) f12) 0 (chunk 0 k.val) 1⟩ : View.Piece (Elt Ideal) S1x2x512x128 .f32),
          (⟨Rect.unit (s := S1x2x512x128) ![0, 0, 0, 0] ![1, 1, 256, 128] inb_S1x2x512x128_S1x1x256x128_0_0_0_0, piece x0 x1 u v k0_pay2 (arg12.view.read (Elt Ideal) f12) 0 (chunk 0 k.val) 0⟩ : View.Piece (Elt Ideal) S1x2x512x128 .f32)] := by
  unfold trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103]
  simp only [trip_k0_t1.sl.v241, trip_k0_t1.sl.v460, trip_k0_t1.sl.v610]
  simp only [View.readAt_eq_ld, harg2.read_unread, harg3.read_unread, harg5.read_unread, harg6.read_unread]
  rw [show (trip_k0_t1.sl.cst_69 : Ideal .f32) = FloatOps.ofBits .f32 0x00000000#32 from rfl]
  simp only [ld_p x1 (chunk 0 k.val) (k0_off1 k) (off1 k), ld_p x4 (chunk 1 k.val) (k0_off17 k) (off17 k),
    ld_b x0 (chunk 0 k.val) 0 (k0_off3 k) (off3 k), ld_b x0 (chunk 0 k.val) 1 (k0_off10 k) (off10 k),
    ld_b x3 (chunk 1 k.val) 0 (k0_off19 k) (off19 k), ld_b x3 (chunk 1 k.val) 1 (k0_off26 k) (off26 k),
    ld_x x0 (chunk 0 k.val) 0 (k0_off5 k) (off5 k), ld_x x0 (chunk 0 k.val) 1 (k0_off6 k) (off6 k), ld_x x0 (chunk 0 k.val) 2 (k0_off7 k) (off7 k), ld_x x0 (chunk 0 k.val) 3 (k0_off8 k) (off8 k), ld_x x0 (chunk 0 k.val) 4 (k0_off12 k) (off12 k), ld_x x0 (chunk 0 k.val) 5 (k0_off13 k) (off13 k), ld_x x0 (chunk 0 k.val) 6 (k0_off14 k) (off14 k), ld_x x0 (chunk 0 k.val) 7 (k0_off15 k) (off15 k),
    ld_x x3 (chunk 1 k.val) 0 (k0_off21 k) (off21 k), ld_x x3 (chunk 1 k.val) 1 (k0_off22 k) (off22 k), ld_x x3 (chunk 1 k.val) 2 (k0_off23 k) (off23 k), ld_x x3 (chunk 1 k.val) 3 (k0_off24 k) (off24 k), ld_x x3 (chunk 1 k.val) 4 (k0_off28 k) (off28 k), ld_x x3 (chunk 1 k.val) 5 (k0_off29 k) (off29 k), ld_x x3 (chunk 1 k.val) 6 (k0_off30 k) (off30 k), ld_x x3 (chunk 1 k.val) 7 (k0_off31 k) (off31 k),
    ld_s00, ld_s01, ld_s10, ld_s11]
  generalize arg12.view.read (Elt Ideal) f12 = S
  simp only [step_bwd]
  have hb := bwd_eq k0_pay3 u v (pAt x4 (chunk 1 k.val))
  simp only [hb]
  simp only [cut75, cut116, cut7, kept0, left0, kept1, left1, kept2, left2, kept3, left3, kept4, left4, kept5, left5, kept6, left6, kept7, left7, kept8, left8, kept9, left9, kept10, left10, kept11, left11, kept12, left12, kept13, left13, kept14, left14, kept15, left15]
  rfl

theorem read_pieces (arg12 : Memref sig .tc .vmem S1x2x512x128 .f32) (f12 : BufTy.Contents (Elt Ideal) arg12.view.ty) (w11 w10 w01 w00 : FVec Ideal S1x1x256x128 .f32)
    (d g : Fin 2) (q : Fin 4) (a : Fin 64) (n : Fin 128) :
    arg12.view.read (Elt Ideal) (arg12.view.writes (Elt Ideal) f12
        [(⟨Rect.unit (s := S1x2x512x128) ![0, 1, 256, 0] ![1, 1, 256, 128] inb_S1x2x512x128_S1x1x256x128_0_1_256_0, w11⟩ : View.Piece (Elt Ideal) S1x2x512x128 .f32),
          (⟨Rect.unit (s := S1x2x512x128) ![0, 1, 0, 0] ![1, 1, 256, 128] inb_S1x2x512x128_S1x1x256x128_0_1_0_0, w10⟩ : View.Piece (Elt Ideal) S1x2x512x128 .f32),
          (⟨Rect.unit (s := S1x2x512x128) ![0, 0, 256, 0] ![1, 1, 256, 128] inb_S1x2x512x128_S1x1x256x128_0_0_256_0, w01⟩ : View.Piece (Elt Ideal) S1x2x512x128 .f32),
          (⟨Rect.unit (s := S1x2x512x128) ![0, 0, 0, 0] ![1, 1, 256, 128] inb_S1x2x512x128_S1x1x256x128_0_0_0_0, w00⟩ : View.Piece (Elt Ideal) S1x2x512x128 .f32)])
        (ix4 0 d ⟨64 * (headOf g q).val + a.val, by omega⟩ n)
      = (if d = 0 then (if g = 0 then w00 else w01) else if g = 0 then w10 else w11) (ix4 0 0 ⟨64 * q.val + a.val, by omega⟩ n) := by
  have hq := q.isLt
  have ha := a.isLt
  fin_cases d <;> fin_cases g
  · refine (View.read_writes_cons_unit_of_not_mem _ _ _ _ _ _ rfl 1 (Or.inl ?_)).trans ?_
    · show (0 : Nat) < 1
      omega
    refine (View.read_writes_cons_unit_of_not_mem _ _ _ _ _ _ rfl 1 (Or.inl ?_)).trans ?_
    · show (0 : Nat) < 1
      omega
    refine (View.read_writes_cons_unit_of_not_mem _ _ _ _ _ _ rfl 2 (Or.inl ?_)).trans ?_
    · show 64 * (4 * 0 + q.val) + a.val < 256
      omega
    refine View.read_writes_cons_unit_of_mem (s := S1x2x512x128) (off := ![0, 0, 0, 0]) (off' := ![0, 0, 0, 0]) (size := ![1, 1, 256, 128]) _ _ inb_S1x2x512x128_S1x1x256x128_0_0_0_0 _ _ _ (ix4 0 0 (⟨64 * q.val + a.val, by omega⟩ : Fin 256) n) rfl fun b => ?_
    fin_cases b
    · rfl
    · rfl
    · show 64 * (4 * 0 + q.val) + a.val = 0 + (64 * q.val + a.val)
      omega
    · show n.val = 0 + n.val
      omega
  · refine (View.read_writes_cons_unit_of_not_mem _ _ _ _ _ _ rfl 1 (Or.inl ?_)).trans ?_
    · show (0 : Nat) < 1
      omega
    refine (View.read_writes_cons_unit_of_not_mem _ _ _ _ _ _ rfl 1 (Or.inl ?_)).trans ?_
    · show (0 : Nat) < 1
      omega
    refine View.read_writes_cons_unit_of_mem (s := S1x2x512x128) (off := ![0, 0, 256, 0]) (off' := ![0, 0, 256, 0]) (size := ![1, 1, 256, 128]) _ _ inb_S1x2x512x128_S1x1x256x128_0_0_256_0 _ _ _ (ix4 0 0 (⟨64 * q.val + a.val, by omega⟩ : Fin 256) n) rfl fun b => ?_
    fin_cases b
    · rfl
    · rfl
    · show 64 * (4 * 1 + q.val) + a.val = 256 + (64 * q.val + a.val)
      omega
    · show n.val = 0 + n.val
      omega
  · refine (View.read_writes_cons_unit_of_not_mem _ _ _ _ _ _ rfl 2 (Or.inl ?_)).trans ?_
    · show 64 * (4 * 0 + q.val) + a.val < 256
      omega
    refine View.read_writes_cons_unit_of_mem (s := S1x2x512x128) (off := ![0, 1, 0, 0]) (off' := ![0, 1, 0, 0]) (size := ![1, 1, 256, 128]) _ _ inb_S1x2x512x128_S1x1x256x128_0_1_0_0 _ _ _ (ix4 0 0 (⟨64 * q.val + a.val, by omega⟩ : Fin 256) n) rfl fun b => ?_
    fin_cases b
    · rfl
    · rfl
    · show 64 * (4 * 0 + q.val) + a.val = 0 + (64 * q.val + a.val)
      omega
    · show n.val = 0 + n.val
      omega
  · refine View.read_writes_cons_unit_of_mem (s := S1x2x512x128) (off := ![0, 1, 256, 0]) (off' := ![0, 1, 256, 0]) (size := ![1, 1, 256, 128]) _ _ inb_S1x2x512x128_S1x1x256x128_0_1_256_0 _ _ _ (ix4 0 0 (⟨64 * q.val + a.val, by omega⟩ : Fin 256) n) rfl fun b => ?_
    fin_cases b
    · rfl
    · rfl
    · show 64 * (4 * 1 + q.val) + a.val = 256 + (64 * q.val + a.val)
      omega
    · show n.val = 0 + n.val
      omega

/-- What a trip leaves of a head's state: the chunk's step of the recurrence from what it found. -/
theorem trip_read (𝒱 : Variants) (c : Dev nD) (bd : Option 𝒱.V) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole)

    (v3 v4 u v v15 v17 X4 X7) (k : Fin k0_t1_loop.trips) (f10 f11 f12)
    (x0 x3 : Vec Ideal S256x1024 .bf16) (x1 x4 : Vec Ideal S256x128 .f32) (A : Params)
    (hu : ∀ j, u (ix2 0 j) = A (ix2 0 j)) (hv : ∀ j, v (ix2 0 j) = A (ix2 1 j)) (d g : Fin 2) (q : Fin 4) (a : Fin 64) (n : Fin 128) :
    arg12.view.read (Elt Ideal) (arg12.view.writes (Elt Ideal) f12 ((trip_k0_t1 (F := Ideal) 𝒱 c bd i arg2 harg2 arg3 harg3 arg4 harg4 arg5 harg5 arg6 harg6 arg7 harg7 arg8 harg8 arg9 harg9 arg10 harg10 arg11 harg11 arg12 harg12 v3 v4 u v v15 v17 (harg2.unread x0) (harg3.unread x1) X4 (harg5.unread x3) (harg6.unread x4) X7 k).2.2.1 f10 f11 f12)) (ix4 0 d ⟨64 * (headOf g q).val + a.val, by omega⟩ n)
      = arg12.view.read (Elt Ideal) f12 (ix4 0 d ⟨64 * (headOf g q).val + a.val, by omega⟩ n)
          * Ideal.exp (total (if d = 0 then x1 else x4) A (chunk d k.val) (lane d (headOf g q)))
        + added (if d = 0 then x0 else x3) (if d = 0 then x1 else x4) A d (chunk d k.val) (headOf g q) a n := by
  rw [trip_pieces, read_pieces]
  fin_cases d <;> fin_cases g
  · exact piece_apply A x0 x1 u v hu hv k0_pay2 _ 0 lower_met (chunk 0 k.val) 0 q a n
  · exact piece_apply A x0 x1 u v hu hv k0_pay2 _ 0 lower_met (chunk 0 k.val) 1 q a n
  · exact piece_apply A x3 x4 u v hu hv k0_pay3 _ 1 upper_met (chunk 1 k.val) 0 q a n
  · exact piece_apply A x3 x4 u v hu hv k0_pay3 _ 1 upper_met (chunk 1 k.val) 1 q a n

end Cert.Ssd
end
-- ==== Proof.SsdState.lean ====
/-
  The scan's states at a grid point: the loop's four trips over one prompt's four chunks, from states of zeros.
-/
module

public import proofs.«01_k».proof.Proof.SsdIdealFrame
public import proofs.«01_k».proof.Proof.SsdTrip

@[expose] public section

set_option maxRecDepth 16384

noncomputable section

namespace Cert.Ssd

open Cert.Kernel13Ideal Cert.Kernel13Ideal.Gen Idealize.ShloMosaic Idealize.ShloMosaic.TcCoe Idealize.ShloMosaic.Tactic Idealize.SL.Sem

theorem trips : k0_t1_loop.trips = 4 := by decide +kernel

/-- What `k` trips leave of a head's state, from a block of zeros. -/
theorem loop_read (𝒱 : Variants) (c : Dev nD) (bd : Option 𝒱.V) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (v3 v4 u v v15 v17 X4 X7)
    (G10 : BufTy.Contents (Elt Ideal) arg10.view.ty) (G11 : BufTy.Contents (Elt Ideal) arg11.view.ty) (G12 : BufTy.Contents (Elt Ideal) arg12.view.ty)
    (x0 x3 : Vec Ideal S256x1024 .bf16) (x1 x4 : Vec Ideal S256x128 .f32) (A : Params)
    (hu : ∀ j, u (ix2 0 j) = A (ix2 0 j)) (hv : ∀ j, v (ix2 0 j) = A (ix2 1 j)) (d g : Fin 2) (q : Fin 4) (a : Fin 64) (n : Fin 128)
    (hG : arg12.view.read (Elt Ideal) G12 (ix4 0 d ⟨64 * (headOf g q).val + a.val, by omega⟩ n) = 0) (k : Nat) (hk : k ≤ 4) :
    arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 v3 v4 u v v15 v17 (harg2.unread x0) (harg3.unread x1) X4 (harg5.unread x3) (harg6.unread x4) X7 G10 G11 G12 k).2.2)
        (ix4 0 d ⟨64 * (headOf g q).val + a.val, by omega⟩ n)
      = state (if d = 0 then x0 else x3) (if d = 0 then x1 else x4) A d (headOf g q) a n k := by
  induction k with
  | zero => exact hG
  | succ k ih =>
    have hlt : k < k0_t1_loop.trips := by rw [trips]; omega
    have hs := congrArg (·.2.2) (pb_k0_t1_succ (F := Ideal) 𝒱 c bd i arg2 harg2 arg3 harg3 arg4 harg4 arg5 harg5 arg6 harg6 arg7 harg7 arg8 harg8 arg9 harg9 arg10 harg10 arg11 harg11 arg12 harg12 v3 v4 u v v15 v17 (harg2.unread x0) (harg3.unread x1) X4 (harg5.unread x3) (harg6.unread x4) X7 G10 G11 G12 ⟨k, hlt⟩)
    dsimp only at hs
    rw [hs, View.writes_append, trip_read (A := A) (hu := hu) (hv := hv), ih (by omega)]
    rfl

theorem run_state (c : Dev nD) (i : grid0.Coords) (arg2 : Memref sig .tc .vmem S256x1024 .bf16) (harg2 : arg2.IsWhole) (arg3 : Memref sig .tc .vmem S256x128 .f32) (harg3 : arg3.IsWhole) (arg4 : Memref sig .tc .vmem S4x128x64 .f32) (harg4 : arg4.IsWhole) (arg5 : Memref sig .tc .vmem S256x1024 .bf16) (harg5 : arg5.IsWhole) (arg6 : Memref sig .tc .vmem S256x128 .f32) (harg6 : arg6.IsWhole) (arg7 : Memref sig .tc .vmem S4x128x64 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S1x2x512x128 .f32) (harg12 : arg12.IsWhole) (hc0 : cond0_0 i)
    (x0 : Vec Ideal S256x1024 .bf16) (x1 : Vec Ideal S256x128 .f32) (x2 : Vec Ideal S4x128x64 .f32) (x3 : Vec Ideal S256x1024 .bf16) (x4 : Vec Ideal S256x128 .f32) (x5 : Vec Ideal S4x128x64 .f32) (x6 : Vec Ideal S8x128 .f32) (x7 : Vec Ideal S128x8 .f32)
    (d g : Fin 2) (q : Fin 4) (a : Fin 64) (n : Fin 128) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 (ix4 0 d ⟨64 * (headOf g q).val + a.val, by omega⟩ n)
      = state (if d = 0 then x0 else x3) (if d = 0 then x1 else x4) x6 d (headOf g q) a n 4 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7),
    ← View.read_writes_eq_canon arg12.view arg12.view.junk _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  rw [View.writes_append]
  have ht : Scf.trips k0_t1_loop.lb k0_t1_loop.ub k0_t1_loop.st = 4 := trips
  rw [ht]
  refine loop_read (A := x6) (hu := fun j => ?_) (hv := fun j => ?_) (hG := ?_) (hk := le_refl 4) ..
  · rw [View.readAt_eq_ld, harg8.read_unread]
    pointwise []
  · rw [View.readAt_eq_ld, harg8.read_unread]
    pointwise []
  · unfold kernelRun0_A.sl.H10_1
    refine (View.read_writes_cons_unit_of_mem (s := S1x2x512x128) (off := ![0, 0, 0, 0]) (off' := ![0, 0, 0, 0]) (size := S1x2x512x128.size) _ _ inb_S1x2x512x128_S1x2x512x128_0_0_0_0 _ _ _
      (ix4 0 d ⟨64 * (headOf g q).val + a.val, by omega⟩ n : S1x2x512x128.Idx) rfl fun b => ?_).trans ?_
    · fin_cases b <;> exact (Nat.zero_add _).symm
    · show k0_pay1 (F := Ideal) _ = 0
      unfold k0_pay1
      pointwise []

end Cert.Ssd
end
-- ==== Proof.SsdReference.lean ====
/-
  The reference's final states, element by element: the recurrence over a prompt's four chunks, forwards and backwards.
-/
module

public import proofs.«01_k».proof.Proof.SsdMath
public import proofs.«01_k».proof.Proof.Gen.Reference13Ideal.Run
public import proofs.«01_k».proof.Proof.Gen.Reference13Ideal.Read

@[expose] public section

set_option maxRecDepth 16384

noncomputable section

namespace Cert.Ssd

open Cert.Reference13Ideal Cert.Reference13Ideal.Gen Cert.Reference13Ideal.Read Idealize.ShloMosaic Idealize.ShloMosaic.TcCoe Idealize.SL.Sem Idealize.ShloMosaic.StableHlo

/-- The convolved inputs of all prompts, and the projected steps of all rows. -/
abbrev AllRows := (⟨2, ![8192, 1024]⟩ : Shape).Idx → EReal
abbrev AllSteps := (⟨2, ![24576, 128]⟩ : Shape).Idx → EReal

/-- A prompt's rows. -/
def rowsOf (x : AllRows) (b : Fin 32) : Rows := fun i => x (ix2 ⟨256 * b.val + (i 0).val, by have : (i 0).val < 256 := (i 0).isLt; omega⟩ ⟨(i 1).val, (i 1).isLt⟩)
def stepsOf (x : AllSteps) (b : Fin 32) : Steps := fun i => x (ix2 ⟨256 * b.val + (i 0).val, by have : (i 0).val < 256 := (i 0).isLt; omega⟩ ⟨(i 1).val, (i 1).isLt⟩)

theorem rowsOf_apply (x : AllRows) (b : Fin 32) (r : Fin 256) (k : Fin 1024) (a : Fin 8192) (e : Fin 1024) (h1 : a.val = 256 * b.val + r.val) (h2 : e.val = k.val) :
    x (ix2 a e) = rowsOf x b (ix2 r k) :=
  congrArg₂ (fun a e => x (ix2 a e)) (Fin.ext h1) (Fin.ext h2)

theorem stepsOf_apply (x : AllSteps) (b : Fin 32) (r : Fin 256) (k : Fin 128) (a : Fin 24576) (e : Fin 128) (h1 : a.val = 256 * b.val + r.val) (h2 : e.val = k.val) :
    x (ix2 a e) = stepsOf x b (ix2 r k) :=
  congrArg₂ (fun a e => x (ix2 a e)) (Fin.ext h1) (Fin.ext h2)

variable (x0 : (⟨S8192x1024, .bf16⟩ : BufTy).Contents (Elt Ideal)) (x1 : (⟨S24576x128, .f32⟩ : BufTy).Contents (Elt Ideal)) (x2 : (⟨S8x128, .f32⟩ : BufTy).Contents (Elt Ideal))

theorem input_at (b : Fin 32) (z : Fin 4) (i : Fin 64) (h : Fin 8) (p : Fin 64) :
    val_main_v2 (F := Ideal) x0 (ix5 b z i h p) = rowsOf x0 b (ix2 (row z i) (headCol h p)) := by
  pointwise [val_main_v0, val_main_v1, val_main_v2]
  refine rowsOf_apply _ _ _ _ _ _ ?_ ?_ <;> (first | unfold row | unfold headCol) <;> dsimp only <;> omega

theorem vector_at (b : Fin 32) (z : Fin 4) (i : Fin 64) (g : Fin 2) (n : Fin 128) (h : Fin 8) (hg : h.val / 4 = g.val) :
    val_main_v5 (F := Ideal) x0 (ix5 b z i g n) = rowsOf x0 b (ix2 (row z i) (inCol h n)) := by
  pointwise [val_main_v3, val_main_v4, val_main_v5]
  refine rowsOf_apply _ _ _ _ _ _ ?_ ?_ <;> (first | unfold row | unfold inCol) <;> dsimp only <;> omega

theorem raw_at (b : Fin 32) (z : Fin 4) (i : Fin 64) (j : Fin 128) :
    val_main_v7 (F := Ideal) x1 (ix4 b z i j) = stepsOf x1 b (ix2 (row z i) j) := by
  pointwise [val_main_v6, val_main_v7]
  refine stepsOf_apply _ _ _ _ _ _ ?_ ?_ <;> (try unfold row) <;> (try dsimp only) <;> omega

theorem step_at_fwd (b : Fin 32) (z : Fin 4) (i : Fin 64) (h : Fin 8) :
    val_main_v14 (F := Ideal) x1 x2 (ix4 b z i h) = step (stepsOf x1 b) x2 z i (lane 0 h) := by
  have hr := raw_at x1 b z i (lane 0 h)
  have hj : (⟨16 + h.val, by omega⟩ : Fin 128) = lane 0 h := Fin.ext (by unfold lane; show 16 + h.val = 16 + 8 * 0 + h.val; omega)
  unfold step softplus
  rw [← hr]
  pointwise [val_main_v8, val_main_v9, val_main_v10, val_main_v11, val_main_v12, val_main_v13, val_main_v14, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11]
  simp only [hj]
  rw [if_neg (fun h => h rfl)]
  simp only [sub_zero, zero_sub]

theorem decay_at_fwd (b : Fin 32) (z : Fin 4) (i : Fin 64) (h : Fin 8) :
    val_main_v29 (F := Ideal) x1 x2 (ix4 b z i h) = decay (stepsOf x1 b) x2 z i (lane 0 h) := by
  have hj : (⟨16 + h.val, by omega⟩ : Fin 128) = lane 0 h := Fin.ext (by unfold lane; show 16 + h.val = 16 + 8 * 0 + h.val; omega)
  unfold decay
  rw [← step_at_fwd]
  pointwise [val_main_v23, val_main_v24, val_main_v25, val_main_v26, val_main_v27, val_main_v28, val_main_v29]
  rw [hj]

theorem accum_at_fwd (b : Fin 32) (z : Fin 4) (i : Fin 64) (h : Fin 8) :
    val_main_v38 (F := Ideal) x1 x2 (ix4 b z i h) = accum (stepsOf x1 b) x2 0 z i (lane 0 h) := by
  have hm : ∀ i k : Fin 64, IntOp.cmpi CmpIPredicate.sge (BitVec.ofNat 32 i.val) (BitVec.ofNat 32 k.val) = if met 0 i k then 1#1 else 0#1 := by decide +kernel
  unfold accum
  simp only [← decay_at_fwd]
  pointwise [val_main_v22, val_main_v30, val_main_v31, val_main_v32, val_main_v33, val_main_v34, val_main_v35, val_main_v36, val_main_v37, val_main_v38, val_main_cst, val_main_cst_0, val_main_call2_v0, val_main_call2_v1, val_main_call2_v2, val_main_call2_v3]
  refine Finset.sum_congr rfl fun x _ => ?_
  rw [hm]
  by_cases hx : met 0 i x
  · rw [if_pos hx, if_pos hx]
    rfl
  · rw [if_neg hx, if_neg hx]
    show constant (F := Ideal) S_ .f32 0#32 ix0 = 0
    pointwise []

theorem total_at_fwd (b : Fin 32) (z : Fin 4) (h : Fin 8) :
    val_main_v39 (F := Ideal) x1 x2 (ix3 b z h) = total (stepsOf x1 b) x2 z (lane 0 h) := by
  unfold total
  simp only [← decay_at_fwd]
  pointwise [val_main_v39, val_main_cst_1]

theorem kept_at_fwd (b : Fin 32) (z : Fin 4) (i : Fin 64) (h : Fin 8) (p : Fin 64) :
    val_main_v49 (F := Ideal) x0 x1 x2 (ix5 b z i h p) = rowsOf x0 b (ix2 (row z i) (headCol h p)) * step (stepsOf x1 b) x2 z i (lane 0 h)
      * Ideal.exp (total (stepsOf x1 b) x2 z (lane 0 h) - accum (stepsOf x1 b) x2 0 z i (lane 0 h)) := by
  rw [← input_at, ← step_at_fwd, ← total_at_fwd, ← accum_at_fwd]
  pointwise [val_main_v40, val_main_v41, val_main_v42, val_main_v43, val_main_v44, val_main_v45, val_main_v46, val_main_v47, val_main_v48, val_main_v49]

theorem head_vector_at_fwd (b : Fin 32) (z : Fin 4) (i : Fin 64) (h : Fin 8) (n : Fin 128) :
    val_main_v56 (F := Ideal) x0 (ix5 b z i h n) = rowsOf x0 b (ix2 (row z i) (inCol h n)) := by
  have hm : ∀ h : Fin 8, IntOp.cmpi CmpIPredicate.slt (BitVec.ofNat 32 h.val) 4#32 = if h.val < 4 then 1#1 else 0#1 := by decide +kernel
  by_cases hh : h.val < 4
  · rw [← vector_at x0 b z i 0 n h (by show _ = 0; omega)]
    pointwise [val_main_v50, val_main_v51, val_main_v52, val_main_v53, val_main_v54, val_main_v55, val_main_v56, val_main_c, val_main_call3_v0, val_main_call3_v1, val_main_call3_v2]
    rw [hm, if_pos hh]
    rfl
  · rw [← vector_at x0 b z i 1 n h (by show _ = 1; omega)]
    pointwise [val_main_v50, val_main_v51, val_main_v52, val_main_v53, val_main_v54, val_main_v55, val_main_v56, val_main_c, val_main_call3_v0, val_main_call3_v1, val_main_call3_v2]
    rw [hm, if_neg hh]
    rfl

theorem added_at_fwd (b : Fin 32) (z : Fin 4) (h : Fin 8) (p : Fin 64) (n : Fin 128) :
    val_main_v57 (F := Ideal) x0 x1 x2 (ix5 b z h p n) = added (rowsOf x0 b) (stepsOf x1 b) x2 0 z h p n := by
  unfold added
  simp only [← kept_at_fwd, ← head_vector_at_fwd]
  pointwise [val_main_v57]

theorem state_at_fwd (b : Fin 32) (h : Fin 8) (p : Fin 64) (n : Fin 128) :
    val_main_v88 (F := Ideal) x0 x1 x2 (ix4 b h p n) = state (rowsOf x0 b) (stepsOf x1 b) x2 0 h p n 4 := by
  have hs : state (rowsOf x0 b) (stepsOf x1 b) x2 0 h p n 4
      = (((0 * Ideal.exp (total (stepsOf x1 b) x2 0 (lane 0 h)) + added (rowsOf x0 b) (stepsOf x1 b) x2 0 0 h p n)
          * Ideal.exp (total (stepsOf x1 b) x2 1 (lane 0 h)) + added (rowsOf x0 b) (stepsOf x1 b) x2 0 1 h p n)
          * Ideal.exp (total (stepsOf x1 b) x2 2 (lane 0 h)) + added (rowsOf x0 b) (stepsOf x1 b) x2 0 2 h p n)
          * Ideal.exp (total (stepsOf x1 b) x2 3 (lane 0 h)) + added (rowsOf x0 b) (stepsOf x1 b) x2 0 3 h p n := rfl
  rw [hs]
  simp only [← total_at_fwd, ← added_at_fwd]
  pointwise [val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_cst_2]

theorem step_at_bwd (b : Fin 32) (z : Fin 4) (i : Fin 64) (h : Fin 8) :
    val_main_v21 (F := Ideal) x1 x2 (ix4 b z i h) = step (stepsOf x1 b) x2 z i (lane 1 h) := by
  have hr := raw_at x1 b z i (lane 1 h)
  have hj : (⟨24 + h.val, by omega⟩ : Fin 128) = lane 1 h := Fin.ext (by unfold lane; show 24 + h.val = 16 + 8 * 1 + h.val; omega)
  unfold step softplus
  rw [← hr]
  pointwise [val_main_v15, val_main_v16, val_main_v17, val_main_v18, val_main_v19, val_main_v20, val_main_v21, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  simp only [hj]
  rw [if_neg (fun h => h rfl)]
  simp only [sub_zero, zero_sub]

theorem decay_at_bwd (b : Fin 32) (z : Fin 4) (i : Fin 64) (h : Fin 8) :
    val_main_v96 (F := Ideal) x1 x2 (ix4 b z i h) = decay (stepsOf x1 b) x2 z i (lane 1 h) := by
  have hj : (⟨24 + h.val, by omega⟩ : Fin 128) = lane 1 h := Fin.ext (by unfold lane; show 24 + h.val = 16 + 8 * 1 + h.val; omega)
  unfold decay
  rw [← step_at_bwd]
  pointwise [val_main_v90, val_main_v91, val_main_v92, val_main_v93, val_main_v94, val_main_v95, val_main_v96]
  rw [hj]

theorem accum_at_bwd (b : Fin 32) (z : Fin 4) (i : Fin 64) (h : Fin 8) :
    val_main_v105 (F := Ideal) x1 x2 (ix4 b z i h) = accum (stepsOf x1 b) x2 1 z i (lane 1 h) := by
  have hm : ∀ i k : Fin 64, IntOp.cmpi CmpIPredicate.sle (BitVec.ofNat 32 i.val) (BitVec.ofNat 32 k.val) = if met 1 i k then 1#1 else 0#1 := by decide +kernel
  unfold accum
  simp only [← decay_at_bwd]
  pointwise [val_main_v22, val_main_v97, val_main_v98, val_main_v99, val_main_v100, val_main_v101, val_main_v102, val_main_v103, val_main_v104, val_main_v105, val_main_cst_3, val_main_cst_4, val_main_call4_v0, val_main_call4_v1, val_main_call4_v2, val_main_call4_v3]
  refine Finset.sum_congr rfl fun x _ => ?_
  rw [hm]
  by_cases hx : met 1 i x
  · rw [if_pos hx, if_pos hx]
    rfl
  · rw [if_neg hx, if_neg hx]
    show constant (F := Ideal) S_ .f32 0#32 ix0 = 0
    pointwise []

theorem total_at_bwd (b : Fin 32) (z : Fin 4) (h : Fin 8) :
    val_main_v106 (F := Ideal) x1 x2 (ix3 b z h) = total (stepsOf x1 b) x2 z (lane 1 h) := by
  unfold total
  simp only [← decay_at_bwd]
  pointwise [val_main_v106, val_main_cst_5]

theorem kept_at_bwd (b : Fin 32) (z : Fin 4) (i : Fin 64) (h : Fin 8) (p : Fin 64) :
    val_main_v116 (F := Ideal) x0 x1 x2 (ix5 b z i h p) = rowsOf x0 b (ix2 (row z i) (headCol h p)) * step (stepsOf x1 b) x2 z i (lane 1 h)
      * Ideal.exp (total (stepsOf x1 b) x2 z (lane 1 h) - accum (stepsOf x1 b) x2 1 z i (lane 1 h)) := by
  rw [← input_at, ← step_at_bwd, ← total_at_bwd, ← accum_at_bwd]
  pointwise [val_main_v107, val_main_v108, val_main_v109, val_main_v110, val_main_v111, val_main_v112, val_main_v113, val_main_v114, val_main_v115, val_main_v116]

theorem head_vector_at_bwd (b : Fin 32) (z : Fin 4) (i : Fin 64) (h : Fin 8) (n : Fin 128) :
    val_main_v123 (F := Ideal) x0 (ix5 b z i h n) = rowsOf x0 b (ix2 (row z i) (inCol h n)) := by
  have hm : ∀ h : Fin 8, IntOp.cmpi CmpIPredicate.slt (BitVec.ofNat 32 h.val) 4#32 = if h.val < 4 then 1#1 else 0#1 := by decide +kernel
  by_cases hh : h.val < 4
  · rw [← vector_at x0 b z i 0 n h (by show _ = 0; omega)]
    pointwise [val_main_v117, val_main_v118, val_main_v119, val_main_v120, val_main_v121, val_main_v122, val_main_v123, val_main_c_6, val_main_call5_v0, val_main_call5_v1, val_main_call5_v2]
    rw [hm, if_pos hh]
    rfl
  · rw [← vector_at x0 b z i 1 n h (by show _ = 1; omega)]
    pointwise [val_main_v117, val_main_v118, val_main_v119, val_main_v120, val_main_v121, val_main_v122, val_main_v123, val_main_c_6, val_main_call5_v0, val_main_call5_v1, val_main_call5_v2]
    rw [hm, if_neg hh]
    rfl

theorem added_at_bwd (b : Fin 32) (z : Fin 4) (h : Fin 8) (p : Fin 64) (n : Fin 128) :
    val_main_v124 (F := Ideal) x0 x1 x2 (ix5 b z h p n) = added (rowsOf x0 b) (stepsOf x1 b) x2 1 z h p n := by
  unfold added
  simp only [← kept_at_bwd, ← head_vector_at_bwd]
  pointwise [val_main_v124]

theorem state_at_bwd (b : Fin 32) (h : Fin 8) (p : Fin 64) (n : Fin 128) :
    val_main_v155 (F := Ideal) x0 x1 x2 (ix4 b h p n) = state (rowsOf x0 b) (stepsOf x1 b) x2 1 h p n 4 := by
  have hs : state (rowsOf x0 b) (stepsOf x1 b) x2 1 h p n 4
      = (((0 * Ideal.exp (total (stepsOf x1 b) x2 3 (lane 1 h)) + added (rowsOf x0 b) (stepsOf x1 b) x2 1 3 h p n)
          * Ideal.exp (total (stepsOf x1 b) x2 2 (lane 1 h)) + added (rowsOf x0 b) (stepsOf x1 b) x2 1 2 h p n)
          * Ideal.exp (total (stepsOf x1 b) x2 1 (lane 1 h)) + added (rowsOf x0 b) (stepsOf x1 b) x2 1 1 h p n)
          * Ideal.exp (total (stepsOf x1 b) x2 0 (lane 1 h)) + added (rowsOf x0 b) (stepsOf x1 b) x2 1 0 h p n := rfl
  rw [hs]
  simp only [← total_at_bwd, ← added_at_bwd]
  pointwise [val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_cst_7]

/-- The reference's states at an element. -/
theorem reference_at (b : Fin 32) (d : Fin 2) (h : Fin 8) (p : Fin 64) (n : Fin 128) :
    val_main_v159 (F := Ideal) x0 x1 x2 (ix4 b d ⟨64 * h.val + p.val, by omega⟩ n) = state (rowsOf x0 b) (stepsOf x1 b) x2 d h p n 4 := by
  fin_cases d
  · show _ = state (rowsOf x0 b) (stepsOf x1 b) x2 0 h p n 4
    rw [← state_at_fwd]
    pointwise [val_main_v89, val_main_v157, val_main_v158, val_main_v159]
  · show _ = state (rowsOf x0 b) (stepsOf x1 b) x2 1 h p n 4
    rw [← state_at_bwd]
    pointwise [val_main_v156, val_main_v157, val_main_v158, val_main_v159]

end Cert.Ssd
end
-- ==== Proof.SsdIdealValue.lean ====
/-
  What the scan's call leaves in its outputs, block by block.
-/
module

public import proofs.«01_k».proof.Proof.SsdIdealFrame
public import Idealize.ShloMosaic.Lib.Pipeline.Value

@[expose] public section

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t)) := by
  simp only [flushed8, outsAt0]

/-- The index map sends distinct grid points to distinct block indices (decided over the 32 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — the kernel's one case, `Gen.outsAt0` by definition. -/
theorem flushed9_A (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t)) := by
  simp only [flushed9, outsAt0]

/-- The index map sends distinct grid points to distinct block indices (decided over the 32 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8192x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t).2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — the kernel's one case, `Gen.outsAt0` by definition. -/
theorem flushed10_A (c : Dev nD) (t : Fin cfg0.N) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t)) := by
  simp only [flushed10, outsAt0]

/-- The index map sends distinct grid points to distinct block indices (decided over the 32 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S32x2x512x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v3_2) = (dats m 0 c).arrAt 10 cfg0.N :=
  (h c).1 10

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: input window 6 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 6).trans (((dats m 0 c).arrAt_in 6 rfl _).trans ((A_eq m c 6).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 8 cfg0.N
      ∧ r.2.mem ((c : Thread nD τ).loc main_v3_1) = (dats m 0 c).arrAt 9 cfg0.N
      ∧ r.2.mem ((c : Thread nD τ).loc main_v3_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post8 m r h c,
      post9 m r h c,
      post10 m r h c,
      kept_main_arg0 m r h c,
      kept_main_arg1 m r h c,
      kept_main_arg2 m r h c⟩)
    (run_main m ρ)

end Cert.Kernel13Ideal.Value

end
-- ==== Proof.SsdKernel.lean ====
/-
  The scan's array of final states: each prompt's block holds its states, as the reference's.
-/
module

public import proofs.«01_k».proof.Defs
public import proofs.«01_k».proof.Proof.SsdBitsFrame
public import proofs.«01_k».proof.Proof.SsdState
public import proofs.«01_k».proof.Proof.SsdReference
public import proofs.«01_k».proof.Proof.SsdIdealValue
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.SsdScan

open Cert.Kernel13Ideal Cert.Kernel13Ideal.Gen Cert.Kernel13Ideal.Value Idealize.ShloMosaic Idealize.ShloMosaic.TcCoe Idealize.SL.Sem
open Idealize.ShloMosaic.Pipeline (Dat)
open Cert.Ssd

variable (m : (ℓ : Loc nD τ sig) → Buf (Elt Ideal) ℓ)

/-! ## Which block each grid point reads and writes -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx10 : ∀ t : Fin cfg0.N, win0_10.index t 0 = t.val ∧ win0_10.index t 1 = 0 ∧ win0_10.index t 2 = 0 ∧ win0_10.index t 3 = 0 :=
  (by decide +kernel : ∀ t : Fin grid0.N, win0_10.index t 0 = t.val ∧ win0_10.index t 1 = 0 ∧ win0_10.index t 2 = 0 ∧ win0_10.index t 3 = 0)

theorem in_block0 (c : Dev nD) (t : Fin cfg0.N) (p : Fin 256) (k : Fin 1024) :
    iblk m c 0 t (ix2 p k) = m (c, main_arg0) (ix2 ⟨t.val * 256 + p.val, by have : t.val < 32 := t.isLt; omega⟩ k) := by
  blk_simp [iblk, V_main_arg0]
  blk_ext [idx0]

theorem in_block3 (c : Dev nD) (t : Fin cfg0.N) (p : Fin 256) (k : Fin 1024) :
    iblk m c 3 t (ix2 p k) = m (c, main_arg0) (ix2 ⟨t.val * 256 + p.val, by have : t.val < 32 := t.isLt; omega⟩ k) := by
  blk_simp [iblk, V_main_arg0]
  blk_ext [idx3]

theorem in_block1 (c : Dev nD) (t : Fin cfg0.N) (p : Fin 256) (k : Fin 128) :
    iblk m c 1 t (ix2 p k) = m (c, main_arg1) (ix2 ⟨t.val * 256 + p.val, by have : t.val < 32 := t.isLt; omega⟩ k) := by
  blk_simp [iblk, V_main_arg1]
  blk_ext [idx1]

theorem in_block4 (c : Dev nD) (t : Fin cfg0.N) (p : Fin 256) (k : Fin 128) :
    iblk m c 4 t (ix2 p k) = m (c, main_arg1) (ix2 ⟨t.val * 256 + p.val, by have : t.val < 32 := t.isLt; omega⟩ k) := by
  blk_simp [iblk, V_main_arg1]
  blk_ext [idx4]

theorem in_block6 (c : Dev nD) (t : Fin cfg0.N) (p : Fin 8) (k : Fin 128) :
    iblk m c 6 t (ix2 p k) = m (c, main_arg2) (ix2 p k) := by
  blk_simp [iblk, V_main_arg2]
  blk_ext [idx6]

theorem ext2 {A B : Nat} {f g : (⟨2, ![A, B]⟩ : Shape).Idx → EReal} (h : ∀ (a : Fin A) (b : Fin B), f (ix2 a b) = g (ix2 a b)) : f = g := by
  funext i
  obtain ⟨a, b, rfl⟩ : ∃ (a : Fin A) (b : Fin B), i = ix2 a b := ⟨i 0, i 1, by funext a; fin_cases a <;> rfl⟩
  exact h a b

/-- A point's blocks are its prompt's rows. -/
theorem rows0 (c : Dev nD) (t : Fin 32) : (iblk m c 0 (t : Fin cfg0.N) : Rows) = rowsOf (m (c, main_arg0)) t :=
  ext2 fun a b => (in_block0 m c t a b).trans (rowsOf_apply _ t a b _ _ (by dsimp only; omega) rfl)
theorem rows3 (c : Dev nD) (t : Fin 32) : (iblk m c 3 (t : Fin cfg0.N) : Rows) = rowsOf (m (c, main_arg0)) t :=
  ext2 fun a b => (in_block3 m c t a b).trans (rowsOf_apply _ t a b _ _ (by dsimp only; omega) rfl)
theorem steps1 (c : Dev nD) (t : Fin 32) : (iblk m c 1 (t : Fin cfg0.N) : Steps) = stepsOf (m (c, main_arg1)) t :=
  ext2 fun a b => (in_block1 m c t a b).trans (stepsOf_apply _ t a b _ _ (by dsimp only; omega) rfl)
theorem steps4 (c : Dev nD) (t : Fin 32) : (iblk m c 4 (t : Fin cfg0.N) : Steps) = stepsOf (m (c, main_arg1)) t :=
  ext2 fun a b => (in_block4 m c t a b).trans (stepsOf_apply _ t a b _ _ (by dsimp only; omega) rfl)
theorem params6 (c : Dev nD) (t : Fin 32) : (iblk m c 6 (t : Fin cfg0.N) : Params) = m (c, main_arg2) :=
  ext2 fun a b => in_block6 m c t a b

/-- Where an element of point `t`'s output block lies in the array. -/
theorem out_emb (t : Fin cfg0.N) (d : Fin 2) (p : Fin 512) (q : Fin 128) :
    ((cfg0.win 10).blk t).view.emb (ix4 0 d p q) = ix4 ⟨t.val, t.isLt⟩ d p q := by
  blk_ext [idx10]

/-- An element of the kernel's array. -/
theorem arr_at (c : Dev nD) (b : Fin 32) (d : Fin 2) (h : Fin 8) (p : Fin 64) (n : Fin 128) :
    (dats m 0 c).arrAt 10 cfg0.N (ix4 b d ⟨64 * h.val + p.val, by omega⟩ n)
      = state (rowsOf (m (c, main_arg0)) b) (stepsOf (m (c, main_arg1)) b) (m (c, main_arg2)) d h p n 4 := by
  have hT : b.val < cfg0.N := b.isLt
  have e := congrFun (blocks10 m c ⟨_, hT⟩ (flush0_10 _)) (ix4 0 d ⟨64 * h.val + p.val, by omega⟩ n)
  rw [flushed10_A] at e
  have ei : (ix4 b d ⟨64 * h.val + p.val, by omega⟩ n : S32x2x512x128.Idx) = ((cfg0.win 10).blk ⟨_, hT⟩).view.emb (ix4 0 d ⟨64 * h.val + p.val, by omega⟩ n) := by
    rw [out_emb]
    rfl
  rw [ei]
  have hh : h = headOf ⟨h.val / 4, by omega⟩ ⟨h.val % 4, by omega⟩ := Fin.ext (by show h.val = 4 * (h.val / 4) + h.val % 4; omega)
  refine Eq.trans e ?_
  have hs := run_state c (grid0.coords ⟨_, hT⟩) (ms0_0 ⟨_, hT⟩) (hs0_0 ⟨_, hT⟩) (ms0_1 ⟨_, hT⟩) (hs0_1 ⟨_, hT⟩) (ms0_2 ⟨_, hT⟩) (hs0_2 ⟨_, hT⟩) (ms0_3 ⟨_, hT⟩) (hs0_3 ⟨_, hT⟩) (ms0_4 ⟨_, hT⟩) (hs0_4 ⟨_, hT⟩) (ms0_5 ⟨_, hT⟩) (hs0_5 ⟨_, hT⟩) (ms0_6 ⟨_, hT⟩) (hs0_6 ⟨_, hT⟩) (ms0_7 ⟨_, hT⟩) (hs0_7 ⟨_, hT⟩) (ms0_8 ⟨_, hT⟩) (hs0_8 ⟨_, hT⟩) (ms0_9 ⟨_, hT⟩) (hs0_9 ⟨_, hT⟩) (ms0_10 ⟨_, hT⟩) (hs0_10 ⟨_, hT⟩) (hcond0_0 ⟨_, hT⟩)
    (iblk m c 0 ⟨_, hT⟩) (iblk m c 1 ⟨_, hT⟩) (iblk m c 2 ⟨_, hT⟩) (iblk m c 3 ⟨_, hT⟩) (iblk m c 4 ⟨_, hT⟩) (iblk m c 5 ⟨_, hT⟩) (iblk m c 6 ⟨_, hT⟩) (iblk m c 7 ⟨_, hT⟩)
    d ⟨h.val / 4, by omega⟩ ⟨h.val % 4, by omega⟩ p n
  simp only [← hh] at hs
  refine Eq.trans hs ?_
  have h0 := rows0 m c b
  have h3 := rows3 m c b
  have h1 := steps1 m c b
  have h4 := steps4 m c b
  have h6 := params6 m c b
  fin_cases d
  · exact (congrArg (fun X => state X _ _ 0 h p n 4) h0).trans ((congrArg (fun P => state _ P _ 0 h p n 4) h1).trans (congrArg (fun A => state _ _ A 0 h p n 4) h6))
  · exact (congrArg (fun X => state X _ _ 1 h p n 4) h3).trans ((congrArg (fun P => state _ P _ 1 h p n 4) h4).trans (congrArg (fun A => state _ _ A 1 h p n 4) h6))

/-- The kernel keeps its arguments and leaves every semaphore at zero, over the reals and over words. -/
theorem frame_ideal : Cert.quiescent_Kernel13Ideal := fun m ρ _ => Cert.Kernel13Ideal.Gen.frame m ρ
theorem frame_bits : Cert.quiescent_Kernel13 := fun m ρ _ => Cert.Kernel13.Gen.frame m ρ

/-- The reference keeps its arguments and leaves every semaphore at zero. -/
theorem frame_r : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel's array is the reference's, of the same arguments. -/
theorem algebraic : Cert.algebraic_Kernel13Ideal_Reference13Ideal := by
  intro m g m' g' hp hag
  refine ⟨_, (θ_run (Cert.Kernel13Ideal.defs (F := Ideal)) _ _).mono (fun _ h c => (h c).2.2) (run_blocks m g), ?_⟩
  refine (θ_run Cert.Reference13Ideal.defs _ _).mono (fun r h c => ⟨?_, (h c).2⟩) (Cert.Reference13Ideal.Value.run (F := Ideal) m' g')
  obtain ⟨a0, a1, a2⟩ := hag c
  refine (h c).1.trans ((Cert.Reference13Ideal.Read.val_main_v159_eq (F := Ideal) (StableHlo.launchContents m' c)).trans ?_)
  show Cert.Reference13Ideal.Read.val_main_v159 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) = _
  rw [a0, a1, a2]
  funext i
  obtain ⟨b, d, q, n, rfl⟩ : ∃ (b : Fin 32) (d : Fin 2) (q : Fin 512) (n : Fin 128), i = ix4 b d q n := ⟨i 0, i 1, i 2, i 3, by funext a; fin_cases a <;> rfl⟩
  have hq : q = ⟨64 * (⟨q.val / 64, by omega⟩ : Fin 8).val + (⟨q.val % 64, by omega⟩ : Fin 64).val, by dsimp only; omega⟩ := Fin.ext (by dsimp only; omega)
  rw [hq]
  exact (reference_at _ _ _ b d _ _ n).trans (arr_at m c b d _ _ n).symm

end Cert.SsdScan
end
-- ==== Proof.NormModulate.lean ====
/-
  The layer's first norm and its modulation, row by row.
-/
module

public import proofs.«01_k».proof.Defs
public import proofs.«01_k».proof.Proof.LayerMath
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.NormModulate

open Cert.Kernel14Ideal Cert.Kernel14Ideal.Gen Idealize.ShloMosaic Idealize.ShloMosaic.TcCoe Idealize.SL.Sem
open Idealize.ShloMosaic.Pipeline (Dat)
open Cert.Layer (modRow Tokens)

variable (m : (ℓ : Loc nD τ sig) → Buf (Elt Ideal) ℓ)

/-- A token's row times the reciprocal root of its mean square, scaled by the norm's weight, then scaled and shifted. -/
def modulated (row : Fin 2048 → EReal) (w sc sh : EReal) (j : Fin 2048) : EReal :=
  row j * Ideal.rsqrt (Ideal.div (∑ k : Fin 2048, row k * row k) (Ideal.ofBits FTy.f32 0x45000000#32) + Ideal.ofBits FTy.f32 0x358637bd#32)
    * w * (Ideal.ofBits FTy.f32 0x3f800000#32 + sc) + sh

/-- A token's modulated norm with the first norm's weights of the first layer. -/
def result (x : Tokens) (w : (⟨3, ![2, 2, 2048]⟩ : Shape).Idx → EReal) (sc sh : (⟨3, ![8, 1, 2048]⟩ : Shape).Idx → EReal) (i : Fin 24576) (j : Fin 2048) : EReal :=
  modulated (fun k => x (ix2 i k)) (w (ix3 0 0 j)) (sc (ix3 (modRow i) 0 j)) (sh (ix3 (modRow i) 0 j)) j

/-! ## Which block each grid point reads and writes -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = (if t.val < 16 then 0 else 1 + (t.val - 16) / 8) ∧ win0_2.index t 1 = 0 ∧ win0_2.index t 2 = 0 :=
  (by decide +kernel : ∀ t : Fin grid0.N, win0_2.index t 0 = (if t.val < 16 then 0 else 1 + (t.val - 16) / 8) ∧ win0_2.index t 1 = 0 ∧ win0_2.index t 2 = 0)
theorem idx3 : ∀ t : Fin cfg0.N, win0_3.index t 0 = (if t.val < 16 then 0 else 1 + (t.val - 16) / 8) ∧ win0_3.index t 1 = 0 ∧ win0_3.index t 2 = 0 :=
  (by decide +kernel : ∀ t : Fin grid0.N, win0_3.index t 0 = (if t.val < 16 then 0 else 1 + (t.val - 16) / 8) ∧ win0_3.index t 1 = 0 ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- The row of the modulation's tables that point `t` reads. -/
def pointRow (t : Fin cfg0.N) : Fin 8 :=
  ⟨if t.val < 16 then 0 else 1 + (t.val - 16) / 8, by have : t.val < 48 := t.isLt; split <;> omega⟩

/-- The rows of point `t`. -/
theorem row_block (c : Dev nD) (t : Fin cfg0.N) (p : Fin 512) (k : Fin 2048) :
    iblk m c 0 t (ix2 p k) = m (c, main_arg0) (ix2 ⟨t.val * 512 + p.val, by have : t.val < 48 := t.isLt; omega⟩ k) := by
  blk_simp [iblk, V_main_arg0]
  blk_ext [idx0]

/-- The norm's weights of every point. -/
theorem weight_block (c : Dev nD) (t : Fin cfg0.N) (k : Fin 2048) :
    iblk m c 1 t (ix2 0 k) = V m c (Pipeline.arrRef spec0 1) (ix2 0 k) := by
  blk_simp [iblk]
  blk_ext [idx1]

/-- The weights are the first layer's first. -/
theorem weight_apply (c : Dev nD) (k : Fin 2048) : V m c (Pipeline.arrRef spec0 1) (ix2 0 k) = m (c, main_arg1) (ix3 0 0 k) := by
  show V m c main_v2 (ix2 0 k) = _
  unfold V
  after_reads_at

/-- The scale of point `t`. -/
theorem scale_block (c : Dev nD) (t : Fin cfg0.N) (q : Fin 2048) :
    iblk m c 2 t (ix3 0 0 q) = m (c, main_arg2) (ix3 (pointRow t) 0 q) := by
  unfold pointRow
  blk_simp [iblk, V_main_arg2]
  blk_ext [idx2]

/-- The shift of point `t`. -/
theorem shift_block (c : Dev nD) (t : Fin cfg0.N) (q : Fin 2048) :
    iblk m c 3 t (ix3 0 0 q) = m (c, main_arg3) (ix3 (pointRow t) 0 q) := by
  unfold pointRow
  blk_simp [iblk, V_main_arg3]
  blk_ext [idx3]

/-- Where element `(p, q)` of point `t`'s output block lies in the array. -/
theorem out_emb (t : Fin cfg0.N) (p : Fin 512) (q : Fin 2048) :
    ((cfg0.win 4).blk t).view.emb (ix2 p q) = ix2 ⟨t.val * 512 + p.val, by have : t.val < 48 := t.isLt; omega⟩ q := by
  blk_ext [idx4]

/-- The modulated norm of a row of the block. -/
theorem out_apply (x0 : Vec Ideal S512x2048 .f32) (x1 : Vec Ideal S1x2048 .f32) (x2 x3 : Vec Ideal S1x1x2048 .f32) (p : Fin 512) (q : Fin 2048) :
    out0_4 x0 x1 x2 x3 (ix2 p q) = modulated (fun k => x0 (ix2 p k)) (x1 (ix2 0 q)) (x2 (ix3 0 0 q)) (x3 (ix3 0 0 q)) q := by
  have hz : (![0, 0] : Fin S512x2048.rank → Nat) = fun _ => 0 := funext fun a => by fin_cases a <;> rfl
  unfold out0_4 r0_0
  rw [View.canon_unit_zero hz]
  unfold modulated
  pointwise [k0_pay1, r0_0, r0_1, r0_2]

/-- An element of the kernel's array. -/
theorem arr_at (c : Dev nD) (i : Fin 24576) (j : Fin 2048) :
    (dats m 0 c).arrAt 4 cfg0.N (ix2 i j) = result (m (c, main_arg0)) (m (c, main_arg1)) (m (c, main_arg2)) (m (c, main_arg3)) i j := by
  have hT : i.val / 512 < cfg0.N := by show _ < 48; omega
  have e := congrFun (Cert.Kernel14Ideal.Value.blocks4 m c ⟨_, hT⟩ (flush0_4 _)) (ix2 ⟨i.val % 512, by omega⟩ j)
  rw [Cert.Kernel14Ideal.Value.flushed4] at e
  have ei : (ix2 i j : S24576x2048.Idx) = ((cfg0.win 4).blk ⟨_, hT⟩).view.emb (ix2 ⟨i.val % 512, by omega⟩ j) := by
    rw [out_emb]
    exact congrArg (ix2 · j) (Fin.ext (by dsimp only; omega))
  have hrow : ∀ k, iblk m c 0 ⟨i.val / 512, hT⟩ (ix2 ⟨i.val % 512, by omega⟩ k) = m (c, main_arg0) (ix2 i k) := fun k =>
    (row_block m c _ _ k).trans (congrArg _ (congrArg (ix2 · k) (Fin.ext (by dsimp only; omega))))
  have hg : pointRow ⟨i.val / 512, hT⟩ = modRow i := Fin.ext (by
    unfold pointRow modRow
    dsimp only
    split <;> split <;> omega)
  rw [ei]
  refine Eq.trans e ((out_apply _ _ _ _ _ _).trans ?_)
  unfold result
  have h1 := (weight_block m c ⟨i.val / 512, hT⟩ j).trans (weight_apply m c j)
  have h2 := scale_block m c ⟨i.val / 512, hT⟩ j
  have h3 := shift_block m c ⟨i.val / 512, hT⟩ j
  rw [hg] at h2 h3
  exact (congrArg (fun r => modulated r _ _ _ j) (funext hrow)).trans ((congrArg (fun w => modulated _ w _ _ j) h1).trans
    ((congrArg (fun s => modulated _ _ s _ j) h2).trans (congrArg (fun s => modulated _ _ _ s j) h3)))

/-- The reference's prompts at an element. -/
theorem reference_prompt (x0 : (⟨S24576x2048, .f32⟩ : BufTy).Contents (Elt Ideal)) (x1 : (⟨S2x2x2048, .f32⟩ : BufTy).Contents (Elt Ideal))
    (x2 x3 : (⟨S8x1x2048, .f32⟩ : BufTy).Contents (Elt Ideal)) (i : Fin 8192) (j : Fin 2048) :
    Cert.Reference14Ideal.Read.val_main_v25 (F := Ideal) x0 x1 x2 x3 (ix2 i j)
      = modulated (fun k => x0 (ix2 ⟨i.val, by omega⟩ k)) (x1 (ix3 0 0 j)) (x2 (ix3 0 0 j)) (x3 (ix3 0 0 j)) j := by
  unfold modulated
  pointwise [Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_cst, Cert.Reference14Ideal.Read.val_main_cst_0, Cert.Reference14Ideal.Read.val_main_cst_1, Cert.Reference14Ideal.Read.val_main_cst_2]

/-- The reference's samples at an element. -/
theorem reference_sample (x0 : (⟨S24576x2048, .f32⟩ : BufTy).Contents (Elt Ideal)) (x1 : (⟨S2x2x2048, .f32⟩ : BufTy).Contents (Elt Ideal))
    (x2 x3 : (⟨S8x1x2048, .f32⟩ : BufTy).Contents (Elt Ideal)) (a : Fin 4) (b : Fin 4096) (j : Fin 2048) :
    Cert.Reference14Ideal.Read.val_main_v50 (F := Ideal) x0 x1 x2 x3 (ix3 a b j)
      = modulated (fun k => x0 (ix2 ⟨8192 + (a.val * 4096 + b.val), by omega⟩ k)) (x1 (ix3 0 0 j)) (x2 (ix3 ⟨1 + a.val, by omega⟩ 0 j)) (x3 (ix3 ⟨1 + a.val, by omega⟩ 0 j)) j := by
  unfold modulated
  pointwise [Cert.Reference14Ideal.Read.val_main_v26, Cert.Reference14Ideal.Read.val_main_v27, Cert.Reference14Ideal.Read.val_main_v28, Cert.Reference14Ideal.Read.val_main_v29, Cert.Reference14Ideal.Read.val_main_v30, Cert.Reference14Ideal.Read.val_main_v31, Cert.Reference14Ideal.Read.val_main_v32, Cert.Reference14Ideal.Read.val_main_v33, Cert.Reference14Ideal.Read.val_main_v34, Cert.Reference14Ideal.Read.val_main_v35, Cert.Reference14Ideal.Read.val_main_v36, Cert.Reference14Ideal.Read.val_main_v37, Cert.Reference14Ideal.Read.val_main_v38, Cert.Reference14Ideal.Read.val_main_v39, Cert.Reference14Ideal.Read.val_main_v40, Cert.Reference14Ideal.Read.val_main_v41, Cert.Reference14Ideal.Read.val_main_v42, Cert.Reference14Ideal.Read.val_main_v43, Cert.Reference14Ideal.Read.val_main_v44, Cert.Reference14Ideal.Read.val_main_v45, Cert.Reference14Ideal.Read.val_main_v46, Cert.Reference14Ideal.Read.val_main_v47, Cert.Reference14Ideal.Read.val_main_v48, Cert.Reference14Ideal.Read.val_main_v49, Cert.Reference14Ideal.Read.val_main_v50, Cert.Reference14Ideal.Read.val_main_cst_3, Cert.Reference14Ideal.Read.val_main_cst_4, Cert.Reference14Ideal.Read.val_main_cst_5, Cert.Reference14Ideal.Read.val_main_cst_6]

/-- The reference's result at an element. -/
theorem reference_at (x0 : (⟨S24576x2048, .f32⟩ : BufTy).Contents (Elt Ideal)) (x1 : (⟨S2x2x2048, .f32⟩ : BufTy).Contents (Elt Ideal))
    (x2 x3 : (⟨S8x1x2048, .f32⟩ : BufTy).Contents (Elt Ideal)) (i : Fin 24576) (j : Fin 2048) :
    Cert.Reference14Ideal.Read.val_main_v53 (F := Ideal) x0 x1 x2 x3 (ix2 i j) = result x0 x1 x2 x3 i j := by
  unfold result
  pointwise [Cert.Reference14Ideal.Read.val_main_v53, Cert.Reference14Ideal.Read.val_main_v52, Cert.Reference14Ideal.Read.val_main_v51]
  split
  · rename_i h
    rw [show modRow i = 0 from Fin.ext (by unfold modRow; dsimp only; rw [if_pos h]; rfl)]
    exact reference_prompt x0 x1 x2 x3 _ j
  · rename_i h
    rw [show modRow i = ⟨1 + (i.val - 8192) / 4096, by have := i.isLt; omega⟩ from Fin.ext (by unfold modRow; dsimp only; rw [if_neg h])]
    have hi : (⟨8192 + ((i.val - 8192) / 4096 * 4096 + (i.val - 8192) % 4096), by have := i.isLt; omega⟩ : Fin 24576) = i := Fin.ext (by dsimp only; omega)
    refine (reference_sample x0 x1 x2 x3 _ _ j).trans ?_
    dsimp only
    rw [hi]

/-- The reference keeps its arguments and leaves every semaphore at zero. -/
theorem frame_r : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The kernel's array is the reference's, of the same arguments. -/
theorem algebraic : Cert.algebraic_Kernel14Ideal_Reference14Ideal := by
  intro m g m' g' hp hag
  refine ⟨fun c => (dats m 0 c).arrAt 4 cfg0.N, Cert.Kernel14Ideal.Value.run_blocks m g, ?_⟩
  refine (θ_run Cert.Reference14Ideal.defs _ _).mono (fun r h c => ⟨?_, (h c).2⟩) (Cert.Reference14Ideal.Value.run (F := Ideal) m' g')
  obtain ⟨a0, a1, a2, a3⟩ := hag c
  refine (h c).1.trans ?_
  rw [Cert.Reference14Ideal.Read.val_main_v53_eq, a0, a1, a2, a3]
  funext i
  obtain ⟨i, j, rfl⟩ : ∃ (a : Fin 24576) (b : Fin 2048), i = ix2 a b := ⟨i 0, i 1, by funext a; fin_cases a <;> rfl⟩
  exact (reference_at _ _ _ _ i j).trans (arr_at m c i j).symm

end Cert.NormModulate
end
-- ==== Proof.SsdOut.lean ====
/-
  The state-space branch's output of the samples: the two directions' sum with the skip, gated and normed.
-/
module

public import proofs.«01_k».proof.Defs
public import proofs.«01_k».proof.Proof.LayerMath
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.Value
public import Idealize.ShloMosaic.Lib.Pipeline.ValueKit
public import Idealize.ShloMosaic.Lib.StableHlo.ReadAt
public import Idealize.ShloMosaic.Lib.Quiescent

@[expose] public section

noncomputable section

namespace Cert.SsdOut

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- Both directions and the skip, gated. -/
def gated (yf yb x d z : EReal) : EReal := (yf + yb + x * d) * (z * Ideal.logistic z)

/-- A row's element times the reciprocal root of the row's mean square, scaled by the norm's weight. -/
def scaled (row : Fin 512 → EReal) (w : EReal) (j : Fin 512) : EReal :=
  row j * Ideal.rsqrt (Ideal.div (∑ k : Fin 512, row k * row k) (Ideal.ofBits FTy.f32 0x44000000#32) + Ideal.ofBits FTy.f32 0x358637bd#32) * w

/-- A sample token's gated row, of the first layer's skip weights by head. -/
def gatedRow (yf yb : (⟨2, ![16384, 512]⟩ : Shape).Idx → EReal) (xbc : (⟨2, ![16384, 1024]⟩ : Shape).Idx → EReal) (proj : (⟨2, ![24576, 1536]⟩ : Shape).Idx → EReal)
    (d : (⟨2, ![2, 8]⟩ : Shape).Idx → EReal) (i : Fin 16384) (j : Fin 512) : EReal :=
  gated (yf (ix2 i j)) (yb (ix2 i j)) (xbc (ix2 i ⟨j.val, by omega⟩)) (d (ix2 0 ⟨j.val / 64, by omega⟩)) (proj (ix2 ⟨8192 + i.val, by omega⟩ ⟨1024 + j.val, by omega⟩))

/-! ## Which block each grid point reads and writes -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 16 + t.val ∧ win0_3.index t 1 = 2 :=
  (by decide +kernel : ∀ t : Fin grid0.N, win0_3.index t 0 = 16 + t.val ∧ win0_3.index t 1 = 2)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

/-- The forward outputs of point `t`. -/
theorem fwd_block (c : Dev nD) (t : Fin cfg0.N) (p : Fin 512) (k : Fin 512) :
    iblk m c 0 t (ix2 p k) = m (c, main_arg0) (ix2 ⟨t.val * 512 + p.val, by have : t.val < 32 := t.isLt; omega⟩ k) := by
  blk_simp [iblk, V_main_arg0]
  blk_ext [idx0]

/-- The backward outputs of point `t`. -/
theorem bwd_block (c : Dev nD) (t : Fin cfg0.N) (p : Fin 512) (k : Fin 512) :
    iblk m c 1 t (ix2 p k) = m (c, main_arg1) (ix2 ⟨t.val * 512 + p.val, by have : t.val < 32 := t.isLt; omega⟩ k) := by
  blk_simp [iblk, V_main_arg1]
  blk_ext [idx1]

/-- The inputs of point `t`. -/
theorem input_block (c : Dev nD) (t : Fin cfg0.N) (p : Fin 512) (k : Fin 512) :
    iblk m c 2 t (ix2 p k) = m (c, main_arg2) (ix2 ⟨t.val * 512 + p.val, by have : t.val < 32 := t.isLt; omega⟩ ⟨k.val, by omega⟩) := by
  blk_simp [iblk, V_main_arg2]
  blk_ext [idx2]

/-- The gates of point `t`. -/
theorem gate_block (c : Dev nD) (t : Fin cfg0.N) (p : Fin 512) (k : Fin 512) :
    iblk m c 3 t (ix2 p k) = m (c, main_arg3) (ix2 ⟨8192 + (t.val * 512 + p.val), by have : t.val < 32 := t.isLt; omega⟩ ⟨1024 + k.val, by omega⟩) := by
  blk_simp [iblk, V_main_arg3]
  blk_ext [idx3]

/-- The skip's weights of every point. -/
theorem skip_block (c : Dev nD) (t : Fin cfg0.N) (k : Fin 512) : iblk m c 4 t (ix2 0 k) = V m c main_v6 (ix2 0 k) := by
  blk_simp [iblk]
  blk_ext [idx4]

/-- The norm's weights of every point. -/
theorem weight_block (c : Dev nD) (t : Fin cfg0.N) (k : Fin 512) : iblk m c 5 t (ix2 0 k) = V m c main_v7 (ix2 0 k) := by
  blk_simp [iblk]
  blk_ext [idx5]

/-- The skip's weights are the head's. -/
theorem skip_apply (c : Dev nD) (k : Fin 512) : V m c main_v6 (ix2 0 k) = m (c, main_arg4) (ix2 0 ⟨k.val / 64, by omega⟩) := by
  unfold V
  after_reads_at

/-- The norm's weights are the first layer's. -/
theorem weight_apply (c : Dev nD) (k : Fin 512) : V m c main_v7 (ix2 0 k) = m (c, main_arg5) (ix2 0 k) := by
  unfold V
  after_reads_at

/-- Where element `(p, q)` of point `t`'s output block lies in the array. -/
theorem out_emb (t : Fin cfg0.N) (p : Fin 512) (q : Fin 512) :
    ((cfg0.win 6).blk t).view.emb (ix2 p q) = ix2 ⟨t.val * 512 + p.val, by have : t.val < 32 := t.isLt; omega⟩ q := by
  blk_ext [idx6]

/-- The gated norm of a row of the block. -/
theorem out_apply (x0 x1 : Vec Ideal S512x512 .f32) (x2 x3 : Vec Ideal S512x512 .bf16) (x4 x5 : Vec Ideal S1x512 .f32) (p : Fin 512) (q : Fin 512) :
    out0_6 x0 x1 x2 x3 x4 x5 (ix2 p q)
      = scaled (fun k => gated (x0 (ix2 p k)) (x1 (ix2 p k)) (x2 (ix2 p k)) (x4 (ix2 0 k)) (x3 (ix2 p k))) (x5 (ix2 0 q)) q := by
  have hz : (![0, 0] : Fin S512x512.rank → Nat) = fun _ => 0 := funext fun a => by fin_cases a <;> rfl
  unfold out0_6 r0_0
  rw [View.canon_unit_zero hz]
  unfold scaled gated
  pointwise [k0_pay1, r0_0, r0_1]

/-- An element of the kernel's array. -/
theorem arr_at (c : Dev nD) (i : Fin 16384) (j : Fin 512) :
    (dats m 0 c).arrAt 6 cfg0.N (ix2 i j)
      = scaled (gatedRow (m (c, main_arg0)) (m (c, main_arg1)) (m (c, main_arg2)) (m (c, main_arg3)) (m (c, main_arg4)) i) (m (c, main_arg5) (ix2 0 j)) j := by
  have hT : i.val / 512 < cfg0.N := by show _ < 32; omega
  have e := congrFun (Cert.Kernel15Ideal.Value.blocks6 m c ⟨_, hT⟩ (flush0_6 _)) (ix2 ⟨i.val % 512, by omega⟩ j)
  rw [Cert.Kernel15Ideal.Value.flushed6] at e
  have ei : (ix2 i j : S16384x512.Idx) = ((cfg0.win 6).blk ⟨_, hT⟩).view.emb (ix2 ⟨i.val % 512, by omega⟩ j) := by
    rw [out_emb]
    exact congrArg (ix2 · j) (Fin.ext (by dsimp only; omega))
  rw [ei]
  refine Eq.trans e ((out_apply _ _ _ _ _ _ _ _).trans (congrArg₂ (scaled · · j) (funext fun k => ?_) ((weight_block m c _ j).trans (weight_apply m c j))))
  have hi : i.val / 512 * 512 + i.val % 512 = i.val := by omega
  have h0 := fwd_block m c ⟨i.val / 512, hT⟩ ⟨i.val % 512, by omega⟩ k
  have h1 := bwd_block m c ⟨i.val / 512, hT⟩ ⟨i.val % 512, by omega⟩ k
  have h2 := input_block m c ⟨i.val / 512, hT⟩ ⟨i.val % 512, by omega⟩ k
  have h3 := gate_block m c ⟨i.val / 512, hT⟩ ⟨i.val % 512, by omega⟩ k
  have h4 := (skip_block m c ⟨i.val / 512, hT⟩ k).trans (skip_apply m c k)
  simp only [hi] at h0 h1 h2 h3
  unfold gatedRow
  exact (congrArg (fun u => gated u _ _ _ _) h0).trans ((congrArg (fun u => gated _ u _ _ _) h1).trans ((congrArg (fun u => gated _ _ u _ _) h2).trans
    ((congrArg (fun u => gated _ _ _ u _) h4).trans (congrArg (fun u => gated _ _ _ _ u) h3))))

/-- The reference's gate at an element. -/
theorem reference_gate (x3 : (⟨S24576x1536, .bf16⟩ : BufTy).Contents (Elt Ideal)) (i : S16384x512.Idx) :
    Cert.Reference15Ideal.Read.val_main_v16 (F := Ideal) x3 i = Cert.Reference15Ideal.Read.val_main_v4 (F := Ideal) x3 i * Ideal.logistic (Cert.Reference15Ideal.Read.val_main_v4 (F := Ideal) x3 i) := by
  unfold Cert.Reference15Ideal.Read.val_main_v16 Cert.Reference15Ideal.Read.val_main_call0_v5 Cert.Reference15Ideal.Read.val_main_call0_v3 Cert.Reference15Ideal.Read.val_main_call0_v1 Cert.Reference15Ideal.Read.val_main_call0_v0
  generalize Cert.Reference15Ideal.Read.val_main_v4 (F := Ideal) x3 = y
  pointwise [Cert.Reference15Ideal.Read.val_main_call0_v2, Cert.Reference15Ideal.Read.val_main_call0_cst, Cert.Reference15Ideal.Read.val_main_call0_v4, Cert.Reference15Ideal.Read.val_main_call0_cst_0]
  rfl

/-- The reference's gated rows at an element. -/
theorem reference_row (x0 x1 : (⟨S16384x512, .f32⟩ : BufTy).Contents (Elt Ideal)) (x2 : (⟨S16384x1024, .bf16⟩ : BufTy).Contents (Elt Ideal))
    (x3 : (⟨S24576x1536, .bf16⟩ : BufTy).Contents (Elt Ideal)) (x4 : (⟨S2x8, .f32⟩ : BufTy).Contents (Elt Ideal)) (i : Fin 16384) (j : Fin 512) :
    Cert.Reference15Ideal.Read.val_main_v17 (F := Ideal) x0 x1 x2 x3 x4 (ix2 i j) = gatedRow x0 x1 x2 x3 x4 i j := by
  refine (Cert.Reference15Ideal.Read.val_main_v17_apply x0 x1 x2 x3 x4 (ix2 i j)).trans ?_
  unfold gatedRow gated
  refine congrArg₂ (· * ·) ?_ ((reference_gate x3 _).trans (congrArg (fun z => z * Ideal.logistic z) ?_))
  · pointwise [Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15]
  · pointwise [Cert.Reference15Ideal.Read.val_main_v4, Cert.Reference15Ideal.Read.val_main_v3]

/-- The reference's result at an element. -/
theorem reference_at (x0 x1 : (⟨S16384x512, .f32⟩ : BufTy).Contents (Elt Ideal)) (x2 : (⟨S16384x1024, .bf16⟩ : BufTy).Contents (Elt Ideal))
    (x3 : (⟨S24576x1536, .bf16⟩ : BufTy).Contents (Elt Ideal)) (x4 : (⟨S2x8, .f32⟩ : BufTy).Contents (Elt Ideal)) (x5 : (⟨S2x512, .f32⟩ : BufTy).Contents (Elt Ideal)) (i : Fin 16384) (j : Fin 512) :
    Cert.Reference15Ideal.Read.val_main_v33 (F := Ideal) x0 x1 x2 x3 x4 x5 (ix2 i j) = scaled (gatedRow x0 x1 x2 x3 x4 i) (x5 (ix2 0 j)) j := by
  rw [← funext (reference_row x0 x1 x2 x3 x4 i)]
  unfold scaled Cert.Reference15Ideal.Read.val_main_v33 Cert.Reference15Ideal.Read.val_main_v32 Cert.Reference15Ideal.Read.val_main_v29 Cert.Reference15Ideal.Read.val_main_v28 Cert.Reference15Ideal.Read.val_main_v27 Cert.Reference15Ideal.Read.val_main_v26 Cert.Reference15Ideal.Read.val_main_v24 Cert.Reference15Ideal.Read.val_main_v22 Cert.Reference15Ideal.Read.val_main_v21 Cert.Reference15Ideal.Read.val_main_v20
  generalize Cert.Reference15Ideal.Read.val_main_v17 (F := Ideal) x0 x1 x2 x3 x4 = y
  pointwise [Cert.Reference15Ideal.Read.val_main_v31, Cert.Reference15Ideal.Read.val_main_v30, Cert.Reference15Ideal.Read.val_main_v19, Cert.Reference15Ideal.Read.val_main_v18, Cert.Reference15Ideal.Read.val_main_v23, Cert.Reference15Ideal.Read.val_main_v25, Cert.Reference15Ideal.Read.val_main_cst, Cert.Reference15Ideal.Read.val_main_cst_0, Cert.Reference15Ideal.Read.val_main_cst_1]

/-- The reference keeps its arguments and leaves every semaphore at zero. -/
theorem frame_r : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The kernel's array is the reference's, of the same arguments. -/
theorem algebraic : Cert.algebraic_Kernel15Ideal_Reference15Ideal := by
  intro m g m' g' hp hag
  refine ⟨fun c => (dats m 0 c).arrAt 6 cfg0.N, Cert.Kernel15Ideal.Value.run_blocks m g, ?_⟩
  refine (θ_run Cert.Reference15Ideal.defs _ _).mono (fun r h c => ⟨?_, (h c).2⟩) (Cert.Reference15Ideal.Value.run (F := Ideal) m' g')
  obtain ⟨a0, a1, a2, a3, a4, a5⟩ := hag c
  refine (h c).1.trans ?_
  rw [Cert.Reference15Ideal.Read.val_main_v33_eq, a0, a1, a2, a3, a4, a5]
  funext i
  obtain ⟨i, j, rfl⟩ : ∃ (a : Fin 16384) (b : Fin 512), i = ix2 a b := ⟨i 0, i 1, by funext a; fin_cases a <;> rfl⟩
  exact (reference_at _ _ _ _ _ _ i j).trans (arr_at m c i j).symm

end Cert.SsdOut
end
-- ==== Proof.SsdConv.lean ====
/-
  The prompts' short convolution before the state-space scan: three taps along a sequence, zero past its ends, then silu.
-/
module

public import proofs.«01_k».proof.Defs
public import proofs.«01_k».proof.Proof.LayerMath
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.Value
public import Idealize.ShloMosaic.Lib.Pipeline.ValueKit
public import Idealize.ShloMosaic.Lib.StableHlo.ReadAt
public import Idealize.ShloMosaic.Lib.KernelVsHost
public import Idealize.ShloMosaic.Lib.Quiescent

@[expose] public section

noncomputable section

namespace Cert.SsdConv

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- The token before `p` in its sequence, zero before the first. -/
def before (x : Fin 256 → EReal) (p : Fin 256) : EReal := if p.val = 0 then 0 else x ⟨(p.val + 255) % 256, Nat.mod_lt _ (by omega)⟩

/-- The token after `p` in its sequence, zero after the last. -/
def after (x : Fin 256 → EReal) (p : Fin 256) : EReal := if p.val = 255 then 0 else x ⟨(p.val + 1) % 256, Nat.mod_lt _ (by omega)⟩

/-- The three taps and the bias. -/
def taps (x : Fin 256 → EReal) (w0 w1 w2 b : EReal) (p : Fin 256) : EReal := before x p * w0 + x p * w1 + after x p * w2 + b

/-- `x` times its logistic. -/
def silu (y : EReal) : EReal := y * Ideal.logistic y

/-- Token `p` of sequence `s`, channel `j`, of the first layer's weights. -/
def conv (x : (⟨2, ![24576, 1536]⟩ : Shape).Idx → EReal) (w : (⟨3, ![2, 3, 1024]⟩ : Shape).Idx → EReal) (b : (⟨2, ![2, 1024]⟩ : Shape).Idx → EReal)
    (s : Fin 32) (p : Fin 256) (j : Fin 1024) : EReal :=
  silu (taps (fun r => x (ix2 ⟨s.val * 256 + r.val, by omega⟩ ⟨j.val, by omega⟩)) (w (ix3 0 0 j)) (w (ix3 0 1 j)) (w (ix3 0 2 j)) (b (ix2 0 j)) p)

/-! ## Which block each grid point reads and writes -/

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = 0 ∧ win0_2.index t 1 = t.val % 2 :=
  (by decide +kernel : ∀ t : Fin grid0.N, win0_2.index t 0 = 0 ∧ win0_2.index t 1 = t.val % 2)
theorem idx3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- The tokens of point `t`. -/
theorem token_block (c : Dev nD) (t : Fin cfg0.N) (p : Fin 256) (k : Fin 512) :
    iblk m c 0 t (ix2 p k) = m (c, main_arg0) (ix2 ⟨t.val / 2 * 256 + p.val, by have : t.val < 64 := t.isLt; omega⟩ ⟨t.val % 2 * 512 + k.val, by omega⟩) := by
  blk_simp [iblk, V_main_arg0]
  blk_ext [idx0]

/-- The taps' weights of point `t`. -/
theorem weight_block (c : Dev nD) (t : Fin cfg0.N) (r : Fin 3) (k : Fin 512) :
    iblk m c 1 t (ix2 r k) = V m c main_v1 (ix2 r ⟨t.val % 2 * 512 + k.val, by omega⟩) := by
  blk_simp [iblk]
  blk_ext [idx1]

/-- The bias of point `t`. -/
theorem bias_block (c : Dev nD) (t : Fin cfg0.N) (k : Fin 512) :
    iblk m c 2 t (ix2 0 k) = V m c main_v4 (ix2 0 ⟨t.val % 2 * 512 + k.val, by omega⟩) := by
  blk_simp [iblk]
  blk_ext [idx2]

/-- The taps' weights are the first layer's. -/
theorem weight_apply (c : Dev nD) (r : Fin 3) (k : Fin 1024) : V m c main_v1 (ix2 r k) = m (c, main_arg1) (ix3 0 r k) := by
  unfold V
  after_reads_at

/-- The bias is the first layer's. -/
theorem bias_apply (c : Dev nD) (k : Fin 1024) : V m c main_v4 (ix2 0 k) = m (c, main_arg2) (ix2 0 k) := by
  unfold V
  after_reads_at

/-- Where element `(p, q)` of point `t`'s output block lies in the array. -/
theorem out_emb (t : Fin cfg0.N) (p : Fin 256) (q : Fin 512) :
    ((cfg0.win 3).blk t).view.emb (ix2 p q) = ix2 ⟨t.val / 2 * 256 + p.val, by have : t.val < 64 := t.isLt; omega⟩ ⟨t.val % 2 * 512 + q.val, by omega⟩ := by
  blk_ext [idx3]

/-! ## The block's value -/

theorem first_bit : ∀ p : Fin 256, IntOp.cmpi .eq (BitVec.ofNat 32 (0 * 256 + p.val)) 0#32 = BitVec.ofBool (decide (p.val = 0)) := by decide +kernel
theorem last_bit : ∀ p : Fin 256, IntOp.cmpi .eq (BitVec.ofNat 32 (0 * 256 + p.val)) 255#32 = BitVec.ofBool (decide (p.val = 255)) := by decide +kernel

/-- The block moved down by one row. -/
theorem before_apply (h : S256x512.Iotas .tc 32 [0]) (hr : S256x512.Rotates 0 none) (x : FVec Ideal S256x512 .f32) (p : Fin 256) (q : Fin 512) :
    select (cmpi .eq (iota .tc S256x512 32 [0] h) (broadcast S256x512 0#32)) (broadcast S256x512 (Scalar.ofBits .f32 0x00000000#32 : Ideal .f32))
      (dynamicRotate 0 1#32 none x hr) (ix2 p q) = before (fun r => x (ix2 r q)) p := by
  refine Eq.trans (congrArg₂ (fun a b => Scalar.select a (Ideal.ofBits .f32 0x00000000#32) b) (first_bit p)
    (dynamicRotate_apply 0 1#32 x hr (ix2 p q) (ix2 ⟨(p.val + 255) % 256, Nat.mod_lt _ (by omega)⟩ q) ?_)) ?_
  · intro b
    fin_cases b
    · show (p.val + 255) % 256 = (p.val + 256 - 1) % 256
      omega
    · rfl
  · rw [Ideal.ofBits_zero_f32]
    unfold before
    by_cases e : p.val = 0
    · rw [decide_eq_true e, if_pos e]; rfl
    · rw [decide_eq_false e, if_neg e]; rfl

/-- The block moved up by one row. -/
theorem after_apply (h : S256x512.Iotas .tc 32 [0]) (hr : S256x512.Rotates 0 none) (x : FVec Ideal S256x512 .f32) (p : Fin 256) (q : Fin 512) :
    select (cmpi .eq (iota .tc S256x512 32 [0] h) (broadcast S256x512 255#32)) (broadcast S256x512 (Scalar.ofBits .f32 0x00000000#32 : Ideal .f32))
      (dynamicRotate 0 255#32 none x hr) (ix2 p q) = after (fun r => x (ix2 r q)) p := by
  refine Eq.trans (congrArg₂ (fun a b => Scalar.select a (Ideal.ofBits .f32 0x00000000#32) b) (last_bit p)
    (dynamicRotate_apply 0 255#32 x hr (ix2 p q) (ix2 ⟨(p.val + 1) % 256, Nat.mod_lt _ (by omega)⟩ q) ?_)) ?_
  · intro b
    fin_cases b
    · show (p.val + 1) % 256 = (p.val + 256 - 255) % 256
      omega
    · rfl
  · rw [Ideal.ofBits_zero_f32]
    unfold after
    by_cases e : p.val = 255
    · rw [decide_eq_true e, if_pos e]; rfl
    · rw [decide_eq_false e, if_neg e]; rfl

/-- An element of the block. -/
theorem out_apply (x0 : Vec Ideal S256x512 .bf16) (x1 : Vec Ideal S3x512 .f32) (x2 : Vec Ideal S1x512 .f32) (p : Fin 256) (q : Fin 512) :
    out0_3 x0 x1 x2 (ix2 p q)
      = silu (taps (fun r => x0 (ix2 r q)) (x1 (ix2 0 q)) (x1 (ix2 1 q)) (x1 (ix2 2 q)) (x2 (ix2 0 q)) p) := by
  have hz : (![0, 0] : Fin S256x512.rank → Nat) = fun _ => 0 := funext fun a => by fin_cases a <;> rfl
  have hx : View.ld x0 r0_0 = x0 := View.ld_unit_zero hz _ _
  unfold out0_3 r0_0
  rw [View.canon_unit_zero hz]
  have e1 := before_apply iota_S256x512_d0_w32 rotates_S256x512_d0 (extf .f32 (View.ld x0 r0_0) bitsLt_bf16_f32) p q
  have e2 := after_apply iota_S256x512_d0_w32 rotates_S256x512_d0 (extf .f32 (View.ld x0 r0_0) bitsLt_bf16_f32) p q
  rw [hx] at e1 e2
  unfold k0_pay1
  dsimp only
  revert e1 e2
  unfold r0_0 at hx
  rw [hx]
  generalize select (cmpi .eq (iota .tc S256x512 32 [0] iota_S256x512_d0_w32) (broadcast S256x512 0#32)) _ _ = u
  generalize select (cmpi .eq (iota .tc S256x512 32 [0] iota_S256x512_d0_w32) (broadcast S256x512 255#32)) _ _ = v
  intro e1 e2
  unfold silu taps
  pointwise [r0_1, r0_2, e1, e2]

/-- The tokens of point `t`, by sequence and channel. -/
theorem token_at (c : Dev nD) (t : Fin cfg0.N) (k : Fin 512) (s : Fin 32) (j : Fin 1024) (hs : t.val / 2 = s.val) (hj : t.val % 2 * 512 + k.val = j.val) (p : Fin 256) :
    iblk m c 0 t (ix2 p k) = m (c, main_arg0) (ix2 ⟨s.val * 256 + p.val, by omega⟩ ⟨j.val, by omega⟩) :=
  (token_block m c t p k).trans (congrArg (m (c, main_arg0)) (congrArg₂ ix2 (Fin.ext (by show t.val / 2 * 256 + p.val = s.val * 256 + p.val; rw [hs])) (Fin.ext hj)))

/-- The taps' weights of point `t`, by channel. -/
theorem weight_at (c : Dev nD) (t : Fin cfg0.N) (k : Fin 512) (j : Fin 1024) (hj : t.val % 2 * 512 + k.val = j.val) (r : Fin 3) :
    iblk m c 1 t (ix2 r k) = m (c, main_arg1) (ix3 0 r j) :=
  (weight_block m c t r k).trans ((weight_apply m c r _).trans (congrArg (m (c, main_arg1)) (congrArg (ix3 0 r) (Fin.ext hj))))

/-- The bias of point `t`, by channel. -/
theorem bias_at (c : Dev nD) (t : Fin cfg0.N) (k : Fin 512) (j : Fin 1024) (hj : t.val % 2 * 512 + k.val = j.val) :
    iblk m c 2 t (ix2 0 k) = m (c, main_arg2) (ix2 0 j) :=
  (bias_block m c t k).trans ((bias_apply m c _).trans (congrArg (m (c, main_arg2)) (congrArg (ix2 0) (Fin.ext hj))))

/-- An element of the block point `t` writes. -/
theorem block_at (c : Dev nD) (t : Fin cfg0.N) (k : Fin 512) (s : Fin 32) (j : Fin 1024) (hs : t.val / 2 = s.val) (hj : t.val % 2 * 512 + k.val = j.val) (p : Fin 256) :
    out0_3 (iblk m c 0 t) (iblk m c 1 t) (iblk m c 2 t) (ix2 p k) = conv (m (c, main_arg0)) (m (c, main_arg1)) (m (c, main_arg2)) s p j := by
  rw [out_apply, bias_at m c t k j hj, weight_at m c t k j hj 0, weight_at m c t k j hj 1, weight_at m c t k j hj 2, funext (token_at m c t k s j hs hj)]
  rfl

/-- An element of the kernel's array. -/
theorem arr_at (c : Dev nD) (s : Fin 32) (p : Fin 256) (j : Fin 1024) :
    (dats m 0 c).arrAt 3 cfg0.N (ix2 ⟨s.val * 256 + p.val, by omega⟩ j) = conv (m (c, main_arg0)) (m (c, main_arg1)) (m (c, main_arg2)) s p j := by
  obtain ⟨t, ht⟩ : ∃ t : Fin cfg0.N, t.val = s.val * 2 + j.val / 512 := ⟨⟨s.val * 2 + j.val / 512, by show _ < 64; omega⟩, rfl⟩
  have hs : t.val / 2 = s.val := by omega
  have hj : t.val % 2 * 512 + j.val % 512 = j.val := by omega
  have e := congrFun (Cert.Kernel16Ideal.Value.blocks3 m c t (flush0_3 t)) (ix2 p ⟨j.val % 512, by omega⟩)
  rw [Cert.Kernel16Ideal.Value.flushed3] at e
  have ei : (ix2 ⟨s.val * 256 + p.val, by omega⟩ j : S8192x1024.Idx) = ((cfg0.win 3).blk t).view.emb (ix2 p ⟨j.val % 512, by omega⟩) := by
    rw [out_emb]
    exact congrArg₂ ix2 (Fin.ext (by show s.val * 256 + p.val = t.val / 2 * 256 + p.val; rw [hs])) (Fin.ext hj.symm)
  rw [ei]
  exact Eq.trans e (block_at m c t ⟨j.val % 512, by omega⟩ s j hs hj p)

/-! ## The reference -/

/-- The reference's sequences at an element. -/
theorem reference_token (x0 : (⟨S24576x1536, .bf16⟩ : BufTy).Contents (Elt Ideal)) (s : Fin 32) (p : Fin 256) (j : Fin 1024) :
    Cert.Reference16Ideal.Read.val_main_v2 (F := Ideal) x0 (ix3 s p j) = x0 (ix2 ⟨s.val * 256 + p.val, by omega⟩ ⟨j.val, by omega⟩) := by
  pointwise [Cert.Reference16Ideal.Read.val_main_v2, Cert.Reference16Ideal.Read.val_main_v1, Cert.Reference16Ideal.Read.val_main_v0]

/-- The reference's padding value is zero. -/
theorem reference_zero (i : Cert.Reference16Ideal.S_.Idx) : Cert.Reference16Ideal.Read.val_main_call0_v0 (F := Ideal) i = (0 : EReal) := by
  show ((((0#32 : BitVec 32).toInt : ℤ) : ℝ) : EReal) = 0
  simp

/-- The padded sequences at an interior row. -/
theorem reference_inside (x0 : (⟨S24576x1536, .bf16⟩ : BufTy).Contents (Elt Ideal)) (s : Fin 32) (r : Fin 258) (p : Fin 256) (j : Fin 1024) (e : r.val = p.val + 1) :
    Cert.Reference16Ideal.Read.val_main_v7 (F := Ideal) x0 (ix3 s r j) = x0 (ix2 ⟨s.val * 256 + p.val, by omega⟩ ⟨j.val, by omega⟩) := by
  refine Eq.trans ?_ (reference_token x0 s p j)
  unfold Cert.Reference16Ideal.Read.val_main_v7
  refine pad_apply_of_inside _ _ _ _ _ _ _ _ _ fun a => ?_
  fin_cases a
  · show s.val = 0 + s.val * 1; omega
  · show r.val = 1 + p.val * 1; omega
  · show j.val = 0 + j.val * 1; omega

/-- The padded sequences at their first and last rows. -/
theorem reference_outside (x0 : (⟨S24576x1536, .bf16⟩ : BufTy).Contents (Elt Ideal)) (s : Fin 32) (r : Fin 258) (j : Fin 1024) (e : r.val = 0 ∨ r.val = 257) :
    Cert.Reference16Ideal.Read.val_main_v7 (F := Ideal) x0 (ix3 s r j) = (0 : EReal) := by
  refine Eq.trans ?_ (reference_zero (Shape.Idx.first Cert.Reference16Ideal.Gen.h_S_))
  unfold Cert.Reference16Ideal.Read.val_main_v7
  refine pad_apply_of_not_inside _ _ _ _ _ _ _ _ (1 : Fin 3) ?_
  show ¬(1 ≤ r.val ∧ (r.val - 1) % 1 = 0 ∧ (r.val - 1) / 1 < 256)
  omega

/-- The reference's first tap reads the token before. -/
theorem reference_before (x0 : (⟨S24576x1536, .bf16⟩ : BufTy).Contents (Elt Ideal)) (s : Fin 32) (p : Fin 256) (j : Fin 1024) :
    Cert.Reference16Ideal.Read.val_main_v8 (F := Ideal) x0 (ix3 s p j) = before (fun r => x0 (ix2 ⟨s.val * 256 + r.val, by omega⟩ ⟨j.val, by omega⟩)) p := by
  have e8 : Cert.Reference16Ideal.Read.val_main_v8 (F := Ideal) x0 (ix3 s p j) = Cert.Reference16Ideal.Read.val_main_v7 (F := Ideal) x0 (ix3 s ⟨p.val, by omega⟩ j) := by
    pointwise [Cert.Reference16Ideal.Read.val_main_v8]
  rw [e8]
  unfold before
  by_cases e : p.val = 0
  · rw [if_pos e]; exact reference_outside x0 s _ j (.inl e)
  · rw [if_neg e]; exact reference_inside x0 s _ ⟨(p.val + 255) % 256, Nat.mod_lt _ (by omega)⟩ j (by dsimp only; omega)

/-- The reference's middle tap reads the token. -/
theorem reference_middle (x0 : (⟨S24576x1536, .bf16⟩ : BufTy).Contents (Elt Ideal)) (s : Fin 32) (p : Fin 256) (j : Fin 1024) :
    Cert.Reference16Ideal.Read.val_main_v14 (F := Ideal) x0 (ix3 s p j) = x0 (ix2 ⟨s.val * 256 + p.val, by omega⟩ ⟨j.val, by omega⟩) := by
  have e14 : Cert.Reference16Ideal.Read.val_main_v14 (F := Ideal) x0 (ix3 s p j) = Cert.Reference16Ideal.Read.val_main_v7 (F := Ideal) x0 (ix3 s ⟨1 + p.val, by omega⟩ j) := by
    pointwise [Cert.Reference16Ideal.Read.val_main_v14]
  rw [e14]
  exact reference_inside x0 s _ p j (by dsimp only; omega)

/-- The reference's last tap reads the token after. -/
theorem reference_after (x0 : (⟨S24576x1536, .bf16⟩ : BufTy).Contents (Elt Ideal)) (s : Fin 32) (p : Fin 256) (j : Fin 1024) :
    Cert.Reference16Ideal.Read.val_main_v21 (F := Ideal) x0 (ix3 s p j) = after (fun r => x0 (ix2 ⟨s.val * 256 + r.val, by omega⟩ ⟨j.val, by omega⟩)) p := by
  have e21 : Cert.Reference16Ideal.Read.val_main_v21 (F := Ideal) x0 (ix3 s p j) = Cert.Reference16Ideal.Read.val_main_v7 (F := Ideal) x0 (ix3 s ⟨2 + p.val, by omega⟩ j) := by
    pointwise [Cert.Reference16Ideal.Read.val_main_v21]
  rw [e21]
  unfold after
  by_cases e : p.val = 255
  · rw [if_pos e]; exact reference_outside x0 s _ j (.inr (by dsimp only; omega))
  · rw [if_neg e]; exact reference_inside x0 s _ ⟨(p.val + 1) % 256, Nat.mod_lt _ (by omega)⟩ j (by dsimp only; omega)

/-- The reference's taps and bias at an element. -/
theorem reference_taps (x0 : (⟨S24576x1536, .bf16⟩ : BufTy).Contents (Elt Ideal)) (x1 : (⟨S2x3x1024, .f32⟩ : BufTy).Contents (Elt Ideal)) (x2 : (⟨S2x1024, .f32⟩ : BufTy).Contents (Elt Ideal)) (s : Fin 32) (p : Fin 256) (j : Fin 1024) :
    Cert.Reference16Ideal.Read.val_main_v30 (F := Ideal) x0 x1 x2 (ix3 s p j)
      = taps (fun r => x0 (ix2 ⟨s.val * 256 + r.val, by omega⟩ ⟨j.val, by omega⟩)) (x1 (ix3 0 0 j)) (x1 (ix3 0 1 j)) (x1 (ix3 0 2 j)) (x2 (ix2 0 j)) p := by
  have f0 : Cert.Reference16Ideal.Read.val_main_v12 (F := Ideal) x1 (ix3 s p j) = x1 (ix3 0 0 j) := by
    pointwise [Cert.Reference16Ideal.Read.val_main_v12, Cert.Reference16Ideal.Read.val_main_v11, Cert.Reference16Ideal.Read.val_main_v10, Cert.Reference16Ideal.Read.val_main_v9, Cert.Reference16Ideal.Read.val_main_v4, Cert.Reference16Ideal.Read.val_main_v3]
  have f1 : Cert.Reference16Ideal.Read.val_main_v18 (F := Ideal) x1 (ix3 s p j) = x1 (ix3 0 1 j) := by
    pointwise [Cert.Reference16Ideal.Read.val_main_v18, Cert.Reference16Ideal.Read.val_main_v17, Cert.Reference16Ideal.Read.val_main_v16, Cert.Reference16Ideal.Read.val_main_v15, Cert.Reference16Ideal.Read.val_main_v4, Cert.Reference16Ideal.Read.val_main_v3]
  have f2 : Cert.Reference16Ideal.Read.val_main_v25 (F := Ideal) x1 (ix3 s p j) = x1 (ix3 0 2 j) := by
    pointwise [Cert.Reference16Ideal.Read.val_main_v25, Cert.Reference16Ideal.Read.val_main_v24, Cert.Reference16Ideal.Read.val_main_v23, Cert.Reference16Ideal.Read.val_main_v22, Cert.Reference16Ideal.Read.val_main_v4, Cert.Reference16Ideal.Read.val_main_v3]
  have fb : Cert.Reference16Ideal.Read.val_main_v29 (F := Ideal) x2 (ix3 s p j) = x2 (ix2 0 j) := by
    pointwise [Cert.Reference16Ideal.Read.val_main_v29, Cert.Reference16Ideal.Read.val_main_v28, Cert.Reference16Ideal.Read.val_main_v6, Cert.Reference16Ideal.Read.val_main_v5]
  unfold taps
  rw [← reference_before x0 s p j, ← reference_after x0 s p j, ← f0, ← f1, ← f2, ← fb]
  beta_reduce
  rw [← reference_middle x0 s p j]
  rfl

/-- The reference's silu at an element. -/
theorem reference_silu (x0 : (⟨S24576x1536, .bf16⟩ : BufTy).Contents (Elt Ideal)) (x1 : (⟨S2x3x1024, .f32⟩ : BufTy).Contents (Elt Ideal)) (x2 : (⟨S2x1024, .f32⟩ : BufTy).Contents (Elt Ideal)) (i : Cert.Reference16Ideal.S32x256x1024.Idx) : Cert.Reference16Ideal.Read.val_main_v31 (F := Ideal) x0 x1 x2 i = silu (Cert.Reference16Ideal.Read.val_main_v30 (F := Ideal) x0 x1 x2 i) := by
  unfold silu Cert.Reference16Ideal.Read.val_main_v31 Cert.Reference16Ideal.Read.val_main_call1_v5 Cert.Reference16Ideal.Read.val_main_call1_v3 Cert.Reference16Ideal.Read.val_main_call1_v1 Cert.Reference16Ideal.Read.val_main_call1_v0
  generalize Cert.Reference16Ideal.Read.val_main_v30 (F := Ideal) x0 x1 x2 = y
  pointwise [Cert.Reference16Ideal.Read.val_main_call1_v2, Cert.Reference16Ideal.Read.val_main_call1_cst, Cert.Reference16Ideal.Read.val_main_call1_v4, Cert.Reference16Ideal.Read.val_main_call1_cst_0]
  rfl

/-- The reference's result at an element. -/
theorem reference_at (x0 : (⟨S24576x1536, .bf16⟩ : BufTy).Contents (Elt Ideal)) (x1 : (⟨S2x3x1024, .f32⟩ : BufTy).Contents (Elt Ideal)) (x2 : (⟨S2x1024, .f32⟩ : BufTy).Contents (Elt Ideal)) (s : Fin 32) (p : Fin 256) (j : Fin 1024) :
    Cert.Reference16Ideal.Read.val_main_v33 (F := Ideal) x0 x1 x2 (ix2 ⟨s.val * 256 + p.val, by omega⟩ j) = conv x0 x1 x2 s p j := by
  have e : Cert.Reference16Ideal.Read.val_main_v33 (F := Ideal) x0 x1 x2 (ix2 ⟨s.val * 256 + p.val, by omega⟩ j) = Cert.Reference16Ideal.Read.val_main_v31 (F := Ideal) x0 x1 x2 (ix3 s p j) := by
    unfold Cert.Reference16Ideal.Read.val_main_v33 Cert.Reference16Ideal.Read.val_main_v32
    generalize Cert.Reference16Ideal.Read.val_main_v31 (F := Ideal) x0 x1 x2 = y
    pointwise []
  rw [e, reference_silu, reference_taps]
  rfl

/-- The reference keeps its arguments and leaves every semaphore at zero. -/
theorem frame_r : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The kernel's array is the reference's, of the same arguments. -/
theorem algebraic : Cert.algebraic_Kernel16Ideal_Reference16Ideal := by
  intro m g m' g' hp hag
  refine ⟨fun c => (dats m 0 c).arrAt 3 cfg0.N, Cert.Kernel16Ideal.Value.run_blocks m g, ?_⟩
  refine (θ_run Cert.Reference16Ideal.defs _ _).mono (fun r h c => ⟨?_, (h c).2⟩) (Cert.Reference16Ideal.Value.run (F := Ideal) m' g')
  obtain ⟨a0, a1, a2⟩ := hag c
  refine (h c).1.trans ?_
  rw [Cert.Reference16Ideal.Read.val_main_v33_eq, a0, a1, a2]
  funext i
  obtain ⟨s, p, j, rfl⟩ : ∃ (s : Fin 32) (p : Fin 256) (j : Fin 1024), i = ix2 (⟨s.val * 256 + p.val, by omega⟩ : Fin 8192) j := by
    have h0 : (i 0).val < 8192 := (i 0).isLt
    refine ⟨⟨(i 0).val / 256, by omega⟩, ⟨(i 0).val % 256, by omega⟩, i 1, ?_⟩
    funext a
    fin_cases a
    · exact Fin.ext (by show (i 0).val = (i 0).val / 256 * 256 + (i 0).val % 256; omega)
    · rfl
  exact (reference_at _ _ _ s p j).trans (arr_at m c s p j).symm

end Cert.SsdConv
end
-- ==== Proof.lean ====
/-
  The claims of `Cert.Claim`, put together from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_experts_in_range
public import proofs.«01_k».proof.Proof.Gen.Kernel13
public import proofs.«01_k».proof.Proof.Gen.Kernel13.Skeleton
public import proofs.«01_k».proof.Proof.Gen.Kernel13.Loops
public import proofs.«01_k».proof.Proof.Gen.Kernel13.Launch
public import proofs.«01_k».proof.Proof.Gen.Kernel13Ideal
public import proofs.«01_k».proof.Proof.Gen.Kernel13Ideal.Skeleton
public import proofs.«01_k».proof.Proof.Gen.Kernel13Ideal.Loops
public import proofs.«01_k».proof.Proof.Gen.Kernel13Ideal.Launch
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Points
public import proofs.«01_k».proof.Proof.Gen.Kernel14.Launch
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Points
public import proofs.«01_k».proof.Proof.Gen.Kernel14Ideal.Launch
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Points
public import proofs.«01_k».proof.Proof.Gen.Kernel15.Launch
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Points
public import proofs.«01_k».proof.Proof.Gen.Kernel15Ideal.Launch
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Points
public import proofs.«01_k».proof.Proof.Gen.Kernel16.Launch
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Points
public import proofs.«01_k».proof.Proof.Gen.Kernel16Ideal.Launch
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.AttnClaim
public import proofs.«01_k».proof.Proof.Gates
public import proofs.«01_k».proof.Proof.NaProj
public import proofs.«01_k».proof.Proof.DnProj
public import proofs.«01_k».proof.Proof.SsdProj
public import proofs.«01_k».proof.Proof.HyProj
public import proofs.«01_k».proof.Proof.SmallProj
public import proofs.«01_k».proof.Proof.Merge
public import proofs.«01_k».proof.Proof.OutProj
public import proofs.«01_k».proof.Proof.Combine
public import proofs.«01_k».proof.Proof.FinalNorm
public import proofs.«01_k».proof.Proof.Experts
public import proofs.«01_k».proof.Proof.SsdKernel
public import proofs.«01_k».proof.Proof.NormModulate
public import proofs.«01_k».proof.Proof.SsdOut
public import proofs.«01_k».proof.Proof.SsdConv
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Pre_finite_scores.Gen.facts,
  Cert.Pre_experts_in_range.Gen.facts,
  fun m ρ _ => Cert.Kernel.Gen.frame m ρ,
  fun m ρ _ => Cert.KernelIdeal.Gen.frame m ρ,
  fun m ρ _ => Cert.KernelIdeal.Gen.frame m ρ,
  Cert.Attn.frame_r,
  fun m ρ _ => Cert.Attn.frame_r m ρ trivial,
  fun m ρ _ => Cert.Kernel2.Gen.frame m ρ,
  fun m ρ _ => Cert.Kernel2Ideal.Gen.frame m ρ,
  Cert.Gates.frame_r,
  fun m ρ _ => Cert.Kernel3.Gen.frame m ρ,
  fun m ρ _ => Cert.Kernel3Ideal.Gen.frame m ρ,
  Cert.NaProj.frame_r,
  fun m ρ _ => Cert.Kernel4.Gen.frame m ρ,
  fun m ρ _ => Cert.Kernel4Ideal.Gen.frame m ρ,
  Cert.DnProj.frame_r,
  fun m ρ _ => Cert.Kernel5.Gen.frame m ρ,
  fun m ρ _ => Cert.Kernel5Ideal.Gen.frame m ρ,
  Cert.SsdProj.frame_r,
  fun m ρ _ => Cert.Kernel6.Gen.frame m ρ,
  fun m ρ _ => Cert.Kernel6Ideal.Gen.frame m ρ,
  Cert.HyProj.frame_r,
  fun m ρ _ => Cert.Kernel7.Gen.frame m ρ,
  fun m ρ _ => Cert.Kernel7Ideal.Gen.frame m ρ,
  Cert.SmallProj.frame_r,
  fun m ρ _ => Cert.Kernel8.Gen.frame m ρ,
  fun m ρ _ => Cert.Kernel8Ideal.Gen.frame m ρ,
  Cert.Merge.frame_r,
  fun m ρ _ => Cert.Kernel9.Gen.frame m ρ,
  fun m ρ _ => Cert.Kernel9Ideal.Gen.frame m ρ,
  Cert.OutProj.frame_r,
  fun m ρ _ => Cert.Kernel10.Gen.frame m ρ,
  fun m ρ _ => Cert.Kernel10Ideal.Gen.frame m ρ,
  Cert.Combine.frame_r,
  fun m ρ _ => Cert.Kernel11.Gen.frame m ρ,
  fun m ρ _ => Cert.Kernel11Ideal.Gen.frame m ρ,
  Cert.FinalNorm.frame_r,
  Cert.Experts.frame_bits,
  Cert.Experts.frame_ideal,
  Cert.Experts.frame_r,
  Cert.Experts.frame_r_pre,
  Cert.SsdScan.frame_bits,
  Cert.SsdScan.frame_ideal,
  Cert.SsdScan.frame_r,
  fun m ρ _ => Cert.Kernel14.Gen.frame m ρ,
  fun m ρ _ => Cert.Kernel14Ideal.Gen.frame m ρ,
  Cert.NormModulate.frame_r,
  fun m ρ _ => Cert.Kernel15.Gen.frame m ρ,
  fun m ρ _ => Cert.Kernel15Ideal.Gen.frame m ρ,
  Cert.SsdOut.frame_r,
  fun m ρ _ => Cert.Kernel16.Gen.frame m ρ,
  fun m ρ _ => Cert.Kernel16Ideal.Gen.frame m ρ,
  Cert.SsdConv.frame_r,
  trivial,
  Cert.Attn.algebraic,
  trivial,
  Cert.Gates.algebraic,
  trivial,
  Cert.NaProj.algebraic,
  trivial,
  Cert.DnProj.algebraic,
  trivial,
  Cert.SsdProj.algebraic,
  trivial,
  Cert.HyProj.algebraic,
  trivial,
  Cert.SmallProj.algebraic,
  trivial,
  Cert.Merge.algebraic,
  trivial,
  Cert.OutProj.algebraic,
  trivial,
  Cert.Combine.algebraic,
  trivial,
  Cert.FinalNorm.algebraic,
  trivial,
  Cert.Experts.algebraic,
  trivial,
  Cert.SsdScan.algebraic,
  trivial,
  Cert.NormModulate.algebraic,
  trivial,
  Cert.SsdOut.algebraic,
  trivial,
  Cert.SsdConv.algebraic⟩

end Cert.Proof

end
